-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  IdealRules.named_const.Statement Cert.KernelIdeal.κ "far" .f32 0x76453719#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v108_0)) (v1 : (c : Dev Cert.KernelIdeal.nD) → Buf (Elt Ideal) ((c.tc : Thread Cert.KernelIdeal.nD Cert.KernelIdeal.τ).loc Cert.KernelIdeal.main_v108_1)) (v2 : (c : Dev Cert.KernelIdeal.nD) → Buf (Elt Ideal) ((c.tc : Thread Cert.KernelIdeal.nD Cert.KernelIdeal.τ).loc Cert.KernelIdeal.main_v108_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108_0) = v0 c
          ∧ r.2.mem ((c.tc : Thread Cert.KernelIdeal.nD Cert.KernelIdeal.τ).loc Cert.KernelIdeal.main_v108_1) = v1 c
          ∧ r.2.mem ((c.tc : Thread Cert.KernelIdeal.nD Cert.KernelIdeal.τ).loc Cert.KernelIdeal.main_v108_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v196) = v1 c
          ∧ r.2.mem ((c.tc : Thread Cert.ReferenceIdeal.nD Cert.ReferenceIdeal.τ).loc Cert.ReferenceIdeal.main_v197) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v21) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v29) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v34) = v0 c
          ∧ r.2.mem ((c.tc : Thread Cert.Reference9Ideal.nD Cert.Reference9Ideal.τ).loc Cert.Reference9Ideal.main_v35) = v1 c
          ∧ r.2.mem ((c.tc : Thread Cert.Reference9Ideal.nD Cert.Reference9Ideal.τ).loc Cert.Reference9Ideal.main_v17) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_v8) = v1 c
          ∧ r.2.mem ((c.tc : Thread Cert.Reference16Ideal.nD Cert.Reference16Ideal.τ).loc Cert.Reference16Ideal.main_v15) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S16x256x2048 : Shape := ⟨3, ![16, 256, 2048]⟩
abbrev S16x256x16 : Shape := ⟨3, ![16, 256, 16]⟩
abbrev S_ : Shape := ⟨0, ![]⟩

class Facts : Prop where
  bitsLt_bf16_f32 : FTy.bits .bf16 < FTy.bits .f32
  bcast_S_S16x256x2048 : S_.BroadcastsInDim S16x256x2048 (![] : Fin 0 → Fin S16x256x2048.rank)
  bcast_S_S16x256x16 : S_.BroadcastsInDim S16x256x16 (![] : Fin 0 → Fin S16x256x16.rank)

variable [Facts]

def fn_part1 {F : FTy → Type} [FloatOps F] (main_arg5 : FVec F S16x256x16 .f32) (main_arg6 : FVec F S16x256x2048 .bf16) (main_arg7 : FVec F S16x256x16 .f32) (main_v3 : IVec S16x256x2048 1) (main_v7 : IVec S16x256x2048 1) (main_v11 : IVec S16x256x2048 1) (main_v15 : IVec S16x256x2048 1) (main_v17 : FVec F S16x256x2048 .f32) (main_v18 : FVec F S16x256x2048 .f32) : IVec S16x256x2048 1 × IVec S16x256x2048 1 × IVec S16x256x2048 1 × IVec S16x256x2048 1 × IVec S16x256x2048 1 × IVec S16x256x16 1 × IVec S16x256x2048 1 × IVec S16x256x16 1 :=
  let main_v19 : IVec S16x256x2048 1 := cmpf .olt main_v17 main_v18
  let main_v20 : FVec F S16x256x16 .f32 := Host.absf main_arg5
  let main_cst_4 : FVec F S_ .f32 := constant S_ .f32 0x7F800000#32
  let main_v21 : FVec F S16x256x16 .f32 := broadcastInDim S16x256x16 ![] bcast_S_S16x256x16 main_cst_4
  let main_v22 : IVec S16x256x16 1 := cmpf .olt main_v20 main_v21
  let main_v23 : FVec F S16x256x2048 .f32 := (extf .f32 · bitsLt_bf16_f32) main_arg6
  let main_v24 : FVec F S16x256x2048 .f32 := Host.absf main_v23
  let main_cst_5 : FVec F S_ .f32 := constant S_ .f32 0x7F800000#32
  let main_v25 : FVec F S16x256x2048 .f32 := broadcastInDim S16x256x2048 ![] bcast_S_S16x256x2048 main_cst_5
  let main_v26 : IVec S16x256x2048 1 := cmpf .olt main_v24 main_v25
  let main_v27 : FVec F S16x256x16 .f32 := Host.absf main_arg7
  let main_cst_6 : FVec F S_ .f32 := constant S_ .f32 0x7F800000#32
  let main_v28 : FVec F S16x256x16 .f32 := broadcastInDim S16x256x16 ![] bcast_S_S16x256x16 main_cst_6
  let main_v29 : IVec S16x256x16 1 := cmpf .olt main_v27 main_v28
  (main_v3, main_v7, main_v11, main_v15, main_v19, main_v22, main_v26, main_v29)

def fn {F : FTy → Type} [FloatOps F] (main_arg0 : FVec F S16x256x2048 .bf16) (main_arg1 : FVec F S16x256x2048 .bf16) (main_arg2 : FVec F S16x256x2048 .bf16) (main_arg3 : FVec F S16x256x2048 .bf16) (main_arg4 : FVec F S16x256x2048 .bf16) (main_arg5 : FVec F S16x256x16 .f32) (main_arg6 : FVec F S16x256x2048 .bf16) (main_arg7 : FVec F S16x256x16 .f32) : IVec S16x256x2048 1 × IVec S16x256x2048 1 × IVec S16x256x2048 1 × IVec S16x256x2048 1 × IVec S16x256x2048 1 × IVec S16x256x16 1 × IVec S16x256x2048 1 × IVec S16x256x16 1 :=
  let main_v0 : FVec F S16x256x2048 .f32 := (extf .f32 · bitsLt_bf16_f32) main_arg0
  let main_v1 : FVec F S16x256x2048 .f32 := Host.absf main_v0
  let main_cst : FVec F S_ .f32 := constant S_ .f32 0x7F800000#32
  let main_v2 : FVec F S16x256x2048 .f32 := broadcastInDim S16x256x2048 ![] bcast_S_S16x256x2048 main_cst
  let main_v3 : IVec S16x256x2048 1 := cmpf .olt main_v1 main_v2
  let main_v4 : FVec F S16x256x2048 .f32 := (extf .f32 · bitsLt_bf16_f32) main_arg1
  let main_v5 : FVec F S16x256x2048 .f32 := Host.absf main_v4
  let main_cst_0 : FVec F S_ .f32 := constant S_ .f32 0x7F800000#32
  let main_v6 : FVec F S16x256x2048 .f32 := broadcastInDim S16x256x2048 ![] bcast_S_S16x256x2048 main_cst_0
  let main_v7 : IVec S16x256x2048 1 := cmpf .olt main_v5 main_v6
  let main_v8 : FVec F S16x256x2048 .f32 := (extf .f32 · bitsLt_bf16_f32) main_arg2
  let main_v9 : FVec F S16x256x2048 .f32 := Host.absf main_v8
  let main_cst_1 : FVec F S_ .f32 := constant S_ .f32 0x7F800000#32
  let main_v10 : FVec F S16x256x2048 .f32 := broadcastInDim S16x256x2048 ![] bcast_S_S16x256x2048 main_cst_1
  let main_v11 : IVec S16x256x2048 1 := cmpf .olt main_v9 main_v10
  let main_v12 : FVec F S16x256x2048 .f32 := (extf .f32 · bitsLt_bf16_f32) main_arg3
  let main_v13 : FVec F S16x256x2048 .f32 := Host.absf main_v12
  let main_cst_2 : FVec F S_ .f32 := constant S_ .f32 0x7F800000#32
  let main_v14 : FVec F S16x256x2048 .f32 := broadcastInDim S16x256x2048 ![] bcast_S_S16x256x2048 main_cst_2
  let main_v15 : IVec S16x256x2048 1 := cmpf .olt main_v13 main_v14
  let main_v16 : FVec F S16x256x2048 .f32 := (extf .f32 · bitsLt_bf16_f32) main_arg4
  let main_v17 : FVec F S16x256x2048 .f32 := Host.absf main_v16
  let main_cst_3 : FVec F S_ .f32 := constant S_ .f32 0x7F800000#32
  let main_v18 : FVec F S16x256x2048 .f32 := broadcastInDim S16x256x2048 ![] bcast_S_S16x256x2048 main_cst_3
  fn_part1 (F := F) main_arg5 main_arg6 main_arg7 main_v3 main_v7 main_v11 main_v15 main_v17 main_v18
-- ==== Pre_finite6.lean ====
abbrev S4096x2048 : Shape := ⟨2, ![4096, 2048]⟩
abbrev S8x704x2048 : Shape := ⟨3, ![8, 704, 2048]⟩
abbrev S8x4096x704 : Shape := ⟨3, ![8, 4096, 704]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S8x704x2048 : S_.BroadcastsInDim S8x704x2048 (![] : Fin 0 → Fin S8x704x2048.rank)
  bcast_S_S8x4096x704 : S_.BroadcastsInDim S8x4096x704 (![] : Fin 0 → Fin S8x4096x704.rank)

variable [Facts]

def fn {F : FTy → Type} [FloatOps F] (main_arg0 : FVec F S4096x2048 .bf16) (main_arg1 : FVec F S8x704x2048 .bf16) (main_arg2 : FVec F S8x4096x704 .bf16) (main_arg3 : FVec F S8x4096x704 .bf16) : IVec S4096x2048 1 × IVec S8x704x2048 1 × IVec S8x4096x704 1 × IVec S8x4096x704 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S8x704x2048 .f32 := (extf .f32 · bitsLt_bf16_f32) main_arg1
  let main_v5 : FVec F S8x704x2048 .f32 := Host.absf main_v4
  let main_cst_0 : FVec F S_ .f32 := constant S_ .f32 0x7F800000#32
  let main_v6 : FVec F S8x704x2048 .f32 := broadcastInDim S8x704x2048 ![] bcast_S_S8x704x2048 main_cst_0
  let main_v7 : IVec S8x704x2048 1 := cmpf .olt main_v5 main_v6
  let main_v8 : FVec F S8x4096x704 .f32 := (extf .f32 · bitsLt_bf16_f32) main_arg2
  let main_v9 : FVec F S8x4096x704 .f32 := Host.absf main_v8
  let main_cst_1 : FVec F S_ .f32 := constant S_ .f32 0x7F800000#32
  let main_v10 : FVec F S8x4096x704 .f32 := broadcastInDim S8x4096x704 ![] bcast_S_S8x4096x704 main_cst_1
  let main_v11 : IVec S8x4096x704 1 := cmpf .olt main_v9 main_v10
  let main_v12 : FVec F S8x4096x704 .f32 := (extf .f32 · bitsLt_bf16_f32) main_arg3
  let main_v13 : FVec F S8x4096x704 .f32 := Host.absf main_v12
  let main_cst_2 : FVec F S_ .f32 := constant S_ .f32 0x7F800000#32
  let main_v14 : FVec F S8x4096x704 .f32 := broadcastInDim S8x4096x704 ![] bcast_S_S8x4096x704 main_cst_2
  let main_v15 : IVec S8x4096x704 1 := cmpf .olt main_v13 main_v14
  (main_v3, main_v7, main_v11, main_v15)
-- ==== Kernel.lean ====
abbrev S16x256x2048 : Shape := ⟨3, ![16, 256, 2048]⟩
abbrev S16x256x16 : Shape := ⟨3, ![16, 256, 16]⟩
abbrev S16x256x16x128 : Shape := ⟨4, ![16, 256, 16, 128]⟩
abbrev S16x16x256x256 : Shape := ⟨4, ![16, 16, 256, 256]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1 : Shape := ⟨1, ![1]⟩
abbrev S16 : Shape := ⟨1, ![16]⟩
abbrev S16x1x1 : Shape := ⟨3, ![16, 1, 1]⟩
abbrev S1x256x256 : Shape := ⟨3, ![1, 256, 256]⟩
abbrev S16x256x256 : Shape := ⟨3, ![16, 256, 256]⟩
abbrev S1x16x256x256 : Shape := ⟨4, ![1, 16, 256, 256]⟩
abbrev S16x16x256 : Shape := ⟨3, ![16, 16, 256]⟩
abbrev S16x16x256x1 : Shape := ⟨4, ![16, 16, 256, 1]⟩
abbrev S16x16x128x256 : Shape := ⟨4, ![16, 16, 128, 256]⟩
abbrev S1x16x256x16 : Shape := ⟨4, ![1, 16, 256, 16]⟩
abbrev S3x16x256x16 : Shape := ⟨4, ![3, 16, 256, 16]⟩
abbrev S3x16x256x16x1 : Shape := ⟨5, ![3, 16, 256, 16, 1]⟩
abbrev S1x16x256x16x128 : Shape := ⟨5, ![1, 16, 256, 16, 128]⟩
abbrev S3x16x256x16x128 : Shape := ⟨5, ![3, 16, 256, 16, 128]⟩
abbrev S16x256x128 : Shape := ⟨3, ![16, 256, 128]⟩
abbrev S1x128x2048 : Shape := ⟨3, ![1, 128, 2048]⟩
abbrev S1x128x128 : Shape := ⟨3, ![1, 128, 128]⟩
abbrev S1x256x2048 : Shape := ⟨3, ![1, 256, 2048]⟩
abbrev S128x2048 : Shape := ⟨2, ![128, 2048]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1x128x1 : Shape := ⟨3, ![1, 128, 1]⟩

abbrev nBuf : Space → Nat
  | .hbm => 151
  | .vmem => 24
  | .smem => 0
  | _ => 0

abbrev hbmTy0_0 (i : Nat) : BufTy := match i % 128 with
  | 0 => ⟨S16x256x2048, .bf16⟩
  | 1 => ⟨S16x256x2048, .bf16⟩
  | 2 => ⟨S16x256x2048, .bf16⟩
  | 3 => ⟨S16x256x2048, .bf16⟩
  | 4 => ⟨S16x256x2048, .bf16⟩
  | 5 => ⟨S16x256x16, .f32⟩
  | 6 => ⟨S16x256x2048, .bf16⟩
  | 7 => ⟨S16x256x16, .f32⟩
  | 8 => ⟨S16x256x2048, .f32⟩
  | 9 => ⟨S16x256x16x128, .f32⟩
  | 10 => ⟨S16x256x2048, .f32⟩
  | 11 => ⟨S16x256x16x128, .f32⟩
  | 12 => ⟨S16x16x256x256, .f32⟩
  | 13 => ⟨S_, .f32⟩
  | 14 => ⟨S16x16x256x256, .f32⟩
  | 15 => ⟨S16x16x256x256, .f32⟩
  | 16 => ⟨S256, .i32⟩
  | 17 => ⟨S256x1, .i32⟩
  | 18 => ⟨S256, .i32⟩
  | 19 => ⟨S1x256, .i32⟩
  | 20 => ⟨S256x256, .i32⟩
  | 21 => ⟨S256x256, .i32⟩
  | 22 => ⟨S256x256, .i32⟩
  | 23 => ⟨S_, .i32⟩
  | 24 => ⟨S256x256, .i32⟩
  | 25 => ⟨S256x256, .i1⟩
  | 26 => ⟨S_, .i32⟩
  | 27 => ⟨S256x256, .i32⟩
  | 28 => ⟨S256x256, .i1⟩
  | 29 => ⟨S256x256, .i1⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S1, .f32⟩
  | 47 => ⟨S1, .f32⟩
  | 48 => ⟨S1, .f32⟩
  | 49 => ⟨S1, .f32⟩
  | 50 => ⟨S1, .f32⟩
  | 51 => ⟨S1, .f32⟩
  | 52 => ⟨S1, .f32⟩
  | 53 => ⟨S1, .f32⟩
  | 54 => ⟨S1, .f32⟩
  | 55 => ⟨S1, .f32⟩
  | 56 => ⟨S1, .f32⟩
  | 57 => ⟨S1, .f32⟩
  | 58 => ⟨S1, .f32⟩
  | 59 => ⟨S1, .f32⟩
  | 60 => ⟨S1, .f32⟩
  | 61 => ⟨S1, .f32⟩
  | 62 => ⟨S16, .f32⟩
  | 63 => ⟨S16x1x1, .f32⟩
  | 64 => ⟨S16x1x1, .f32⟩
  | 65 => ⟨S_, .i32⟩
  | 66 => ⟨S256x256, .i32⟩
  | 67 => ⟨S256x256, .i32⟩
  | 68 => ⟨S256x256, .f32⟩
  | 69 => ⟨S1x256x256, .f32⟩
  | 70 => ⟨S16x256x256, .f32⟩
  | 71 => ⟨S16x256x256, .f32⟩
  | 72 => ⟨S16x256x256, .f32⟩
  | 73 => ⟨S1x16x256x256, .f32⟩
  | 74 => ⟨S16x16x256x256, .f32⟩
  | 75 => ⟨S16x16x256x256, .f32⟩
  | 76 => ⟨S_, .f32⟩
  | 77 => ⟨S_, .f32⟩
  | 78 => ⟨S16x16x256x256, .i1⟩
  | 79 => ⟨S16x16x256x256, .f32⟩
  | 80 => ⟨S16x16x256x256, .f32⟩
  | 81 => ⟨S_, .f32⟩
  | 82 => ⟨S16x16x256, .f32⟩
  | 83 => ⟨S16x16x256x1, .f32⟩
  | 84 => ⟨S16x16x256x256, .f32⟩
  | 85 => ⟨S16x16x256x256, .f32⟩
  | 86 => ⟨S16x16x256x256, .f32⟩
  | 87 => ⟨S_, .f32⟩
  | 88 => ⟨S16x16x256, .f32⟩
  | 89 => ⟨S16x16x256x1, .f32⟩
  | 90 => ⟨S16x16x256x256, .f32⟩
  | 91 => ⟨S16x16x256x256, .f32⟩
  | 92 => ⟨S16x256x2048, .f32⟩
  | 93 => ⟨S16x256x16x128, .f32⟩
  | 94 => ⟨S16x16x128x256, .f32⟩
  | 95 => ⟨S16x256x16x128, .f32⟩
  | 96 => ⟨S16x16x256x1, .f32⟩
  | 97 => ⟨S16x16x256x1, .f32⟩
  | 98 => ⟨S16x16x256, .f32⟩
  | 99 => ⟨S16x256x16, .f32⟩
  | 100 => ⟨S1x16x256x16, .f32⟩
  | 101 => ⟨S1x16x256x16, .f32⟩
  | 102 => ⟨S1x16x256x16, .f32⟩
  | 103 => ⟨S3x16x256x16, .f32⟩
  | 104 => ⟨S_, .f32⟩
  | 105 => ⟨S16x256x16, .f32⟩
  | 106 => ⟨S_, .f32⟩
  | 107 => ⟨S16x256x16, .f32⟩
  | 108 => ⟨S16x256x16, .f32⟩
  | 109 => ⟨S1x16x256x16, .f32⟩
  | 110 => ⟨S3x16x256x16, .f32⟩
  | 111 => ⟨S3x16x256x16, .f32⟩
  | 112 => ⟨S3x16x256x16, .f32⟩
  | 113 => ⟨S_, .f32⟩
  | 114 => ⟨S16x256x16, .f32⟩
  | 115 => ⟨S1x16x256x16, .f32⟩
  | 116 => ⟨S3x16x256x16, .f32⟩
  | 117 => ⟨S3x16x256x16, .f32⟩
  | 118 => ⟨S3x16x256x16x1, .f32⟩
  | 119 => ⟨S16x256x2048, .f32⟩
  | 120 => ⟨S16x256x16x128, .f32⟩
  | 121 => ⟨S16x256x2048, .f32⟩
  | 122 => ⟨S16x256x16x128, .f32⟩
  | 123 => ⟨S1x16x256x16x128, .f32⟩
  | 124 => ⟨S1x16x256x16x128, .f32⟩
  | 125 => ⟨S1x16x256x16x128, .f32⟩
  | 126 => ⟨S3x16x256x16x128, .f32⟩
  | 127 => ⟨S3x16x256x16x128, .f32⟩
  | _ => ⟨S16x256x2048, .bf16⟩

abbrev hbmTy0_1 (i : Nat) : BufTy := match i % 128 with
  | 0 => ⟨S3x16x256x16x128, .f32⟩
  | 1 => ⟨S_, .f32⟩
  | 2 => ⟨S16x256x16x128, .f32⟩
  | 3 => ⟨S16x256x2048, .f32⟩
  | 4 => ⟨S16x256x2048, .bf16⟩
  | 5 => ⟨S16x256x16, .f32⟩
  | 6 => ⟨S16x256x16, .f32⟩
  | 7 => ⟨S16x256x16, .f32⟩
  | 8 => ⟨S16x256x16, .f32⟩
  | 9 => ⟨S16x256x16, .f32⟩
  | 10 => ⟨S16x256x16, .f32⟩
  | 11 => ⟨S16x256x16, .f32⟩
  | 12 => ⟨S16x256x16, .f32⟩
  | 13 => ⟨S16x256x16, .f32⟩
  | 14 => ⟨S16x256x16, .f32⟩
  | 15 => ⟨S16x256x16, .f32⟩
  | 16 => ⟨S16x256x16, .f32⟩
  | 17 => ⟨S_, .i32⟩
  | 18 => ⟨S_, .f32⟩
  | 19 => ⟨S16x256x128, .f32⟩
  | 20 => ⟨S16x256x2048, .bf16⟩
  | 21 => ⟨S16x256x2048, .bf16⟩
  | 22 => ⟨S16x256x2048, .bf16⟩
  | _ => ⟨S16x256x2048, .bf16⟩

abbrev hbmTy (i : Nat) : BufTy := match i / 128 with
  | 0 => hbmTy0_0 i
  | 1 => hbmTy0_1 i
  | _ => ⟨S16x256x2048, .bf16⟩

abbrev bufTy : (tb : Table) → Fin (tcTables nBuf tb) → BufTy
  | .hbm, ⟨i, _⟩ => hbmTy i
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x128, .f32⟩
  | .local _ .vmem, ⟨15, _⟩ => ⟨S1x128x128, .f32⟩
  | .local _ .vmem, ⟨16, _⟩ => ⟨S1x128x2048, .bf16⟩
  | .local _ .vmem, ⟨17, _⟩ => ⟨S1x128x2048, .bf16⟩
  | .local _ .vmem, ⟨18, _⟩ => ⟨S1x256x2048, .bf16⟩
  | .local _ .vmem, ⟨19, _⟩ => ⟨S1x256x2048, .bf16⟩
  | .local _ .vmem, ⟨20, _⟩ => ⟨S1x256x2048, .bf16⟩
  | .local _ .vmem, ⟨21, _⟩ => ⟨S1x256x2048, .bf16⟩
  | .local _ .vmem, ⟨22, _⟩ => ⟨S128x2048, .f32⟩
  | .local _ .vmem, ⟨23, _⟩ => ⟨S128x2048, .f32⟩
  | _, _ => ⟨S16x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_cst_2 : Ref sig .tc := ⟨.hbm, 31, rfl⟩
abbrev main_cst_3 : Ref sig .tc := ⟨.hbm, 32, rfl⟩
abbrev main_cst_4 : Ref sig .tc := ⟨.hbm, 33, rfl⟩
abbrev main_cst_5 : Ref sig .tc := ⟨.hbm, 34, rfl⟩
abbrev main_cst_6 : Ref sig .tc := ⟨.hbm, 35, rfl⟩
abbrev main_cst_7 : Ref sig .tc := ⟨.hbm, 36, rfl⟩
abbrev main_cst_8 : Ref sig .tc := ⟨.hbm, 37, rfl⟩
abbrev main_cst_9 : Ref sig .tc := ⟨.hbm, 38, rfl⟩
abbrev main_cst_10 : Ref sig .tc := ⟨.hbm, 39, rfl⟩
abbrev main_cst_11 : Ref sig .tc := ⟨.hbm, 40, rfl⟩
abbrev main_cst_12 : Ref sig .tc := ⟨.hbm, 41, rfl⟩
abbrev main_cst_13 : Ref sig .tc := ⟨.hbm, 42, rfl⟩
abbrev main_cst_14 : Ref sig .tc := ⟨.hbm, 43, rfl⟩
abbrev main_cst_15 : Ref sig .tc := ⟨.hbm, 44, rfl⟩
abbrev main_cst_16 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_17 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_18 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_v48 : Ref sig .tc := ⟨.hbm, 80, rfl⟩
abbrev main_cst_19 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_20 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_21 : Ref sig .tc := ⟨.hbm, 104, rfl⟩
abbrev main_v70 : Ref sig .tc := ⟨.hbm, 105, rfl⟩
abbrev main_cst_22 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_23 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_24 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_25 : Ref sig .tc := ⟨.hbm, 145, rfl⟩
abbrev main_call1_v0 : Ref sig .tc := ⟨.hbm, 146, rfl⟩
abbrev main_v107 : Ref sig .tc := ⟨.hbm, 147, rfl⟩
abbrev main_v108_0 : Ref sig .tc := ⟨.hbm, 148, rfl⟩
abbrev main_v108_1 : Ref sig .tc := ⟨.hbm, 149, rfl⟩
abbrev main_v108_2 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  v2
def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_2 : BitVec 32 := 0#32
  let v9 : BitVec 1 := Scalar.cmpi .ne v8 c0_i32_2
  v9

def k0_off1 (i : grid0.Coords) : Fin 3 → Nat :=
  let c0_507 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v691 : Index := Scalar.indexCast v3
  let c0_508 : Index := 0#32
  ![0, v691.toNat, 0]
def k0_off2 (i : grid0.Coords) : Fin 3 → Nat :=
  let c0_533 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v730 : Index := Scalar.indexCast v3
  let c128_534 : Index := 128#32
  ![0, v730.toNat, 128]
def k0_off3 (i : grid0.Coords) : Fin 3 → Nat :=
  let c0_559 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v769 : Index := Scalar.indexCast v3
  let c256_560 : Index := 256#32
  ![0, v769.toNat, 256]
def k0_off4 (i : grid0.Coords) : Fin 3 → Nat :=
  let c0_585 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v808 : Index := Scalar.indexCast v3
  let c384_586 : Index := 384#32
  ![0, v808.toNat, 384]
def k0_off5 (i : grid0.Coords) : Fin 3 → Nat :=
  let c0_611 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v847 : Index := Scalar.indexCast v3
  let c512_612 : Index := 512#32
  ![0, v847.toNat, 512]
def k0_off6 (i : grid0.Coords) : Fin 3 → Nat :=
  let c0_637 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v886 : Index := Scalar.indexCast v3
  let c640_638 : Index := 640#32
  ![0, v886.toNat, 640]
def k0_off7 (i : grid0.Coords) : Fin 3 → Nat :=
  let c0_663 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v925 : Index := Scalar.indexCast v3
  let c768_664 : Index := 768#32
  ![0, v925.toNat, 768]
def k0_off8 (i : grid0.Coords) : Fin 3 → Nat :=
  let c0_689 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v964 : Index := Scalar.indexCast v3
  let c896_690 : Index := 896#32
  ![0, v964.toNat, 896]
def k0_off9 (i : grid0.Coords) : Fin 3 → Nat :=
  let c0_715 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v1003 : Index := Scalar.indexCast v3
  let c1024_716 : Index := 1024#32
  ![0, v1003.toNat, 1024]
def k0_off10 (i : grid0.Coords) : Fin 3 → Nat :=
  let c0_741 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v1042 : Index := Scalar.indexCast v3
  let c1152_742 : Index := 1152#32
  ![0, v1042.toNat, 1152]
def k0_off11 (i : grid0.Coords) : Fin 3 → Nat :=
  let c0_767 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v1081 : Index := Scalar.indexCast v3
  let c1280_768 : Index := 1280#32
  ![0, v1081.toNat, 1280]
def k0_off12 (i : grid0.Coords) : Fin 3 → Nat :=
  let c0_793 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v1120 : Index := Scalar.indexCast v3
  let c1408_794 : Index := 1408#32
  ![0, v1120.toNat, 1408]
def k0_off13 (i : grid0.Coords) : Fin 3 → Nat :=
  let c0_819 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v1159 : Index := Scalar.indexCast v3
  let c1536_820 : Index := 1536#32
  ![0, v1159.toNat, 1536]
def k0_off14 (i : grid0.Coords) : Fin 3 → Nat :=
  let c0_845 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v1198 : Index := Scalar.indexCast v3
  let c1664_846 : Index := 1664#32
  ![0, v1198.toNat, 1664]
def k0_off15 (i : grid0.Coords) : Fin 3 → Nat :=
  let c0_871 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v1237 : Index := Scalar.indexCast v3
  let c1792_872 : Index := 1792#32
  ![0, v1237.toNat, 1792]
def k0_off16 (i : grid0.Coords) : Fin 3 → Nat :=
  let c0_897 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v1276 : Index := Scalar.indexCast v3
  let c1920_898 : Index := 1920#32
  ![0, v1276.toNat, 1920]
def k0_cond3 (i : grid0.Coords) : BitVec 1 :=
  let arg1 : BitVec 32 := BitVec.ofNat 32 (i 1).val
  let c1_i32_3 : BitVec 32 := 1#32
  let v10 : BitVec 1 := Scalar.cmpi .eq arg1 c1_i32_3
  let v11 : BitVec 32 := Scalar.extui v10
  let c0_i32_4 : BitVec 32 := 0#32
  let v12 : BitVec 1 := Scalar.cmpi .ne v11 c0_i32_4
  v12

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c1_i32_0 : BitVec 32 := 1#32
  let v1 : BitVec 32 := Scalar.maxsi c0_i32 v0
  let v2 : BitVec 32 := Scalar.minsi c1_i32_0 v1
  let c0_i32_1 : BitVec 32 := 0#32
  let c0_i32_2 : BitVec 32 := 0#32
  ![arg0.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c1_i32_0 : BitVec 32 := 1#32
  let v1 : BitVec 32 := Scalar.maxsi c0_i32 v0
  let v2 : BitVec 32 := Scalar.minsi c1_i32_0 v1
  let c0_i32_1 : BitVec 32 := 0#32
  let c0_i32_2 : BitVec 32 := 0#32
  ![arg0.toNat, v2.toNat, c0_i32_1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "far" => some ⊤
  | _ => none
-- ==== ReferenceIdeal.lean ====
abbrev S16x256x2048 : Shape := ⟨3, ![16, 256, 2048]⟩
abbrev S16x256x16 : Shape := ⟨3, ![16, 256, 16]⟩
abbrev S16x256x16x128 : Shape := ⟨4, ![16, 256, 16, 128]⟩
abbrev S16x16x256x256 : Shape := ⟨4, ![16, 16, 256, 256]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1 : Shape := ⟨1, ![1]⟩
abbrev S16 : Shape := ⟨1, ![16]⟩
abbrev S16x1x1 : Shape := ⟨3, ![16, 1, 1]⟩
abbrev S1x256x256 : Shape := ⟨3, ![1, 256, 256]⟩
abbrev S16x256x256 : Shape := ⟨3, ![16, 256, 256]⟩
abbrev S1x16x256x256 : Shape := ⟨4, ![1, 16, 256, 256]⟩
abbrev S16x16x256 : Shape := ⟨3, ![16, 16, 256]⟩
abbrev S16x16x256x1 : Shape := ⟨4, ![16, 16, 256, 1]⟩
abbrev S16x16x128x256 : Shape := ⟨4, ![16, 16, 128, 256]⟩
abbrev S1x16x256x16 : Shape := ⟨4, ![1, 16, 256, 16]⟩
abbrev S3x16x256x16 : Shape := ⟨4, ![3, 16, 256, 16]⟩
abbrev S3x16x256x16x1 : Shape := ⟨5, ![3, 16, 256, 16, 1]⟩
abbrev S1x16x256x16x128 : Shape := ⟨5, ![1, 16, 256, 16, 128]⟩
abbrev S3x16x256x16x128 : Shape := ⟨5, ![3, 16, 256, 16, 128]⟩
abbrev S16x16x256x128 : Shape := ⟨4, ![16, 16, 256, 128]⟩

abbrev nBuf : Space → Nat
  | .hbm => 262
  | .vmem => 0
  | .smem => 0
  | _ => 0

abbrev hbmTy0_0 (i : Nat) : BufTy := match i % 128 with
  | 0 => ⟨S16x256x2048, .bf16⟩
  | 1 => ⟨S16x256x2048, .bf16⟩
  | 2 => ⟨S16x256x2048, .bf16⟩
  | 3 => ⟨S16x256x2048, .bf16⟩
  | 4 => ⟨S16x256x2048, .bf16⟩
  | 5 => ⟨S16x256x16, .f32⟩
  | 6 => ⟨S16x256x2048, .bf16⟩
  | 7 => ⟨S16x256x16, .f32⟩
  | 8 => ⟨S16x256x2048, .f32⟩
  | 9 => ⟨S16x256x2048, .f32⟩
  | 10 => ⟨S16x256x2048, .f32⟩
  | 11 => ⟨S16x256x16x128, .f32⟩
  | 12 => ⟨S16x256x16x128, .f32⟩
  | 13 => ⟨S16x16x256x256, .f32⟩
  | 14 => ⟨S_, .f32⟩
  | 15 => ⟨S16x16x256x256, .f32⟩
  | 16 => ⟨S16x16x256x256, .f32⟩
  | 17 => ⟨S256, .i32⟩
  | 18 => ⟨S256x1, .i32⟩
  | 19 => ⟨S256, .i32⟩
  | 20 => ⟨S1x256, .i32⟩
  | 21 => ⟨S256x256, .i32⟩
  | 22 => ⟨S256x256, .i32⟩
  | 23 => ⟨S256x256, .i32⟩
  | 24 => ⟨S_, .i32⟩
  | 25 => ⟨S256x256, .i32⟩
  | 26 => ⟨S256x256, .i1⟩
  | 27 => ⟨S_, .i32⟩
  | 28 => ⟨S256x256, .i32⟩
  | 29 => ⟨S256x256, .i1⟩
  | 30 => ⟨S256x256, .i1⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S1, .f32⟩
  | 48 => ⟨S1, .f32⟩
  | 49 => ⟨S1, .f32⟩
  | 50 => ⟨S1, .f32⟩
  | 51 => ⟨S1, .f32⟩
  | 52 => ⟨S1, .f32⟩
  | 53 => ⟨S1, .f32⟩
  | 54 => ⟨S1, .f32⟩
  | 55 => ⟨S1, .f32⟩
  | 56 => ⟨S1, .f32⟩
  | 57 => ⟨S1, .f32⟩
  | 58 => ⟨S1, .f32⟩
  | 59 => ⟨S1, .f32⟩
  | 60 => ⟨S1, .f32⟩
  | 61 => ⟨S1, .f32⟩
  | 62 => ⟨S1, .f32⟩
  | 63 => ⟨S16, .f32⟩
  | 64 => ⟨S16x1x1, .f32⟩
  | 65 => ⟨S16x1x1, .f32⟩
  | 66 => ⟨S_, .i32⟩
  | 67 => ⟨S256x256, .i32⟩
  | 68 => ⟨S256x256, .i32⟩
  | 69 => ⟨S256x256, .f32⟩
  | 70 => ⟨S1x256x256, .f32⟩
  | 71 => ⟨S16x256x256, .f32⟩
  | 72 => ⟨S16x256x256, .f32⟩
  | 73 => ⟨S16x256x256, .f32⟩
  | 74 => ⟨S1x16x256x256, .f32⟩
  | 75 => ⟨S16x16x256x256, .f32⟩
  | 76 => ⟨S16x16x256x256, .f32⟩
  | 77 => ⟨S_, .f32⟩
  | 78 => ⟨S_, .f32⟩
  | 79 => ⟨S16x16x256x256, .i1⟩
  | 80 => ⟨S16x16x256x256, .f32⟩
  | 81 => ⟨S16x16x256x256, .f32⟩
  | 82 => ⟨S_, .f32⟩
  | 83 => ⟨S16x16x256x256, .f32⟩
  | 84 => ⟨S_, .f32⟩
  | 85 => ⟨S16x16x256, .f32⟩
  | 86 => ⟨S16x16x256x1, .f32⟩
  | 87 => ⟨S16x16x256x256, .f32⟩
  | 88 => ⟨S16x16x256x256, .i1⟩
  | 89 => ⟨S16x16x256x256, .f32⟩
  | 90 => ⟨S_, .f32⟩
  | 91 => ⟨S16x16x256, .f32⟩
  | 92 => ⟨S16x16x256x1, .f32⟩
  | 93 => ⟨S16x16x256x256, .f32⟩
  | 94 => ⟨S16x16x256x256, .f32⟩
  | 95 => ⟨S16x16x256x256, .f32⟩
  | 96 => ⟨S_, .f32⟩
  | 97 => ⟨S16x16x256, .f32⟩
  | 98 => ⟨S16x16x256x1, .f32⟩
  | 99 => ⟨S16x16x256x256, .f32⟩
  | 100 => ⟨S16x16x256x256, .f32⟩
  | 101 => ⟨S16x16x256x1, .f32⟩
  | 102 => ⟨S_, .f32⟩
  | 103 => ⟨S16x16x256x1, .f32⟩
  | 104 => ⟨S16x16x256x1, .f32⟩
  | 105 => ⟨S16x256x16x128, .f32⟩
  | 106 => ⟨S16x16x128x256, .f32⟩
  | 107 => ⟨S16x256x16x128, .f32⟩
  | 108 => ⟨S16x16x256x1, .f32⟩
  | 109 => ⟨S16x16x256x1, .f32⟩
  | 110 => ⟨S16x16x256, .f32⟩
  | 111 => ⟨S16x256x16, .f32⟩
  | 112 => ⟨S1x16x256x16, .f32⟩
  | 113 => ⟨S1x16x256x16, .f32⟩
  | 114 => ⟨S1x16x256x16, .f32⟩
  | 115 => ⟨S3x16x256x16, .f32⟩
  | 116 => ⟨S_, .f32⟩
  | 117 => ⟨S16x256x16, .f32⟩
  | 118 => ⟨S_, .f32⟩
  | 119 => ⟨S16x256x16, .f32⟩
  | 120 => ⟨S_, .f32⟩
  | 121 => ⟨S16x256x16, .f32⟩
  | 122 => ⟨S1x16x256x16, .f32⟩
  | 123 => ⟨S3x16x256x16, .f32⟩
  | 124 => ⟨S3x16x256x16, .i1⟩
  | 125 => ⟨S3x16x256x16, .f32⟩
  | 126 => ⟨S_, .f32⟩
  | 127 => ⟨S16x256x16, .f32⟩
  | _ => ⟨S16x256x2048, .bf16⟩

abbrev hbmTy0_1 (i : Nat) : BufTy := match i % 128 with
  | 0 => ⟨S_, .f32⟩
  | 1 => ⟨S16x256x16, .f32⟩
  | 2 => ⟨S16x256x16, .f32⟩
  | 3 => ⟨S_, .f32⟩
  | 4 => ⟨S16x256x16, .f32⟩
  | 5 => ⟨S16x256x16, .i1⟩
  | 6 => ⟨S_, .f32⟩
  | 7 => ⟨S16x256x16, .f32⟩
  | 8 => ⟨S16x256x16, .i1⟩
  | 9 => ⟨S_, .f32⟩
  | 10 => ⟨S16x256x16, .f32⟩
  | 11 => ⟨S_, .f32⟩
  | 12 => ⟨S16x256x16, .f32⟩
  | 13 => ⟨S_, .f32⟩
  | 14 => ⟨S16x256x16, .f32⟩
  | 15 => ⟨S16x256x16, .f32⟩
  | 16 => ⟨S16x256x16, .f32⟩
  | 17 => ⟨S1x16x256x16, .f32⟩
  | 18 => ⟨S3x16x256x16, .f32⟩
  | 19 => ⟨S3x16x256x16, .f32⟩
  | 20 => ⟨S3x16x256x16, .f32⟩
  | 21 => ⟨S_, .f32⟩
  | 22 => ⟨S16x256x16, .f32⟩
  | 23 => ⟨S1x16x256x16, .f32⟩
  | 24 => ⟨S3x16x256x16, .f32⟩
  | 25 => ⟨S3x16x256x16, .f32⟩
  | 26 => ⟨S1x16x256x16, .f32⟩
  | 27 => ⟨S_, .f32⟩
  | 28 => ⟨S1x16x256x16, .f32⟩
  | 29 => ⟨S1x16x256x16, .f32⟩
  | 30 => ⟨S3x16x256x16x1, .f32⟩
  | 31 => ⟨S16x256x2048, .f32⟩
  | 32 => ⟨S16x256x16x128, .f32⟩
  | 33 => ⟨S16x256x2048, .f32⟩
  | 34 => ⟨S16x256x16x128, .f32⟩
  | 35 => ⟨S1x16x256x16x128, .f32⟩
  | 36 => ⟨S1x16x256x16x128, .f32⟩
  | 37 => ⟨S1x16x256x16x128, .f32⟩
  | 38 => ⟨S3x16x256x16x128, .f32⟩
  | 39 => ⟨S_, .f32⟩
  | 40 => ⟨S16x256x16x128, .f32⟩
  | 41 => ⟨S_, .f32⟩
  | 42 => ⟨S16x256x16x128, .f32⟩
  | 43 => ⟨S3x16x256x16x128, .f32⟩
  | 44 => ⟨S3x16x256x16x128, .f32⟩
  | 45 => ⟨S_, .f32⟩
  | 46 => ⟨S16x256x16x128, .f32⟩
  | 47 => ⟨S16x256x2048, .f32⟩
  | 48 => ⟨S16x256x2048, .f32⟩
  | 49 => ⟨S16x256x16x128, .f32⟩
  | 50 => ⟨S3x16x256x16x128, .f32⟩
  | 51 => ⟨S3x16x256x16x128, .f32⟩
  | 52 => ⟨S3x16x256x16x128, .f32⟩
  | 53 => ⟨S3x16x256x16x128, .f32⟩
  | 54 => ⟨S_, .f32⟩
  | 55 => ⟨S3x16x256x16, .f32⟩
  | 56 => ⟨S3x16x256x16x1, .f32⟩
  | 57 => ⟨S1x16x256x16x128, .f32⟩
  | 58 => ⟨S16x256x16x128, .f32⟩
  | 59 => ⟨S1x16x256x16x128, .f32⟩
  | 60 => ⟨S16x256x16x128, .f32⟩
  | 61 => ⟨S1x16x256x16x128, .f32⟩
  | 62 => ⟨S16x256x16x128, .f32⟩
  | 63 => ⟨S_, .f32⟩
  | 64 => ⟨S3x16x256x16, .f32⟩
  | 65 => ⟨S3x16x256x16, .f32⟩
  | 66 => ⟨S3x16x256x16, .f32⟩
  | 67 => ⟨S3x16x256x16, .f32⟩
  | 68 => ⟨S_, .f32⟩
  | 69 => ⟨S16x256x16, .f32⟩
  | 70 => ⟨S1x16x256x16, .f32⟩
  | 71 => ⟨S1x16x256x16, .f32⟩
  | 72 => ⟨S3x16x256x16, .f32⟩
  | 73 => ⟨S3x16x256x16, .f32⟩
  | 74 => ⟨S_, .f32⟩
  | 75 => ⟨S16x256x16, .f32⟩
  | 76 => ⟨S3x16x256x16, .f32⟩
  | 77 => ⟨S3x16x256x16, .f32⟩
  | 78 => ⟨S3x16x256x16, .f32⟩
  | 79 => ⟨S1x16x256x16, .f32⟩
  | 80 => ⟨S16x256x16, .f32⟩
  | 81 => ⟨S1x16x256x16, .f32⟩
  | 82 => ⟨S16x256x16, .f32⟩
  | 83 => ⟨S1x16x256x16, .f32⟩
  | 84 => ⟨S16x256x16, .f32⟩
  | 85 => ⟨S16x16x256, .f32⟩
  | 86 => ⟨S16x16x256x1, .f32⟩
  | 87 => ⟨S16x16x256x1, .f32⟩
  | 88 => ⟨S16x16x128x256, .f32⟩
  | 89 => ⟨S16x16x256x256, .f32⟩
  | 90 => ⟨S16x16x128x256, .f32⟩
  | 91 => ⟨S16x256x16x128, .f32⟩
  | 92 => ⟨S16x256x2048, .f32⟩
  | 93 => ⟨S16x16x256x256, .f32⟩
  | 94 => ⟨S16x16x256x256, .f32⟩
  | 95 => ⟨S16x16x256x256, .f32⟩
  | 96 => ⟨S_, .f32⟩
  | 97 => ⟨S16x16x256, .f32⟩
  | 98 => ⟨S16x16x256x1, .f32⟩
  | 99 => ⟨S16x16x256x1, .f32⟩
  | 100 => ⟨S16x16x256x1, .f32⟩
  | 101 => ⟨S16x16x256x256, .f32⟩
  | 102 => ⟨S16x16x256x256, .f32⟩
  | 103 => ⟨S_, .f32⟩
  | 104 => ⟨S16x16x256, .f32⟩
  | 105 => ⟨S16x16x256x256, .f32⟩
  | 106 => ⟨S16x16x256x256, .f32⟩
  | 107 => ⟨S16x16x256x256, .f32⟩
  | 108 => ⟨S16x16x256x256, .f32⟩
  | 109 => ⟨S_, .f32⟩
  | 110 => ⟨S16x16x256, .f32⟩
  | 111 => ⟨S16x16x256x1, .f32⟩
  | 112 => ⟨S16x16x256x1, .f32⟩
  | 113 => ⟨S_, .f32⟩
  | 114 => ⟨S16x16x256, .f32⟩
  | 115 => ⟨S16x16x256, .f32⟩
  | 116 => ⟨S16x16x256x256, .f32⟩
  | 117 => ⟨S16x16x256x256, .f32⟩
  | 118 => ⟨S16x16x256x256, .f32⟩
  | 119 => ⟨S_, .f32⟩
  | 120 => ⟨S16x16x256x256, .f32⟩
  | 121 => ⟨S16x16x256x256, .f32⟩
  | 122 => ⟨S_, .f32⟩
  | 123 => ⟨S16x16x256x256, .f32⟩
  | 124 => ⟨S16x16x256x256, .f32⟩
  | 125 => ⟨S16x16x256x128, .f32⟩
  | 126 => ⟨S16x256x16x128, .f32⟩
  | 127 => ⟨S16x16x256x128, .f32⟩
  | _ => ⟨S16x256x2048, .bf16⟩

abbrev hbmTy0_2 (i : Nat) : BufTy := match i % 128 with
  | 0 => ⟨S16x256x16x128, .f32⟩
  | 1 => ⟨S16x256x2048, .f32⟩
  | 2 => ⟨S16x256x2048, .f32⟩
  | 3 => ⟨S16x256x2048, .bf16⟩
  | 4 => ⟨S16x256x2048, .bf16⟩
  | 5 => ⟨S16x256x2048, .bf16⟩
  | _ => ⟨S16x256x2048, .bf16⟩

abbrev hbmTy (i : Nat) : BufTy := match i / 128 with
  | 0 => hbmTy0_0 i
  | 1 => hbmTy0_1 i
  | 2 => hbmTy0_2 i
  | _ => ⟨S16x256x2048, .bf16⟩

abbrev bufTy : (tb : Table) → Fin (tcTables nBuf tb) → BufTy
  | .hbm, ⟨i, _⟩ => hbmTy i
  | _, _ => ⟨S16x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_cst_2 : Ref sig .tc := ⟨.hbm, 32, rfl⟩
abbrev main_cst_3 : Ref sig .tc := ⟨.hbm, 33, rfl⟩
abbrev main_cst_4 : Ref sig .tc := ⟨.hbm, 34, rfl⟩
abbrev main_cst_5 : Ref sig .tc := ⟨.hbm, 35, rfl⟩
abbrev main_cst_6 : Ref sig .tc := ⟨.hbm, 36, rfl⟩
abbrev main_cst_7 : Ref sig .tc := ⟨.hbm, 37, rfl⟩
abbrev main_cst_8 : Ref sig .tc := ⟨.hbm, 38, rfl⟩
abbrev main_cst_9 : Ref sig .tc := ⟨.hbm, 39, rfl⟩
abbrev main_cst_10 : Ref sig .tc := ⟨.hbm, 40, rfl⟩
abbrev main_cst_11 : Ref sig .tc := ⟨.hbm, 41, rfl⟩
abbrev main_cst_12 : Ref sig .tc := ⟨.hbm, 42, rfl⟩
abbrev main_cst_13 : Ref sig .tc := ⟨.hbm, 43, rfl⟩
abbrev main_cst_14 : Ref sig .tc := ⟨.hbm, 44, rfl⟩
abbrev main_cst_15 : Ref sig .tc := ⟨.hbm, 45, rfl⟩
abbrev main_cst_16 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_17 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_18 : Ref sig .tc := ⟨.hbm, 77, rfl⟩
abbrev main_call0_v0 : Ref sig .tc := ⟨.hbm, 78, rfl⟩
abbrev main_v49_1 : Ref sig .tc := ⟨.hbm, 79, rfl⟩
abbrev main_call0_v2 : Ref sig .tc := ⟨.hbm, 80, rfl⟩
abbrev main_v49_0 : Ref sig .tc := ⟨.hbm, 81, rfl⟩
abbrev main_call0_cst : Ref sig .tc := ⟨.hbm, 82, rfl⟩
abbrev main_v49_2 : Ref sig .tc := ⟨.hbm, 83, rfl⟩
abbrev main_cst_19 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_20 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_21 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_22 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_23 : Ref sig .tc := ⟨.hbm, 116, rfl⟩
abbrev main_v78 : Ref sig .tc := ⟨.hbm, 117, rfl⟩
abbrev main_cst_24 : Ref sig .tc := ⟨.hbm, 118, rfl⟩
abbrev main_v79 : Ref sig .tc := ⟨.hbm, 119, rfl⟩
abbrev main_cst_25 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_26 : Ref sig .tc := ⟨.hbm, 126, rfl⟩
abbrev main_v85 : Ref sig .tc := ⟨.hbm, 127, rfl⟩
abbrev main_cst_27 : Ref sig .tc := ⟨.hbm, 128, rfl⟩
abbrev main_v86 : Ref sig .tc := ⟨.hbm, 129, rfl⟩
abbrev main_v87 : Ref sig .tc := ⟨.hbm, 130, rfl⟩
abbrev main_cst_28 : Ref sig .tc := ⟨.hbm, 131, rfl⟩
abbrev main_v88 : Ref sig .tc := ⟨.hbm, 132, rfl⟩
abbrev main_v89 : Ref sig .tc := ⟨.hbm, 133, rfl⟩
abbrev main_cst_29 : Ref sig .tc := ⟨.hbm, 134, rfl⟩
abbrev main_v90 : Ref sig .tc := ⟨.hbm, 135, rfl⟩
abbrev main_v91 : Ref sig .tc := ⟨.hbm, 136, rfl⟩
abbrev main_cst_30 : Ref sig .tc := ⟨.hbm, 137, rfl⟩
abbrev main_v92 : Ref sig .tc := ⟨.hbm, 138, rfl⟩
abbrev main_cst_31 : Ref sig .tc := ⟨.hbm, 139, rfl⟩
abbrev main_v93 : Ref sig .tc := ⟨.hbm, 140, rfl⟩
abbrev main_cst_32 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_33 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_34 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_35 : Ref sig .tc := ⟨.hbm, 167, rfl⟩
abbrev main_v117 : Ref sig .tc := ⟨.hbm, 168, rfl⟩
abbrev main_cst_36 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_37 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_38 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_39 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_40 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_41 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_cst_42 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_cst_43 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_cst_44 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_cst_45 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_call1_cst : Ref sig .tc := ⟨.hbm, 247, rfl⟩
abbrev main_call1_v0 : Ref sig .tc := ⟨.hbm, 248, rfl⟩
abbrev main_v186 : Ref sig .tc := ⟨.hbm, 249, rfl⟩
abbrev main_cst_46 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩

abbrev nD : Nat := 1
abbrev τ : Topo := Topo.v7x

variable {F : FTy → Type} [FloatOps F]
-- ==== Kernel2.lean ====
abbrev S4096x2048 : Shape := ⟨2, ![4096, 2048]⟩
abbrev S2048x2048 : Shape := ⟨2, ![2048, 2048]⟩
abbrev S8x256x2048 : Shape := ⟨3, ![8, 256, 2048]⟩
abbrev S512x2048 : Shape := ⟨2, ![512, 2048]⟩
abbrev S256x2048 : Shape := ⟨2, ![256, 2048]⟩
abbrev S1x256x2048 : Shape := ⟨3, ![1, 256, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S8x256x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S8x256x2048, .bf16⟩
  | .local _ .vmem, ⟨5, _⟩ => ⟨S2048x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference2Ideal.lean ====
abbrev S4096x2048 : Shape := ⟨2, ![4096, 2048]⟩
abbrev S2048x2048 : Shape := ⟨2, ![2048, 2048]⟩
abbrev S4x2x256x2048 : Shape := ⟨4, ![4, 2, 256, 2048]⟩
abbrev S2x4x256x2048 : Shape := ⟨4, ![2, 4, 256, 2048]⟩
abbrev S8x256x2048 : Shape := ⟨3, ![8, 256, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S4x2x256x2048, .bf16⟩
  | .hbm, ⟨11, _⟩ => ⟨S2x4x256x2048, .bf16⟩
  | .hbm, ⟨12, _⟩ => ⟨S8x256x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel3.lean ====
abbrev S8x4096x704 : Shape := ⟨3, ![8, 4096, 704]⟩
abbrev S8x704x2048 : Shape := ⟨3, ![8, 704, 2048]⟩
abbrev S4096x2048 : Shape := ⟨2, ![4096, 2048]⟩
abbrev S1x1024x704 : Shape := ⟨3, ![1, 1024, 704]⟩
abbrev S1024x2048 : Shape := ⟨2, ![1024, 2048]⟩
abbrev S1x704x2048 : Shape := ⟨3, ![1, 704, 2048]⟩
abbrev S704x2048 : Shape := ⟨2, ![704, 2048]⟩
abbrev S1024x704 : Shape := ⟨2, ![1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .bf16⟩
  | .hbm, ⟨3, _⟩ => ⟨S8x704x2048, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x2048, .bf16⟩
  | .local _ .vmem, ⟨3, _⟩ => ⟨S1024x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli c4_i32 v9
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  let c0_i32_12 : BitVec 32 := 0#32
  ![v28.toNat, c0_i32_10.toNat, c0_i32_11.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8x4096x704 : Shape := ⟨3, ![8, 4096, 704]⟩
abbrev S8x704x2048 : Shape := ⟨3, ![8, 704, 2048]⟩
abbrev S4096x2048 : Shape := ⟨2, ![4096, 2048]⟩
abbrev S5632x2048 : Shape := ⟨2, ![5632, 2048]⟩
abbrev S4096x8x704 : Shape := ⟨3, ![4096, 8, 704]⟩
abbrev S4096x5632 : Shape := ⟨2, ![4096, 5632]⟩
abbrev S2048x5632 : Shape := ⟨2, ![2048, 5632]⟩
abbrev S4x2x704x2048 : Shape := ⟨4, ![4, 2, 704, 2048]⟩
abbrev S2x4x704x2048 : Shape := ⟨4, ![2, 4, 704, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .bf16⟩
  | .hbm, ⟨3, _⟩ => ⟨S8x704x2048, .f32⟩
  | .hbm, ⟨4, _⟩ => ⟨S5632x2048, .f32⟩
  | .hbm, ⟨5, _⟩ => ⟨S8x4096x704, .f32⟩
  | .hbm, ⟨6, _⟩ => ⟨S4096x8x704, .f32⟩
  | .hbm, ⟨7, _⟩ => ⟨S4096x5632, .f32⟩
  | .hbm, ⟨8, _⟩ => ⟨S4096x2048, .f32⟩
  | .hbm, ⟨9, _⟩ => ⟨S4096x2048, .f32⟩
  | .hbm, ⟨10, _⟩ => ⟨S2048x5632, .f32⟩
  | .hbm, ⟨11, _⟩ => ⟨S5632x2048, .f32⟩
  | .hbm, ⟨12, _⟩ => ⟨S5632x2048, .bf16⟩
  | .hbm, ⟨13, _⟩ => ⟨S4x2x704x2048, .bf16⟩
  | .hbm, ⟨14, _⟩ => ⟨S2x4x704x2048, .bf16⟩
  | .hbm, ⟨15, _⟩ => ⟨S8x704x2048, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel4.lean ====
abbrev S4096x2048 : Shape := ⟨2, ![4096, 2048]⟩
abbrev S8x2048x704 : Shape := ⟨3, ![8, 2048, 704]⟩
abbrev S8x4096x704 : Shape := ⟨3, ![8, 4096, 704]⟩
abbrev S1024x2048 : Shape := ⟨2, ![1024, 2048]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S8x4096x704, .bf16⟩
  | .hbm, ⟨4, _⟩ => ⟨S8x4096x704, .bf16⟩
  | .hbm, ⟨5, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4096x2048 : Shape := ⟨2, ![4096, 2048]⟩
abbrev S8x2048x704 : Shape := ⟨3, ![8, 2048, 704]⟩
abbrev S2048x8x704 : Shape := ⟨3, ![2048, 8, 704]⟩
abbrev S2048x5632 : Shape := ⟨2, ![2048, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S4096x2048, .f32⟩
  | .hbm, ⟨4, _⟩ => ⟨S8x2048x704, .f32⟩
  | .hbm, ⟨5, _⟩ => ⟨S2048x8x704, .f32⟩
  | .hbm, ⟨6, _⟩ => ⟨S2048x5632, .f32⟩
  | .hbm, ⟨7, _⟩ => ⟨S4096x5632, .f32⟩
  | .hbm, ⟨8, _⟩ => ⟨S4096x2048, .f32⟩
  | .hbm, ⟨9, _⟩ => ⟨S8x2048x704, .f32⟩
  | .hbm, ⟨10, _⟩ => ⟨S2048x8x704, .f32⟩
  | .hbm, ⟨11, _⟩ => ⟨S2048x5632, .f32⟩
  | .hbm, ⟨12, _⟩ => ⟨S4096x5632, .f32⟩
  | .hbm, ⟨13, _⟩ => ⟨S4096x5632, .bf16⟩
  | .hbm, ⟨14, _⟩ => ⟨S4096x8x704, .bf16⟩
  | .hbm, ⟨15, _⟩ => ⟨S8x4096x704, .bf16⟩
  | .hbm, ⟨16, _⟩ => ⟨S4096x5632, .bf16⟩
  | .hbm, ⟨17, _⟩ => ⟨S4096x8x704, .bf16⟩
  | .hbm, ⟨18, _⟩ => ⟨S8x4096x704, .bf16⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S_, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .bf16⟩
  | .hbm, ⟨30, _⟩ => ⟨S4096x8x704, .bf16⟩
  | .hbm, ⟨31, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel5.lean ====
abbrev S8x4096x704 : Shape := ⟨3, ![8, 4096, 704]⟩
abbrev S8x704x2048 : Shape := ⟨3, ![8, 704, 2048]⟩
abbrev S4096x2048 : Shape := ⟨2, ![4096, 2048]⟩
abbrev S1x1024x704 : Shape := ⟨3, ![1, 1024, 704]⟩
abbrev S1x704x2048 : Shape := ⟨3, ![1, 704, 2048]⟩
abbrev S1024x2048 : Shape := ⟨2, ![1024, 2048]⟩
abbrev S1024x704 : Shape := ⟨2, ![1024, 704]⟩
abbrev S704x2048 : Shape := ⟨2, ![704, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .hbm, ⟨3, _⟩ => ⟨S4096x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference5Ideal.lean ====
abbrev S8x4096x704 : Shape := ⟨3, ![8, 4096, 704]⟩
abbrev S8x704x2048 : Shape := ⟨3, ![8, 704, 2048]⟩
abbrev S4096x2048 : Shape := ⟨2, ![4096, 2048]⟩
abbrev S4096x8x704 : Shape := ⟨3, ![4096, 8, 704]⟩
abbrev S4096x5632 : Shape := ⟨2, ![4096, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .hbm, ⟨3, _⟩ => ⟨S8x4096x704, .f32⟩
  | .hbm, ⟨4, _⟩ => ⟨S4096x8x704, .f32⟩
  | .hbm, ⟨5, _⟩ => ⟨S4096x5632, .f32⟩
  | .hbm, ⟨6, _⟩ => ⟨S8x704x2048, .f32⟩
  | .hbm, ⟨7, _⟩ => ⟨S5632x2048, .f32⟩
  | .hbm, ⟨8, _⟩ => ⟨S4096x2048, .f32⟩
  | .hbm, ⟨9, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x2048 : Shape := ⟨2, ![4096, 2048]⟩
abbrev S8x704x2048 : Shape := ⟨3, ![8, 704, 2048]⟩
abbrev S8x4096x704 : Shape := ⟨3, ![8, 4096, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x4096x704, .bf16⟩
  | .hbm, ⟨3, _⟩ => ⟨S8x4096x704, .bf16⟩
  | .hbm, ⟨4, _⟩ => ⟨S8x4096x704, .bf16⟩
  | .hbm, ⟨5, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4096x2048 : Shape := ⟨2, ![4096, 2048]⟩
abbrev S8x704x2048 : Shape := ⟨3, ![8, 704, 2048]⟩
abbrev S8x4096x704 : Shape := ⟨3, ![8, 4096, 704]⟩
abbrev S5632x2048 : Shape := ⟨2, ![5632, 2048]⟩
abbrev S4096x8x704 : Shape := ⟨3, ![4096, 8, 704]⟩
abbrev S4096x5632 : Shape := ⟨2, ![4096, 5632]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x4096x704, .bf16⟩
  | .hbm, ⟨3, _⟩ => ⟨S8x4096x704, .bf16⟩
  | .hbm, ⟨4, _⟩ => ⟨S8x704x2048, .f32⟩
  | .hbm, ⟨5, _⟩ => ⟨S5632x2048, .f32⟩
  | .hbm, ⟨6, _⟩ => ⟨S8x4096x704, .f32⟩
  | .hbm, ⟨7, _⟩ => ⟨S4096x8x704, .f32⟩
  | .hbm, ⟨8, _⟩ => ⟨S4096x5632, .f32⟩
  | .hbm, ⟨9, _⟩ => ⟨S8x4096x704, .f32⟩
  | .hbm, ⟨10, _⟩ => ⟨S4096x8x704, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x2048, .f32⟩
  | .hbm, ⟨27, _⟩ => ⟨S4096x2048, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .bf16⟩
  | .hbm, ⟨36, _⟩ => ⟨S4096x8x704, .bf16⟩
  | .hbm, ⟨37, _⟩ => ⟨S8x4096x704, .bf16⟩
  | .hbm, ⟨38, _⟩ => ⟨S4096x5632, .bf16⟩
  | .hbm, ⟨39, _⟩ => ⟨S4096x8x704, .bf16⟩
  | .hbm, ⟨40, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v8_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v8_1 : Ref sig .tc := ⟨.hbm, 23, rfl⟩
abbrev main_v8_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel7.lean ====
abbrev S4096x2048 : Shape := ⟨2, ![4096, 2048]⟩
abbrev S8x2048x704 : Shape := ⟨3, ![8, 2048, 704]⟩
abbrev S8x4096x704 : Shape := ⟨3, ![8, 4096, 704]⟩
abbrev S8x704x2048 : Shape := ⟨3, ![8, 704, 2048]⟩
abbrev S1024x2048 : Shape := ⟨2, ![1024, 2048]⟩
abbrev S1x1024x704 : Shape := ⟨3, ![1, 1024, 704]⟩
abbrev S1x704x2048 : Shape := ⟨3, ![1, 704, 2048]⟩
abbrev S704x2048 : Shape := ⟨2, ![704, 2048]⟩
abbrev S1024x704 : Shape := ⟨2, ![1024, 704]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S8x4096x704, .bf16⟩
  | .hbm, ⟨4, _⟩ => ⟨S8x4096x704, .bf16⟩
  | .hbm, ⟨5, _⟩ => ⟨S8x704x2048, .bf16⟩
  | .hbm, ⟨6, _⟩ => ⟨S8x704x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x704x2048, .bf16⟩
  | .local _ .vmem, ⟨7, _⟩ => ⟨S1x704x2048, .bf16⟩
  | .local _ .vmem, ⟨8, _⟩ => ⟨S1x704x2048, .bf16⟩
  | .local _ .vmem, ⟨9, _⟩ => ⟨S1x704x2048, .bf16⟩
  | .local _ .vmem, ⟨10, _⟩ => ⟨S704x2048, .f32⟩
  | .local _ .vmem, ⟨11, _⟩ => ⟨S704x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_17 : BitVec 32 := 0#32
  let v22 : BitVec 1 := Scalar.cmpi .ne v21 c0_i32_17
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli c4_i32 v9
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  let c0_i32_12 : BitVec 32 := 0#32
  ![v28.toNat, c0_i32_10.toNat, c0_i32_11.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli c4_i32 v9
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  let c0_i32_12 : BitVec 32 := 0#32
  ![v28.toNat, c0_i32_10.toNat, c0_i32_11.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S4096x2048 : Shape := ⟨2, ![4096, 2048]⟩
abbrev S8x2048x704 : Shape := ⟨3, ![8, 2048, 704]⟩
abbrev S8x4096x704 : Shape := ⟨3, ![8, 4096, 704]⟩
abbrev S2048x8x704 : Shape := ⟨3, ![2048, 8, 704]⟩
abbrev S2048x5632 : Shape := ⟨2, ![2048, 5632]⟩
abbrev S4096x5632 : Shape := ⟨2, ![4096, 5632]⟩
abbrev S4096x8x704 : Shape := ⟨3, ![4096, 8, 704]⟩
abbrev S5632x2048 : Shape := ⟨2, ![5632, 2048]⟩
abbrev S4x2x704x2048 : Shape := ⟨4, ![4, 2, 704, 2048]⟩
abbrev S2x4x704x2048 : Shape := ⟨4, ![2, 4, 704, 2048]⟩
abbrev S8x704x2048 : Shape := ⟨3, ![8, 704, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S8x4096x704, .bf16⟩
  | .hbm, ⟨4, _⟩ => ⟨S8x4096x704, .bf16⟩
  | .hbm, ⟨5, _⟩ => ⟨S8x2048x704, .f32⟩
  | .hbm, ⟨6, _⟩ => ⟨S2048x8x704, .f32⟩
  | .hbm, ⟨7, _⟩ => ⟨S2048x5632, .f32⟩
  | .hbm, ⟨8, _⟩ => ⟨S8x2048x704, .f32⟩
  | .hbm, ⟨9, _⟩ => ⟨S2048x8x704, .f32⟩
  | .hbm, ⟨10, _⟩ => ⟨S2048x5632, .f32⟩
  | .hbm, ⟨11, _⟩ => ⟨S4096x2048, .f32⟩
  | .hbm, ⟨12, _⟩ => ⟨S4096x5632, .f32⟩
  | .hbm, ⟨13, _⟩ => ⟨S4096x2048, .f32⟩
  | .hbm, ⟨14, _⟩ => ⟨S4096x5632, .f32⟩
  | .hbm, ⟨15, _⟩ => ⟨S8x4096x704, .f32⟩
  | .hbm, ⟨16, _⟩ => ⟨S4096x8x704, .f32⟩
  | .hbm, ⟨17, _⟩ => ⟨S4096x5632, .f32⟩
  | .hbm, ⟨18, _⟩ => ⟨S8x4096x704, .f32⟩
  | .hbm, ⟨19, _⟩ => ⟨S4096x8x704, .f32⟩
  | .hbm, ⟨20, _⟩ => ⟨S4096x5632, .f32⟩
  | .hbm, ⟨21, _⟩ => ⟨S5632x2048, .f32⟩
  | .hbm, ⟨22, _⟩ => ⟨S2048x5632, .f32⟩
  | .hbm, ⟨23, _⟩ => ⟨S5632x2048, .f32⟩
  | .hbm, ⟨24, _⟩ => ⟨S2048x5632, .f32⟩
  | .hbm, ⟨25, _⟩ => ⟨S5632x2048, .f32⟩
  | .hbm, ⟨26, _⟩ => ⟨S5632x2048, .bf16⟩
  | .hbm, ⟨27, _⟩ => ⟨S4x2x704x2048, .bf16⟩
  | .hbm, ⟨28, _⟩ => ⟨S2x4x704x2048, .bf16⟩
  | .hbm, ⟨29, _⟩ => ⟨S8x704x2048, .bf16⟩
  | .hbm, ⟨30, _⟩ => ⟨S5632x2048, .f32⟩
  | .hbm, ⟨31, _⟩ => ⟨S5632x2048, .bf16⟩
  | .hbm, ⟨32, _⟩ => ⟨S4x2x704x2048, .bf16⟩
  | .hbm, ⟨33, _⟩ => ⟨S2x4x704x2048, .bf16⟩
  | .hbm, ⟨34, _⟩ => ⟨S8x704x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== Kernel8.lean ====
abbrev S4096x2048 : Shape := ⟨2, ![4096, 2048]⟩
abbrev S8x2048x704 : Shape := ⟨3, ![8, 2048, 704]⟩
abbrev S8x4096x704 : Shape := ⟨3, ![8, 4096, 704]⟩
abbrev S1x1024x704 : Shape := ⟨3, ![1, 1024, 704]⟩
abbrev S1x2048x704 : Shape := ⟨3, ![1, 2048, 704]⟩
abbrev S1024x2048 : Shape := ⟨2, ![1024, 2048]⟩
abbrev S1024x704 : Shape := ⟨2, ![1024, 704]⟩
abbrev S2048x704 : Shape := ⟨2, ![2048, 704]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S8x4096x704, .bf16⟩
  | .hbm, ⟨4, _⟩ => ⟨S8x4096x704, .bf16⟩
  | .hbm, ⟨5, _⟩ => ⟨S4096x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1024x2048, .f32⟩
  | .local _ .vmem, ⟨9, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference8Ideal.lean ====
abbrev S4096x2048 : Shape := ⟨2, ![4096, 2048]⟩
abbrev S8x2048x704 : Shape := ⟨3, ![8, 2048, 704]⟩
abbrev S8x4096x704 : Shape := ⟨3, ![8, 4096, 704]⟩
abbrev S2048x8x704 : Shape := ⟨3, ![2048, 8, 704]⟩
abbrev S2048x5632 : Shape := ⟨2, ![2048, 5632]⟩
abbrev S4096x5632 : Shape := ⟨2, ![4096, 5632]⟩
abbrev S4096x8x704 : Shape := ⟨3, ![4096, 8, 704]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S8x4096x704, .bf16⟩
  | .hbm, ⟨4, _⟩ => ⟨S8x4096x704, .bf16⟩
  | .hbm, ⟨5, _⟩ => ⟨S4096x2048, .f32⟩
  | .hbm, ⟨6, _⟩ => ⟨S8x2048x704, .f32⟩
  | .hbm, ⟨7, _⟩ => ⟨S2048x8x704, .f32⟩
  | .hbm, ⟨8, _⟩ => ⟨S2048x5632, .f32⟩
  | .hbm, ⟨9, _⟩ => ⟨S4096x5632, .f32⟩
  | .hbm, ⟨10, _⟩ => ⟨S8x2048x704, .f32⟩
  | .hbm, ⟨11, _⟩ => ⟨S2048x8x704, .f32⟩
  | .hbm, ⟨12, _⟩ => ⟨S2048x5632, .f32⟩
  | .hbm, ⟨13, _⟩ => ⟨S4096x5632, .f32⟩
  | .hbm, ⟨14, _⟩ => ⟨S8x4096x704, .f32⟩
  | .hbm, ⟨15, _⟩ => ⟨S4096x8x704, .f32⟩
  | .hbm, ⟨16, _⟩ => ⟨S4096x5632, .f32⟩
  | .hbm, ⟨17, _⟩ => ⟨S8x4096x704, .f32⟩
  | .hbm, ⟨18, _⟩ => ⟨S4096x8x704, .f32⟩
  | .hbm, ⟨19, _⟩ => ⟨S4096x5632, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel9.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel10.lean ====
abbrev S4096x2048 : Shape := ⟨2, ![4096, 2048]⟩
abbrev S8x256x2048 : Shape := ⟨3, ![8, 256, 2048]⟩
abbrev S1024x2048 : Shape := ⟨2, ![1024, 2048]⟩
abbrev S8x256x512 : Shape := ⟨3, ![8, 256, 512]⟩
abbrev S1024x512 : Shape := ⟨2, ![1024, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S8x256x512, .bf16⟩
  | .local _ .vmem, ⟨3, _⟩ => ⟨S8x256x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S4096x2048 : Shape := ⟨2, ![4096, 2048]⟩
abbrev S8x256x2048 : Shape := ⟨3, ![8, 256, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .f32⟩
  | .hbm, ⟨3, _⟩ => ⟨S4096x2048, .f32⟩
  | .hbm, ⟨4, _⟩ => ⟨S8x256x2048, .f32⟩
  | .hbm, ⟨5, _⟩ => ⟨S2048x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x2048 : Shape := ⟨2, ![4096, 2048]⟩
abbrev S8x256x2048 : Shape := ⟨3, ![8, 256, 2048]⟩
abbrev S1x2048 : Shape := ⟨2, ![1, 2048]⟩
abbrev S1024x2048 : Shape := ⟨2, ![1024, 2048]⟩
abbrev S8x256x512 : Shape := ⟨3, ![8, 256, 512]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S8x256x512, .bf16⟩
  | .local _ .vmem, ⟨3, _⟩ => ⟨S8x256x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S4096x2048 : Shape := ⟨2, ![4096, 2048]⟩
abbrev S8x256x2048 : Shape := ⟨3, ![8, 256, 2048]⟩
abbrev S1x2048 : Shape := ⟨2, ![1, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S8x256x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel12.lean ====
abbrev S4096x2048 : Shape := ⟨2, ![4096, 2048]⟩
abbrev S8x256x2048 : Shape := ⟨3, ![8, 256, 2048]⟩
abbrev S1024x2048 : Shape := ⟨2, ![1024, 2048]⟩
abbrev S4x256x2048 : Shape := ⟨3, ![4, 256, 2048]⟩
abbrev S1024x1024 : Shape := ⟨2, ![1024, 1024]⟩
abbrev S1x256x2048 : Shape := ⟨3, ![1, 256, 2048]⟩
abbrev S256x2048 : Shape := ⟨2, ![256, 2048]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S4x256x2048, .bf16⟩
  | .local _ .vmem, ⟨3, _⟩ => ⟨S4x256x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x2048 : Shape := ⟨2, ![4096, 2048]⟩
abbrev S8x256x2048 : Shape := ⟨3, ![8, 256, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .bf16⟩
  | .hbm, ⟨3, _⟩ => ⟨S4096x2048, .f32⟩
  | .hbm, ⟨4, _⟩ => ⟨S8x256x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x2048 : Shape := ⟨2, ![4096, 2048]⟩
abbrev S8x256x2048 : Shape := ⟨3, ![8, 256, 2048]⟩
abbrev S1024x2048 : Shape := ⟨2, ![1024, 2048]⟩
abbrev S4x256x2048 : Shape := ⟨3, ![4, 256, 2048]⟩
abbrev S1024x1024 : Shape := ⟨2, ![1024, 1024]⟩
abbrev S1x256x2048 : Shape := ⟨3, ![1, 256, 2048]⟩
abbrev S256x2048 : Shape := ⟨2, ![256, 2048]⟩
abbrev S1024x256 : Shape := ⟨2, ![1024, 256]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S8x256x2048, .bf16⟩
  | .hbm, ⟨3, _⟩ => ⟨S4096x2048, .bf16⟩
  | .hbm, ⟨4, _⟩ => ⟨S4096x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4x256x2048, .bf16⟩
  | .local _ .vmem, ⟨5, _⟩ => ⟨S4x256x2048, .bf16⟩
  | .local _ .vmem, ⟨6, _⟩ => ⟨S4x256x2048, .bf16⟩
  | .local _ .vmem, ⟨7, _⟩ => ⟨S4x256x2048, .bf16⟩
  | .local _ .vmem, ⟨8, _⟩ => ⟨S1024x1024, .f32⟩
  | .local _ .vmem, ⟨9, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference13Ideal.lean ====
abbrev S4096x2048 : Shape := ⟨2, ![4096, 2048]⟩
abbrev S8x256x2048 : Shape := ⟨3, ![8, 256, 2048]⟩
abbrev S2048x2048 : Shape := ⟨2, ![2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S8x256x2048, .bf16⟩
  | .hbm, ⟨3, _⟩ => ⟨S4096x2048, .bf16⟩
  | .hbm, ⟨4, _⟩ => ⟨S4096x2048, .bf16⟩
  | .hbm, ⟨5, _⟩ => ⟨S4096x2048, .f32⟩
  | .hbm, ⟨6, _⟩ => ⟨S8x256x2048, .f32⟩
  | .hbm, ⟨7, _⟩ => ⟨S2048x2048, .f32⟩
  | .hbm, ⟨8, _⟩ => ⟨S4096x2048, .f32⟩
  | .hbm, ⟨9, _⟩ => ⟨S8x256x2048, .f32⟩
  | .hbm, ⟨10, _⟩ => ⟨S2048x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel14.lean ====
abbrev S4096x2048 : Shape := ⟨2, ![4096, 2048]⟩
abbrev S8x2048x512 : Shape := ⟨3, ![8, 2048, 512]⟩
abbrev S4096x4096 : Shape := ⟨2, ![4096, 4096]⟩
abbrev S1024x2048 : Shape := ⟨2, ![1024, 2048]⟩
abbrev S1024x512 : Shape := ⟨2, ![1024, 512]⟩
abbrev S1x2048x512 : Shape := ⟨3, ![1, 2048, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x4096, .bf16⟩
  | .hbm, ⟨3, _⟩ => ⟨S8x2048x512, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli c4_i32 v9
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  let c0_i32_12 : BitVec 32 := 0#32
  ![v28.toNat, c0_i32_10.toNat, c0_i32_11.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference14Ideal.lean ====
abbrev S4096x2048 : Shape := ⟨2, ![4096, 2048]⟩
abbrev S8x2048x512 : Shape := ⟨3, ![8, 2048, 512]⟩
abbrev S4096x4096 : Shape := ⟨2, ![4096, 4096]⟩
abbrev S2048x8x512 : Shape := ⟨3, ![2048, 8, 512]⟩
abbrev S2048x4096 : Shape := ⟨2, ![2048, 4096]⟩
abbrev S4x2x2048x512 : Shape := ⟨4, ![4, 2, 2048, 512]⟩
abbrev S2x4x2048x512 : Shape := ⟨4, ![2, 4, 2048, 512]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x4096, .bf16⟩
  | .hbm, ⟨3, _⟩ => ⟨S8x2048x512, .f32⟩
  | .hbm, ⟨4, _⟩ => ⟨S2048x8x512, .f32⟩
  | .hbm, ⟨5, _⟩ => ⟨S2048x4096, .f32⟩
  | .hbm, ⟨6, _⟩ => ⟨S4096x2048, .f32⟩
  | .hbm, ⟨7, _⟩ => ⟨S4096x4096, .f32⟩
  | .hbm, ⟨8, _⟩ => ⟨S4096x4096, .f32⟩
  | .hbm, ⟨9, _⟩ => ⟨S4096x2048, .f32⟩
  | .hbm, ⟨10, _⟩ => ⟨S2048x4096, .f32⟩
  | .hbm, ⟨11, _⟩ => ⟨S2048x4096, .bf16⟩
  | .hbm, ⟨12, _⟩ => ⟨S2048x8x512, .bf16⟩
  | .hbm, ⟨13, _⟩ => ⟨S8x2048x512, .bf16⟩
  | .hbm, ⟨14, _⟩ => ⟨S4x2x2048x512, .bf16⟩
  | .hbm, ⟨15, _⟩ => ⟨S2x4x2048x512, .bf16⟩
  | .hbm, ⟨16, _⟩ => ⟨S8x2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel15.lean ====
abbrev S4096x2048 : Shape := ⟨2, ![4096, 2048]⟩
abbrev S8x2048x512 : Shape := ⟨3, ![8, 2048, 512]⟩
abbrev S4096x4096 : Shape := ⟨2, ![4096, 4096]⟩
abbrev S1024x512 : Shape := ⟨2, ![1024, 512]⟩
abbrev S1x2048x512 : Shape := ⟨3, ![1, 2048, 512]⟩
abbrev S1024x2048 : Shape := ⟨2, ![1024, 2048]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x4096, .bf16⟩
  | .hbm, ⟨3, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x2048, .f32⟩
  | .local _ .vmem, ⟨5, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference15Ideal.lean ====
abbrev S4096x2048 : Shape := ⟨2, ![4096, 2048]⟩
abbrev S8x2048x512 : Shape := ⟨3, ![8, 2048, 512]⟩
abbrev S4096x4096 : Shape := ⟨2, ![4096, 4096]⟩
abbrev S2048x8x512 : Shape := ⟨3, ![2048, 8, 512]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x4096, .bf16⟩
  | .hbm, ⟨3, _⟩ => ⟨S4096x2048, .f32⟩
  | .hbm, ⟨4, _⟩ => ⟨S8x2048x512, .f32⟩
  | .hbm, ⟨5, _⟩ => ⟨S2048x8x512, .f32⟩
  | .hbm, ⟨6, _⟩ => ⟨S2048x4096, .f32⟩
  | .hbm, ⟨7, _⟩ => ⟨S4096x4096, .f32⟩
  | .hbm, ⟨8, _⟩ => ⟨S4096x4096, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x2048 : Shape := ⟨2, ![4096, 2048]⟩
abbrev S8x2048x512 : Shape := ⟨3, ![8, 2048, 512]⟩
abbrev S1x4096 : Shape := ⟨2, ![1, 4096]⟩
abbrev S1024x2048 : Shape := ⟨2, ![1024, 2048]⟩
abbrev S1x2048x512 : Shape := ⟨3, ![1, 2048, 512]⟩
abbrev S1x512 : Shape := ⟨2, ![1, 512]⟩
abbrev S1024x512 : Shape := ⟨2, ![1024, 512]⟩
abbrev S2048x512 : Shape := ⟨2, ![2048, 512]⟩

abbrev nBuf : Space → Nat
  | .hbm => 6
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S1x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S4096x2048 : Shape := ⟨2, ![4096, 2048]⟩
abbrev S8x2048x512 : Shape := ⟨3, ![8, 2048, 512]⟩
abbrev S1x4096 : Shape := ⟨2, ![1, 4096]⟩
abbrev S2048x8x512 : Shape := ⟨3, ![2048, 8, 512]⟩
abbrev S2048x4096 : Shape := ⟨2, ![2048, 4096]⟩
abbrev S4096x4096 : Shape := ⟨2, ![4096, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S1x4096, .f32⟩
  | .hbm, ⟨3, _⟩ => ⟨S4096x2048, .f32⟩
  | .hbm, ⟨4, _⟩ => ⟨S8x2048x512, .f32⟩
  | .hbm, ⟨5, _⟩ => ⟨S2048x8x512, .f32⟩
  | .hbm, ⟨6, _⟩ => ⟨S2048x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Word.Frame.lean ====
/-
  The frame of the attention backward call: every grid point's body runs, from any contents of its windows and carries,
  and the argument arrays end as launched. The two row blocks of a residue take the two runs of the body.
-/
module

public import proofs.«01_k».proof.Proof.Word.Run0
public import proofs.«01_k».proof.Proof.Word.Run1
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

/-- A whole memref owned at `X` is its buffer at the contents that read `X`. -/
theorem owns_to_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns; rw [h.set_eq_univ]
  iintro ⟨%f, %hf, H⟩; rw [h.eq_unread hf]; iexact H
/-- A whole memref's buffer at `f` is the memref owned at what `f` reads. -/
theorem pt_to_owns (c : Dev nD) {sp : Space} {S : Shape} {e : EltTy} (M : Memref sig .tc sp S e) (h : M.IsWhole) (f : Bf (F := F) c M) :
    pt c M f ⊢ (owns (c : Thread nD τ) M fullShare (M.view.read (Elt F) f) : sProp 𝕄) := by
  unfold owns; rw [h.set_eq_univ]
  iintro H; iexists f; isplitr; · ipureintro; rfl
  iexact H

theorem pt_to_owns' (c : Dev nD) {sp : Space} {S : Shape} {e : EltTy} (M : Memref sig .tc sp S e) (h : M.IsWhole) (X : S.Idx → Elt F e) :
    pt c M (h.unread X) ⊢ (owns (c : Thread nD τ) M fullShare X : sProp 𝕄) := by
  refine (pt_to_owns c M h _).trans (by rw [h.read_unread])

/-- The guards at the first row block. -/
theorem conds_even : ∀ t : Fin cfg0.N, t.val % 2 = 0 → cond1 (grid0.coords t) = 1#1 ∧ k0_cond2 (grid0.coords t) = 1#1 ∧ ¬ k0_cond3 (grid0.coords t) = 1#1 :=
  (by decide +kernel : ∀ t : Fin grid0.N, t.val % 2 = 0 → cond1 (grid0.coords t) = 1#1 ∧ k0_cond2 (grid0.coords t) = 1#1 ∧ ¬ k0_cond3 (grid0.coords t) = 1#1)
/-- The guards at the second row block. -/
theorem conds_odd : ∀ t : Fin cfg0.N, ¬ t.val % 2 = 0 → ¬ cond1 (grid0.coords t) = 1#1 ∧ k0_cond2 (grid0.coords t) = 1#1 ∧ k0_cond3 (grid0.coords t) = 1#1 :=
  (by decide +kernel : ∀ t : Fin grid0.N, ¬ t.val % 2 = 0 → ¬ cond1 (grid0.coords t) = 1#1 ∧ k0_cond2 (grid0.coords t) = 1#1 ∧ k0_cond3 (grid0.coords t) = 1#1)

/-- The body at the first row block, between owned memrefs: the inputs unchanged. -/
theorem step0 (c : Dev nD) (i : grid0.Coords) (h1 : cond1 i = 1#1) (h2 : k0_cond2 i = 1#1) (h3 : ¬ k0_cond3 i = 1#1)
    (Mq : Memref sig .tc .vmem S1x128x2048 .bf16) (hq : Mq.IsWhole) (Mkc : Memref sig .tc .vmem S1x128x2048 .bf16) (hkc : Mkc.IsWhole) (Mkp : Memref sig .tc .vmem S1x128x2048 .bf16) (hkp : Mkp.IsWhole) (Mvc : Memref sig .tc .vmem S1x128x2048 .bf16) (hvc : Mvc.IsWhole) (Mvp : Memref sig .tc .vmem S1x128x2048 .bf16) (hvp : Mvp.IsWhole) (Mg : Memref sig .tc .vmem S1x128x2048 .bf16) (hg : Mg.IsWhole) (Mo : Memref sig .tc .vmem S1x128x2048 .bf16) (ho : Mo.IsWhole) (Ml : Memref sig .tc .vmem S1x128x128 .f32) (hl : Ml.IsWhole) (Mdq : Memref sig .tc .vmem S1x128x2048 .bf16) (hdq : Mdq.IsWhole) (Mdk : Memref sig .tc .vmem S1x256x2048 .bf16) (hdk : Mdk.IsWhole) (Mdv : Memref sig .tc .vmem S1x256x2048 .bf16) (hdv : Mdv.IsWhole) (Mck : Memref sig .tc .vmem S128x2048 .f32) (hck : Mck.IsWhole) (Mcv : Memref sig .tc .vmem S128x2048 .f32) (hcv : Mcv.IsWhole)
    (Xq : Vec F S1x128x2048 .bf16) (Xkc : Vec F S1x128x2048 .bf16) (Xkp : Vec F S1x128x2048 .bf16) (Xvc : Vec F S1x128x2048 .bf16) (Xvp : Vec F S1x128x2048 .bf16) (Xg : Vec F S1x128x2048 .bf16) (Xo : Vec F S1x128x2048 .bf16) (Xl : Vec F S1x128x128 .f32) (Xdq : Vec F S1x128x2048 .bf16) (Xdk : Vec F S1x256x2048 .bf16) (Xdv : Vec F S1x256x2048 .bf16) (fck : Bf (F := F) c Mck) (fcv : Bf (F := F) c Mcv) (E : Set ℕ) (Q : PUnit → sProp 𝕄) :
    iprop(owns (c : Thread nD τ) Mq fullShare Xq ∗ owns (c : Thread nD τ) Mkc fullShare Xkc ∗ owns (c : Thread nD τ) Mkp fullShare Xkp ∗ owns (c : Thread nD τ) Mvc fullShare Xvc ∗ owns (c : Thread nD τ) Mvp fullShare Xvp ∗ owns (c : Thread nD τ) Mg fullShare Xg ∗ owns (c : Thread nD τ) Mo fullShare Xo ∗ owns (c : Thread nD τ) Ml fullShare Xl ∗ owns (c : Thread nD τ) Mdq fullShare Xdq ∗ owns (c : Thread nD τ) Mdk fullShare Xdk ∗ owns (c : Thread nD τ) Mdv fullShare Xdv ∗ pt c Mck fck ∗ pt c Mcv fcv
      ∗ (iprop(owns (c : Thread nD τ) Mq fullShare Xq ∗ owns (c : Thread nD τ) Mkc fullShare Xkc ∗ owns (c : Thread nD τ) Mkp fullShare Xkp ∗ owns (c : Thread nD τ) Mvc fullShare Xvc ∗ owns (c : Thread nD τ) Mvp fullShare Xvp ∗ owns (c : Thread nD τ) Mg fullShare Xg ∗ owns (c : Thread nD τ) Mo fullShare Xo ∗ owns (c : Thread nD τ) Ml fullShare Xl ∗ (∃ X, owns (c : Thread nD τ) Mdq fullShare X) ∗ (∃ X, owns (c : Thread nD τ) Mdk fullShare X) ∗ (∃ X, owns (c : Thread nD τ) Mdv fullShare X) ∗ (∃ f, pt c Mck f) ∗ (∃ f, pt c Mcv f)) -∗ Q ⟨⟩))
    ⊢ wp frame (wpE (defs₀ (F := F)) Variants.none c none) E (cc0_attn_bwd_d16 i Mq hq Mkc hkc Mkp hkp Mvc hvc Mvp hvp Mg hg Mo ho Ml hl Mdq hdq Mdk hdk Mdv hdv Mck hck Mcv hcv) Q := by
  iintro ⟨Hq, Hkc, Hkp, Hvc, Hvp, Hg, Ho, Hl, Hdq, Hdk, Hdv, Hck, Hcv, Hk⟩
  iapply ((run0 c i h1 h2 h3 Mq hq Mkc hkc Mkp hkp Mvc hvc Mvp hvp Mg hg Mo ho Ml hl Mdq hdq Mdk hdk Mdv hdv Mck hck Mcv hcv (hq.unread Xq) (hkc.unread Xkc) (hkp.unread Xkp) (hvc.unread Xvc) (hvp.unread Xvp) (hg.unread Xg) (ho.unread Xo) (hl.unread Xl)).2 (hdq.unread Xdq) (hdk.unread Xdk) (hdv.unread Xdv) fck fcv E Q)
  isplitl [Hq]; · iapply (owns_to_pt c Mq hq Xq); iexact Hq
  isplitl [Hkc]; · iapply (owns_to_pt c Mkc hkc Xkc); iexact Hkc
  isplitl [Hkp]; · iapply (owns_to_pt c Mkp hkp Xkp); iexact Hkp
  isplitl [Hvc]; · iapply (owns_to_pt c Mvc hvc Xvc); iexact Hvc
  isplitl [Hvp]; · iapply (owns_to_pt c Mvp hvp Xvp); iexact Hvp
  isplitl [Hg]; · iapply (owns_to_pt c Mg hg Xg); iexact Hg
  isplitl [Ho]; · iapply (owns_to_pt c Mo ho Xo); iexact Ho
  isplitl [Hl]; · iapply (owns_to_pt c Ml hl Xl); iexact Hl
  isplitl [Hdq]; · iapply (owns_to_pt c Mdq hdq Xdq); iexact Hdq
  isplitl [Hdk]; · iapply (owns_to_pt c Mdk hdk Xdk); iexact Hdk
  isplitl [Hdv]; · iapply (owns_to_pt c Mdv hdv Xdv); iexact Hdv
  isplitl [Hck]; · iexact Hck
  isplitl [Hcv]; · iexact Hcv
  iintro ⟨Hq, Hkc, Hkp, Hvc, Hvp, Hg, Ho, Hl, ⟨%fdq, Hdq⟩, ⟨%fdk, Hdk⟩, ⟨%fdv, Hdv⟩, ⟨%fk, Hck⟩, ⟨%fv, Hcv⟩⟩
  iapply Hk
  isplitl [Hq]; · iapply (pt_to_owns' c Mq hq Xq); iexact Hq
  isplitl [Hkc]; · iapply (pt_to_owns' c Mkc hkc Xkc); iexact Hkc
  isplitl [Hkp]; · iapply (pt_to_owns' c Mkp hkp Xkp); iexact Hkp
  isplitl [Hvc]; · iapply (pt_to_owns' c Mvc hvc Xvc); iexact Hvc
  isplitl [Hvp]; · iapply (pt_to_owns' c Mvp hvp Xvp); iexact Hvp
  isplitl [Hg]; · iapply (pt_to_owns' c Mg hg Xg); iexact Hg
  isplitl [Ho]; · iapply (pt_to_owns' c Mo ho Xo); iexact Ho
  isplitl [Hl]; · iapply (pt_to_owns' c Ml hl Xl); iexact Hl
  isplitl [Hdq]; · iexists _; iapply (pt_to_owns c Mdq hdq _); iexact Hdq
  isplitl [Hdk]; · iexists _; iapply (pt_to_owns c Mdk hdk _); iexact Hdk
  isplitl [Hdv]; · iexists _; iapply (pt_to_owns c Mdv hdv _); iexact Hdv
  isplitl [Hck]; · iexists _; iexact Hck
  iexists _; iexact Hcv

/-- The body at the second row block, between owned memrefs: the inputs unchanged. -/
theorem step1 (c : Dev nD) (i : grid0.Coords) (h1 : ¬ cond1 i = 1#1) (h2 : k0_cond2 i = 1#1) (h3 : k0_cond3 i = 1#1)
    (Mq : Memref sig .tc .vmem S1x128x2048 .bf16) (hq : Mq.IsWhole) (Mkc : Memref sig .tc .vmem S1x128x2048 .bf16) (hkc : Mkc.IsWhole) (Mkp : Memref sig .tc .vmem S1x128x2048 .bf16) (hkp : Mkp.IsWhole) (Mvc : Memref sig .tc .vmem S1x128x2048 .bf16) (hvc : Mvc.IsWhole) (Mvp : Memref sig .tc .vmem S1x128x2048 .bf16) (hvp : Mvp.IsWhole) (Mg : Memref sig .tc .vmem S1x128x2048 .bf16) (hg : Mg.IsWhole) (Mo : Memref sig .tc .vmem S1x128x2048 .bf16) (ho : Mo.IsWhole) (Ml : Memref sig .tc .vmem S1x128x128 .f32) (hl : Ml.IsWhole) (Mdq : Memref sig .tc .vmem S1x128x2048 .bf16) (hdq : Mdq.IsWhole) (Mdk : Memref sig .tc .vmem S1x256x2048 .bf16) (hdk : Mdk.IsWhole) (Mdv : Memref sig .tc .vmem S1x256x2048 .bf16) (hdv : Mdv.IsWhole) (Mck : Memref sig .tc .vmem S128x2048 .f32) (hck : Mck.IsWhole) (Mcv : Memref sig .tc .vmem S128x2048 .f32) (hcv : Mcv.IsWhole)
    (Xq : Vec F S1x128x2048 .bf16) (Xkc : Vec F S1x128x2048 .bf16) (Xkp : Vec F S1x128x2048 .bf16) (Xvc : Vec F S1x128x2048 .bf16) (Xvp : Vec F S1x128x2048 .bf16) (Xg : Vec F S1x128x2048 .bf16) (Xo : Vec F S1x128x2048 .bf16) (Xl : Vec F S1x128x128 .f32) (Xdq : Vec F S1x128x2048 .bf16) (Xdk : Vec F S1x256x2048 .bf16) (Xdv : Vec F S1x256x2048 .bf16) (fck : Bf (F := F) c Mck) (fcv : Bf (F := F) c Mcv) (E : Set ℕ) (Q : PUnit → sProp 𝕄) :
    iprop(owns (c : Thread nD τ) Mq fullShare Xq ∗ owns (c : Thread nD τ) Mkc fullShare Xkc ∗ owns (c : Thread nD τ) Mkp fullShare Xkp ∗ owns (c : Thread nD τ) Mvc fullShare Xvc ∗ owns (c : Thread nD τ) Mvp fullShare Xvp ∗ owns (c : Thread nD τ) Mg fullShare Xg ∗ owns (c : Thread nD τ) Mo fullShare Xo ∗ owns (c : Thread nD τ) Ml fullShare Xl ∗ owns (c : Thread nD τ) Mdq fullShare Xdq ∗ owns (c : Thread nD τ) Mdk fullShare Xdk ∗ owns (c : Thread nD τ) Mdv fullShare Xdv ∗ pt c Mck fck ∗ pt c Mcv fcv
      ∗ (iprop(owns (c : Thread nD τ) Mq fullShare Xq ∗ owns (c : Thread nD τ) Mkc fullShare Xkc ∗ owns (c : Thread nD τ) Mkp fullShare Xkp ∗ owns (c : Thread nD τ) Mvc fullShare Xvc ∗ owns (c : Thread nD τ) Mvp fullShare Xvp ∗ owns (c : Thread nD τ) Mg fullShare Xg ∗ owns (c : Thread nD τ) Mo fullShare Xo ∗ owns (c : Thread nD τ) Ml fullShare Xl ∗ (∃ X, owns (c : Thread nD τ) Mdq fullShare X) ∗ (∃ X, owns (c : Thread nD τ) Mdk fullShare X) ∗ (∃ X, owns (c : Thread nD τ) Mdv fullShare X) ∗ (∃ f, pt c Mck f) ∗ (∃ f, pt c Mcv f)) -∗ Q ⟨⟩))
    ⊢ wp frame (wpE (defs₀ (F := F)) Variants.none c none) E (cc0_attn_bwd_d16 i Mq hq Mkc hkc Mkp hkp Mvc hvc Mvp hvp Mg hg Mo ho Ml hl Mdq hdq Mdk hdk Mdv hdv Mck hck Mcv hcv) Q := by
  iintro ⟨Hq, Hkc, Hkp, Hvc, Hvp, Hg, Ho, Hl, Hdq, Hdk, Hdv, Hck, Hcv, Hk⟩
  iapply ((run1 c i h1 h2 h3 Mq hq Mkc hkc Mkp hkp Mvc hvc Mvp hvp Mg hg Mo ho Ml hl Mdq hdq Mdk hdk Mdv hdv Mck hck Mcv hcv (hq.unread Xq) (hkc.unread Xkc) (hkp.unread Xkp) (hvc.unread Xvc) (hvp.unread Xvp) (hg.unread Xg) (ho.unread Xo) (hl.unread Xl) fck fcv).2 (hdq.unread Xdq) (hdk.unread Xdk) (hdv.unread Xdv) E Q)
  isplitl [Hq]; · iapply (owns_to_pt c Mq hq Xq); iexact Hq
  isplitl [Hkc]; · iapply (owns_to_pt c Mkc hkc Xkc); iexact Hkc
  isplitl [Hkp]; · iapply (owns_to_pt c Mkp hkp Xkp); iexact Hkp
  isplitl [Hvc]; · iapply (owns_to_pt c Mvc hvc Xvc); iexact Hvc
  isplitl [Hvp]; · iapply (owns_to_pt c Mvp hvp Xvp); iexact Hvp
  isplitl [Hg]; · iapply (owns_to_pt c Mg hg Xg); iexact Hg
  isplitl [Ho]; · iapply (owns_to_pt c Mo ho Xo); iexact Ho
  isplitl [Hl]; · iapply (owns_to_pt c Ml hl Xl); iexact Hl
  isplitl [Hdq]; · iapply (owns_to_pt c Mdq hdq Xdq); iexact Hdq
  isplitl [Hdk]; · iapply (owns_to_pt c Mdk hdk Xdk); iexact Hdk
  isplitl [Hdv]; · iapply (owns_to_pt c Mdv hdv Xdv); iexact Hdv
  isplitl [Hck]; · iexact Hck
  isplitl [Hcv]; · iexact Hcv
  iintro ⟨Hq, Hkc, Hkp, Hvc, Hvp, Hg, Ho, Hl, ⟨%fdq, Hdq⟩, ⟨%fdk, Hdk⟩, ⟨%fdv, Hdv⟩, ⟨%fk, Hck⟩, ⟨%fv, Hcv⟩⟩
  iapply Hk
  isplitl [Hq]; · iapply (pt_to_owns' c Mq hq Xq); iexact Hq
  isplitl [Hkc]; · iapply (pt_to_owns' c Mkc hkc Xkc); iexact Hkc
  isplitl [Hkp]; · iapply (pt_to_owns' c Mkp hkp Xkp); iexact Hkp
  isplitl [Hvc]; · iapply (pt_to_owns' c Mvc hvc Xvc); iexact Hvc
  isplitl [Hvp]; · iapply (pt_to_owns' c Mvp hvp Xvp); iexact Hvp
  isplitl [Hg]; · iapply (pt_to_owns' c Mg hg Xg); iexact Hg
  isplitl [Ho]; · iapply (pt_to_owns' c Mo ho Xo); iexact Ho
  isplitl [Hl]; · iapply (pt_to_owns' c Ml hl Xl); iexact Hl
  isplitl [Hdq]; · iexists _; iapply (pt_to_owns c Mdq hdq _); iexact Hdq
  isplitl [Hdk]; · iexists _; iapply (pt_to_owns c Mdk hdk _); iexact Hdk
  isplitl [Hdv]; · iexists _; iapply (pt_to_owns c Mdv hdv _); iexact Hdv
  isplitl [Hck]; · iexists _; iexact Hck
  iexists _; iexact Hcv

variable (m : (ℓ : Loc nD τ sig) → Buf (Elt F) ℓ) (ρ : Dev nD → PrngReg)

/-- The proof data of the call on core `c`: the arrays as the region finds them, nothing stated of what the body leaves. -/
def rd (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

theorem A_eq (c : Dev nD) (w : Fin cfg0.W) : (rd m c).A w = V m c (Pipeline.arrRef spec0 w) := by dsimp only [rd]
theorem q_eq (c : Dev nD) (w : Fin cfg0.W) : (rd m c).q w = Pipeline.shareOf spec0 w := by dsimp only [rd]
theorem owed_eq (c : Dev nD) (t : Fin (cfg0.N + 1)) : (rd m c).owed t = 0 := by dsimp only [rd]
theorem Phi_eq (c : Dev nD) (t : Fin (cfg0.N + 1)) : (rd m c).Φ t = Pipeline.ΦA spec0 c := by dsimp only [rd]

def bodyPre (c : Dev nD) (t : Fin cfg0.N) (Y : (w : Fin cfg0.W) → (cfg0.win w).block.Idx → Elt F (cfg0.win w).elt) : sProp 𝕄 :=
  iprop((rd m c).Φ t.castSucc ∗ (rd m c).owesAt () t.castSucc
    ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))
def bodyPost (c : Dev nD) (t : Fin cfg0.N) (Y : (w : Fin cfg0.W) → (cfg0.win w).block.Idx → Elt F (cfg0.win w).elt) : sProp 𝕄 :=
  iprop((rd m c).Φ t.succ ∗ (rd m c).owesAt () t.succ
    ∗ (∃ X, ⌜(rd m c).after 0 t (Y 0) X⌝ ∗ owns (c : Thread nD τ) (st0_0 t) fullShare X) ∗ (∃ X, ⌜(rd m c).after 1 t (Y 1) X⌝ ∗ owns (c : Thread nD τ) (st0_1 t) fullShare X) ∗ (∃ X, ⌜(rd m c).after 2 t (Y 2) X⌝ ∗ owns (c : Thread nD τ) (st0_2 t) fullShare X) ∗ (∃ X, ⌜(rd m c).after 3 t (Y 3) X⌝ ∗ owns (c : Thread nD τ) (st0_3 t) fullShare X) ∗ (∃ X, ⌜(rd m c).after 4 t (Y 4) X⌝ ∗ owns (c : Thread nD τ) (st0_4 t) fullShare X) ∗ (∃ X, ⌜(rd m c).after 5 t (Y 5) X⌝ ∗ owns (c : Thread nD τ) (st0_5 t) fullShare X) ∗ (∃ X, ⌜(rd m c).after 6 t (Y 6) X⌝ ∗ owns (c : Thread nD τ) (st0_6 t) fullShare X) ∗ (∃ X, ⌜(rd m c).after 7 t (Y 7) X⌝ ∗ owns (c : Thread nD τ) (st0_7 t) fullShare X) ∗ (∃ X, ⌜(rd m c).after 8 t (Y 8) X⌝ ∗ owns (c : Thread nD τ) (st0_8 t) fullShare X) ∗ (∃ X, ⌜(rd m c).after 9 t (Y 9) X⌝ ∗ owns (c : Thread nD τ) (st0_9 t) fullShare X) ∗ (∃ X, ⌜(rd m c).after 10 t (Y 10) X⌝ ∗ owns (c : Thread nD τ) (st0_10 t) fullShare X))

set_option maxHeartbeats 1600000 in
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rd m c).Φ t.succ = Pipeline.ΦA spec0 c from rfl, show (rd m c).Φ t.castSucc = Pipeline.ΦA spec0 c from rfl]
  unfold Pipeline.ΦA RDat.owesAt Pipeline.owesWithin
  rw [scopedRest0_eq, show (rd m c).owed t.castSucc = 0 from rfl, show (rd m c).owed t.succ = 0 from rfl]
  rcases em (t.val % 2 = 0) with hp | hp
  · obtain ⟨h1, h2, h3⟩ := conds_even t hp
    iintro ⟨⟨⟨⟨%fck, Hck⟩, ⟨%fcv, Hcv⟩⟩, Hp⟩, ⟨%W, -, HW⟩, H0, H1, H2, H3, H4, H5, H6, H7, H8, H9, H10⟩
    iapply (step0 c (grid0.coords t) h1 h2 h3 _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (Memref.isWhole_whole cc0_scratch0) _ (Memref.isWhole_whole cc0_scratch1) (Y 0) (Y 1) (Y 2) (Y 3) (Y 4) (Y 5) (Y 6) (Y 7) (Y 8) (Y 9) (Y 10) fck fcv Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hck]; · iexact Hck
    isplitl [Hcv]; · iexact Hcv
    iintro ⟨H0, H1, H2, H3, H4, H5, H6, H7, ⟨%X8, H8⟩, ⟨%X9, H9⟩, ⟨%X10, H10⟩, ⟨%fk, Hck⟩, ⟨%fv, Hcv⟩⟩
    isplitl [Hck Hcv Hp]
    · isplitl [Hck Hcv]
      · isplitl [Hck]; · iexists _; iexact Hck
        iexists _; iexact Hcv
      iexact Hp
    isplitl [HW]
    · iexists W; isplitr; · ipureintro; exact fun _ _ => Or.inl trivial
      iexact HW
    isplitl [H0]
    · iexists (Y 0); isplitr; · ipureintro; trivial
      iexact H0
    isplitl [H1]
    · iexists (Y 1); isplitr; · ipureintro; trivial
      iexact H1
    isplitl [H2]
    · iexists (Y 2); isplitr; · ipureintro; trivial
      iexact H2
    isplitl [H3]
    · iexists (Y 3); isplitr; · ipureintro; trivial
      iexact H3
    isplitl [H4]
    · iexists (Y 4); isplitr; · ipureintro; trivial
      iexact H4
    isplitl [H5]
    · iexists (Y 5); isplitr; · ipureintro; trivial
      iexact H5
    isplitl [H6]
    · iexists (Y 6); isplitr; · ipureintro; trivial
      iexact H6
    isplitl [H7]
    · iexists (Y 7); isplitr; · ipureintro; trivial
      iexact H7
    isplitl [H8]
    · iexists X8; isplitr; · ipureintro; trivial
      iexact H8
    isplitl [H9]
    · iexists X9; isplitr; · ipureintro; trivial
      iexact H9
    iexists X10; isplitr; · ipureintro; trivial
    iexact H10
  · obtain ⟨h1, h2, h3⟩ := conds_odd t hp
    iintro ⟨⟨⟨⟨%fck, Hck⟩, ⟨%fcv, Hcv⟩⟩, Hp⟩, ⟨%W, -, HW⟩, H0, H1, H2, H3, H4, H5, H6, H7, H8, H9, H10⟩
    iapply (step1 c (grid0.coords t) h1 h2 h3 _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (Memref.isWhole_whole cc0_scratch0) _ (Memref.isWhole_whole cc0_scratch1) (Y 0) (Y 1) (Y 2) (Y 3) (Y 4) (Y 5) (Y 6) (Y 7) (Y 8) (Y 9) (Y 10) fck fcv Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hck]; · iexact Hck
    isplitl [Hcv]; · iexact Hcv
    iintro ⟨H0, H1, H2, H3, H4, H5, H6, H7, ⟨%X8, H8⟩, ⟨%X9, H9⟩, ⟨%X10, H10⟩, ⟨%fk, Hck⟩, ⟨%fv, Hcv⟩⟩
    isplitl [Hck Hcv Hp]
    · isplitl [Hck Hcv]
      · isplitl [Hck]; · iexists _; iexact Hck
        iexists _; iexact Hcv
      iexact Hp
    isplitl [HW]
    · iexists W; isplitr; · ipureintro; exact fun _ _ => Or.inl trivial
      iexact HW
    isplitl [H0]
    · iexists (Y 0); isplitr; · ipureintro; trivial
      iexact H0
    isplitl [H1]
    · iexists (Y 1); isplitr; · ipureintro; trivial
      iexact H1
    isplitl [H2]
    · iexists (Y 2); isplitr; · ipureintro; trivial
      iexact H2
    isplitl [H3]
    · iexists (Y 3); isplitr; · ipureintro; trivial
      iexact H3
    isplitl [H4]
    · iexists (Y 4); isplitr; · ipureintro; trivial
      iexact H4
    isplitl [H5]
    · iexists (Y 5); isplitr; · ipureintro; trivial
      iexact H5
    isplitl [H6]
    · iexists (Y 6); isplitr; · ipureintro; trivial
      iexact H6
    isplitl [H7]
    · iexists (Y 7); isplitr; · ipureintro; trivial
      iexact H7
    isplitl [H8]
    · iexists X8; isplitr; · ipureintro; trivial
      iexact H8
    isplitl [H9]
    · iexists X9; isplitr; · ipureintro; trivial
      iexact H9
    iexists X10; isplitr; · ipureintro; trivial
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rd (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
theorem run_main : θ_run defs (onTc (τ := τ) (main (F := F))) (s₀ m ρ) (fun r => RDat.FramePost cfg0 (rd m) (V m) r ∧ r.2.sem = fun _ => 0) :=
  RDat.θ_run_frame_track_shared (Q' := _) cfgs (0 : Fin 1) launch₀0 defs₀ Variants.none (rd m) m ρ main
    (hbody := body_obligation m) (hq := fun c w _ => q_eq m c w) (howed := fun c t => owed_eq m c t) (V := V m) (hmain := hmain m Variants.none)
    (hA := A_eq m) (hin := fun c => by rw [Phi_eq]) (hout := fun c => by rw [Phi_eq])

set_option maxHeartbeats 1600000 in
/-- The frame: the argument arrays end as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ ⟨h, hs⟩ => ⟨fun c => ⟨
      (h.arr_in c 0 rfl).trans (V_main_arg0 m c),
      (h.arr_in c 2 rfl).trans (V_main_arg1 m c),
      (h.arr_in c 4 rfl).trans (V_main_arg2 m c),
      (h.arr_in c 5 rfl).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩, hs⟩) (run_main m ρ)

end Cert.Kernel.Hand

end
-- ==== Proof.Ideal.Base.lean ====
/-
  The attention backward body, run once per grid column. The grid's second coordinate is the row block: at block 0 the
  carries are zeroed and every head's first half is stored; at block 1 the carries are added and the last rows are stored.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents type of a memref's buffer on core `c`. -/
abbrev Bf (c : Dev nD) {sp : Space} {S : Shape} {e : EltTy} (M : Memref sig .tc sp S e) : Type := Buf (Elt F) (M.view.loc (c : Thread nD τ))
/-- The buffer of a memref held whole at `f`. -/
abbrev pt (c : Dev nD) {sp : Space} {S : Shape} {e : EltTy} (M : Memref sig .tc sp S e) (f : Bf (F := F) c M) : sProp 𝕄 :=
  M.view.loc (c : Thread nD τ) ↦{fullShare} f

/-- The word test that guards the first region. -/
def cond1 (i : grid0.Coords) : BitVec 1 :=
  Scalar.cmpi .ne (Scalar.extui (Scalar.cmpi .eq (BitVec.ofNat 32 (i 1).val) 0#32) : BitVec 32) 0#32

theorem off_row (j : Fin 2) : (Scalar.indexCast (Scalar.muli (Scalar.maxsi (Scalar.subi (BitVec.ofNat 32 j.val) 1#32) 0#32) 128#32)).toNat = 0 := by
  revert j; decide

theorem off1_eq (i : grid0.Coords) : k0_off1 i = ![0, 0, 0] := by
  unfold k0_off1; dsimp only; rw [off_row (i 1)]
instance (i : grid0.Coords) : ClosedOff (k0_off1 i) := ⟨![0, 0, 0], off1_eq i⟩
theorem off2_eq (i : grid0.Coords) : k0_off2 i = ![0, 0, 128] := by
  unfold k0_off2; dsimp only; rw [off_row (i 1)]
instance (i : grid0.Coords) : ClosedOff (k0_off2 i) := ⟨![0, 0, 128], off2_eq i⟩
theorem off3_eq (i : grid0.Coords) : k0_off3 i = ![0, 0, 256] := by
  unfold k0_off3; dsimp only; rw [off_row (i 1)]
instance (i : grid0.Coords) : ClosedOff (k0_off3 i) := ⟨![0, 0, 256], off3_eq i⟩
theorem off4_eq (i : grid0.Coords) : k0_off4 i = ![0, 0, 384] := by
  unfold k0_off4; dsimp only; rw [off_row (i 1)]
instance (i : grid0.Coords) : ClosedOff (k0_off4 i) := ⟨![0, 0, 384], off4_eq i⟩
theorem off5_eq (i : grid0.Coords) : k0_off5 i = ![0, 0, 512] := by
  unfold k0_off5; dsimp only; rw [off_row (i 1)]
instance (i : grid0.Coords) : ClosedOff (k0_off5 i) := ⟨![0, 0, 512], off5_eq i⟩
theorem off6_eq (i : grid0.Coords) : k0_off6 i = ![0, 0, 640] := by
  unfold k0_off6; dsimp only; rw [off_row (i 1)]
instance (i : grid0.Coords) : ClosedOff (k0_off6 i) := ⟨![0, 0, 640], off6_eq i⟩
theorem off7_eq (i : grid0.Coords) : k0_off7 i = ![0, 0, 768] := by
  unfold k0_off7; dsimp only; rw [off_row (i 1)]
instance (i : grid0.Coords) : ClosedOff (k0_off7 i) := ⟨![0, 0, 768], off7_eq i⟩
theorem off8_eq (i : grid0.Coords) : k0_off8 i = ![0, 0, 896] := by
  unfold k0_off8; dsimp only; rw [off_row (i 1)]
instance (i : grid0.Coords) : ClosedOff (k0_off8 i) := ⟨![0, 0, 896], off8_eq i⟩
theorem off9_eq (i : grid0.Coords) : k0_off9 i = ![0, 0, 1024] := by
  unfold k0_off9; dsimp only; rw [off_row (i 1)]
instance (i : grid0.Coords) : ClosedOff (k0_off9 i) := ⟨![0, 0, 1024], off9_eq i⟩
theorem off10_eq (i : grid0.Coords) : k0_off10 i = ![0, 0, 1152] := by
  unfold k0_off10; dsimp only; rw [off_row (i 1)]
instance (i : grid0.Coords) : ClosedOff (k0_off10 i) := ⟨![0, 0, 1152], off10_eq i⟩
theorem off11_eq (i : grid0.Coords) : k0_off11 i = ![0, 0, 1280] := by
  unfold k0_off11; dsimp only; rw [off_row (i 1)]
instance (i : grid0.Coords) : ClosedOff (k0_off11 i) := ⟨![0, 0, 1280], off11_eq i⟩
theorem off12_eq (i : grid0.Coords) : k0_off12 i = ![0, 0, 1408] := by
  unfold k0_off12; dsimp only; rw [off_row (i 1)]
instance (i : grid0.Coords) : ClosedOff (k0_off12 i) := ⟨![0, 0, 1408], off12_eq i⟩
theorem off13_eq (i : grid0.Coords) : k0_off13 i = ![0, 0, 1536] := by
  unfold k0_off13; dsimp only; rw [off_row (i 1)]
instance (i : grid0.Coords) : ClosedOff (k0_off13 i) := ⟨![0, 0, 1536], off13_eq i⟩
theorem off14_eq (i : grid0.Coords) : k0_off14 i = ![0, 0, 1664] := by
  unfold k0_off14; dsimp only; rw [off_row (i 1)]
instance (i : grid0.Coords) : ClosedOff (k0_off14 i) := ⟨![0, 0, 1664], off14_eq i⟩
theorem off15_eq (i : grid0.Coords) : k0_off15 i = ![0, 0, 1792] := by
  unfold k0_off15; dsimp only; rw [off_row (i 1)]
instance (i : grid0.Coords) : ClosedOff (k0_off15 i) := ⟨![0, 0, 1792], off15_eq i⟩
theorem off16_eq (i : grid0.Coords) : k0_off16 i = ![0, 0, 1920] := by
  unfold k0_off16; dsimp only; rw [off_row (i 1)]
instance (i : grid0.Coords) : ClosedOff (k0_off16 i) := ⟨![0, 0, 1920], off16_eq i⟩

end Cert.KernelIdeal.Hand

end
-- ==== Proof.Ideal.Run0.lean ====
/-
  The attention backward body, run once per row block. The grid's second coordinate is the row block: at block 0 the
  carries are zeroed and every head's first half is stored; at block 1 the carries are added and the last rows are stored.
-/
module

public import proofs.«01_k».proof.Proof.Ideal.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The body at row block 0: the pieces it stores, from any outputs and any carries. -/
noncomputable def run0 (c : Dev nD) (i : grid0.Coords) (h1 : cond1 i = 1#1) (h2 : k0_cond2 i = 1#1) (h3 : ¬ k0_cond3 i = 1#1)
    (Mq : Memref sig .tc .vmem S1x128x2048 .bf16) (hq : Mq.IsWhole) (Mkc : Memref sig .tc .vmem S1x128x2048 .bf16) (hkc : Mkc.IsWhole) (Mkp : Memref sig .tc .vmem S1x128x2048 .bf16) (hkp : Mkp.IsWhole) (Mvc : Memref sig .tc .vmem S1x128x2048 .bf16) (hvc : Mvc.IsWhole) (Mvp : Memref sig .tc .vmem S1x128x2048 .bf16) (hvp : Mvp.IsWhole) (Mg : Memref sig .tc .vmem S1x128x2048 .bf16) (hg : Mg.IsWhole) (Mo : Memref sig .tc .vmem S1x128x2048 .bf16) (ho : Mo.IsWhole) (Ml : Memref sig .tc .vmem S1x128x128 .f32) (hl : Ml.IsWhole) (Mdq : Memref sig .tc .vmem S1x128x2048 .bf16) (hdq : Mdq.IsWhole) (Mdk : Memref sig .tc .vmem S1x256x2048 .bf16) (hdk : Mdk.IsWhole) (Mdv : Memref sig .tc .vmem S1x256x2048 .bf16) (hdv : Mdv.IsWhole) (Mck : Memref sig .tc .vmem S128x2048 .f32) (hck : Mck.IsWhole) (Mcv : Memref sig .tc .vmem S128x2048 .f32) (hcv : Mcv.IsWhole) (fq : Bf (F := F) c Mq) (fkc : Bf (F := F) c Mkc) (fkp : Bf (F := F) c Mkp) (fvc : Bf (F := F) c Mvc) (fvp : Bf (F := F) c Mvp) (fg : Bf (F := F) c Mg) (fo : Bf (F := F) c Mo) (fl : Bf (F := F) c Ml) :
    { W : List (View.Piece (Elt F) S1x128x2048 .bf16) × List (View.Piece (Elt F) S1x256x2048 .bf16) × List (View.Piece (Elt F) S1x256x2048 .bf16) × List (View.Piece (Elt F) S128x2048 .f32) × List (View.Piece (Elt F) S128x2048 .f32) //
      ∀ (fdq : Bf (F := F) c Mdq) (fdk : Bf (F := F) c Mdk) (fdv : Bf (F := F) c Mdv) (fck : Bf (F := F) c Mck) (fcv : Bf (F := F) c Mcv) (E : Set ℕ) (Q : PUnit → sProp 𝕄),
        iprop(pt c Mq fq ∗ pt c Mkc fkc ∗ pt c Mkp fkp ∗ pt c Mvc fvc ∗ pt c Mvp fvp ∗ pt c Mg fg ∗ pt c Mo fo ∗ pt c Ml fl ∗ pt c Mdq fdq ∗ pt c Mdk fdk ∗ pt c Mdv fdv ∗ pt c Mck fck ∗ pt c Mcv fcv
          ∗ (iprop(pt c Mq fq ∗ pt c Mkc fkc ∗ pt c Mkp fkp ∗ pt c Mvc fvc ∗ pt c Mvp fvp ∗ pt c Mg fg ∗ pt c Mo fo ∗ pt c Ml fl ∗ (∃ f, pt c Mdq (Mdq.view.writes (Elt F) f W.1)) ∗ (∃ f, pt c Mdk (Mdk.view.writes (Elt F) f W.2.1)) ∗ (∃ f, pt c Mdv (Mdv.view.writes (Elt F) f W.2.2.1)) ∗ (∃ f, pt c Mck (Mck.view.writes (Elt F) f W.2.2.2.1)) ∗ (∃ f, pt c Mcv (Mcv.view.writes (Elt F) f W.2.2.2.2))) -∗ Q ⟨⟩))
        ⊢ wp frame (wpE (defs₀ (F := F)) Variants.none c none) E (cc0_attn_bwd_d16 i Mq hq Mkc hkc Mkp hkp Mvc hvc Mvp hvp Mg hg Mo ho Ml hl Mdq hdq Mdk hdk Mdv hdv Mck hck Mcv hcv) Q } := by
  refine ⟨⟨?_, ?_, ?_, ?_, ?_⟩, fun fdq fdk fdv fck fcv E Q => ?run⟩
  case run =>
    unfold cond1 at h1
    simp only [cc0_attn_bwd_d16_eq_skeleton]; unfold cc0_attn_bwd_d16_skel
    iintro ⟨Hq, Hkc, Hkp, Hvc, Hvp, Hg, Ho, Hl, Hdq, Hdk, Hdv, Hck, Hcv, Hk⟩
    sl_exec_parts
    sl_step
    iapply Hk
    isplitl [Hq]; · iexact Hq
    isplitl [Hkc]; · iexact Hkc
    isplitl [Hkp]; · iexact Hkp
    isplitl [Hvc]; · iexact Hvc
    isplitl [Hvp]; · iexact Hvp
    isplitl [Hg]; · iexact Hg
    isplitl [Ho]; · iexact Ho
    isplitl [Hl]; · iexact Hl
    isplitl [Hdq]; · iexists _; iexact Hdq
    isplitl [Hdk]; · iexists _; iexact Hdk
    isplitl [Hdv]; · iexists _; iexact Hdv
    isplitl [Hck]; · iexists _; iexact Hck
    iexists _; iexact Hcv

end Cert.KernelIdeal.Hand

end
-- ==== Proof.Ideal.Run1.lean ====
/-
  The attention backward body, run once per row block. The grid's second coordinate is the row block: at block 0 the
  carries are zeroed and every head's first half is stored; at block 1 the carries are added and the last rows are stored.
-/
module

public import proofs.«01_k».proof.Proof.Ideal.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The body at row block 1: the pieces it stores, from the carries' contents. -/
noncomputable def run1 (c : Dev nD) (i : grid0.Coords) (h1 : ¬ cond1 i = 1#1) (h2 : k0_cond2 i = 1#1) (h3 : k0_cond3 i = 1#1)
    (Mq : Memref sig .tc .vmem S1x128x2048 .bf16) (hq : Mq.IsWhole) (Mkc : Memref sig .tc .vmem S1x128x2048 .bf16) (hkc : Mkc.IsWhole) (Mkp : Memref sig .tc .vmem S1x128x2048 .bf16) (hkp : Mkp.IsWhole) (Mvc : Memref sig .tc .vmem S1x128x2048 .bf16) (hvc : Mvc.IsWhole) (Mvp : Memref sig .tc .vmem S1x128x2048 .bf16) (hvp : Mvp.IsWhole) (Mg : Memref sig .tc .vmem S1x128x2048 .bf16) (hg : Mg.IsWhole) (Mo : Memref sig .tc .vmem S1x128x2048 .bf16) (ho : Mo.IsWhole) (Ml : Memref sig .tc .vmem S1x128x128 .f32) (hl : Ml.IsWhole) (Mdq : Memref sig .tc .vmem S1x128x2048 .bf16) (hdq : Mdq.IsWhole) (Mdk : Memref sig .tc .vmem S1x256x2048 .bf16) (hdk : Mdk.IsWhole) (Mdv : Memref sig .tc .vmem S1x256x2048 .bf16) (hdv : Mdv.IsWhole) (Mck : Memref sig .tc .vmem S128x2048 .f32) (hck : Mck.IsWhole) (Mcv : Memref sig .tc .vmem S128x2048 .f32) (hcv : Mcv.IsWhole) (fq : Bf (F := F) c Mq) (fkc : Bf (F := F) c Mkc) (fkp : Bf (F := F) c Mkp) (fvc : Bf (F := F) c Mvc) (fvp : Bf (F := F) c Mvp) (fg : Bf (F := F) c Mg) (fo : Bf (F := F) c Mo) (fl : Bf (F := F) c Ml) (fck : Bf (F := F) c Mck) (fcv : Bf (F := F) c Mcv) :
    { W : List (View.Piece (Elt F) S1x128x2048 .bf16) × List (View.Piece (Elt F) S1x256x2048 .bf16) × List (View.Piece (Elt F) S1x256x2048 .bf16) //
      ∀ (fdq : Bf (F := F) c Mdq) (fdk : Bf (F := F) c Mdk) (fdv : Bf (F := F) c Mdv) (E : Set ℕ) (Q : PUnit → sProp 𝕄),
        iprop(pt c Mq fq ∗ pt c Mkc fkc ∗ pt c Mkp fkp ∗ pt c Mvc fvc ∗ pt c Mvp fvp ∗ pt c Mg fg ∗ pt c Mo fo ∗ pt c Ml fl ∗ pt c Mdq fdq ∗ pt c Mdk fdk ∗ pt c Mdv fdv ∗ pt c Mck fck ∗ pt c Mcv fcv
          ∗ (iprop(pt c Mq fq ∗ pt c Mkc fkc ∗ pt c Mkp fkp ∗ pt c Mvc fvc ∗ pt c Mvp fvp ∗ pt c Mg fg ∗ pt c Mo fo ∗ pt c Ml fl ∗ (∃ f, pt c Mdq (Mdq.view.writes (Elt F) f W.1)) ∗ (∃ f, pt c Mdk (Mdk.view.writes (Elt F) f W.2.1)) ∗ (∃ f, pt c Mdv (Mdv.view.writes (Elt F) f W.2.2)) ∗ (∃ f, pt c Mck f) ∗ (∃ f, pt c Mcv f)) -∗ Q ⟨⟩))
        ⊢ wp frame (wpE (defs₀ (F := F)) Variants.none c none) E (cc0_attn_bwd_d16 i Mq hq Mkc hkc Mkp hkp Mvc hvc Mvp hvp Mg hg Mo ho Ml hl Mdq hdq Mdk hdk Mdv hdv Mck hck Mcv hcv) Q } := by
  refine ⟨⟨?_, ?_, ?_⟩, fun fdq fdk fdv E Q => ?run⟩
  case run =>
    unfold cond1 at h1
    simp only [cc0_attn_bwd_d16_eq_skeleton]; unfold cc0_attn_bwd_d16_skel
    iintro ⟨Hq, Hkc, Hkp, Hvc, Hvp, Hg, Ho, Hl, Hdq, Hdk, Hdv, Hck, Hcv, Hk⟩
    sl_exec_parts
    sl_step
    iapply Hk
    isplitl [Hq]; · iexact Hq
    isplitl [Hkc]; · iexact Hkc
    isplitl [Hkp]; · iexact Hkp
    isplitl [Hvc]; · iexact Hvc
    isplitl [Hvp]; · iexact Hvp
    isplitl [Hg]; · iexact Hg
    isplitl [Ho]; · iexact Ho
    isplitl [Hl]; · iexact Hl
    isplitl [Hdq]; · iexists _; iexact Hdq
    isplitl [Hdk]; · iexists _; iexact Hdk
    isplitl [Hdv]; · iexists _; iexact Hdv
    isplitl [Hck]; · iexists _; iexact Hck
    iexists _; iexact Hcv

end Cert.KernelIdeal.Hand

end
-- ==== Proof.Ideal.Spec.lean ====
/-
  What one visit of the attention backward body computes, head by head, as plain functions of the blocks it loads.
-/
module

public import proofs.«01_k».proof.Proof.Ideal.Run0
public import proofs.«01_k».proof.Proof.Ideal.Run1
public import Idealize.ShloMosaic.Lib.ValueIdx
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F] [Named F]

/-- The word of `-16 · slope` of a head. -/
def slopeW : Fin 16 → BitVec 32 :=
  ![3241477363#32, 3238002688#32, 3233088755#32, 3229614080#32, 3224700147#32, 3221225472#32, 3216311539#32, 3212836864#32,
    3207922931#32, 3204448256#32, 3199534323#32, 3196059648#32, 3191145715#32, 3187671040#32, 3182757107#32, 3179282432#32]

theorem inb_head (h : Fin 16) : ∀ a, (![0, 0, 128 * h.val] : Fin 3 → ℕ) a + S1x128x128.size a ≤ S1x128x2048.size a := by
  revert h; decide
theorem inb_head2 (h : Fin 16) : ∀ a, (![0, 128 * h.val] : Fin 2 → ℕ) a + S128x128.size a ≤ S128x2048.size a := by
  revert h; decide
theorem inb_half (h : Fin 16) : ∀ a, (![0, 0, 128 * h.val] : Fin 3 → ℕ) a + S1x128x128.size a ≤ S1x256x2048.size a := by
  revert h; decide
theorem inb_lane (h : Fin 16) : ∀ a, (![0, 0, h.val] : Fin 3 → ℕ) a + S1x128x1.size a ≤ S1x128x128.size a := by
  revert h; decide

/-- A head's 128 columns of a block. -/
def tile (X : S1x128x2048.Idx → Elt F .bf16) (h : Fin 16) : FVec F S128x128 .bf16 :=
  shapeCast S128x128 (fun x => X ((Rect.unit (s := S1x128x2048) ![0, 0, 128 * h.val] S1x128x128.size (inb_head h)).toLoadRect.idx x)) shapeCasts_S1x128x128_S128x128
/-- A head's column of the log-sums. -/
def laneCol (X : S1x128x128.Idx → Elt F .f32) (h : Fin 16) : FVec F S128x1 .f32 :=
  shapeCast S128x1 (fun x => X ((Rect.unit (s := S1x128x128) ![0, 0, h.val] S1x128x1.size (inb_lane h)).toLoadRect.idx x)) shapeCasts_S1x128x1_S128x1
/-- A head's 128 columns of a carry. -/
def ctile (X : S128x2048.Idx → Elt F .f32) (h : Fin 16) : FVec F S128x128 .f32 :=
  fun x => X ((Rect.unit (s := S128x2048) ![0, 128 * h.val] S128x128.size (inb_head2 h)).toLoadRect.idx x)

/-- The previous block's rows above the current block's. -/
def both (P C : FVec F S128x128 .bf16) : FVec F S256x128 .bf16 :=
  concatenate S256x128 0 [⟨S128x128, P⟩, ⟨S128x128, C⟩] concatenates_S128x128_S128x128_S256x128_d0

/-- The probabilities of a head's 128 queries at its 256 keys. -/
def probs (j : ℕ) (h : Fin 16) (XQ XKC XKP : S1x128x2048.Idx → Elt F .bf16) (XL : S1x128x128.Idx → Elt F .f32) : FVec F S128x256 .f32 :=
  exp (subf (addf (mulf (matmul dot_S128x128_S256x128_S128x256_1_1_0_0_n_n none (tile XQ h) (both (tile XKP h) (tile XKC h)) (constant S128x256 .f32 0#32))
      (broadcast S128x256 (FloatOps.ofBits .f32 1035273459#32)))
      (mulf (k0_pay8 (BitVec.ofNat 32 j)) (broadcast S128x256 (FloatOps.ofBits .f32 (slopeW h)))))
    (broadcastTo S128x256 (laneCol XL h) broadcasts_S128x1_S128x256))

/-- The cotangents of a head's scores. -/
def dscores (j : ℕ) (h : Fin 16) (XQ XKC XKP XVC XVP XG XO : S1x128x2048.Idx → Elt F .bf16) (XL : S1x128x128.Idx → Elt F .f32) : FVec F S128x256 .f32 :=
  mulf (probs j h XQ XKC XKP XL)
    (subf (matmul dot_S128x128_S256x128_S128x256_1_1_0_0_n_n none (tile XG h) (both (tile XVP h) (tile XVC h)) (constant S128x256 .f32 0#32))
      (broadcastTo S128x256 (shapeCast S128x1 (multiReduction .add [1] S128
        (mulf (extf .f32 (tile XG h) bitsLt_bf16_f32) (extf .f32 (tile XO h) bitsLt_bf16_f32)) 0x00000000#32 reduces_S128x128_S128 (.inl rfl) rfl)
        shapeCasts_S128_S128x1) broadcasts_S128x1_S128x256))

/-- The query cotangent of a head. -/
def dqT (j : ℕ) (h : Fin 16) (XQ XKC XKP XVC XVP XG XO : S1x128x2048.Idx → Elt F .bf16) (XL : S1x128x128.Idx → Elt F .f32) : FVec F S128x128 .f32 :=
  mulf (matmul dot_S128x256_S256x128_S128x128_1_0_0_1_n_n none (truncf .bf16 (dscores j h XQ XKC XKP XVC XVP XG XO XL) bitsLt_bf16_f32)
    (both (tile XKP h) (tile XKC h)) (constant S128x128 .f32 0#32)) (broadcast S128x128 (FloatOps.ofBits .f32 1035273459#32))
/-- The key cotangent of a head over its 256 keys. -/
def dkT (j : ℕ) (h : Fin 16) (XQ XKC XKP XVC XVP XG XO : S1x128x2048.Idx → Elt F .bf16) (XL : S1x128x128.Idx → Elt F .f32) : FVec F S256x128 .f32 :=
  mulf (matmul dot_S128x256_S128x128_S256x128_0_0_1_1_n_n none (truncf .bf16 (dscores j h XQ XKC XKP XVC XVP XG XO XL) bitsLt_bf16_f32)
    (tile XQ h) (constant S256x128 .f32 0#32)) (broadcast S256x128 (FloatOps.ofBits .f32 1035273459#32))
/-- The value cotangent of a head over its 256 keys. -/
def dvT (j : ℕ) (h : Fin 16) (XQ XKC XKP XG : S1x128x2048.Idx → Elt F .bf16) (XL : S1x128x128.Idx → Elt F .f32) : FVec F S256x128 .f32 :=
  matmul dot_S128x256_S128x128_S256x128_0_0_1_1_n_n none (truncf .bf16 (probs j h XQ XKC XKP XL) bitsLt_bf16_f32)
    (tile XG h) (constant S256x128 .f32 0#32)

/-- The lower and the upper 128 rows. -/
def lo (T : FVec F S256x128 .f32) : FVec F S128x128 .f32 := extractStridedSlice S128x128 ![0, 0] T slices_S256x128_o0_0_S128x128
def hi (T : FVec F S256x128 .f32) : FVec F S128x128 .f32 := extractStridedSlice S128x128 ![128, 0] T slices_S256x128_o128_0_S128x128

/-- The stored pieces of a head. -/
def pcQ (h : Fin 16) (T : FVec F S128x128 .f32) : View.Piece (Elt F) S1x128x2048 .bf16 :=
  ⟨Rect.unit ![0, 0, 128 * h.val] S1x128x128.size (inb_head h), shapeCast S1x128x128 (truncf .bf16 T bitsLt_bf16_f32) shapeCasts_S128x128_S1x128x128⟩
def pcC (h : Fin 16) (T : FVec F S256x128 .f32) : View.Piece (Elt F) S128x2048 .f32 :=
  ⟨Rect.unit ![0, 128 * h.val] S128x128.size (inb_head2 h), shapeCast S128x128 (hi T) shapeCasts_S128x128_S128x128⟩
def pcK (h : Fin 16) (T : FVec F S128x128 .f32) : View.Piece (Elt F) S1x256x2048 .bf16 :=
  ⟨Rect.unit ![0, 0, 128 * h.val] S1x128x128.size (inb_half h), shapeCast S1x128x128 (truncf .bf16 T bitsLt_bf16_f32) shapeCasts_S128x128_S1x128x128⟩

section lists
variable (c : Dev nD) (i : grid0.Coords)

/-- The sixteen pieces, last stored first. -/
def heads16 {α : Type} (p : Fin 16 → α) : List α := [p 15, p 14, p 13, p 12, p 11, p 10, p 9, p 8, p 7, p 6, p 5, p 4, p 3, p 2, p 1, p 0]
theorem heads16_mem {α : Type} (p : Fin 16 → α) (h : Fin 16) : p h ∈ heads16 p := by
  unfold heads16; fin_cases h <;> simp
theorem mem_heads16 {α : Type} (p : Fin 16 → α) (x : α) (hx : x ∈ heads16 p) : ∃ h, x = p h := by
  unfold heads16 at hx; simp only [List.mem_cons, List.not_mem_nil, or_false] at hx
  rcases hx with h | h | h | h | h | h | h | h | h | h | h | h | h | h | h | h <;> exact ⟨_, h⟩

theorem run0_q (h1 : cond1 i = 1#1) (h2 : k0_cond2 i = 1#1) (h3 : ¬ k0_cond3 i = 1#1)
    (Mq : Memref sig .tc .vmem S1x128x2048 .bf16) (hq : Mq.IsWhole) (Mkc : Memref sig .tc .vmem S1x128x2048 .bf16) (hkc : Mkc.IsWhole) (Mkp : Memref sig .tc .vmem S1x128x2048 .bf16) (hkp : Mkp.IsWhole) (Mvc : Memref sig .tc .vmem S1x128x2048 .bf16) (hvc : Mvc.IsWhole) (Mvp : Memref sig .tc .vmem S1x128x2048 .bf16) (hvp : Mvp.IsWhole) (Mg : Memref sig .tc .vmem S1x128x2048 .bf16) (hg : Mg.IsWhole) (Mo : Memref sig .tc .vmem S1x128x2048 .bf16) (ho : Mo.IsWhole) (Ml : Memref sig .tc .vmem S1x128x128 .f32) (hl : Ml.IsWhole) (Mdq : Memref sig .tc .vmem S1x128x2048 .bf16) (hdq : Mdq.IsWhole) (Mdk : Memref sig .tc .vmem S1x256x2048 .bf16) (hdk : Mdk.IsWhole) (Mdv : Memref sig .tc .vmem S1x256x2048 .bf16) (hdv : Mdv.IsWhole) (Mck : Memref sig .tc .vmem S128x2048 .f32) (hck : Mck.IsWhole) (Mcv : Memref sig .tc .vmem S128x2048 .f32) (hcv : Mcv.IsWhole) (fq : Bf (F := F) c Mq) (fkc : Bf (F := F) c Mkc) (fkp : Bf (F := F) c Mkp) (fvc : Bf (F := F) c Mvc) (fvp : Bf (F := F) c Mvp) (fg : Bf (F := F) c Mg) (fo : Bf (F := F) c Mo) (fl : Bf (F := F) c Ml)
     :
    (run0 c i h1 h2 h3 Mq hq Mkc hkc Mkp hkp Mvc hvc Mvp hvp Mg hg Mo ho Ml hl Mdq hdq Mdk hdk Mdv hdv Mck hck Mcv hcv fq fkc fkp fvc fvp fg fo fl).1.1 = heads16 fun h => pcQ h (dqT (i 1).val h (Mq.view.read (Elt F) fq) (Mkc.view.read (Elt F) fkc) (Mkp.view.read (Elt F) fkp) (Mvc.view.read (Elt F) fvc) (Mvp.view.read (Elt F) fvp) (Mg.view.read (Elt F) fg) (Mo.view.read (Elt F) fo) (Ml.view.read (Elt F) fl)) := rfl

theorem run0_ck (h1 : cond1 i = 1#1) (h2 : k0_cond2 i = 1#1) (h3 : ¬ k0_cond3 i = 1#1)
    (Mq : Memref sig .tc .vmem S1x128x2048 .bf16) (hq : Mq.IsWhole) (Mkc : Memref sig .tc .vmem S1x128x2048 .bf16) (hkc : Mkc.IsWhole) (Mkp : Memref sig .tc .vmem S1x128x2048 .bf16) (hkp : Mkp.IsWhole) (Mvc : Memref sig .tc .vmem S1x128x2048 .bf16) (hvc : Mvc.IsWhole) (Mvp : Memref sig .tc .vmem S1x128x2048 .bf16) (hvp : Mvp.IsWhole) (Mg : Memref sig .tc .vmem S1x128x2048 .bf16) (hg : Mg.IsWhole) (Mo : Memref sig .tc .vmem S1x128x2048 .bf16) (ho : Mo.IsWhole) (Ml : Memref sig .tc .vmem S1x128x128 .f32) (hl : Ml.IsWhole) (Mdq : Memref sig .tc .vmem S1x128x2048 .bf16) (hdq : Mdq.IsWhole) (Mdk : Memref sig .tc .vmem S1x256x2048 .bf16) (hdk : Mdk.IsWhole) (Mdv : Memref sig .tc .vmem S1x256x2048 .bf16) (hdv : Mdv.IsWhole) (Mck : Memref sig .tc .vmem S128x2048 .f32) (hck : Mck.IsWhole) (Mcv : Memref sig .tc .vmem S128x2048 .f32) (hcv : Mcv.IsWhole) (fq : Bf (F := F) c Mq) (fkc : Bf (F := F) c Mkc) (fkp : Bf (F := F) c Mkp) (fvc : Bf (F := F) c Mvc) (fvp : Bf (F := F) c Mvp) (fg : Bf (F := F) c Mg) (fo : Bf (F := F) c Mo) (fl : Bf (F := F) c Ml)
     :
    (run0 c i h1 h2 h3 Mq hq Mkc hkc Mkp hkp Mvc hvc Mvp hvp Mg hg Mo ho Ml hl Mdq hdq Mdk hdk Mdv hdv Mck hck Mcv hcv fq fkc fkp fvc fvp fg fo fl).1.2.2.2.1 = heads16 (fun h => pcC h (dkT (i 1).val h (Mq.view.read (Elt F) fq) (Mkc.view.read (Elt F) fkc) (Mkp.view.read (Elt F) fkp) (Mvc.view.read (Elt F) fvc) (Mvp.view.read (Elt F) fvp) (Mg.view.read (Elt F) fg) (Mo.view.read (Elt F) fo) (Ml.view.read (Elt F) fl))) ++ [⟨Rect.unit ![0, 0] S128x2048.size inb_S128x2048_S128x2048_0_0, k0_pay1⟩] := rfl

theorem run0_cv (h1 : cond1 i = 1#1) (h2 : k0_cond2 i = 1#1) (h3 : ¬ k0_cond3 i = 1#1)
    (Mq : Memref sig .tc .vmem S1x128x2048 .bf16) (hq : Mq.IsWhole) (Mkc : Memref sig .tc .vmem S1x128x2048 .bf16) (hkc : Mkc.IsWhole) (Mkp : Memref sig .tc .vmem S1x128x2048 .bf16) (hkp : Mkp.IsWhole) (Mvc : Memref sig .tc .vmem S1x128x2048 .bf16) (hvc : Mvc.IsWhole) (Mvp : Memref sig .tc .vmem S1x128x2048 .bf16) (hvp : Mvp.IsWhole) (Mg : Memref sig .tc .vmem S1x128x2048 .bf16) (hg : Mg.IsWhole) (Mo : Memref sig .tc .vmem S1x128x2048 .bf16) (ho : Mo.IsWhole) (Ml : Memref sig .tc .vmem S1x128x128 .f32) (hl : Ml.IsWhole) (Mdq : Memref sig .tc .vmem S1x128x2048 .bf16) (hdq : Mdq.IsWhole) (Mdk : Memref sig .tc .vmem S1x256x2048 .bf16) (hdk : Mdk.IsWhole) (Mdv : Memref sig .tc .vmem S1x256x2048 .bf16) (hdv : Mdv.IsWhole) (Mck : Memref sig .tc .vmem S128x2048 .f32) (hck : Mck.IsWhole) (Mcv : Memref sig .tc .vmem S128x2048 .f32) (hcv : Mcv.IsWhole) (fq : Bf (F := F) c Mq) (fkc : Bf (F := F) c Mkc) (fkp : Bf (F := F) c Mkp) (fvc : Bf (F := F) c Mvc) (fvp : Bf (F := F) c Mvp) (fg : Bf (F := F) c Mg) (fo : Bf (F := F) c Mo) (fl : Bf (F := F) c Ml)
     :
    (run0 c i h1 h2 h3 Mq hq Mkc hkc Mkp hkp Mvc hvc Mvp hvp Mg hg Mo ho Ml hl Mdq hdq Mdk hdk Mdv hdv Mck hck Mcv hcv fq fkc fkp fvc fvp fg fo fl).1.2.2.2.2 = heads16 (fun h => pcC h (dvT (i 1).val h (Mq.view.read (Elt F) fq) (Mkc.view.read (Elt F) fkc) (Mkp.view.read (Elt F) fkp) (Mg.view.read (Elt F) fg) (Ml.view.read (Elt F) fl))) ++ [⟨Rect.unit ![0, 0] S128x2048.size inb_S128x2048_S128x2048_0_0, k0_pay2⟩] := rfl

theorem run1_q (h1 : ¬ cond1 i = 1#1) (h2 : k0_cond2 i = 1#1) (h3 : k0_cond3 i = 1#1)
    (Mq : Memref sig .tc .vmem S1x128x2048 .bf16) (hq : Mq.IsWhole) (Mkc : Memref sig .tc .vmem S1x128x2048 .bf16) (hkc : Mkc.IsWhole) (Mkp : Memref sig .tc .vmem S1x128x2048 .bf16) (hkp : Mkp.IsWhole) (Mvc : Memref sig .tc .vmem S1x128x2048 .bf16) (hvc : Mvc.IsWhole) (Mvp : Memref sig .tc .vmem S1x128x2048 .bf16) (hvp : Mvp.IsWhole) (Mg : Memref sig .tc .vmem S1x128x2048 .bf16) (hg : Mg.IsWhole) (Mo : Memref sig .tc .vmem S1x128x2048 .bf16) (ho : Mo.IsWhole) (Ml : Memref sig .tc .vmem S1x128x128 .f32) (hl : Ml.IsWhole) (Mdq : Memref sig .tc .vmem S1x128x2048 .bf16) (hdq : Mdq.IsWhole) (Mdk : Memref sig .tc .vmem S1x256x2048 .bf16) (hdk : Mdk.IsWhole) (Mdv : Memref sig .tc .vmem S1x256x2048 .bf16) (hdv : Mdv.IsWhole) (Mck : Memref sig .tc .vmem S128x2048 .f32) (hck : Mck.IsWhole) (Mcv : Memref sig .tc .vmem S128x2048 .f32) (hcv : Mcv.IsWhole) (fq : Bf (F := F) c Mq) (fkc : Bf (F := F) c Mkc) (fkp : Bf (F := F) c Mkp) (fvc : Bf (F := F) c Mvc) (fvp : Bf (F := F) c Mvp) (fg : Bf (F := F) c Mg) (fo : Bf (F := F) c Mo) (fl : Bf (F := F) c Ml)
    (fck : Bf (F := F) c Mck) (fcv : Bf (F := F) c Mcv) :
    (run1 c i h1 h2 h3 Mq hq Mkc hkc Mkp hkp Mvc hvc Mvp hvp Mg hg Mo ho Ml hl Mdq hdq Mdk hdk Mdv hdv Mck hck Mcv hcv fq fkc fkp fvc fvp fg fo fl fck fcv).1.1 = heads16 fun h => pcQ h (dqT (i 1).val h (Mq.view.read (Elt F) fq) (Mkc.view.read (Elt F) fkc) (Mkp.view.read (Elt F) fkp) (Mvc.view.read (Elt F) fvc) (Mvp.view.read (Elt F) fvp) (Mg.view.read (Elt F) fg) (Mo.view.read (Elt F) fo) (Ml.view.read (Elt F) fl)) := rfl

/-- The offsets at which the half blocks are stored. -/
def offs (i : grid0.Coords) : Fin 16 → Fin 3 → ℕ := ![k0_off1 i, k0_off2 i, k0_off3 i, k0_off4 i, k0_off5 i, k0_off6 i, k0_off7 i, k0_off8 i, k0_off9 i, k0_off10 i, k0_off11 i, k0_off12 i, k0_off13 i, k0_off14 i, k0_off15 i, k0_off16 i]
theorem offs_eq (i : grid0.Coords) (h : Fin 16) : offs i h = ![0, 0, 128 * h.val] := by
  fin_cases h
  · exact off1_eq i
  · exact off2_eq i
  · exact off3_eq i
  · exact off4_eq i
  · exact off5_eq i
  · exact off6_eq i
  · exact off7_eq i
  · exact off8_eq i
  · exact off9_eq i
  · exact off10_eq i
  · exact off11_eq i
  · exact off12_eq i
  · exact off13_eq i
  · exact off14_eq i
  · exact off15_eq i
  · exact off16_eq i

theorem offs_inb (i : grid0.Coords) (h : Fin 16) : ∀ a, offs i h a + S1x128x128.size a ≤ S1x256x2048.size a := by
  rw [offs_eq]; exact inb_half h
def pcK' (i : grid0.Coords) (h : Fin 16) (T : FVec F S128x128 .f32) : View.Piece (Elt F) S1x256x2048 .bf16 :=
  ⟨Rect.unit (offs i h) S1x128x128.size (offs_inb i h), shapeCast S1x128x128 (truncf .bf16 T bitsLt_bf16_f32) shapeCasts_S128x128_S1x128x128⟩
theorem pcK'_eq (i : grid0.Coords) (h : Fin 16) (T : FVec F S128x128 .f32) : pcK' i h T = pcK h T := by
  unfold pcK' pcK
  have e := offs_eq i h
  generalize_proofs p q r s
  revert p; rw [e]; intro p; rfl

theorem run1_dk (h1 : ¬ cond1 i = 1#1) (h2 : k0_cond2 i = 1#1) (h3 : k0_cond3 i = 1#1)
    (Mq : Memref sig .tc .vmem S1x128x2048 .bf16) (hq : Mq.IsWhole) (Mkc : Memref sig .tc .vmem S1x128x2048 .bf16) (hkc : Mkc.IsWhole) (Mkp : Memref sig .tc .vmem S1x128x2048 .bf16) (hkp : Mkp.IsWhole) (Mvc : Memref sig .tc .vmem S1x128x2048 .bf16) (hvc : Mvc.IsWhole) (Mvp : Memref sig .tc .vmem S1x128x2048 .bf16) (hvp : Mvp.IsWhole) (Mg : Memref sig .tc .vmem S1x128x2048 .bf16) (hg : Mg.IsWhole) (Mo : Memref sig .tc .vmem S1x128x2048 .bf16) (ho : Mo.IsWhole) (Ml : Memref sig .tc .vmem S1x128x128 .f32) (hl : Ml.IsWhole) (Mdq : Memref sig .tc .vmem S1x128x2048 .bf16) (hdq : Mdq.IsWhole) (Mdk : Memref sig .tc .vmem S1x256x2048 .bf16) (hdk : Mdk.IsWhole) (Mdv : Memref sig .tc .vmem S1x256x2048 .bf16) (hdv : Mdv.IsWhole) (Mck : Memref sig .tc .vmem S128x2048 .f32) (hck : Mck.IsWhole) (Mcv : Memref sig .tc .vmem S128x2048 .f32) (hcv : Mcv.IsWhole) (fq : Bf (F := F) c Mq) (fkc : Bf (F := F) c Mkc) (fkp : Bf (F := F) c Mkp) (fvc : Bf (F := F) c Mvc) (fvp : Bf (F := F) c Mvp) (fg : Bf (F := F) c Mg) (fo : Bf (F := F) c Mo) (fl : Bf (F := F) c Ml)
    (fck : Bf (F := F) c Mck) (fcv : Bf (F := F) c Mcv) :
    (run1 c i h1 h2 h3 Mq hq Mkc hkc Mkp hkp Mvc hvc Mvp hvp Mg hg Mo ho Ml hl Mdq hdq Mdk hdk Mdv hdv Mck hck Mcv hcv fq fkc fkp fvc fvp fg fo fl fck fcv).1.2.1 = ⟨Rect.unit ![0, 128, 0] S1x128x2048.size inb_S1x256x2048_S1x128x2048_0_128_0, k0_pay6 (Mck.view.readCov (heads16 fun h => pcC h (dkT (i 1).val h (Mq.view.read (Elt F) fq) (Mkc.view.read (Elt F) fkc) (Mkp.view.read (Elt F) fkp) (Mvc.view.read (Elt F) fvc) (Mvp.view.read (Elt F) fvp) (Mg.view.read (Elt F) fg) (Mo.view.read (Elt F) fo) (Ml.view.read (Elt F) fl))) (Rect.unit ![0, 0] S128x2048.size inb_S128x2048_S128x2048_0_0).toLoadRect)⟩ :: heads16 (fun h => pcK' i h (addf (ctile (Mck.view.read (Elt F) fck) h) (lo (dkT (i 1).val h (Mq.view.read (Elt F) fq) (Mkc.view.read (Elt F) fkc) (Mkp.view.read (Elt F) fkp) (Mvc.view.read (Elt F) fvc) (Mvp.view.read (Elt F) fvp) (Mg.view.read (Elt F) fg) (Mo.view.read (Elt F) fo) (Ml.view.read (Elt F) fl))))) := rfl

theorem run1_dv (h1 : ¬ cond1 i = 1#1) (h2 : k0_cond2 i = 1#1) (h3 : k0_cond3 i = 1#1)
    (Mq : Memref sig .tc .vmem S1x128x2048 .bf16) (hq : Mq.IsWhole) (Mkc : Memref sig .tc .vmem S1x128x2048 .bf16) (hkc : Mkc.IsWhole) (Mkp : Memref sig .tc .vmem S1x128x2048 .bf16) (hkp : Mkp.IsWhole) (Mvc : Memref sig .tc .vmem S1x128x2048 .bf16) (hvc : Mvc.IsWhole) (Mvp : Memref sig .tc .vmem S1x128x2048 .bf16) (hvp : Mvp.IsWhole) (Mg : Memref sig .tc .vmem S1x128x2048 .bf16) (hg : Mg.IsWhole) (Mo : Memref sig .tc .vmem S1x128x2048 .bf16) (ho : Mo.IsWhole) (Ml : Memref sig .tc .vmem S1x128x128 .f32) (hl : Ml.IsWhole) (Mdq : Memref sig .tc .vmem S1x128x2048 .bf16) (hdq : Mdq.IsWhole) (Mdk : Memref sig .tc .vmem S1x256x2048 .bf16) (hdk : Mdk.IsWhole) (Mdv : Memref sig .tc .vmem S1x256x2048 .bf16) (hdv : Mdv.IsWhole) (Mck : Memref sig .tc .vmem S128x2048 .f32) (hck : Mck.IsWhole) (Mcv : Memref sig .tc .vmem S128x2048 .f32) (hcv : Mcv.IsWhole) (fq : Bf (F := F) c Mq) (fkc : Bf (F := F) c Mkc) (fkp : Bf (F := F) c Mkp) (fvc : Bf (F := F) c Mvc) (fvp : Bf (F := F) c Mvp) (fg : Bf (F := F) c Mg) (fo : Bf (F := F) c Mo) (fl : Bf (F := F) c Ml)
    (fck : Bf (F := F) c Mck) (fcv : Bf (F := F) c Mcv) :
    (run1 c i h1 h2 h3 Mq hq Mkc hkc Mkp hkp Mvc hvc Mvp hvp Mg hg Mo ho Ml hl Mdq hdq Mdk hdk Mdv hdv Mck hck Mcv hcv fq fkc fkp fvc fvp fg fo fl fck fcv).1.2.2 = ⟨Rect.unit ![0, 128, 0] S1x128x2048.size inb_S1x256x2048_S1x128x2048_0_128_0, k0_pay7 (Mcv.view.readCov (heads16 fun h => pcC h (dvT (i 1).val h (Mq.view.read (Elt F) fq) (Mkc.view.read (Elt F) fkc) (Mkp.view.read (Elt F) fkp) (Mg.view.read (Elt F) fg) (Ml.view.read (Elt F) fl))) (Rect.unit ![0, 0] S128x2048.size inb_S128x2048_S128x2048_0_0).toLoadRect)⟩ :: heads16 (fun h => pcK' i h (addf (ctile (Mcv.view.read (Elt F) fcv) h) (lo (dvT (i 1).val h (Mq.view.read (Elt F) fq) (Mkc.view.read (Elt F) fkc) (Mkp.view.read (Elt F) fkp) (Mg.view.read (Elt F) fg) (Ml.view.read (Elt F) fl))))) := rfl
end lists

/-! ## What the pieces leave -/

def hd (n : ℕ) : Fin 16 := ⟨n / 128 % 16, Nat.mod_lt _ (by decide)⟩
def ln (n : ℕ) : Fin 128 := ⟨n % 128, Nat.mod_lt _ (by decide)⟩

/-- A block of sixteen heads from its heads' tiles. -/
def asmQ (T : Fin 16 → FVec F S128x128 .f32) : S1x128x2048.Idx → Elt F .bf16 := fun y =>
  truncf .bf16 (T (hd (y 2).val)) bitsLt_bf16_f32 (ix2 (⟨(y 1).val, (y 1).isLt⟩ : Fin 128) (ln (y 2).val))
/-- A carry from the heads' upper halves. -/
def asmC (T : Fin 16 → FVec F S256x128 .f32) : S128x2048.Idx → Elt F .f32 := fun y =>
  T (hd (y 1).val) (ix2 (⟨128 + (y 0).val, by have : (y 0).val < 128 := (y 0).isLt; omega⟩ : Fin 256) (ln (y 1).val))
/-- A two-block result from its lower tiles and the last carry. -/
def asmK (T : Fin 16 → FVec F S128x128 .f32) (C : S128x2048.Idx → Elt F .f32) : S1x256x2048.Idx → Elt F .bf16 := fun y =>
  if h : (y 1).val < 128 then truncf .bf16 (T (hd (y 2).val)) bitsLt_bf16_f32 (ix2 (⟨(y 1).val, h⟩ : Fin 128) (ln (y 2).val))
  else FloatOps.truncf .bf16 bitsLt_bf16_f32 (C (ix2 (⟨(y 1).val - 128, by have : (y 1).val < 256 := (y 1).isLt; omega⟩ : Fin 128) (⟨(y 2).val, (y 2).isLt⟩ : Fin 2048)))

theorem hd_of {n : ℕ} (h : Fin 16) (e : Fin 128) (he : n = 128 * h.val + e.val) : hd n = h := by
  unfold hd; apply Fin.ext; have := e.isLt; have := h.isLt; show n / 128 % 16 = h.val; omega
theorem ln_of {n : ℕ} (h : Fin 16) (e : Fin 128) (he : n = 128 * h.val + e.val) : ln n = e := by
  unfold ln; apply Fin.ext; have := e.isLt; show n % 128 = e.val; omega

theorem asmQ_at (T : Fin 16 → FVec F S128x128 .f32) (y : S1x128x2048.Idx) (h : Fin 16) (a e : Fin 128) (h1 : (y 1).val = a.val) (h2 : (y 2).val = 128 * h.val + e.val) :
    asmQ T y = FloatOps.truncf .bf16 bitsLt_bf16_f32 (T h (ix2 a e)) := by
  unfold asmQ
  rw [hd_of h e h2, ln_of h e h2]
  have : (⟨(y 1).val, (y 1).isLt⟩ : Fin 128) = a := Fin.ext h1
  rw [this]; rfl
theorem asmC_at (T : Fin 16 → FVec F S256x128 .f32) (y : S128x2048.Idx) (h : Fin 16) (a e : Fin 128) (h1 : (y 0).val = a.val) (h2 : (y 1).val = 128 * h.val + e.val) :
    asmC T y = T h (ix2 (⟨128 + a.val, by omega⟩ : Fin 256) e) := by
  unfold asmC
  rw [hd_of h e h2, ln_of h e h2]
  congr 2; exact Fin.ext (by show 128 + (y 0).val = 128 + a.val; rw [h1])
theorem asmK_lo (T : Fin 16 → FVec F S128x128 .f32) (C : S128x2048.Idx → Elt F .f32) (y : S1x256x2048.Idx) (h : Fin 16) (a e : Fin 128)
    (h1 : (y 1).val = a.val) (h2 : (y 2).val = 128 * h.val + e.val) :
    asmK T C y = FloatOps.truncf .bf16 bitsLt_bf16_f32 (T h (ix2 a e)) := by
  unfold asmK
  rw [dif_pos (by rw [h1]; exact a.isLt), hd_of h e h2, ln_of h e h2]
  have : ∀ q, (⟨(y 1).val, q⟩ : Fin 128) = a := fun q => Fin.ext h1
  rw [this]; rfl
theorem asmK_hi (T : Fin 16 → FVec F S128x128 .f32) (C : S128x2048.Idx → Elt F .f32) (y : S1x256x2048.Idx) (a : Fin 128) (b : Fin 2048)
    (h1 : (y 1).val = 128 + a.val) (h2 : (y 2).val = b.val) :
    asmK T C y = FloatOps.truncf .bf16 bitsLt_bf16_f32 (C (ix2 a b)) := by
  unfold asmK
  rw [dif_neg (by omega)]
  congr 2; funext d; apply Fin.ext
  match d with
  | ⟨0, _⟩ => show (y 1).val - 128 = a.val; omega
  | ⟨1, _⟩ => exact h2

theorem cast_up (T : FVec F S128x128 .bf16) (x : S1x128x128.Idx) :
    shapeCast S1x128x128 T shapeCasts_S128x128_S1x128x128 x = T (ix2 (⟨(x 1).val, (x 1).isLt⟩ : Fin 128) (⟨(x 2).val, (x 2).isLt⟩ : Fin 128)) := by
  refine shapeCast_apply _ _ x _ ?_
  rw [Shape.rowMajor_val_two, Shape.rowMajor_val_three]
  have : (x 0).val < 1 := (x 0).isLt
  show (x 1).val * 128 + (x 2).val = ((x 0).val * 128 + (x 1).val) * 128 + (x 2).val; omega

theorem pcQ_apply (T : Fin 16 → FVec F S128x128 .f32) (h : Fin 16) (x : (pcQ h (T h)).1.shape.Idx) :
    (pcQ h (T h)).2 x = asmQ T ((pcQ h (T h)).1.emb x) :=
  (cast_up (truncf .bf16 (T h) bitsLt_bf16_f32) x).trans (asmQ_at T _ h ⟨(x 1).val, (x 1).isLt⟩ ⟨(x 2).val, (x 2).isLt⟩
    (by show 0 + 1 * (x 1).val = (x 1).val; omega) (by show 128 * h.val + 1 * (x 2).val = 128 * h.val + (x 2).val; omega)).symm

theorem pcK_apply (T : Fin 16 → FVec F S128x128 .f32) (C : S128x2048.Idx → Elt F .f32) (h : Fin 16) (x : (pcK h (T h)).1.shape.Idx) :
    (pcK h (T h)).2 x = asmK T C ((pcK h (T h)).1.emb x) :=
  (cast_up (truncf .bf16 (T h) bitsLt_bf16_f32) x).trans (asmK_lo T C _ h ⟨(x 1).val, (x 1).isLt⟩ ⟨(x 2).val, (x 2).isLt⟩
    (by show 0 + 1 * (x 1).val = (x 1).val; omega) (by show 128 * h.val + 1 * (x 2).val = 128 * h.val + (x 2).val; omega)).symm

theorem hi_apply (T : FVec F S256x128 .f32) (x : S128x128.Idx) :
    hi T x = T (ix2 (⟨128 + (x 0).val, by have : (x 0).val < 128 := (x 0).isLt; omega⟩ : Fin 256) (⟨(x 1).val, (x 1).isLt⟩ : Fin 128)) := by
  unfold hi
  refine extractStridedSlice_apply _ _ _ x _ fun a => ?_
  match a with
  | ⟨0, _⟩ => rfl
  | ⟨1, _⟩ => show (x 1).val = 0 + (x 1).val; omega
theorem lo_apply (T : FVec F S256x128 .f32) (x : S128x128.Idx) :
    lo T x = T (ix2 (⟨(x 0).val, by have : (x 0).val < 128 := (x 0).isLt; omega⟩ : Fin 256) (⟨(x 1).val, (x 1).isLt⟩ : Fin 128)) := by
  unfold lo
  refine extractStridedSlice_apply _ _ _ x _ fun a => ?_
  match a with
  | ⟨0, _⟩ => show (x 0).val = 0 + (x 0).val; omega
  | ⟨1, _⟩ => show (x 1).val = 0 + (x 1).val; omega

theorem pcC_apply (T : Fin 16 → FVec F S256x128 .f32) (h : Fin 16) (x : (pcC h (T h)).1.shape.Idx) :
    (pcC h (T h)).2 x = asmC T ((pcC h (T h)).1.emb x) :=
  ((shapeCast_apply (hi (T h)) shapeCasts_S128x128_S128x128 x x rfl).trans (hi_apply (T h) x)).trans
    (asmC_at T _ h ⟨(x 0).val, (x 0).isLt⟩ ⟨(x 1).val, (x 1).isLt⟩
    (by show 0 + 1 * (x 0).val = (x 0).val; omega) (by show 128 * h.val + 1 * (x 1).val = 128 * h.val + (x 1).val; omega)).symm

theorem pcQ_cover (T : Fin 16 → FVec F S128x128 .f32) (y : S1x128x2048.Idx) : ∃ p ∈ heads16 (fun h => pcQ h (T h)), y ∈ p.1.set := by
  refine ⟨_, heads16_mem (fun h => pcQ h (T h)) (hd (y 2).val), ?_⟩
  have l0 : (y 0).val < 1 := (y 0).isLt
  have l1 : (y 1).val < 128 := (y 1).isLt
  unfold pcQ hd; rw [Rect.mem_set_unit]; intro a
  match a with
  | ⟨0, _⟩ => show 0 ≤ (y 0).val ∧ (y 0).val < 0 + 1; omega
  | ⟨1, _⟩ => show 0 ≤ (y 1).val ∧ (y 1).val < 0 + 128; omega
  | ⟨2, _⟩ => show 128 * ((y 2).val / 128 % 16) ≤ (y 2).val ∧ (y 2).val < 128 * ((y 2).val / 128 % 16) + 128; have l2 : (y 2).val < 2048 := (y 2).isLt; omega
theorem pcC_cover (T : Fin 16 → FVec F S256x128 .f32) (L) (y : S128x2048.Idx) : ∃ p ∈ heads16 (fun h => pcC h (T h)) ++ L, y ∈ p.1.set := by
  refine ⟨_, List.mem_append_left _ (heads16_mem (fun h => pcC h (T h)) (hd (y 1).val)), ?_⟩
  have l0 : (y 0).val < 128 := (y 0).isLt
  unfold pcC hd; rw [Rect.mem_set_unit]; intro a
  match a with
  | ⟨0, _⟩ => show 0 ≤ (y 0).val ∧ (y 0).val < 0 + 128; omega
  | ⟨1, _⟩ => show 128 * ((y 1).val / 128 % 16) ≤ (y 1).val ∧ (y 1).val < 128 * ((y 1).val / 128 % 16) + 128; have l2 : (y 1).val < 2048 := (y 1).isLt; omega

section reads
variable {sp : Space}

theorem read_Q (M : Memref sig .tc sp S1x128x2048 .bf16) (f) (T : Fin 16 → FVec F S128x128 .f32) :
    M.view.read (Elt F) (M.view.writes (Elt F) f (heads16 fun h => pcQ h (T h))) = asmQ T := by
  funext y
  refine View.read_writes_apply_of_pieces M.view f (asmQ T) _ (fun p hp x => ?_) y (pcQ_cover T y)
  obtain ⟨h, rfl⟩ := mem_heads16 _ _ hp
  exact pcQ_apply T h x

/-- The heads' pieces decide the carry wherever they came to lie over. -/
theorem read_C (M : Memref sig .tc sp S128x2048 .f32) (f) (T : Fin 16 → FVec F S256x128 .f32) (L) :
    M.view.read (Elt F) (M.view.writes (Elt F) f (heads16 (fun h => pcC h (T h)) ++ L)) = asmC T := by
  funext y
  have hc := pcC_cover T [] y
  rw [List.append_nil] at hc
  have key : ∀ p ∈ heads16 (fun h => pcC h (T h)), ∀ x, p.2 x = asmC T (p.1.emb x) := fun p hp x => by
    obtain ⟨h, rfl⟩ := mem_heads16 _ _ hp
    exact pcC_apply T h x
  generalize heads16 (fun h => pcC h (T h)) = K at hc key
  induction K with
  | nil => obtain ⟨p, hp, _⟩ := hc; exact absurd hp List.not_mem_nil
  | cons p K ih =>
    rw [List.cons_append]
    by_cases hy : y ∈ p.1.set
    · obtain ⟨x, rfl⟩ := p.1.exists_idx_of_mem hy
      obtain ⟨r, w⟩ := p
      exact (View.read_writes_cons_emb _ _ _ _ _ _).trans (key _ List.mem_cons_self x)
    · obtain ⟨q, hq, hyq⟩ := hc
      rcases List.mem_cons.1 hq with rfl | hq'
      · exact absurd hyq hy
      · exact (View.read_writes_cons_miss _ _ _ _ _ hy).trans (ih ⟨q, hq', hyq⟩ fun p' hp' => key p' (List.mem_cons_of_mem _ hp'))

theorem readCov_C (M : Memref sig .tc sp S128x2048 .f32) (T : Fin 16 → FVec F S256x128 .f32) (y : S128x2048.Idx) :
    M.view.readCov (heads16 fun h => pcC h (T h)) (Rect.unit ![0, 0] S128x2048.size inb_S128x2048_S128x2048_0_0).toLoadRect y = asmC T y := by
  unfold View.readCov; rw [View.readAt_apply]
  have := read_C M M.view.junk T []
  rw [List.append_nil] at this
  rw [this]
  congr 1; funext a; apply Fin.ext
  match a with
  | ⟨0, _⟩ => show 0 + 1 * (y 0).val = (y 0).val; omega
  | ⟨1, _⟩ => show 0 + 1 * (y 1).val = (y 1).val; omega

theorem read_K (M : Memref sig .tc sp S1x256x2048 .bf16) (f) (i : grid0.Coords) (T : Fin 16 → FVec F S128x128 .f32) (C : S128x2048.Idx → Elt F .f32)
    (w : S1x128x2048.Idx → Elt F .bf16)
    (hw : ∀ x : S1x128x2048.Idx, w x = FloatOps.truncf .bf16 bitsLt_bf16_f32 (C (ix2 (⟨(x 1).val, (x 1).isLt⟩ : Fin 128) (⟨(x 2).val, (x 2).isLt⟩ : Fin 2048)))) :
    M.view.read (Elt F) (M.view.writes (Elt F) f (⟨Rect.unit ![0, 128, 0] S1x128x2048.size inb_S1x256x2048_S1x128x2048_0_128_0, w⟩ :: heads16 fun h => pcK' i h (T h))) = asmK T C := by
  funext y
  have hK : (fun h => pcK' i h (T h)) = fun h => pcK h (T h) := funext fun h => pcK'_eq i h (T h)
  rw [hK]
  refine View.read_writes_apply_of_pieces M.view f (asmK T C) _ (fun p hp x => ?_) y ?_
  · rcases List.mem_cons.1 hp with rfl | hp
    · refine (hw x).trans ?_
      unfold asmK
      rw [dif_neg (by show ¬ 128 + 1 * (x 1).val < 128; omega)]
      congr 2; funext a; apply Fin.ext
      match a with
      | ⟨0, _⟩ => show (x 1).val = 128 + 1 * (x 1).val - 128; omega
      | ⟨1, _⟩ => show (x 2).val = 0 + 1 * (x 2).val; omega
    · obtain ⟨h, rfl⟩ := mem_heads16 _ _ hp
      exact pcK_apply T C h x
  · have l0 : (y 0).val < 1 := (y 0).isLt
    have l1 : (y 1).val < 256 := (y 1).isLt
    have l2 : (y 2).val < 2048 := (y 2).isLt
    by_cases h : (y 1).val < 128
    · refine ⟨_, List.mem_cons_of_mem _ (heads16_mem (fun h => pcK h (T h)) (hd (y 2).val)), ?_⟩
      unfold pcK hd; rw [Rect.mem_set_unit]; intro a
      match a with
      | ⟨0, _⟩ => show 0 ≤ (y 0).val ∧ (y 0).val < 0 + 1; omega
      | ⟨1, _⟩ => show 0 ≤ (y 1).val ∧ (y 1).val < 0 + 128; omega
      | ⟨2, _⟩ => show 128 * ((y 2).val / 128 % 16) ≤ (y 2).val ∧ (y 2).val < 128 * ((y 2).val / 128 % 16) + 128; have l2 : (y 2).val < 2048 := (y 2).isLt; omega
    · refine ⟨_, List.mem_cons_self, ?_⟩
      rw [Rect.mem_set_unit]; intro a
      match a with
      | ⟨0, _⟩ => show 0 ≤ (y 0).val ∧ (y 0).val < 0 + 1; omega
      | ⟨1, _⟩ => show 128 ≤ (y 1).val ∧ (y 1).val < 128 + 128; omega
      | ⟨2, _⟩ => show 0 ≤ (y 2).val ∧ (y 2).val < 0 + 2048; omega

theorem pay6_apply (v : Vec F S128x2048 .f32) (x : S1x128x2048.Idx) :
    k0_pay6 v x = FloatOps.truncf .bf16 bitsLt_bf16_f32 (v (ix2 (⟨(x 1).val, (x 1).isLt⟩ : Fin 128) (⟨(x 2).val, (x 2).isLt⟩ : Fin 2048))) := by
  unfold k0_pay6
  refine shapeCast_apply _ _ x (ix2 (⟨(x 1).val, (x 1).isLt⟩ : Fin 128) (⟨(x 2).val, (x 2).isLt⟩ : Fin 2048)) ?_
  rw [Shape.rowMajor_val_two, Shape.rowMajor_val_three]
  have : (x 0).val < 1 := (x 0).isLt
  show (x 1).val * 2048 + (x 2).val = ((x 0).val * 128 + (x 1).val) * 2048 + (x 2).val; omega
theorem pay7_apply (v : Vec F S128x2048 .f32) (x : S1x128x2048.Idx) :
    k0_pay7 v x = FloatOps.truncf .bf16 bitsLt_bf16_f32 (v (ix2 (⟨(x 1).val, (x 1).isLt⟩ : Fin 128) (⟨(x 2).val, (x 2).isLt⟩ : Fin 2048))) := by
  unfold k0_pay7
  refine shapeCast_apply _ _ x (ix2 (⟨(x 1).val, (x 1).isLt⟩ : Fin 128) (⟨(x 2).val, (x 2).isLt⟩ : Fin 2048)) ?_
  rw [Shape.rowMajor_val_two, Shape.rowMajor_val_three]
  have : (x 0).val < 1 := (x 0).isLt
  show (x 1).val * 2048 + (x 2).val = ((x 0).val * 128 + (x 1).val) * 2048 + (x 2).val; omega

end reads

end Cert.KernelIdeal.Hand
-- ==== Proof.Ideal.Frame.lean ====
/-
  The frame of the attention backward call: every grid point's body runs, from any contents of its windows and carries,
  and the argument arrays end as launched. The two row blocks of a residue take the two runs of the body.
-/
module

public import proofs.«01_k».proof.Proof.Ideal.Spec
public import Idealize.ShloMosaic.Lib.Pipeline.ArrRel
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (RDat Cfg Window)

variable {F : FTy → Type} [FloatOps F] [Named F]

local notation "𝕄" => MT nD τ sig Unit (Elt F) ℕ (UR sig nD τ) ℕ

/-- A whole memref owned at `X` is its buffer at the contents that read `X`. -/
theorem owns_to_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns; rw [h.set_eq_univ]
  iintro ⟨%f, %hf, H⟩; rw [h.eq_unread hf]; iexact H
/-- A whole memref's buffer at `f` is the memref owned at what `f` reads. -/
theorem pt_to_owns (c : Dev nD) {sp : Space} {S : Shape} {e : EltTy} (M : Memref sig .tc sp S e) (h : M.IsWhole) (f : Bf (F := F) c M) :
    pt c M f ⊢ (owns (c : Thread nD τ) M fullShare (M.view.read (Elt F) f) : sProp 𝕄) := by
  unfold owns; rw [h.set_eq_univ]
  iintro H; iexists f; isplitr; · ipureintro; rfl
  iexact H

theorem pt_to_owns' (c : Dev nD) {sp : Space} {S : Shape} {e : EltTy} (M : Memref sig .tc sp S e) (h : M.IsWhole) (X : S.Idx → Elt F e) :
    pt c M (h.unread X) ⊢ (owns (c : Thread nD τ) M fullShare X : sProp 𝕄) := by
  refine (pt_to_owns c M h _).trans (by rw [h.read_unread])

/-- The guards at the first row block. -/
theorem conds_even : ∀ t : Fin cfg0.N, t.val % 2 = 0 → cond1 (grid0.coords t) = 1#1 ∧ k0_cond2 (grid0.coords t) = 1#1 ∧ ¬ k0_cond3 (grid0.coords t) = 1#1 :=
  (by decide +kernel : ∀ t : Fin grid0.N, t.val % 2 = 0 → cond1 (grid0.coords t) = 1#1 ∧ k0_cond2 (grid0.coords t) = 1#1 ∧ ¬ k0_cond3 (grid0.coords t) = 1#1)
/-- The guards at the second row block. -/
theorem conds_odd : ∀ t : Fin cfg0.N, ¬ t.val % 2 = 0 → ¬ cond1 (grid0.coords t) = 1#1 ∧ k0_cond2 (grid0.coords t) = 1#1 ∧ k0_cond3 (grid0.coords t) = 1#1 :=
  (by decide +kernel : ∀ t : Fin grid0.N, ¬ t.val % 2 = 0 → ¬ cond1 (grid0.coords t) = 1#1 ∧ k0_cond2 (grid0.coords t) = 1#1 ∧ k0_cond3 (grid0.coords t) = 1#1)

set_option maxHeartbeats 1600000 in
/-- The body at the first row block, between owned memrefs: the inputs unchanged, the results and carries of the head functions. -/
theorem step0 (c : Dev nD) (i : grid0.Coords) (h1 : cond1 i = 1#1) (h2 : k0_cond2 i = 1#1) (h3 : ¬ k0_cond3 i = 1#1)
    (Mq : Memref sig .tc .vmem S1x128x2048 .bf16) (hq : Mq.IsWhole) (Mkc : Memref sig .tc .vmem S1x128x2048 .bf16) (hkc : Mkc.IsWhole) (Mkp : Memref sig .tc .vmem S1x128x2048 .bf16) (hkp : Mkp.IsWhole) (Mvc : Memref sig .tc .vmem S1x128x2048 .bf16) (hvc : Mvc.IsWhole) (Mvp : Memref sig .tc .vmem S1x128x2048 .bf16) (hvp : Mvp.IsWhole) (Mg : Memref sig .tc .vmem S1x128x2048 .bf16) (hg : Mg.IsWhole) (Mo : Memref sig .tc .vmem S1x128x2048 .bf16) (ho : Mo.IsWhole) (Ml : Memref sig .tc .vmem S1x128x128 .f32) (hl : Ml.IsWhole) (Mdq : Memref sig .tc .vmem S1x128x2048 .bf16) (hdq : Mdq.IsWhole) (Mdk : Memref sig .tc .vmem S1x256x2048 .bf16) (hdk : Mdk.IsWhole) (Mdv : Memref sig .tc .vmem S1x256x2048 .bf16) (hdv : Mdv.IsWhole) (Mck : Memref sig .tc .vmem S128x2048 .f32) (hck : Mck.IsWhole) (Mcv : Memref sig .tc .vmem S128x2048 .f32) (hcv : Mcv.IsWhole)
    (Xq : Vec F S1x128x2048 .bf16) (Xkc : Vec F S1x128x2048 .bf16) (Xkp : Vec F S1x128x2048 .bf16) (Xvc : Vec F S1x128x2048 .bf16) (Xvp : Vec F S1x128x2048 .bf16) (Xg : Vec F S1x128x2048 .bf16) (Xo : Vec F S1x128x2048 .bf16) (Xl : Vec F S1x128x128 .f32) (Xdq : Vec F S1x128x2048 .bf16) (Xdk : Vec F S1x256x2048 .bf16) (Xdv : Vec F S1x256x2048 .bf16) (fck : Bf (F := F) c Mck) (fcv : Bf (F := F) c Mcv) (E : Set ℕ) (Q : PUnit → sProp 𝕄) :
    iprop(owns (c : Thread nD τ) Mq fullShare Xq ∗ owns (c : Thread nD τ) Mkc fullShare Xkc ∗ owns (c : Thread nD τ) Mkp fullShare Xkp ∗ owns (c : Thread nD τ) Mvc fullShare Xvc ∗ owns (c : Thread nD τ) Mvp fullShare Xvp ∗ owns (c : Thread nD τ) Mg fullShare Xg ∗ owns (c : Thread nD τ) Mo fullShare Xo ∗ owns (c : Thread nD τ) Ml fullShare Xl ∗ owns (c : Thread nD τ) Mdq fullShare Xdq ∗ owns (c : Thread nD τ) Mdk fullShare Xdk ∗ owns (c : Thread nD τ) Mdv fullShare Xdv ∗ pt c Mck fck ∗ pt c Mcv fcv
      ∗ (iprop(owns (c : Thread nD τ) Mq fullShare Xq ∗ owns (c : Thread nD τ) Mkc fullShare Xkc ∗ owns (c : Thread nD τ) Mkp fullShare Xkp ∗ owns (c : Thread nD τ) Mvc fullShare Xvc ∗ owns (c : Thread nD τ) Mvp fullShare Xvp ∗ owns (c : Thread nD τ) Mg fullShare Xg ∗ owns (c : Thread nD τ) Mo fullShare Xo ∗ owns (c : Thread nD τ) Ml fullShare Xl ∗ owns (c : Thread nD τ) Mdq fullShare (asmQ fun h => dqT (i 1).val h Xq Xkc Xkp Xvc Xvp Xg Xo Xl) ∗ (∃ X, owns (c : Thread nD τ) Mdk fullShare X) ∗ (∃ X, owns (c : Thread nD τ) Mdv fullShare X) ∗ (∃ f, ⌜Mck.view.read (Elt F) f = (asmC fun h => dkT (i 1).val h Xq Xkc Xkp Xvc Xvp Xg Xo Xl)⌝ ∗ pt c Mck f) ∗ (∃ f, ⌜Mcv.view.read (Elt F) f = (asmC fun h => dvT (i 1).val h Xq Xkc Xkp Xg Xl)⌝ ∗ pt c Mcv f)) -∗ Q ⟨⟩))
    ⊢ wp frame (wpE (defs₀ (F := F)) Variants.none c none) E (cc0_attn_bwd_d16 i Mq hq Mkc hkc Mkp hkp Mvc hvc Mvp hvp Mg hg Mo ho Ml hl Mdq hdq Mdk hdk Mdv hdv Mck hck Mcv hcv) Q := by
  have eq : ∀ f, Mdq.view.read (Elt F) (Mdq.view.writes (Elt F) f (run0 c i h1 h2 h3 Mq hq Mkc hkc Mkp hkp Mvc hvc Mvp hvp Mg hg Mo ho Ml hl Mdq hdq Mdk hdk Mdv hdv Mck hck Mcv hcv (hq.unread Xq) (hkc.unread Xkc) (hkp.unread Xkp) (hvc.unread Xvc) (hvp.unread Xvp) (hg.unread Xg) (ho.unread Xo) (hl.unread Xl)).1.1) = (asmQ fun h => dqT (i 1).val h Xq Xkc Xkp Xvc Xvp Xg Xo Xl) := fun f => by
    rw [run0_q]; rw [hq.read_unread, hkc.read_unread, hkp.read_unread, hvc.read_unread, hvp.read_unread, hg.read_unread, ho.read_unread, hl.read_unread, read_Q]
  have ek : ∀ f, Mck.view.read (Elt F) (Mck.view.writes (Elt F) f (run0 c i h1 h2 h3 Mq hq Mkc hkc Mkp hkp Mvc hvc Mvp hvp Mg hg Mo ho Ml hl Mdq hdq Mdk hdk Mdv hdv Mck hck Mcv hcv (hq.unread Xq) (hkc.unread Xkc) (hkp.unread Xkp) (hvc.unread Xvc) (hvp.unread Xvp) (hg.unread Xg) (ho.unread Xo) (hl.unread Xl)).1.2.2.2.1) = (asmC fun h => dkT (i 1).val h Xq Xkc Xkp Xvc Xvp Xg Xo Xl) := fun f => by
    rw [run0_ck]; rw [hq.read_unread, hkc.read_unread, hkp.read_unread, hvc.read_unread, hvp.read_unread, hg.read_unread, ho.read_unread, hl.read_unread, read_C]
  have ev : ∀ f, Mcv.view.read (Elt F) (Mcv.view.writes (Elt F) f (run0 c i h1 h2 h3 Mq hq Mkc hkc Mkp hkp Mvc hvc Mvp hvp Mg hg Mo ho Ml hl Mdq hdq Mdk hdk Mdv hdv Mck hck Mcv hcv (hq.unread Xq) (hkc.unread Xkc) (hkp.unread Xkp) (hvc.unread Xvc) (hvp.unread Xvp) (hg.unread Xg) (ho.unread Xo) (hl.unread Xl)).1.2.2.2.2) = (asmC fun h => dvT (i 1).val h Xq Xkc Xkp Xg Xl) := fun f => by
    rw [run0_cv]; rw [hq.read_unread, hkc.read_unread, hkp.read_unread, hg.read_unread, hl.read_unread, read_C]
  iintro ⟨Hq, Hkc, Hkp, Hvc, Hvp, Hg, Ho, Hl, Hdq, Hdk, Hdv, Hck, Hcv, Hk⟩
  iapply ((run0 c i h1 h2 h3 Mq hq Mkc hkc Mkp hkp Mvc hvc Mvp hvp Mg hg Mo ho Ml hl Mdq hdq Mdk hdk Mdv hdv Mck hck Mcv hcv (hq.unread Xq) (hkc.unread Xkc) (hkp.unread Xkp) (hvc.unread Xvc) (hvp.unread Xvp) (hg.unread Xg) (ho.unread Xo) (hl.unread Xl)).2 (hdq.unread Xdq) (hdk.unread Xdk) (hdv.unread Xdv) fck fcv E Q)
  isplitl [Hq]; · iapply (owns_to_pt c Mq hq Xq); iexact Hq
  isplitl [Hkc]; · iapply (owns_to_pt c Mkc hkc Xkc); iexact Hkc
  isplitl [Hkp]; · iapply (owns_to_pt c Mkp hkp Xkp); iexact Hkp
  isplitl [Hvc]; · iapply (owns_to_pt c Mvc hvc Xvc); iexact Hvc
  isplitl [Hvp]; · iapply (owns_to_pt c Mvp hvp Xvp); iexact Hvp
  isplitl [Hg]; · iapply (owns_to_pt c Mg hg Xg); iexact Hg
  isplitl [Ho]; · iapply (owns_to_pt c Mo ho Xo); iexact Ho
  isplitl [Hl]; · iapply (owns_to_pt c Ml hl Xl); iexact Hl
  isplitl [Hdq]; · iapply (owns_to_pt c Mdq hdq Xdq); iexact Hdq
  isplitl [Hdk]; · iapply (owns_to_pt c Mdk hdk Xdk); iexact Hdk
  isplitl [Hdv]; · iapply (owns_to_pt c Mdv hdv Xdv); iexact Hdv
  isplitl [Hck]; · iexact Hck
  isplitl [Hcv]; · iexact Hcv
  iintro ⟨Hq, Hkc, Hkp, Hvc, Hvp, Hg, Ho, Hl, ⟨%fdq, Hdq⟩, ⟨%fdk, Hdk⟩, ⟨%fdv, Hdv⟩, ⟨%fk, Hck⟩, ⟨%fv, Hcv⟩⟩
  iapply Hk
  isplitl [Hq]; · iapply (pt_to_owns' c Mq hq Xq); iexact Hq
  isplitl [Hkc]; · iapply (pt_to_owns' c Mkc hkc Xkc); iexact Hkc
  isplitl [Hkp]; · iapply (pt_to_owns' c Mkp hkp Xkp); iexact Hkp
  isplitl [Hvc]; · iapply (pt_to_owns' c Mvc hvc Xvc); iexact Hvc
  isplitl [Hvp]; · iapply (pt_to_owns' c Mvp hvp Xvp); iexact Hvp
  isplitl [Hg]; · iapply (pt_to_owns' c Mg hg Xg); iexact Hg
  isplitl [Ho]; · iapply (pt_to_owns' c Mo ho Xo); iexact Ho
  isplitl [Hl]; · iapply (pt_to_owns' c Ml hl Xl); iexact Hl
  isplitl [Hdq]; · rw [← eq fdq]; iapply (pt_to_owns c Mdq hdq _); iexact Hdq
  isplitl [Hdk]; · iexists _; iapply (pt_to_owns c Mdk hdk _); iexact Hdk
  isplitl [Hdv]; · iexists _; iapply (pt_to_owns c Mdv hdv _); iexact Hdv
  isplitl [Hck]
  · iexists _; isplitr; · ipureintro; exact ek fk
    iexact Hck
  iexists _; isplitr; · ipureintro; exact ev fv
  iexact Hcv

set_option maxHeartbeats 1600000 in
/-- The body at the second row block, between owned memrefs: the inputs unchanged, the results and carries of the head functions. -/
theorem step1 (c : Dev nD) (i : grid0.Coords) (h1 : ¬ cond1 i = 1#1) (h2 : k0_cond2 i = 1#1) (h3 : k0_cond3 i = 1#1)
    (Mq : Memref sig .tc .vmem S1x128x2048 .bf16) (hq : Mq.IsWhole) (Mkc : Memref sig .tc .vmem S1x128x2048 .bf16) (hkc : Mkc.IsWhole) (Mkp : Memref sig .tc .vmem S1x128x2048 .bf16) (hkp : Mkp.IsWhole) (Mvc : Memref sig .tc .vmem S1x128x2048 .bf16) (hvc : Mvc.IsWhole) (Mvp : Memref sig .tc .vmem S1x128x2048 .bf16) (hvp : Mvp.IsWhole) (Mg : Memref sig .tc .vmem S1x128x2048 .bf16) (hg : Mg.IsWhole) (Mo : Memref sig .tc .vmem S1x128x2048 .bf16) (ho : Mo.IsWhole) (Ml : Memref sig .tc .vmem S1x128x128 .f32) (hl : Ml.IsWhole) (Mdq : Memref sig .tc .vmem S1x128x2048 .bf16) (hdq : Mdq.IsWhole) (Mdk : Memref sig .tc .vmem S1x256x2048 .bf16) (hdk : Mdk.IsWhole) (Mdv : Memref sig .tc .vmem S1x256x2048 .bf16) (hdv : Mdv.IsWhole) (Mck : Memref sig .tc .vmem S128x2048 .f32) (hck : Mck.IsWhole) (Mcv : Memref sig .tc .vmem S128x2048 .f32) (hcv : Mcv.IsWhole)
    (Xq : Vec F S1x128x2048 .bf16) (Xkc : Vec F S1x128x2048 .bf16) (Xkp : Vec F S1x128x2048 .bf16) (Xvc : Vec F S1x128x2048 .bf16) (Xvp : Vec F S1x128x2048 .bf16) (Xg : Vec F S1x128x2048 .bf16) (Xo : Vec F S1x128x2048 .bf16) (Xl : Vec F S1x128x128 .f32) (Xdq : Vec F S1x128x2048 .bf16) (Xdk : Vec F S1x256x2048 .bf16) (Xdv : Vec F S1x256x2048 .bf16) (fck : Bf (F := F) c Mck) (fcv : Bf (F := F) c Mcv) (Ck Cv : S128x2048.Idx → Elt F .f32) (hCk : Mck.view.read (Elt F) fck = Ck) (hCv : Mcv.view.read (Elt F) fcv = Cv) (E : Set ℕ) (Q : PUnit → sProp 𝕄) :
    iprop(owns (c : Thread nD τ) Mq fullShare Xq ∗ owns (c : Thread nD τ) Mkc fullShare Xkc ∗ owns (c : Thread nD τ) Mkp fullShare Xkp ∗ owns (c : Thread nD τ) Mvc fullShare Xvc ∗ owns (c : Thread nD τ) Mvp fullShare Xvp ∗ owns (c : Thread nD τ) Mg fullShare Xg ∗ owns (c : Thread nD τ) Mo fullShare Xo ∗ owns (c : Thread nD τ) Ml fullShare Xl ∗ owns (c : Thread nD τ) Mdq fullShare Xdq ∗ owns (c : Thread nD τ) Mdk fullShare Xdk ∗ owns (c : Thread nD τ) Mdv fullShare Xdv ∗ pt c Mck fck ∗ pt c Mcv fcv
      ∗ (iprop(owns (c : Thread nD τ) Mq fullShare Xq ∗ owns (c : Thread nD τ) Mkc fullShare Xkc ∗ owns (c : Thread nD τ) Mkp fullShare Xkp ∗ owns (c : Thread nD τ) Mvc fullShare Xvc ∗ owns (c : Thread nD τ) Mvp fullShare Xvp ∗ owns (c : Thread nD τ) Mg fullShare Xg ∗ owns (c : Thread nD τ) Mo fullShare Xo ∗ owns (c : Thread nD τ) Ml fullShare Xl ∗ owns (c : Thread nD τ) Mdq fullShare (asmQ fun h => dqT (i 1).val h Xq Xkc Xkp Xvc Xvp Xg Xo Xl) ∗ owns (c : Thread nD τ) Mdk fullShare (asmK (fun h => addf (ctile Ck h) (lo (dkT (i 1).val h Xq Xkc Xkp Xvc Xvp Xg Xo Xl))) (asmC fun h => dkT (i 1).val h Xq Xkc Xkp Xvc Xvp Xg Xo Xl)) ∗ owns (c : Thread nD τ) Mdv fullShare (asmK (fun h => addf (ctile Cv h) (lo (dvT (i 1).val h Xq Xkc Xkp Xg Xl))) (asmC fun h => dvT (i 1).val h Xq Xkc Xkp Xg Xl)) ∗ (∃ f, pt c Mck f) ∗ (∃ f, pt c Mcv f)) -∗ Q ⟨⟩))
    ⊢ wp frame (wpE (defs₀ (F := F)) Variants.none c none) E (cc0_attn_bwd_d16 i Mq hq Mkc hkc Mkp hkp Mvc hvc Mvp hvp Mg hg Mo ho Ml hl Mdq hdq Mdk hdk Mdv hdv Mck hck Mcv hcv) Q := by
  have eq : ∀ f, Mdq.view.read (Elt F) (Mdq.view.writes (Elt F) f (run1 c i h1 h2 h3 Mq hq Mkc hkc Mkp hkp Mvc hvc Mvp hvp Mg hg Mo ho Ml hl Mdq hdq Mdk hdk Mdv hdv Mck hck Mcv hcv (hq.unread Xq) (hkc.unread Xkc) (hkp.unread Xkp) (hvc.unread Xvc) (hvp.unread Xvp) (hg.unread Xg) (ho.unread Xo) (hl.unread Xl) fck fcv).1.1) = (asmQ fun h => dqT (i 1).val h Xq Xkc Xkp Xvc Xvp Xg Xo Xl) := fun f => by
    rw [run1_q]; rw [hq.read_unread, hkc.read_unread, hkp.read_unread, hvc.read_unread, hvp.read_unread, hg.read_unread, ho.read_unread, hl.read_unread, read_Q]
  have ek : ∀ f, Mdk.view.read (Elt F) (Mdk.view.writes (Elt F) f (run1 c i h1 h2 h3 Mq hq Mkc hkc Mkp hkp Mvc hvc Mvp hvp Mg hg Mo ho Ml hl Mdq hdq Mdk hdk Mdv hdv Mck hck Mcv hcv (hq.unread Xq) (hkc.unread Xkc) (hkp.unread Xkp) (hvc.unread Xvc) (hvp.unread Xvp) (hg.unread Xg) (ho.unread Xo) (hl.unread Xl) fck fcv).1.2.1) = asmK (fun h => addf (ctile Ck h) (lo (dkT (i 1).val h Xq Xkc Xkp Xvc Xvp Xg Xo Xl))) (asmC fun h => dkT (i 1).val h Xq Xkc Xkp Xvc Xvp Xg Xo Xl) := fun f => by
    rw [run1_dk]; rw [hq.read_unread, hkc.read_unread, hkp.read_unread, hvc.read_unread, hvp.read_unread, hg.read_unread, ho.read_unread, hl.read_unread, hCk]
    exact read_K Mdk f i _ _ _ fun x => by rw [pay6_apply]; exact congrArg _ (readCov_C Mck _ _)
  have ev : ∀ f, Mdv.view.read (Elt F) (Mdv.view.writes (Elt F) f (run1 c i h1 h2 h3 Mq hq Mkc hkc Mkp hkp Mvc hvc Mvp hvp Mg hg Mo ho Ml hl Mdq hdq Mdk hdk Mdv hdv Mck hck Mcv hcv (hq.unread Xq) (hkc.unread Xkc) (hkp.unread Xkp) (hvc.unread Xvc) (hvp.unread Xvp) (hg.unread Xg) (ho.unread Xo) (hl.unread Xl) fck fcv).1.2.2) = asmK (fun h => addf (ctile Cv h) (lo (dvT (i 1).val h Xq Xkc Xkp Xg Xl))) (asmC fun h => dvT (i 1).val h Xq Xkc Xkp Xg Xl) := fun f => by
    rw [run1_dv]; rw [hq.read_unread, hkc.read_unread, hkp.read_unread, hg.read_unread, hl.read_unread, hCv]
    exact read_K Mdv f i _ _ _ fun x => by rw [pay7_apply]; exact congrArg _ (readCov_C Mcv _ _)
  iintro ⟨Hq, Hkc, Hkp, Hvc, Hvp, Hg, Ho, Hl, Hdq, Hdk, Hdv, Hck, Hcv, Hk⟩
  iapply ((run1 c i h1 h2 h3 Mq hq Mkc hkc Mkp hkp Mvc hvc Mvp hvp Mg hg Mo ho Ml hl Mdq hdq Mdk hdk Mdv hdv Mck hck Mcv hcv (hq.unread Xq) (hkc.unread Xkc) (hkp.unread Xkp) (hvc.unread Xvc) (hvp.unread Xvp) (hg.unread Xg) (ho.unread Xo) (hl.unread Xl) fck fcv).2 (hdq.unread Xdq) (hdk.unread Xdk) (hdv.unread Xdv) E Q)
  isplitl [Hq]; · iapply (owns_to_pt c Mq hq Xq); iexact Hq
  isplitl [Hkc]; · iapply (owns_to_pt c Mkc hkc Xkc); iexact Hkc
  isplitl [Hkp]; · iapply (owns_to_pt c Mkp hkp Xkp); iexact Hkp
  isplitl [Hvc]; · iapply (owns_to_pt c Mvc hvc Xvc); iexact Hvc
  isplitl [Hvp]; · iapply (owns_to_pt c Mvp hvp Xvp); iexact Hvp
  isplitl [Hg]; · iapply (owns_to_pt c Mg hg Xg); iexact Hg
  isplitl [Ho]; · iapply (owns_to_pt c Mo ho Xo); iexact Ho
  isplitl [Hl]; · iapply (owns_to_pt c Ml hl Xl); iexact Hl
  isplitl [Hdq]; · iapply (owns_to_pt c Mdq hdq Xdq); iexact Hdq
  isplitl [Hdk]; · iapply (owns_to_pt c Mdk hdk Xdk); iexact Hdk
  isplitl [Hdv]; · iapply (owns_to_pt c Mdv hdv Xdv); iexact Hdv
  isplitl [Hck]; · iexact Hck
  isplitl [Hcv]; · iexact Hcv
  iintro ⟨Hq, Hkc, Hkp, Hvc, Hvp, Hg, Ho, Hl, ⟨%fdq, Hdq⟩, ⟨%fdk, Hdk⟩, ⟨%fdv, Hdv⟩, ⟨%fk, Hck⟩, ⟨%fv, Hcv⟩⟩
  iapply Hk
  isplitl [Hq]; · iapply (pt_to_owns' c Mq hq Xq); iexact Hq
  isplitl [Hkc]; · iapply (pt_to_owns' c Mkc hkc Xkc); iexact Hkc
  isplitl [Hkp]; · iapply (pt_to_owns' c Mkp hkp Xkp); iexact Hkp
  isplitl [Hvc]; · iapply (pt_to_owns' c Mvc hvc Xvc); iexact Hvc
  isplitl [Hvp]; · iapply (pt_to_owns' c Mvp hvp Xvp); iexact Hvp
  isplitl [Hg]; · iapply (pt_to_owns' c Mg hg Xg); iexact Hg
  isplitl [Ho]; · iapply (pt_to_owns' c Mo ho Xo); iexact Ho
  isplitl [Hl]; · iapply (pt_to_owns' c Ml hl Xl); iexact Hl
  isplitl [Hdq]; · rw [← eq fdq]; iapply (pt_to_owns c Mdq hdq _); iexact Hdq
  isplitl [Hdk]; · rw [← ek fdk]; iapply (pt_to_owns c Mdk hdk _); iexact Hdk
  isplitl [Hdv]; · rw [← ev fdv]; iapply (pt_to_owns c Mdv hdv _); iexact Hdv
  isplitl [Hck]; · iexists _; iexact Hck
  iexists _; iexact Hcv

variable (m : (ℓ : Loc nD τ sig) → Buf (Elt F) ℓ) (ρ : Dev nD → PrngReg)

/-- The last point at which the previous block was fetched. -/
def ev (t : Fin cfg0.N) : Fin cfg0.N := ⟨t.val - t.val % 2, by have := t.isLt; omega⟩
/-- The point before a step. -/
def pd (u : Fin (cfg0.N + 1)) : Fin cfg0.N := ⟨u.val - 1, by
  have h := u.isLt
  have h1 : 0 < cfg0.N := by decide
  omega⟩
/-- The point before. -/
def pv (t : Fin cfg0.N) : Fin cfg0.N := ⟨t.val - 1, by have := t.isLt; omega⟩

/-- The input blocks at a point. -/
def Bq (c : Dev nD) (t : Fin cfg0.N) : S1x128x2048.Idx → Elt F .bf16 := iblk m c 0 t
def Bkc (c : Dev nD) (t : Fin cfg0.N) : S1x128x2048.Idx → Elt F .bf16 := iblk m c 1 t
def Bkp (c : Dev nD) (t : Fin cfg0.N) : S1x128x2048.Idx → Elt F .bf16 := iblk m c 2 (ev t)
def Bvc (c : Dev nD) (t : Fin cfg0.N) : S1x128x2048.Idx → Elt F .bf16 := iblk m c 3 t
def Bvp (c : Dev nD) (t : Fin cfg0.N) : S1x128x2048.Idx → Elt F .bf16 := iblk m c 4 (ev t)
def Bg (c : Dev nD) (t : Fin cfg0.N) : S1x128x2048.Idx → Elt F .bf16 := iblk m c 5 t
def Bo (c : Dev nD) (t : Fin cfg0.N) : S1x128x2048.Idx → Elt F .bf16 := iblk m c 6 t
def Bl (c : Dev nD) (t : Fin cfg0.N) : S1x128x128.Idx → Elt F .f32 := iblk m c 7 t

/-- What a visit leaves: the query cotangents, the carries, and (at the second block) the two-block results. -/
def oQ (c : Dev nD) (t : Fin cfg0.N) : S1x128x2048.Idx → Elt F .bf16 := asmQ fun h => dqT ((grid0.coords t) 1).val h (Bq m c t) (Bkc m c t) (Bkp m c t) (Bvc m c t) (Bvp m c t) (Bg m c t) (Bo m c t) (Bl m c t)
def cK (c : Dev nD) (t : Fin cfg0.N) : S128x2048.Idx → Elt F .f32 := asmC fun h => dkT ((grid0.coords t) 1).val h (Bq m c t) (Bkc m c t) (Bkp m c t) (Bvc m c t) (Bvp m c t) (Bg m c t) (Bo m c t) (Bl m c t)
def cV (c : Dev nD) (t : Fin cfg0.N) : S128x2048.Idx → Elt F .f32 := asmC fun h => dvT ((grid0.coords t) 1).val h (Bq m c t) (Bkc m c t) (Bkp m c t) (Bg m c t) (Bl m c t)
def oK (c : Dev nD) (t : Fin cfg0.N) : S1x256x2048.Idx → Elt F .bf16 := asmK (fun h => addf (ctile (cK m c (pv t)) h) (lo (dkT ((grid0.coords t) 1).val h (Bq m c t) (Bkc m c t) (Bkp m c t) (Bvc m c t) (Bvp m c t) (Bg m c t) (Bo m c t) (Bl m c t)))) (cK m c t)
def oV (c : Dev nD) (t : Fin cfg0.N) : S1x256x2048.Idx → Elt F .bf16 := asmK (fun h => addf (ctile (cV m c (pv t)) h) (lo (dvT ((grid0.coords t) 1).val h (Bq m c t) (Bkc m c t) (Bkp m c t) (Bg m c t) (Bl m c t)))) (cV m c t)

/-- What the body leaves in each window: an input's block, the results. -/
def aft (c : Dev nD) (w : Fin cfg0.W) (t : Fin cfg0.N) (Y X : (cfg0.win w).block.Idx → Elt F (cfg0.win w).elt) : Prop :=
  match w, Y, X with
  | ⟨0, _⟩, Y, X => X = Y | ⟨1, _⟩, Y, X => X = Y | ⟨2, _⟩, Y, X => X = Y | ⟨3, _⟩, Y, X => X = Y
  | ⟨4, _⟩, Y, X => X = Y | ⟨5, _⟩, Y, X => X = Y | ⟨6, _⟩, Y, X => X = Y | ⟨7, _⟩, Y, X => X = Y
  | ⟨8, _⟩, _, X => X = oQ m c t
  | ⟨9, _⟩, _, X => ¬ t.val % 2 = 0 → X = oK m c t
  | ⟨10, _⟩, _, X => ¬ t.val % 2 = 0 → X = oV m c t

/-- Between the two blocks of a residue the carries hold what the first one left. -/
def Phi (c : Dev nD) (u : Fin (cfg0.N + 1)) : sProp 𝕄 :=
  if u.val % 2 = 0 then Pipeline.ΦA spec0 c
  else iprop(((∃ f : Bf (F := F) c (Memref.whole cc0_scratch0), ⌜(Memref.whole cc0_scratch0).view.read (Elt F) f = cK m c (pd u)⌝ ∗ pt c (Memref.whole cc0_scratch0) f)
    ∗ (∃ f : Bf (F := F) c (Memref.whole cc0_scratch1), ⌜(Memref.whole cc0_scratch1).view.read (Elt F) f = cV m c (pd u)⌝ ∗ pt c (Memref.whole cc0_scratch1) f)) ∗ ∃ r, prngReg c r)

/-- The proof data of the call on core `c`. -/
def rd (c : Dev nD) : RDat τ (Elt F) Unit ℕ (UR sig nD τ) ℕ cfg0 c where
  A w := V m c (Pipeline.arrRef spec0 w)
  after := aft m c
  Φ := Phi m c
  q w := Pipeline.shareOf spec0 w
  owed _ := 0

theorem A_eq (c : Dev nD) (w : Fin cfg0.W) : (rd m c).A w = V m c (Pipeline.arrRef spec0 w) := by dsimp only [rd]
theorem q_eq (c : Dev nD) (w : Fin cfg0.W) : (rd m c).q w = Pipeline.shareOf spec0 w := by dsimp only [rd]
theorem owed_eq (c : Dev nD) (t : Fin (cfg0.N + 1)) : (rd m c).owed t = 0 := by dsimp only [rd]
theorem Phi_even (c : Dev nD) (u : Fin (cfg0.N + 1)) (h : u.val % 2 = 0) : (rd m c).Φ u = Pipeline.ΦA spec0 c := by
  dsimp only [rd]; unfold Phi; rw [if_pos h]
theorem Phi_odd (c : Dev nD) (u : Fin (cfg0.N + 1)) (t : Fin cfg0.N) (h : ¬ u.val % 2 = 0) (ht : t.val = u.val - 1) :
    (rd m c).Φ u = iprop(((∃ f : Bf (F := F) c (Memref.whole cc0_scratch0), ⌜(Memref.whole cc0_scratch0).view.read (Elt F) f = cK m c t⌝ ∗ pt c (Memref.whole cc0_scratch0) f)
    ∗ (∃ f : Bf (F := F) c (Memref.whole cc0_scratch1), ⌜(Memref.whole cc0_scratch1).view.read (Elt F) f = cV m c t⌝ ∗ pt c (Memref.whole cc0_scratch1) f)) ∗ ∃ r, prngReg c r) := by
  dsimp only [rd]; unfold Phi; rw [if_neg h]
  have e : t = pd u := Fin.ext ht
  rw [e]

theorem finds_0 (c : Dev nD) (t : Fin cfg0.N) (Y) (h : (rd m c).Finds 0 t Y) : Y = Bq m c t := by
  obtain ⟨d, rfl⟩ := ((rd m c).finds_of_fetch (fetch0_0 t) Y).1 h
  unfold RDat.fetched RDat.blockOf Bq iblk; rw [A_eq]; rfl
theorem finds_1 (c : Dev nD) (t : Fin cfg0.N) (Y) (h : (rd m c).Finds 1 t Y) : Y = Bkc m c t := by
  obtain ⟨d, rfl⟩ := ((rd m c).finds_of_fetch (fetch0_1 t) Y).1 h
  unfold RDat.fetched RDat.blockOf Bkc iblk; rw [A_eq]; rfl
theorem finds_2 (c : Dev nD) (t : Fin cfg0.N) (Y) (h : (rd m c).Finds 2 t Y) : Y = Bkp m c t := by
  have key : ∀ (u : Fin cfg0.N) (hu : u.val % 2 = 0) (Z), (rd m c).Finds 2 u Z → Z = iblk m c 2 u := fun u hu Z hZ => by
    obtain ⟨d, rfl⟩ := ((rd m c).finds_of_fetch ((fetch0_2 u).2 hu) Z).1 hZ
    unfold RDat.fetched RDat.blockOf iblk; rw [A_eq]; rfl
  unfold Bkp
  by_cases hp : t.val % 2 = 0
  · have e : ev t = t := Fin.ext (by show t.val - t.val % 2 = t.val; omega)
    rw [e]; exact key t hp Y h
  · have hf : (cfg0.win 2).fetch t = false := eq_false_of_ne_true fun h' => hp ((fetch0_2 t).1 h')
    have e : ev t = ⟨t.val - 1, Nat.lt_of_le_of_lt (Nat.sub_le _ _) t.isLt⟩ := Fin.ext (by show t.val - t.val % 2 = t.val - 1; omega)
    rw [e]
    rcases ((rd m c).finds_of_pos hf (by omega) Y).1 h with hfl | ⟨Z, hZ, hY⟩
    · exact absurd hfl (by rw [show (cfg0.win 2).flush _ = false from rfl]; decide)
    · have hY' : Y = Z := hY
      rw [hY']; exact key _ (by show (t.val - 1) % 2 = 0; omega) Z hZ
theorem finds_3 (c : Dev nD) (t : Fin cfg0.N) (Y) (h : (rd m c).Finds 3 t Y) : Y = Bvc m c t := by
  obtain ⟨d, rfl⟩ := ((rd m c).finds_of_fetch (fetch0_3 t) Y).1 h
  unfold RDat.fetched RDat.blockOf Bvc iblk; rw [A_eq]; rfl
theorem finds_4 (c : Dev nD) (t : Fin cfg0.N) (Y) (h : (rd m c).Finds 4 t Y) : Y = Bvp m c t := by
  have key : ∀ (u : Fin cfg0.N) (hu : u.val % 2 = 0) (Z), (rd m c).Finds 4 u Z → Z = iblk m c 4 u := fun u hu Z hZ => by
    obtain ⟨d, rfl⟩ := ((rd m c).finds_of_fetch ((fetch0_4 u).2 hu) Z).1 hZ
    unfold RDat.fetched RDat.blockOf iblk; rw [A_eq]; rfl
  unfold Bvp
  by_cases hp : t.val % 2 = 0
  · have e : ev t = t := Fin.ext (by show t.val - t.val % 2 = t.val; omega)
    rw [e]; exact key t hp Y h
  · have hf : (cfg0.win 4).fetch t = false := eq_false_of_ne_true fun h' => hp ((fetch0_4 t).1 h')
    have e : ev t = ⟨t.val - 1, Nat.lt_of_le_of_lt (Nat.sub_le _ _) t.isLt⟩ := Fin.ext (by show t.val - t.val % 2 = t.val - 1; omega)
    rw [e]
    rcases ((rd m c).finds_of_pos hf (by omega) Y).1 h with hfl | ⟨Z, hZ, hY⟩
    · exact absurd hfl (by rw [show (cfg0.win 4).flush _ = false from rfl]; decide)
    · have hY' : Y = Z := hY
      rw [hY']; exact key _ (by show (t.val - 1) % 2 = 0; omega) Z hZ
theorem finds_5 (c : Dev nD) (t : Fin cfg0.N) (Y) (h : (rd m c).Finds 5 t Y) : Y = Bg m c t := by
  obtain ⟨d, rfl⟩ := ((rd m c).finds_of_fetch (fetch0_5 t) Y).1 h
  unfold RDat.fetched RDat.blockOf Bg iblk; rw [A_eq]; rfl
theorem finds_6 (c : Dev nD) (t : Fin cfg0.N) (Y) (h : (rd m c).Finds 6 t Y) : Y = Bo m c t := by
  obtain ⟨d, rfl⟩ := ((rd m c).finds_of_fetch (fetch0_6 t) Y).1 h
  unfold RDat.fetched RDat.blockOf Bo iblk; rw [A_eq]; rfl
theorem finds_7 (c : Dev nD) (t : Fin cfg0.N) (Y) (h : (rd m c).Finds 7 t Y) : Y = Bl m c t := by
  obtain ⟨d, rfl⟩ := ((rd m c).finds_of_fetch (fetch0_7 t) Y).1 h
  unfold RDat.fetched RDat.blockOf Bl iblk; rw [A_eq]; rfl

def bodyPre (c : Dev nD) (t : Fin cfg0.N) (Y : (w : Fin cfg0.W) → (cfg0.win w).block.Idx → Elt F (cfg0.win w).elt) : sProp 𝕄 :=
  iprop((rd m c).Φ t.castSucc ∗ (rd m c).owesAt () t.castSucc
    ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))
def bodyPost (c : Dev nD) (t : Fin cfg0.N) (Y : (w : Fin cfg0.W) → (cfg0.win w).block.Idx → Elt F (cfg0.win w).elt) : sProp 𝕄 :=
  iprop((rd m c).Φ t.succ ∗ (rd m c).owesAt () t.succ
    ∗ (∃ X, ⌜(rd m c).after 0 t (Y 0) X⌝ ∗ owns (c : Thread nD τ) (st0_0 t) fullShare X) ∗ (∃ X, ⌜(rd m c).after 1 t (Y 1) X⌝ ∗ owns (c : Thread nD τ) (st0_1 t) fullShare X) ∗ (∃ X, ⌜(rd m c).after 2 t (Y 2) X⌝ ∗ owns (c : Thread nD τ) (st0_2 t) fullShare X) ∗ (∃ X, ⌜(rd m c).after 3 t (Y 3) X⌝ ∗ owns (c : Thread nD τ) (st0_3 t) fullShare X) ∗ (∃ X, ⌜(rd m c).after 4 t (Y 4) X⌝ ∗ owns (c : Thread nD τ) (st0_4 t) fullShare X) ∗ (∃ X, ⌜(rd m c).after 5 t (Y 5) X⌝ ∗ owns (c : Thread nD τ) (st0_5 t) fullShare X) ∗ (∃ X, ⌜(rd m c).after 6 t (Y 6) X⌝ ∗ owns (c : Thread nD τ) (st0_6 t) fullShare X) ∗ (∃ X, ⌜(rd m c).after 7 t (Y 7) X⌝ ∗ owns (c : Thread nD τ) (st0_7 t) fullShare X) ∗ (∃ X, ⌜(rd m c).after 8 t (Y 8) X⌝ ∗ owns (c : Thread nD τ) (st0_8 t) fullShare X) ∗ (∃ X, ⌜(rd m c).after 9 t (Y 9) X⌝ ∗ owns (c : Thread nD τ) (st0_9 t) fullShare X) ∗ (∃ X, ⌜(rd m c).after 10 t (Y 10) X⌝ ∗ owns (c : Thread nD τ) (st0_10 t) fullShare X))

set_option maxHeartbeats 3200000 in
theorem sound_body (c : Dev nD) (t : Fin cfg0.N) (Y : (w : Fin cfg0.W) → (cfg0.win w).block.Idx → Elt F (cfg0.win w).elt) (hF : ∀ w, (rd m c).Finds w t (Y w)) :
    bodyPre m c t Y ⊢ wp frame (wpE (defs₀ (F := F)) Variants.none c none) Set.univ (bodyAt0 t) (fun _ => bodyPost m c t Y) := by
  have hY0 : Y 0 = Bq m c t := finds_0 m c t _ (hF 0)
  have hY1 : Y 1 = Bkc m c t := finds_1 m c t _ (hF 1)
  have hY2 : Y 2 = Bkp m c t := finds_2 m c t _ (hF 2)
  have hY3 : Y 3 = Bvc m c t := finds_3 m c t _ (hF 3)
  have hY4 : Y 4 = Bvp m c t := finds_4 m c t _ (hF 4)
  have hY5 : Y 5 = Bg m c t := finds_5 m c t _ (hF 5)
  have hY6 : Y 6 = Bo m c t := finds_6 m c t _ (hF 6)
  have hY7 : Y 7 = Bl m c t := finds_7 m c t _ (hF 7)
  unfold bodyPre bodyPost bodyAt0
  unfold RDat.owesAt Pipeline.owesWithin
  rw [show (rd m c).owed t.castSucc = 0 from rfl, show (rd m c).owed t.succ = 0 from rfl]
  rcases em (t.val % 2 = 0) with hp | hp
  · obtain ⟨h1, h2, h3⟩ := conds_even t hp
    rw [Phi_even m c t.castSucc hp, Phi_odd m c t.succ t (by show ¬ (t.val + 1) % 2 = 0; omega) (by show t.val = t.val + 1 - 1; omega)]
    unfold Pipeline.ΦA
    rw [scopedRest0_eq]
    rw [hY0, hY1, hY2, hY3, hY4, hY5, hY6, hY7]
    iintro ⟨⟨⟨⟨%fck, Hck⟩, ⟨%fcv, Hcv⟩⟩, Hp⟩, ⟨%W, -, HW⟩, H0, H1, H2, H3, H4, H5, H6, H7, H8, H9, H10⟩
    iapply (step0 c (grid0.coords t) h1 h2 h3 _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (Memref.isWhole_whole cc0_scratch0) _ (Memref.isWhole_whole cc0_scratch1) (Bq m c t) (Bkc m c t) (Bkp m c t) (Bvc m c t) (Bvp m c t) (Bg m c t) (Bo m c t) (Bl m c t) (Y 8) (Y 9) (Y 10) fck fcv Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hck]; · iexact Hck
    isplitl [Hcv]; · iexact Hcv
    iintro ⟨H0, H1, H2, H3, H4, H5, H6, H7, H8, ⟨%X9, H9⟩, ⟨%X10, H10⟩, Hck, Hcv⟩
    isplitl [Hck Hcv Hp]
    · isplitl [Hck Hcv]
      · isplitl [Hck]; · iexact Hck
        iexact Hcv
      iexact Hp
    isplitl [HW]
    · iexists W; isplitr; · ipureintro; exact fun _ _ => Or.inl trivial
      iexact HW
    isplitl [H0]
    · iexists (Bq m c t); isplitr; · ipureintro; exact rfl
      iexact H0
    isplitl [H1]
    · iexists (Bkc m c t); isplitr; · ipureintro; exact rfl
      iexact H1
    isplitl [H2]
    · iexists (Bkp m c t); isplitr; · ipureintro; exact rfl
      iexact H2
    isplitl [H3]
    · iexists (Bvc m c t); isplitr; · ipureintro; exact rfl
      iexact H3
    isplitl [H4]
    · iexists (Bvp m c t); isplitr; · ipureintro; exact rfl
      iexact H4
    isplitl [H5]
    · iexists (Bg m c t); isplitr; · ipureintro; exact rfl
      iexact H5
    isplitl [H6]
    · iexists (Bo m c t); isplitr; · ipureintro; exact rfl
      iexact H6
    isplitl [H7]
    · iexists (Bl m c t); isplitr; · ipureintro; exact rfl
      iexact H7
    isplitl [H8]
    · iexists (oQ m c t); isplitr; · ipureintro; exact rfl
      iexact H8
    isplitl [H9]
    · iexists X9; isplitr; · ipureintro; exact fun h => absurd hp h
      iexact H9
    iexists X10; isplitr; · ipureintro; exact fun h => absurd hp h
    iexact H10
  · obtain ⟨h1, h2, h3⟩ := conds_odd t hp
    rw [Phi_odd m c t.castSucc (pv t) hp (by show t.val - 1 = t.val - 1; rfl), Phi_even m c t.succ (by show (t.val + 1) % 2 = 0; omega)]
    unfold Pipeline.ΦA
    rw [scopedRest0_eq]
    rw [hY0, hY1, hY2, hY3, hY4, hY5, hY6, hY7]
    iintro ⟨⟨⟨⟨%fck, %eck, Hck⟩, ⟨%fcv, %ecv, Hcv⟩⟩, Hp⟩, ⟨%W, -, HW⟩, H0, H1, H2, H3, H4, H5, H6, H7, H8, H9, H10⟩
    iapply (step1 c (grid0.coords t) h1 h2 h3 _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (Memref.isWhole_whole cc0_scratch0) _ (Memref.isWhole_whole cc0_scratch1) (Bq m c t) (Bkc m c t) (Bkp m c t) (Bvc m c t) (Bvp m c t) (Bg m c t) (Bo m c t) (Bl m c t) (Y 8) (Y 9) (Y 10) fck fcv _ _ eck ecv Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hck]; · iexact Hck
    isplitl [Hcv]; · iexact Hcv
    iintro ⟨H0, H1, H2, H3, H4, H5, H6, H7, H8, H9, H10, ⟨%fk, Hck⟩, ⟨%fv, Hcv⟩⟩
    isplitl [Hck Hcv Hp]
    · isplitl [Hck Hcv]
      · isplitl [Hck]; · iexists _; iexact Hck
        iexists _; iexact Hcv
      iexact Hp
    isplitl [HW]
    · iexists W; isplitr; · ipureintro; exact fun _ _ => Or.inl trivial
      iexact HW
    isplitl [H0]
    · iexists (Bq m c t); isplitr; · ipureintro; exact rfl
      iexact H0
    isplitl [H1]
    · iexists (Bkc m c t); isplitr; · ipureintro; exact rfl
      iexact H1
    isplitl [H2]
    · iexists (Bkp m c t); isplitr; · ipureintro; exact rfl
      iexact H2
    isplitl [H3]
    · iexists (Bvc m c t); isplitr; · ipureintro; exact rfl
      iexact H3
    isplitl [H4]
    · iexists (Bvp m c t); isplitr; · ipureintro; exact rfl
      iexact H4
    isplitl [H5]
    · iexists (Bg m c t); isplitr; · ipureintro; exact rfl
      iexact H5
    isplitl [H6]
    · iexists (Bo m c t); isplitr; · ipureintro; exact rfl
      iexact H6
    isplitl [H7]
    · iexists (Bl m c t); isplitr; · ipureintro; exact rfl
      iexact H7
    isplitl [H8]
    · iexists (oQ m c t); isplitr; · ipureintro; exact rfl
      iexact H8
    isplitl [H9]
    · iexists (oK m c t); isplitr; · ipureintro; exact fun _ => rfl
      iexact H9
    iexists (oV m c t); isplitr; · ipureintro; exact fun _ => rfl
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rd (F := F) m c).BodyObligation (defs₀ (F := F)) Variants.none () Set.univ   := fun t Y hF => by
  rw [bigSep_W0, bigSep_W0, defs₀_row]
  exact triple_restated (sound_body m c t Y hF) rfl .rfl fun _ => .rfl

set_option backward.isDefEq.respectTransparency.types false in
theorem run_main : θ_run defs (onTc (τ := τ) (main (F := F))) (s₀ m ρ) (fun r => RDat.FramePost cfg0 (rd m) (V m) r ∧ r.2.sem = fun _ => 0) :=
  RDat.θ_run_frame_track_shared (Q' := _) cfgs (0 : Fin 1) launch₀0 defs₀ Variants.none (rd m) m ρ main
    (hbody := body_obligation m) (hq := fun c w _ => q_eq m c w) (howed := fun c t => owed_eq m c t) (V := V m) (hmain := hmain m Variants.none)
    (hA := A_eq m) (hin := fun c => by rw [Phi_even m c 0 rfl]) (hout := fun c => by rw [Phi_even m c (Fin.last cfg0.N) rfl])

set_option maxHeartbeats 1600000 in
/-- The frame: the argument arrays end as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ ⟨h, hs⟩ => ⟨fun c => ⟨
      (h.arr_in c 0 rfl).trans (V_main_arg0 m c),
      (h.arr_in c 2 rfl).trans (V_main_arg1 m c),
      (h.arr_in c 4 rfl).trans (V_main_arg2 m c),
      (h.arr_in c 5 rfl).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩, hs⟩) (run_main m ρ)

end Cert.KernelIdeal.Hand

end
-- ==== Proof.Ideal.Real.lean ====
module

public import Mathlib.Analysis.SpecialFunctions.Log.Basic
public import Mathlib.Data.EReal.Operations
public import Mathlib.Algebra.BigOperators.Field

/-! The gradient of one attention branch and of the merge of the branches, over the real numbers: what the reference's
backward pass computes one operation at a time, and what the kernel computes from the merged output and the merged
log-sum. No arrays and no extended reals here. -/

@[expose] public section
noncomputable section

namespace Attn

/-- The arguments as real numbers: queries, keys, values, cotangent, the other two branches' outputs and log-sums, and
    two numbers which the forward pass subtracts under its exponentials. -/
structure Data where
  q : Fin 16 → Fin 256 → Fin 16 → Fin 128 → ℝ
  k : Fin 16 → Fin 256 → Fin 16 → Fin 128 → ℝ
  v : Fin 16 → Fin 256 → Fin 16 → Fin 128 → ℝ
  g : Fin 16 → Fin 256 → Fin 16 → Fin 128 → ℝ
  o1 : Fin 16 → Fin 256 → Fin 16 → Fin 128 → ℝ
  o4 : Fin 16 → Fin 256 → Fin 16 → Fin 128 → ℝ
  l1 : Fin 16 → Fin 256 → Fin 16 → ℝ
  l4 : Fin 16 → Fin 256 → Fin 16 → ℝ
  M : Fin 16 → Fin 16 → Fin 256 → ℝ
  T : Fin 16 → Fin 256 → Fin 16 → ℝ

/-- The heads' slopes. -/
def sl : Fin 16 → ℝ := ![11863283 / 2 ^ 24, 1 / 2, 11863283 / 2 ^ 25, 1 / 4, 11863283 / 2 ^ 26, 1 / 8, 11863283 / 2 ^ 27,
  1 / 16, 11863283 / 2 ^ 28, 1 / 32, 11863283 / 2 ^ 29, 1 / 64, 11863283 / 2 ^ 30, 1 / 128, 11863283 / 2 ^ 31, 1 / 256]

/-- The scale of the scores. -/
def sc : ℝ := 11863283 / 2 ^ 27

/-- Key `y` is one of the 129 keys of query `x`. -/
abbrev valid (x y : Fin 256) : Prop := y.val ≤ x.val ∧ x.val ≤ y.val + 128

variable (D : Data)

namespace Data

/-- A score before scaling. -/
def S (r h : Fin 16) (x y : Fin 256) : ℝ := ∑ e : Fin 128, D.q r x h e * D.k r y h e
/-- A logit. -/
def A (r h : Fin 16) (x y : Fin 256) : ℝ := D.S r h x y * sc + -(sl h) * (16 * ((x.val : ℝ) - (y.val : ℝ)))
def E (r h : Fin 16) (x y : Fin 256) : ℝ := if valid x y then Real.exp (D.A r h x y - D.M r h x) else 0
def den (r h : Fin 16) (x : Fin 256) : ℝ := ∑ y : Fin 256, D.E r h x y
def P (r h : Fin 16) (x y : Fin 256) : ℝ := D.E r h x y / D.den r h x
def o (r h : Fin 16) (x : Fin 256) (e : Fin 128) : ℝ := ∑ y : Fin 256, D.v r y h e * D.P r h x y
def lse (r h : Fin 16) (x : Fin 256) : ℝ := D.M r h x + Real.log (D.den r h x)
def l (i : Fin 3) (r : Fin 16) (x : Fin 256) (h : Fin 16) : ℝ :=
  if i.val = 0 then D.l1 r x h else if i.val = 1 then D.l4 r x h else D.lse r h x
def ob (i : Fin 3) (r : Fin 16) (x : Fin 256) (h : Fin 16) (e : Fin 128) : ℝ :=
  if i.val = 0 then D.o1 r x h e else if i.val = 1 then D.o4 r x h e else D.o r h x e
def X (i : Fin 3) (r : Fin 16) (x : Fin 256) (h : Fin 16) : ℝ := Real.exp (D.l i r x h - D.T r x h)
def Z (r : Fin 16) (x : Fin 256) (h : Fin 16) : ℝ := ∑ i : Fin 3, D.X i r x h
def w (i : Fin 3) (r : Fin 16) (x : Fin 256) (h : Fin 16) : ℝ := D.X i r x h / D.Z r x h
def att (r : Fin 16) (x : Fin 256) (h : Fin 16) (e : Fin 128) : ℝ := ∑ i : Fin 3, D.w i r x h * D.ob i r x h e
def u (i : Fin 3) (r : Fin 16) (x : Fin 256) (h : Fin 16) : ℝ := ∑ e : Fin 128, D.g r x h e * D.ob i r x h e
/-- The product of the cotangent with the merged output, summed over a head. -/
def delta (r : Fin 16) (x : Fin 256) (h : Fin 16) : ℝ := ∑ e : Fin 128, D.g r x h e * D.att r x h e
def dp (r h : Fin 16) (x y : Fin 256) : ℝ := ∑ e : Fin 128, D.g r x h e * D.v r y h e
/-- The cotangent of the branch's log-sum through the merge's weights, as the reference computes it. -/
def dl (r : Fin 16) (x : Fin 256) (h : Fin 16) : ℝ :=
  (D.u 2 r x h / D.Z r x h + -(∑ i : Fin 3, D.u i r x h * (1 / (D.Z r x h * D.Z r x h)) * D.X i r x h)) * D.X 2 r x h
/-- The cotangent of the probabilities. -/
def dP (r h : Fin 16) (x y : Fin 256) : ℝ := ∑ e : Fin 128, (D.w 2 r x h * D.g r x h e) * D.v r y h e
/-- The cotangent of a logit before the maximum's share. -/
def dA (r h : Fin 16) (x y : Fin 256) : ℝ :=
  (D.dP r h x y / D.den r h x + (D.dl r x h / D.den r h x
    + -(∑ z : Fin 256, D.dP r h x z * (1 / (D.den r h x * D.den r h x)) * D.E r h x z))) * D.E r h x y

/-- The logarithm of the sum of the exponentials of the three log-sums. -/
def LM (r : Fin 16) (x : Fin 256) (h : Fin 16) : ℝ := Real.log (∑ i : Fin 3, Real.exp (D.l i r x h))
/-- The kernel's probabilities. -/
def p (r h : Fin 16) (x y : Fin 256) : ℝ := if valid x y then Real.exp (D.A r h x y - D.LM r x h) else 0
/-- The kernel's cotangent of a logit. -/
def ds (r h : Fin 16) (x y : Fin 256) : ℝ := D.p r h x y * (D.dp r h x y - D.delta r x h)

theorem E_nonneg (r h : Fin 16) (x y : Fin 256) : 0 ≤ D.E r h x y := by
  unfold E; split_ifs <;> positivity
theorem den_pos (r h : Fin 16) (x : Fin 256) : 0 < D.den r h x := by
  refine Finset.sum_pos' (fun y _ => D.E_nonneg r h x y) ⟨x, Finset.mem_univ _, ?_⟩
  unfold E; rw [if_pos ⟨le_rfl, by omega⟩]; positivity
theorem den_ne (r h : Fin 16) (x : Fin 256) : D.den r h x ≠ 0 := (D.den_pos r h x).ne'
theorem X_pos (i : Fin 3) (r : Fin 16) (x : Fin 256) (h : Fin 16) : 0 < D.X i r x h := Real.exp_pos _
theorem Z_pos (r : Fin 16) (x : Fin 256) (h : Fin 16) : 0 < D.Z r x h :=
  Finset.sum_pos (fun i _ => D.X_pos i r x h) ⟨0, Finset.mem_univ _⟩
theorem Z_ne (r : Fin 16) (x : Fin 256) (h : Fin 16) : D.Z r x h ≠ 0 := (D.Z_pos r x h).ne'

theorem P_sum (r h : Fin 16) (x : Fin 256) : ∑ y : Fin 256, D.P r h x y = 1 := by
  unfold P; rw [← Finset.sum_div]; exact div_self (D.den_ne r h x)

theorem exp_LM (r : Fin 16) (x : Fin 256) (h : Fin 16) :
    Real.exp (D.LM r x h) = Real.exp (D.T r x h) * D.Z r x h := by
  unfold LM Z X
  rw [Real.exp_log (Finset.sum_pos (fun i _ => Real.exp_pos _) ⟨0, Finset.mem_univ _⟩), Finset.mul_sum]
  refine Finset.sum_congr rfl fun i _ => ?_
  rw [← Real.exp_add]; congr 1; ring

/-- The kernel's probabilities are the branch's own, times the branch's weight. -/
theorem p_eq (r h : Fin 16) (x y : Fin 256) : D.p r h x y = D.w 2 r x h * D.P r h x y := by
  unfold p P E w
  by_cases hv : valid x y
  · rw [if_pos hv, if_pos hv, Real.exp_sub, exp_LM]
    have e : D.X 2 r x h = Real.exp (D.M r h x) * D.den r h x / Real.exp (D.T r x h) := by
      unfold X l lse
      rw [if_neg (by decide), if_neg (by decide), Real.exp_sub, Real.exp_add, Real.exp_log (D.den_pos r h x)]
    rw [e, Real.exp_sub]
    have h1 := D.den_ne r h x
    have h2 := D.Z_ne r x h
    have h3 := (Real.exp_pos (D.T r x h)).ne'
    have h4 := (Real.exp_pos (D.M r h x)).ne'
    field_simp
  · rw [if_neg hv, if_neg hv]; simp

theorem dP_eq (r h : Fin 16) (x y : Fin 256) : D.dP r h x y = D.w 2 r x h * D.dp r h x y := by
  unfold dP dp; rw [Finset.mul_sum]; exact Finset.sum_congr rfl fun e _ => by ring

theorem delta_eq (r : Fin 16) (x : Fin 256) (h : Fin 16) : D.delta r x h = ∑ i : Fin 3, D.w i r x h * D.u i r x h := by
  unfold delta att u
  simp only [Finset.mul_sum]
  rw [Finset.sum_comm]
  exact Finset.sum_congr rfl fun i _ => Finset.sum_congr rfl fun e _ => by ring

theorem u_eq (r : Fin 16) (x : Fin 256) (h : Fin 16) : D.u 2 r x h = ∑ y : Fin 256, D.P r h x y * D.dp r h x y := by
  unfold u dp
  have e : ∀ e : Fin 128, D.ob 2 r x h e = D.o r h x e := fun e => by
    unfold ob; rw [if_neg (by decide), if_neg (by decide)]
  simp only [e, o, Finset.mul_sum]
  rw [Finset.sum_comm]
  exact Finset.sum_congr rfl fun i _ => Finset.sum_congr rfl fun e _ => by ring

theorem dl_eq (r : Fin 16) (x : Fin 256) (h : Fin 16) : D.dl r x h = D.w 2 r x h * (D.u 2 r x h - D.delta r x h) := by
  rw [delta_eq]
  have hz := D.Z_ne r x h
  have e : ∑ i : Fin 3, D.w i r x h * D.u i r x h
      = D.Z r x h * ∑ i : Fin 3, D.u i r x h * (1 / (D.Z r x h * D.Z r x h)) * D.X i r x h := by
    rw [Finset.mul_sum]; refine Finset.sum_congr rfl fun i _ => ?_
    unfold w; field_simp
  rw [e]; unfold dl w; field_simp; ring

/-- The reference's cotangent of a logit is the kernel's. -/
theorem dA_eq (r h : Fin 16) (x y : Fin 256) : D.dA r h x y = D.ds r h x y := by
  have hd := D.den_ne r h x
  have e : ∑ z : Fin 256, D.dP r h x z * (1 / (D.den r h x * D.den r h x)) * D.E r h x z
      = D.w 2 r x h * D.u 2 r x h / D.den r h x := by
    rw [u_eq, Finset.mul_sum, Finset.sum_div]
    refine Finset.sum_congr rfl fun z _ => ?_
    rw [dP_eq]; unfold P; field_simp
  unfold dA ds
  rw [e, p_eq, dP_eq, dl_eq]; unfold P; field_simp; ring

/-- The maximum has no share: the cotangent of the log-sum is used up. -/
theorem rest_zero (r h : Fin 16) (x : Fin 256) : D.dl r x h + -(∑ y : Fin 256, D.dA r h x y) = 0 := by
  have e : ∑ y : Fin 256, D.dA r h x y = D.w 2 r x h * (∑ y : Fin 256, D.P r h x y * D.dp r h x y)
      - D.w 2 r x h * D.delta r x h * ∑ y : Fin 256, D.P r h x y := by
    rw [Finset.mul_sum, Finset.mul_sum, ← Finset.sum_sub_distrib]
    refine Finset.sum_congr rfl fun y _ => ?_
    rw [dA_eq]; unfold ds; rw [p_eq]; ring
  rw [e, P_sum, ← u_eq, dl_eq]; ring

theorem ds_invalid (r h : Fin 16) (x y : Fin 256) (hv : ¬ valid x y) : D.ds r h x y = 0 := by
  unfold ds p; rw [if_neg hv, zero_mul]
theorem p_invalid (r h : Fin 16) (x y : Fin 256) (hv : ¬ valid x y) : D.p r h x y = 0 := by
  unfold p; rw [if_neg hv]

/-! ### Names for the reference's intermediate values -/

/-- Whether the key's logit is the number under the exponentials: 1 or 0. -/
def top (r h : Fin 16) (x y : Fin 256) : ℝ := if valid x y ∧ D.A r h x y = D.M r h x then 1 else 0
/-- The cotangent times a branch's weight. -/
def wg (i : Fin 3) (r : Fin 16) (x : Fin 256) (h : Fin 16) (e : Fin 128) : ℝ := D.w i r x h * D.g r x h e
def uz (r : Fin 16) (x : Fin 256) (h : Fin 16) : ℝ :=
  ∑ i : Fin 3, D.u i r x h * (1 / (D.Z r x h * D.Z r x h)) * D.X i r x h
def dli (i : Fin 3) (r : Fin 16) (x : Fin 256) (h : Fin 16) : ℝ := (D.u i r x h / D.Z r x h + -(D.uz r x h)) * D.X i r x h
def dE (r h : Fin 16) (x : Fin 256) : ℝ :=
  ∑ z : Fin 256, D.dP r h x z * (1 / (D.den r h x * D.den r h x)) * D.E r h x z
def ndA (r h : Fin 16) (x : Fin 256) : ℝ := ∑ y : Fin 256, -(D.dA r h x y)
/-- The three gradients. -/
def dq (r : Fin 16) (x : Fin 256) (h : Fin 16) (e : Fin 128) : ℝ := ∑ y : Fin 256, (D.ds r h x y * sc) * D.k r y h e
def dk (r : Fin 16) (y : Fin 256) (h : Fin 16) (e : Fin 128) : ℝ := ∑ x : Fin 256, (D.ds r h x y * sc) * D.q r x h e
def dv (r : Fin 16) (y : Fin 256) (h : Fin 16) (e : Fin 128) : ℝ := ∑ x : Fin 256, D.wg 2 r x h e * D.P r h x y

theorem rest_zero' (r h : Fin 16) (x : Fin 256) : D.dl r x h + D.ndA r h x = 0 := by
  unfold ndA; rw [Finset.sum_neg_distrib]; exact D.rest_zero r h x

theorem l_at (n : ℕ) (i : Fin 3) (hi : i.val = n) (r : Fin 16) (x : Fin 256) (h : Fin 16) :
    D.l i r x h = if n = 0 then D.l1 r x h else if n = 1 then D.l4 r x h else D.lse r h x := by subst hi; rfl
theorem ob_at (n : ℕ) (i : Fin 3) (hi : i.val = n) (r : Fin 16) (x : Fin 256) (h : Fin 16) (e : Fin 128) :
    D.ob i r x h e = if n = 0 then D.o1 r x h e else if n = 1 then D.o4 r x h e else D.o r h x e := by subst hi; rfl

/-- The gradient of the values is also what the kernel sums. -/
theorem dv_eq (r : Fin 16) (y : Fin 256) (h : Fin 16) (e : Fin 128) : D.dv r y h e = ∑ x : Fin 256, D.p r h x y * D.g r x h e := by
  unfold dv wg; exact Finset.sum_congr rfl fun x _ => by rw [p_eq]; ring

end Data
end Attn
-- ==== Proof.Ideal.RefA.lean ====
module

public import proofs.«01_k».proof.Proof.Gen.ReferenceIdeal.Read
public import proofs.«01_k».proof.Proof.Ideal.Real
public import Idealize.ShloMosaic.Lib.IdealHost

/-! The reference's forward lines up to the masked logits, as real numbers. -/

@[expose] public section
noncomputable section

namespace Cert.ReferenceIdeal.Hand

open Idealize.ShloMosaic Idealize.SL Idealize.ShloMosaic.StableHlo Idealize.SL.Sem
open Cert.ReferenceIdeal Cert.ReferenceIdeal.Gen Cert.ReferenceIdeal.Read Attn

/-- The array index of query or key `x`, head `h`, lane `e`. -/
def at3 (r : Fin 16) (x : Fin 256) (h : Fin 16) (e : Fin 128) : S16x256x2048.Idx := fun a => match a with
  | ⟨0, _⟩ => r
  | ⟨1, _⟩ => x
  | ⟨2, _⟩ => (⟨128 * h.val + e.val, by have := h.isLt; have := e.isLt; omega⟩ : Fin 2048)

/-- The head and the lane of a column. -/
def hd (n : Fin 2048) : Fin 16 := ⟨n.val / 128, by have := n.isLt; omega⟩
def ln (n : Fin 2048) : Fin 128 := ⟨n.val % 128, by omega⟩

/-- The arguments are these real numbers. -/
structure Args (D : Data) (x0 x1 x2 x3 x4 : (⟨S16x256x2048, .bf16⟩ : BufTy).Contents (Elt Ideal)) (x5 : (⟨S16x256x16, .f32⟩ : BufTy).Contents (Elt Ideal))
    (x6 : (⟨S16x256x2048, .bf16⟩ : BufTy).Contents (Elt Ideal)) (x7 : (⟨S16x256x16, .f32⟩ : BufTy).Contents (Elt Ideal)) : Prop where
  h0 : ∀ r x h e, x0 (at3 r x h e) = ((D.q r x h e : ℝ) : EReal)
  h1 : ∀ r x h e, x1 (at3 r x h e) = ((D.k r x h e : ℝ) : EReal)
  h2 : ∀ r x h e, x2 (at3 r x h e) = ((D.v r x h e : ℝ) : EReal)
  h3 : ∀ r x h e, x3 (at3 r x h e) = ((D.g r x h e : ℝ) : EReal)
  h4 : ∀ r x h e, x4 (at3 r x h e) = ((D.o1 r x h e : ℝ) : EReal)
  h6 : ∀ r x h e, x6 (at3 r x h e) = ((D.o4 r x h e : ℝ) : EReal)
  h5 : ∀ i : S16x256x16.Idx, x5 i = ((D.l1 (i 0) (i 1) (i 2) : ℝ) : EReal)
  h7 : ∀ i : S16x256x16.Idx, x7 i = ((D.l4 (i 0) (i 1) (i 2) : ℝ) : EReal)

/-! ### Operations on real numbers among the extended ones -/

theorem mul2 {a b : EReal} {p q : ℝ} (ha : a = (p : EReal)) (hb : b = (q : EReal)) : a * b = ((p * q : ℝ) : EReal) := by
  rw [ha, hb, EReal.coe_mul]
theorem add2 {a b : EReal} {p q : ℝ} (ha : a = (p : EReal)) (hb : b = (q : EReal)) : a + b = ((p + q : ℝ) : EReal) := by
  rw [ha, hb, EReal.coe_add]
theorem sub2 {a b : EReal} {p q : ℝ} (ha : a = (p : EReal)) (hb : b = (q : EReal)) : a - b = ((p - q : ℝ) : EReal) := by
  rw [ha, hb, EReal.coe_sub]
theorem neg1 {a : EReal} {p : ℝ} (ha : a = (p : EReal)) : -a = ((-p : ℝ) : EReal) := by
  rw [ha, EReal.coe_neg]
theorem div2 {a b : EReal} {p q : ℝ} (ha : a = (p : EReal)) (hb : b = (q : EReal)) (hq : q ≠ 0) :
    Ideal.div a b = ((p / q : ℝ) : EReal) := by
  rw [ha, hb, Ideal.div_coe hq, ← EReal.coe_mul, mul_one_div]
theorem exp1 {a : EReal} {p : ℝ} (ha : a = (p : EReal)) : Ideal.exp a = ((Real.exp p : ℝ) : EReal) := by
  rw [ha, Ideal.exp_coe]
theorem log1 {a : EReal} {p : ℝ} (ha : a = (p : EReal)) (hp : 0 < p) : Ideal.log a = ((Real.log p : ℝ) : EReal) := by
  rw [ha, Ideal.log_coe, if_neg (not_le.2 hp)]
theorem coe_sum {n : ℕ} (s : Finset (Fin n)) (f : Fin n → ℝ) : ∑ k ∈ s, ((f k : ℝ) : EReal) = ((∑ k ∈ s, f k : ℝ) : EReal) := by
  induction s using Finset.induction_on with
  | empty => simp
  | insert a s ha ih => rw [Finset.sum_insert ha, Finset.sum_insert ha, ih, EReal.coe_add]
theorem sum1 {n : ℕ} {c : EReal} {f : Fin n → EReal} {g : Fin n → ℝ} (hc : c = 0) (hf : ∀ k, f k = ((g k : ℝ) : EReal)) :
    c + ∑ k : Fin n, f k = ((∑ k : Fin n, g k : ℝ) : EReal) := by
  rw [hc, zero_add, ← coe_sum]; exact Finset.sum_congr rfl fun k _ => hf k
theorem sum_one {c : EReal} {f : Fin 1 → EReal} {p : ℝ} (hc : c = 0) (hf : f 0 = (p : EReal)) :
    c + ∑ k : Fin 1, f k = (p : EReal) := by
  rw [hc, zero_add, Fin.sum_univ_one, hf]
theorem dot1 {n : ℕ} {f g : Fin n → EReal} {p q : Fin n → ℝ} (hf : ∀ k, f k = ((p k : ℝ) : EReal)) (hg : ∀ k, g k = ((q k : ℝ) : EReal)) :
    ∑ k : Fin n, f k * g k = ((∑ k : Fin n, p k * q k : ℝ) : EReal) := by
  rw [← coe_sum]; exact Finset.sum_congr rfl fun k _ => mul2 (hf k) (hg k)

theorem z32 : (FloatOps.ofBits (F := Ideal) .f32 0x00000000#32 : EReal) = 0 := by
  show Ideal.ofBits .f32 0x00000000#32 = 0
  simp [Ideal.ofBits, Ideal.ieee]
theorem one32 : (FloatOps.ofBits (F := Ideal) .f32 0x3F800000#32 : EReal) = ((1 : ℝ) : EReal) := by
  show Ideal.ofBits .f32 0x3F800000#32 = _
  simp [Ideal.ofBits, Ideal.ieee, -EReal.coe_mul]; norm_num
theorem bot32 : (FloatOps.ofBits (F := Ideal) .f32 0xFF800000#32 : EReal) = ⊥ := by
  show Ideal.ofBits .f32 0xFF800000#32 = _
  simp [Ideal.ofBits, Ideal.ieee]
theorem max_bot32 (x : EReal) : max (FloatOps.ofBits (F := Ideal) .f32 0xFF800000#32 : EReal) x = x := by
  rw [bot32]; exact bot_sup_eq x
theorem c_scale : (FloatOps.ofBits (F := Ideal) .f32 0x3DB504F3#32 : EReal) = ((sc : ℝ) : EReal) := by
  show Ideal.ofBits .f32 0x3DB504F3#32 = _
  simp [Ideal.ofBits, Ideal.ieee, -EReal.coe_mul, sc]; norm_num
theorem slope_0 : (FloatOps.ofBits (F := Ideal) .f32 0x3F3504F3#32 : EReal) = ((sl 0 : ℝ) : EReal) := by
  have e : sl 0 = 11863283 / 2 ^ 24 := rfl
  rw [e]; show Ideal.ofBits .f32 0x3F3504F3#32 = _
  simp [Ideal.ofBits, Ideal.ieee, -EReal.coe_mul]; norm_num
theorem slope_1 : (FloatOps.ofBits (F := Ideal) .f32 0x3F000000#32 : EReal) = ((sl 1 : ℝ) : EReal) := by
  have e : sl 1 = 1 / 2 := rfl
  rw [e]; show Ideal.ofBits .f32 0x3F000000#32 = _
  simp [Ideal.ofBits, Ideal.ieee, -EReal.coe_mul]; norm_num
theorem slope_2 : (FloatOps.ofBits (F := Ideal) .f32 0x3EB504F3#32 : EReal) = ((sl 2 : ℝ) : EReal) := by
  have e : sl 2 = 11863283 / 2 ^ 25 := rfl
  rw [e]; show Ideal.ofBits .f32 0x3EB504F3#32 = _
  simp [Ideal.ofBits, Ideal.ieee, -EReal.coe_mul]; norm_num
theorem slope_3 : (FloatOps.ofBits (F := Ideal) .f32 0x3E800000#32 : EReal) = ((sl 3 : ℝ) : EReal) := by
  have e : sl 3 = 1 / 4 := rfl
  rw [e]; show Ideal.ofBits .f32 0x3E800000#32 = _
  simp [Ideal.ofBits, Ideal.ieee, -EReal.coe_mul]; norm_num
theorem slope_4 : (FloatOps.ofBits (F := Ideal) .f32 0x3E3504F3#32 : EReal) = ((sl 4 : ℝ) : EReal) := by
  have e : sl 4 = 11863283 / 2 ^ 26 := rfl
  rw [e]; show Ideal.ofBits .f32 0x3E3504F3#32 = _
  simp [Ideal.ofBits, Ideal.ieee, -EReal.coe_mul]; norm_num
theorem slope_5 : (FloatOps.ofBits (F := Ideal) .f32 0x3E000000#32 : EReal) = ((sl 5 : ℝ) : EReal) := by
  have e : sl 5 = 1 / 8 := rfl
  rw [e]; show Ideal.ofBits .f32 0x3E000000#32 = _
  simp [Ideal.ofBits, Ideal.ieee, -EReal.coe_mul]; norm_num
theorem slope_6 : (FloatOps.ofBits (F := Ideal) .f32 0x3DB504F3#32 : EReal) = ((sl 6 : ℝ) : EReal) := by
  have e : sl 6 = 11863283 / 2 ^ 27 := rfl
  rw [e]; show Ideal.ofBits .f32 0x3DB504F3#32 = _
  simp [Ideal.ofBits, Ideal.ieee, -EReal.coe_mul]; norm_num
theorem slope_7 : (FloatOps.ofBits (F := Ideal) .f32 0x3D800000#32 : EReal) = ((sl 7 : ℝ) : EReal) := by
  have e : sl 7 = 1 / 16 := rfl
  rw [e]; show Ideal.ofBits .f32 0x3D800000#32 = _
  simp [Ideal.ofBits, Ideal.ieee, -EReal.coe_mul]; norm_num
theorem slope_8 : (FloatOps.ofBits (F := Ideal) .f32 0x3D3504F3#32 : EReal) = ((sl 8 : ℝ) : EReal) := by
  have e : sl 8 = 11863283 / 2 ^ 28 := rfl
  rw [e]; show Ideal.ofBits .f32 0x3D3504F3#32 = _
  simp [Ideal.ofBits, Ideal.ieee, -EReal.coe_mul]; norm_num
theorem slope_9 : (FloatOps.ofBits (F := Ideal) .f32 0x3D000000#32 : EReal) = ((sl 9 : ℝ) : EReal) := by
  have e : sl 9 = 1 / 32 := rfl
  rw [e]; show Ideal.ofBits .f32 0x3D000000#32 = _
  simp [Ideal.ofBits, Ideal.ieee, -EReal.coe_mul]; norm_num
theorem slope_10 : (FloatOps.ofBits (F := Ideal) .f32 0x3CB504F3#32 : EReal) = ((sl 10 : ℝ) : EReal) := by
  have e : sl 10 = 11863283 / 2 ^ 29 := rfl
  rw [e]; show Ideal.ofBits .f32 0x3CB504F3#32 = _
  simp [Ideal.ofBits, Ideal.ieee, -EReal.coe_mul]; norm_num
theorem slope_11 : (FloatOps.ofBits (F := Ideal) .f32 0x3C800000#32 : EReal) = ((sl 11 : ℝ) : EReal) := by
  have e : sl 11 = 1 / 64 := rfl
  rw [e]; show Ideal.ofBits .f32 0x3C800000#32 = _
  simp [Ideal.ofBits, Ideal.ieee, -EReal.coe_mul]; norm_num
theorem slope_12 : (FloatOps.ofBits (F := Ideal) .f32 0x3C3504F3#32 : EReal) = ((sl 12 : ℝ) : EReal) := by
  have e : sl 12 = 11863283 / 2 ^ 30 := rfl
  rw [e]; show Ideal.ofBits .f32 0x3C3504F3#32 = _
  simp [Ideal.ofBits, Ideal.ieee, -EReal.coe_mul]; norm_num
theorem slope_13 : (FloatOps.ofBits (F := Ideal) .f32 0x3C000000#32 : EReal) = ((sl 13 : ℝ) : EReal) := by
  have e : sl 13 = 1 / 128 := rfl
  rw [e]; show Ideal.ofBits .f32 0x3C000000#32 = _
  simp [Ideal.ofBits, Ideal.ieee, -EReal.coe_mul]; norm_num
theorem slope_14 : (FloatOps.ofBits (F := Ideal) .f32 0x3BB504F3#32 : EReal) = ((sl 14 : ℝ) : EReal) := by
  have e : sl 14 = 11863283 / 2 ^ 31 := rfl
  rw [e]; show Ideal.ofBits .f32 0x3BB504F3#32 = _
  simp [Ideal.ofBits, Ideal.ieee, -EReal.coe_mul]; norm_num
theorem slope_15 : (FloatOps.ofBits (F := Ideal) .f32 0x3B800000#32 : EReal) = ((sl 15 : ℝ) : EReal) := by
  have e : sl 15 = 1 / 256 := rfl
  rw [e]; show Ideal.ofBits .f32 0x3B800000#32 = _
  simp [Ideal.ofBits, Ideal.ieee, -EReal.coe_mul]; norm_num

theorem sub_bits (x y : Fin 256) : (BitVec.ofNat 32 x.val - BitVec.ofNat 32 y.val).toInt = (x.val : ℤ) - (y.val : ℤ) := by
  have hx := x.isLt
  have hy := y.isLt
  have o : ∀ n : ℕ, n < 256 → (BitVec.ofNat 32 n).toInt = (n : ℤ) := fun n hn => by
    rw [BitVec.toInt_eq_toNat_cond, BitVec.toNat_ofNat, Nat.mod_eq_of_lt (by omega), if_pos (by omega)]
  rw [BitVec.toInt_sub, o _ hx, o _ hy]
  simp only [Int.bmod_def]
  split_ifs <;> omega

theorem valid_bits (x y : Fin 256) :
    IntOp.andi (IntOp.cmpi .sge (BitVec.ofNat 32 x.val - BitVec.ofNat 32 y.val) 0#32)
      (IntOp.cmpi .sle (BitVec.ofNat 32 x.val - BitVec.ofNat 32 y.val) 128#32) = BitVec.ofBool (decide (valid x y)) := by
  have hx := x.isLt
  have hy := y.isLt
  have h := sub_bits x y
  generalize BitVec.ofNat 32 x.val - BitVec.ofNat 32 y.val = d at h ⊢
  have h1 : (0#32).sle d = decide (y.val ≤ x.val) := by
    rw [BitVec.sle_eq_decide, h]; exact decide_eq_decide.2 (by show (0 : ℤ) ≤ _ ↔ _; omega)
  have h2 : d.sle 128#32 = decide (x.val ≤ y.val + 128) := by
    rw [BitVec.sle_eq_decide, h]; exact decide_eq_decide.2 (by show _ ≤ (128 : ℤ) ↔ _; omega)
  show BitVec.ofBool ((0#32).sle d) &&& BitVec.ofBool (d.sle 128#32) = _
  rw [h1, h2]
  show _ = BitVec.ofBool (decide (y.val ≤ x.val ∧ x.val ≤ y.val + 128))
  rw [Bool.decide_and]
  cases decide (y.val ≤ x.val) <;> cases decide (x.val ≤ y.val + 128) <;> rfl

theorem dist_bits (x y : Fin 256) :
    (FloatOps.sitofp (F := Ideal) .f32 (IntOp.muli 16#32 (BitVec.ofNat 32 x.val - BitVec.ofNat 32 y.val)) : EReal)
      = ((16 * ((x.val : ℝ) - (y.val : ℝ)) : ℝ) : EReal) := by
  have hx := x.isLt
  have hy := y.isLt
  have h := sub_bits x y
  have e : (IntOp.muli 16#32 (BitVec.ofNat 32 x.val - BitVec.ofNat 32 y.val)).toInt = 16 * ((x.val : ℤ) - (y.val : ℤ)) := by
    show (16#32 * _).toInt = _
    rw [BitVec.toInt_mul, h]
    show Int.bmod (16 * _) _ = _
    simp only [Int.bmod_def]
    split_ifs <;> omega
  show ((((IntOp.muli 16#32 (BitVec.ofNat 32 x.val - BitVec.ofNat 32 y.val)).toInt : ℤ) : ℝ) : EReal) = _
  rw [e]; push_cast; rfl

theorem select_bits {p : Prop} [Decidable p] (a b : EReal) {c : EReal} (hc : c = b) :
    (if BitVec.ofBool (decide p) = 1#1 then a else c) = if p then a else b := by
  by_cases h : p <;> simp [h, hc]

theorem fin3 (n : Fin 3) : n.val = 0 ∨ n.val = 1 ∨ n.val = 2 := by have := n.isLt; omega

variable {D : Data} {x0 x1 x2 x3 x4 x6 : (⟨S16x256x2048, .bf16⟩ : BufTy).Contents (Elt Ideal)} {x5 x7 : (⟨S16x256x16, .f32⟩ : BufTy).Contents (Elt Ideal)}

theorem R_v3 (H : Args D x0 x1 x2 x3 x4 x5 x6 x7) (i : S16x256x16x128.Idx) : val_main_v3 (F := Ideal) x0 i = ((D.q (i 0) (i 1) (i 2) (i 3) : ℝ) : EReal) := by
  have h0 : (i 0).val < 16 := (i 0).isLt
  have h1 : (i 1).val < 256 := (i 1).isLt
  have h2 : (i 2).val < 16 := (i 2).isLt
  have h3 : (i 3).val < 128 := (i 3).isLt
  have e : idx_main_v3 i = at3 (i 0) (i 1) (i 2) (i 3) := funext fun a => Fin.ext (by match a with
    | ⟨0, _⟩ => show ((((i 0).val * 256 + (i 1).val) * 16 + (i 2).val) * 128 + (i 3).val) / 524288 = (i 0).val; omega
    | ⟨1, _⟩ => show ((((i 0).val * 256 + (i 1).val) * 16 + (i 2).val) * 128 + (i 3).val) / 2048 % 256 = (i 1).val; omega
    | ⟨2, _⟩ => show ((((i 0).val * 256 + (i 1).val) * 16 + (i 2).val) * 128 + (i 3).val) % 2048 = 128 * (i 2).val + (i 3).val; omega)
  exact (val_main_v3_apply _ i).trans ((congrArg x0 e).trans (H.h0 _ _ _ _))

theorem R_v4 (H : Args D x0 x1 x2 x3 x4 x5 x6 x7) (i : S16x256x16x128.Idx) : val_main_v4 (F := Ideal) x1 i = ((D.k (i 0) (i 1) (i 2) (i 3) : ℝ) : EReal) := by
  have h0 : (i 0).val < 16 := (i 0).isLt
  have h1 : (i 1).val < 256 := (i 1).isLt
  have h2 : (i 2).val < 16 := (i 2).isLt
  have h3 : (i 3).val < 128 := (i 3).isLt
  have e : idx_main_v4 i = at3 (i 0) (i 1) (i 2) (i 3) := funext fun a => Fin.ext (by match a with
    | ⟨0, _⟩ => show ((((i 0).val * 256 + (i 1).val) * 16 + (i 2).val) * 128 + (i 3).val) / 524288 = (i 0).val; omega
    | ⟨1, _⟩ => show ((((i 0).val * 256 + (i 1).val) * 16 + (i 2).val) * 128 + (i 3).val) / 2048 % 256 = (i 1).val; omega
    | ⟨2, _⟩ => show ((((i 0).val * 256 + (i 1).val) * 16 + (i 2).val) * 128 + (i 3).val) % 2048 = 128 * (i 2).val + (i 3).val; omega)
  exact (val_main_v4_apply _ i).trans ((congrArg x1 e).trans (H.h1 _ _ _ _))

theorem R_v67 (H : Args D x0 x1 x2 x3 x4 x5 x6 x7) (i : S16x256x16x128.Idx) : val_main_v67 (F := Ideal) x2 i = ((D.v (i 0) (i 1) (i 2) (i 3) : ℝ) : EReal) := by
  have h0 : (i 0).val < 16 := (i 0).isLt
  have h1 : (i 1).val < 256 := (i 1).isLt
  have h2 : (i 2).val < 16 := (i 2).isLt
  have h3 : (i 3).val < 128 := (i 3).isLt
  have e : idx_main_v67 i = at3 (i 0) (i 1) (i 2) (i 3) := funext fun a => Fin.ext (by match a with
    | ⟨0, _⟩ => show ((((i 0).val * 256 + (i 1).val) * 16 + (i 2).val) * 128 + (i 3).val) / 524288 = (i 0).val; omega
    | ⟨1, _⟩ => show ((((i 0).val * 256 + (i 1).val) * 16 + (i 2).val) * 128 + (i 3).val) / 2048 % 256 = (i 1).val; omega
    | ⟨2, _⟩ => show ((((i 0).val * 256 + (i 1).val) * 16 + (i 2).val) * 128 + (i 3).val) % 2048 = 128 * (i 2).val + (i 3).val; omega)
  exact (val_main_v67_apply _ i).trans ((congrArg x2 e).trans (H.h2 _ _ _ _))

theorem R_v110 (H : Args D x0 x1 x2 x3 x4 x5 x6 x7) (i : S16x256x16x128.Idx) : val_main_v110 (F := Ideal) x4 i = ((D.o1 (i 0) (i 1) (i 2) (i 3) : ℝ) : EReal) := by
  have h0 : (i 0).val < 16 := (i 0).isLt
  have h1 : (i 1).val < 256 := (i 1).isLt
  have h2 : (i 2).val < 16 := (i 2).isLt
  have h3 : (i 3).val < 128 := (i 3).isLt
  have e : idx_main_v110 i = at3 (i 0) (i 1) (i 2) (i 3) := funext fun a => Fin.ext (by match a with
    | ⟨0, _⟩ => show ((((i 0).val * 256 + (i 1).val) * 16 + (i 2).val) * 128 + (i 3).val) / 524288 = (i 0).val; omega
    | ⟨1, _⟩ => show ((((i 0).val * 256 + (i 1).val) * 16 + (i 2).val) * 128 + (i 3).val) / 2048 % 256 = (i 1).val; omega
    | ⟨2, _⟩ => show ((((i 0).val * 256 + (i 1).val) * 16 + (i 2).val) * 128 + (i 3).val) % 2048 = 128 * (i 2).val + (i 3).val; omega)
  exact (val_main_v110_apply _ i).trans ((congrArg x4 e).trans (H.h4 _ _ _ _))

theorem R_v112 (H : Args D x0 x1 x2 x3 x4 x5 x6 x7) (i : S16x256x16x128.Idx) : val_main_v112 (F := Ideal) x6 i = ((D.o4 (i 0) (i 1) (i 2) (i 3) : ℝ) : EReal) := by
  have h0 : (i 0).val < 16 := (i 0).isLt
  have h1 : (i 1).val < 256 := (i 1).isLt
  have h2 : (i 2).val < 16 := (i 2).isLt
  have h3 : (i 3).val < 128 := (i 3).isLt
  have e : idx_main_v112 i = at3 (i 0) (i 1) (i 2) (i 3) := funext fun a => Fin.ext (by match a with
    | ⟨0, _⟩ => show ((((i 0).val * 256 + (i 1).val) * 16 + (i 2).val) * 128 + (i 3).val) / 524288 = (i 0).val; omega
    | ⟨1, _⟩ => show ((((i 0).val * 256 + (i 1).val) * 16 + (i 2).val) * 128 + (i 3).val) / 2048 % 256 = (i 1).val; omega
    | ⟨2, _⟩ => show ((((i 0).val * 256 + (i 1).val) * 16 + (i 2).val) * 128 + (i 3).val) % 2048 = 128 * (i 2).val + (i 3).val; omega)
  exact (val_main_v112_apply _ i).trans ((congrArg x6 e).trans (H.h6 _ _ _ _))

theorem R_v124 (H : Args D x0 x1 x2 x3 x4 x5 x6 x7) (i : S16x256x16x128.Idx) : val_main_v124 (F := Ideal) x3 i = ((D.g (i 0) (i 1) (i 2) (i 3) : ℝ) : EReal) := by
  have h0 : (i 0).val < 16 := (i 0).isLt
  have h1 : (i 1).val < 256 := (i 1).isLt
  have h2 : (i 2).val < 16 := (i 2).isLt
  have h3 : (i 3).val < 128 := (i 3).isLt
  have e : idx_main_v124 i = at3 (i 0) (i 1) (i 2) (i 3) := funext fun a => Fin.ext (by match a with
    | ⟨0, _⟩ => show ((((i 0).val * 256 + (i 1).val) * 16 + (i 2).val) * 128 + (i 3).val) / 524288 = (i 0).val; omega
    | ⟨1, _⟩ => show ((((i 0).val * 256 + (i 1).val) * 16 + (i 2).val) * 128 + (i 3).val) / 2048 % 256 = (i 1).val; omega
    | ⟨2, _⟩ => show ((((i 0).val * 256 + (i 1).val) * 16 + (i 2).val) * 128 + (i 3).val) % 2048 = 128 * (i 2).val + (i 3).val; omega)
  exact (val_main_v124_apply _ i).trans ((congrArg x3 e).trans (H.h3 _ _ _ _))

theorem R_v5 (H : Args D x0 x1 x2 x3 x4 x5 x6 x7) (i : S16x16x256x256.Idx) : val_main_v5 (F := Ideal) x0 x1 i = ((D.S (i 0) (i 1) (i 2) (i 3) : ℝ) : EReal) :=
  (val_main_v5_apply _ _ i).trans (dot1 (fun k => R_v3 H (lidx_main_v5 i k)) fun k => R_v4 H (ridx_main_v5 i k))

theorem R_v6 (i : S16x16x256x256.Idx) : val_main_v6 (F := Ideal)  i = ((sc : ℝ) : EReal) :=
  (val_main_v6_apply i).trans c_scale

theorem R_v7 (H : Args D x0 x1 x2 x3 x4 x5 x6 x7) (i : S16x16x256x256.Idx) : val_main_v7 (F := Ideal) x0 x1 i = ((D.S (i 0) (i 1) (i 2) (i 3) * sc : ℝ) : EReal) :=
  (val_main_v7_apply _ _ i).trans (mul2 (R_v5 H _) (R_v6 _))

theorem R_v14 (i : S256x256.Idx) : val_main_v14 (F := Ideal)  i = BitVec.ofNat 32 (i 0).val - BitVec.ofNat 32 (i 1).val := by
  rw [val_main_v14_apply, val_main_v12_apply, val_main_v13_apply, val_main_v9_apply, val_main_v11_apply]; rfl

theorem R_v19 (i : S256x256.Idx) : val_main_v19 (F := Ideal)  i = BitVec.ofBool (decide (valid (i 0) (i 1))) := by
  rw [val_main_v19_apply, val_main_v16_apply, val_main_v18_apply, R_v14, val_main_v15_apply, val_main_v17_apply]
  exact valid_bits (i 0) (i 1)

theorem R_v41 (i : S256x256.Idx) : val_main_v41 (F := Ideal)  i = ((16 * (((i 0).val : ℝ) - ((i 1).val : ℝ)) : ℝ) : EReal) := by
  rw [val_main_v41_apply, val_main_v40_apply, R_v14, val_main_v39_apply]
  exact dist_bits (i 0) (i 1)

theorem R_v36 (i : S16.Idx) : val_main_v36 (F := Ideal) i = ((sl (i 0) : ℝ) : EReal) := by
  obtain ⟨n, hn⟩ : ∃ n : Fin 16, i = (fun a => match a with | ⟨0, _⟩ => n) := ⟨i 0, funext fun a => by match a with | ⟨0, _⟩ => rfl⟩
  subst hn
  unfold val_main_v36
  fin_cases n
  · exact Eq.trans (concatenate_apply_piece (t := S16) 0 _ _ _ 0 (by decide) S1 (val_main_v20 (F := Ideal)) rfl rfl 0 rfl (fun a => match a with | ⟨0, _⟩ => (⟨0, Nat.one_pos⟩ : Fin 1)) (fun b hb => match b with | ⟨0, _⟩ => absurd rfl hb) rfl) ((val_main_v20_apply _).trans (slope_0))
  · exact Eq.trans (concatenate_apply_piece (t := S16) 0 _ _ _ 1 (by decide) S1 (val_main_v21 (F := Ideal)) rfl rfl 1 rfl (fun a => match a with | ⟨0, _⟩ => (⟨0, Nat.one_pos⟩ : Fin 1)) (fun b hb => match b with | ⟨0, _⟩ => absurd rfl hb) rfl) ((val_main_v21_apply _).trans (slope_1))
  · exact Eq.trans (concatenate_apply_piece (t := S16) 0 _ _ _ 2 (by decide) S1 (val_main_v22 (F := Ideal)) rfl rfl 2 rfl (fun a => match a with | ⟨0, _⟩ => (⟨0, Nat.one_pos⟩ : Fin 1)) (fun b hb => match b with | ⟨0, _⟩ => absurd rfl hb) rfl) ((val_main_v22_apply _).trans (slope_2))
  · exact Eq.trans (concatenate_apply_piece (t := S16) 0 _ _ _ 3 (by decide) S1 (val_main_v23 (F := Ideal)) rfl rfl 3 rfl (fun a => match a with | ⟨0, _⟩ => (⟨0, Nat.one_pos⟩ : Fin 1)) (fun b hb => match b with | ⟨0, _⟩ => absurd rfl hb) rfl) ((val_main_v23_apply _).trans (slope_3))
  · exact Eq.trans (concatenate_apply_piece (t := S16) 0 _ _ _ 4 (by decide) S1 (val_main_v24 (F := Ideal)) rfl rfl 4 rfl (fun a => match a with | ⟨0, _⟩ => (⟨0, Nat.one_pos⟩ : Fin 1)) (fun b hb => match b with | ⟨0, _⟩ => absurd rfl hb) rfl) ((val_main_v24_apply _).trans (slope_4))
  · exact Eq.trans (concatenate_apply_piece (t := S16) 0 _ _ _ 5 (by decide) S1 (val_main_v25 (F := Ideal)) rfl rfl 5 rfl (fun a => match a with | ⟨0, _⟩ => (⟨0, Nat.one_pos⟩ : Fin 1)) (fun b hb => match b with | ⟨0, _⟩ => absurd rfl hb) rfl) ((val_main_v25_apply _).trans (slope_5))
  · exact Eq.trans (concatenate_apply_piece (t := S16) 0 _ _ _ 6 (by decide) S1 (val_main_v26 (F := Ideal)) rfl rfl 6 rfl (fun a => match a with | ⟨0, _⟩ => (⟨0, Nat.one_pos⟩ : Fin 1)) (fun b hb => match b with | ⟨0, _⟩ => absurd rfl hb) rfl) ((val_main_v26_apply _).trans (slope_6))
  · exact Eq.trans (concatenate_apply_piece (t := S16) 0 _ _ _ 7 (by decide) S1 (val_main_v27 (F := Ideal)) rfl rfl 7 rfl (fun a => match a with | ⟨0, _⟩ => (⟨0, Nat.one_pos⟩ : Fin 1)) (fun b hb => match b with | ⟨0, _⟩ => absurd rfl hb) rfl) ((val_main_v27_apply _).trans (slope_7))
  · exact Eq.trans (concatenate_apply_piece (t := S16) 0 _ _ _ 8 (by decide) S1 (val_main_v28 (F := Ideal)) rfl rfl 8 rfl (fun a => match a with | ⟨0, _⟩ => (⟨0, Nat.one_pos⟩ : Fin 1)) (fun b hb => match b with | ⟨0, _⟩ => absurd rfl hb) rfl) ((val_main_v28_apply _).trans (slope_8))
  · exact Eq.trans (concatenate_apply_piece (t := S16) 0 _ _ _ 9 (by decide) S1 (val_main_v29 (F := Ideal)) rfl rfl 9 rfl (fun a => match a with | ⟨0, _⟩ => (⟨0, Nat.one_pos⟩ : Fin 1)) (fun b hb => match b with | ⟨0, _⟩ => absurd rfl hb) rfl) ((val_main_v29_apply _).trans (slope_9))
  · exact Eq.trans (concatenate_apply_piece (t := S16) 0 _ _ _ 10 (by decide) S1 (val_main_v30 (F := Ideal)) rfl rfl 10 rfl (fun a => match a with | ⟨0, _⟩ => (⟨0, Nat.one_pos⟩ : Fin 1)) (fun b hb => match b with | ⟨0, _⟩ => absurd rfl hb) rfl) ((val_main_v30_apply _).trans (slope_10))
  · exact Eq.trans (concatenate_apply_piece (t := S16) 0 _ _ _ 11 (by decide) S1 (val_main_v31 (F := Ideal)) rfl rfl 11 rfl (fun a => match a with | ⟨0, _⟩ => (⟨0, Nat.one_pos⟩ : Fin 1)) (fun b hb => match b with | ⟨0, _⟩ => absurd rfl hb) rfl) ((val_main_v31_apply _).trans (slope_11))
  · exact Eq.trans (concatenate_apply_piece (t := S16) 0 _ _ _ 12 (by decide) S1 (val_main_v32 (F := Ideal)) rfl rfl 12 rfl (fun a => match a with | ⟨0, _⟩ => (⟨0, Nat.one_pos⟩ : Fin 1)) (fun b hb => match b with | ⟨0, _⟩ => absurd rfl hb) rfl) ((val_main_v32_apply _).trans (slope_12))
  · exact Eq.trans (concatenate_apply_piece (t := S16) 0 _ _ _ 13 (by decide) S1 (val_main_v33 (F := Ideal)) rfl rfl 13 rfl (fun a => match a with | ⟨0, _⟩ => (⟨0, Nat.one_pos⟩ : Fin 1)) (fun b hb => match b with | ⟨0, _⟩ => absurd rfl hb) rfl) ((val_main_v33_apply _).trans (slope_13))
  · exact Eq.trans (concatenate_apply_piece (t := S16) 0 _ _ _ 14 (by decide) S1 (val_main_v34 (F := Ideal)) rfl rfl 14 rfl (fun a => match a with | ⟨0, _⟩ => (⟨0, Nat.one_pos⟩ : Fin 1)) (fun b hb => match b with | ⟨0, _⟩ => absurd rfl hb) rfl) ((val_main_v34_apply _).trans (slope_14))
  · exact Eq.trans (concatenate_apply_piece (t := S16) 0 _ _ _ 15 (by decide) S1 (val_main_v35 (F := Ideal)) rfl rfl 15 rfl (fun a => match a with | ⟨0, _⟩ => (⟨0, Nat.one_pos⟩ : Fin 1)) (fun b hb => match b with | ⟨0, _⟩ => absurd rfl hb) rfl) ((val_main_v35_apply _).trans (slope_15))

theorem R_v37 (i : S16x1x1.Idx) : val_main_v37 (F := Ideal)  i = ((sl (i 0) : ℝ) : EReal) :=
  (val_main_v37_apply i).trans (R_v36 _)

theorem R_v38 (i : S16x1x1.Idx) : val_main_v38 (F := Ideal)  i = ((-(sl (i 0)) : ℝ) : EReal) :=
  (val_main_v38_apply i).trans (neg1 (R_v37 _))

theorem R_v42 (i : S1x256x256.Idx) : val_main_v42 (F := Ideal)  i = ((16 * (((i 1).val : ℝ) - ((i 2).val : ℝ)) : ℝ) : EReal) :=
  (val_main_v42_apply i).trans (R_v41 _)

theorem R_v43 (i : S16x256x256.Idx) : val_main_v43 (F := Ideal)  i = ((-(sl (i 0)) : ℝ) : EReal) :=
  (val_main_v43_apply i).trans (R_v38 _)

theorem R_v44 (i : S16x256x256.Idx) : val_main_v44 (F := Ideal)  i = ((16 * (((i 1).val : ℝ) - ((i 2).val : ℝ)) : ℝ) : EReal) :=
  (val_main_v44_apply i).trans (R_v42 _)

theorem R_v45 (i : S16x256x256.Idx) : val_main_v45 (F := Ideal)  i = ((-(sl (i 0)) * (16 * (((i 1).val : ℝ) - ((i 2).val : ℝ))) : ℝ) : EReal) :=
  (val_main_v45_apply i).trans (mul2 (R_v43 _) (R_v44 _))

theorem R_v46 (i : S1x16x256x256.Idx) : val_main_v46 (F := Ideal)  i = ((-(sl (i 1)) * (16 * (((i 2).val : ℝ) - ((i 3).val : ℝ))) : ℝ) : EReal) :=
  (val_main_v46_apply i).trans (R_v45 _)

theorem R_v47 (i : S16x16x256x256.Idx) : val_main_v47 (F := Ideal)  i = ((-(sl (i 1)) * (16 * (((i 2).val : ℝ) - ((i 3).val : ℝ))) : ℝ) : EReal) :=
  (val_main_v47_apply i).trans (R_v46 _)

theorem R_v48 (H : Args D x0 x1 x2 x3 x4 x5 x6 x7) (i : S16x16x256x256.Idx) : val_main_v48 (F := Ideal) x0 x1 i = ((D.A (i 0) (i 1) (i 2) (i 3) : ℝ) : EReal) :=
  (val_main_v48_apply _ _ i).trans (add2 (R_v7 H _) (R_v47 _))

theorem R_v49_1 (i : S16x16x256x256.Idx) : val_main_v49_1 (F := Ideal)  i = BitVec.ofBool (decide (valid (i 2) (i 3))) :=
  (val_main_v49_1_apply i).trans (R_v19 _)

theorem R_v49_0 (H : Args D x0 x1 x2 x3 x4 x5 x6 x7) (i : S16x16x256x256.Idx) : val_main_v49_0 (F := Ideal) x0 x1 i = if valid (i 2) (i 3) then ((D.A (i 0) (i 1) (i 2) (i 3) : ℝ) : EReal) else ⊥ := by
  rw [val_main_v49_0_apply, val_main_call0_v2_apply, val_main_call0_v0_apply, R_v49_1, R_v48 H]
  exact select_bits _ _ bot32

end Cert.ReferenceIdeal.Hand
-- ==== Proof.Ideal.RefB.lean ====
module

public import proofs.«01_k».proof.Proof.Ideal.RefA

/-! The reference's other lines, forward and backward, as real numbers. -/

@[expose] public section
noncomputable section

namespace Cert.ReferenceIdeal.Hand

open Idealize.ShloMosaic Idealize.SL Idealize.ShloMosaic.StableHlo Idealize.SL.Sem
open Cert.ReferenceIdeal Cert.ReferenceIdeal.Gen Cert.ReferenceIdeal.Read Attn

variable {D : Data} {x0 x1 x2 x3 x4 x6 : (⟨S16x256x2048, .bf16⟩ : BufTy).Contents (Elt Ideal)} {x5 x7 : (⟨S16x256x16, .f32⟩ : BufTy).Contents (Elt Ideal)}

/-- The arguments are these real numbers, and so is the maximum of a query's logits, one of them. -/
structure Stage (D : Data) (x0 x1 x2 x3 x4 : (⟨S16x256x2048, .bf16⟩ : BufTy).Contents (Elt Ideal)) (x5 : (⟨S16x256x16, .f32⟩ : BufTy).Contents (Elt Ideal))
    (x6 : (⟨S16x256x2048, .bf16⟩ : BufTy).Contents (Elt Ideal)) (x7 : (⟨S16x256x16, .f32⟩ : BufTy).Contents (Elt Ideal)) : Prop
    extends Args D x0 x1 x2 x3 x4 x5 x6 x7 where
  hM : ∀ i : S16x16x256.Idx, val_main_v50 (F := Ideal) x0 x1 i = ((D.M (i 0) (i 1) (i 2) : ℝ) : EReal)
  hN : ∀ r h x, ∑ y : Fin 256, D.top r h x y ≠ 0

/-- The maximum of the three log-sums is a real number too. -/
structure Reads (D : Data) (x0 x1 x2 x3 x4 : (⟨S16x256x2048, .bf16⟩ : BufTy).Contents (Elt Ideal)) (x5 : (⟨S16x256x16, .f32⟩ : BufTy).Contents (Elt Ideal))
    (x6 : (⟨S16x256x2048, .bf16⟩ : BufTy).Contents (Elt Ideal)) (x7 : (⟨S16x256x16, .f32⟩ : BufTy).Contents (Elt Ideal)) : Prop
    extends Stage D x0 x1 x2 x3 x4 x5 x6 x7 where
  hT : ∀ i : S16x256x16.Idx, val_main_v80 (F := Ideal) x0 x1 x5 x7 i = ((D.T (i 0) (i 1) (i 2) : ℝ) : EReal)

theorem eq_bits (x y : Fin 256) (a b : ℝ) :
    (FloatOps.uitofp (F := Ideal) .f32 (FloatOps.cmpf (F := Ideal) (φ := .f32) .oeq (if valid x y then ((a : ℝ) : EReal) else ⊥) ((b : ℝ) : EReal)) : EReal)
      = (((if valid x y ∧ a = b then 1 else 0 : ℝ) : ℝ) : EReal) := by
  show ((((BitVec.ofBool (decide ((if valid x y then ((a : ℝ) : EReal) else ⊥) = ((b : ℝ) : EReal)))).toNat : ℕ) : ℝ) : EReal) = _
  congr 1
  by_cases hv : valid x y
  · rw [if_pos hv]
    by_cases hab : a = b
    · rw [if_pos ⟨hv, hab⟩, hab]; simp
    · rw [if_neg fun h => hab h.2, decide_eq_false fun h => hab (EReal.coe_injective h)]; simp
  · rw [if_neg hv, if_neg fun h => hv h.1, decide_eq_false (EReal.bot_ne_coe _)]; simp

theorem exp_masked (x y : Fin 256) (a b : ℝ) :
    Ideal.exp ((if valid x y then ((a : ℝ) : EReal) else ⊥) - ((b : ℝ) : EReal))
      = (((if valid x y then Real.exp (a - b) else 0 : ℝ) : ℝ) : EReal) := by
  by_cases hv : valid x y
  · rw [if_pos hv, if_pos hv]; exact exp1 (sub2 rfl rfl)
  · rw [if_neg hv, if_neg hv, EReal.bot_sub, Ideal.exp_bot]; rfl

theorem select_zero {p : Prop} [Decidable p] (a : ℝ) (ha : ¬ p → a = 0) {c : EReal} (hc : c = 0) :
    (if BitVec.ofBool (decide p) = 1#1 then ((a : ℝ) : EReal) else c) = ((a : ℝ) : EReal) := by
  by_cases h : p <;> simp [h, hc]
  exact (ha h).symm ▸ rfl

theorem R_v50 (H : Stage D x0 x1 x2 x3 x4 x5 x6 x7) (i : S16x16x256.Idx) : val_main_v50 (F := Ideal) x0 x1 i = ((D.M (i 0) (i 1) (i 2) : ℝ) : EReal) :=
  H.hM i

theorem R_v80 (H : Reads D x0 x1 x2 x3 x4 x5 x6 x7) (i : S16x256x16.Idx) : val_main_v80 (F := Ideal) x0 x1 x5 x7 i = ((D.T (i 0) (i 1) (i 2) : ℝ) : EReal) :=
  H.hT i

theorem R_v51 (H : Stage D x0 x1 x2 x3 x4 x5 x6 x7) (i : S16x16x256x1.Idx) : val_main_v51 (F := Ideal) x0 x1 i = ((D.M (i 0) (i 1) (i 2) : ℝ) : EReal) := by
  have h0 : (i 0).val < 16 := (i 0).isLt
  have h1 : (i 1).val < 16 := (i 1).isLt
  have h2 : (i 2).val < 256 := (i 2).isLt
  have h3 : (i 3).val < 1 := (i 3).isLt
  have e0 : (idx_main_v51 i 0 : Fin 16) = i 0 := Fin.ext (by show ((((i 0).val * 16 + (i 1).val) * 256 + (i 2).val) * 1 + (i 3).val) / 4096 = (i 0).val; omega)
  have e1 : (idx_main_v51 i 1 : Fin 16) = i 1 := Fin.ext (by show ((((i 0).val * 16 + (i 1).val) * 256 + (i 2).val) * 1 + (i 3).val) / 256 % 16 = (i 1).val; omega)
  have e2 : (idx_main_v51 i 2 : Fin 256) = i 2 := Fin.ext (by show ((((i 0).val * 16 + (i 1).val) * 256 + (i 2).val) * 1 + (i 3).val) % 256 = (i 2).val; omega)
  exact (val_main_v51_apply _ _ i).trans ((R_v50 H _).trans (congrArg Real.toEReal (congr (congr (congrArg D.M e0) e1) e2)))

theorem R_v52 (H : Stage D x0 x1 x2 x3 x4 x5 x6 x7) (i : S16x16x256x256.Idx) : val_main_v52 (F := Ideal) x0 x1 i = ((D.M (i 0) (i 1) (i 2) : ℝ) : EReal) :=
  (val_main_v52_apply _ _ i).trans (R_v51 H _)

theorem R_v56 (H : Stage D x0 x1 x2 x3 x4 x5 x6 x7) (i : S16x16x256x1.Idx) : val_main_v56 (F := Ideal) x0 x1 i = ((D.M (i 0) (i 1) (i 2) : ℝ) : EReal) :=
  (val_main_v56_apply _ _ i).trans (R_v50 H _)

theorem R_v57 (H : Stage D x0 x1 x2 x3 x4 x5 x6 x7) (i : S16x16x256x256.Idx) : val_main_v57 (F := Ideal) x0 x1 i = ((D.M (i 0) (i 1) (i 2) : ℝ) : EReal) :=
  (val_main_v57_apply _ _ i).trans (R_v56 H _)

theorem R_v54 (H : Stage D x0 x1 x2 x3 x4 x5 x6 x7) (i : S16x16x256x256.Idx) : val_main_v54 (F := Ideal) x0 x1 i = ((D.top (i 0) (i 1) (i 2) (i 3) : ℝ) : EReal) := by
  rw [val_main_v54_apply, val_main_v53_apply, R_v49_0 H.toArgs, R_v52 H]
  exact eq_bits _ _ _ _

theorem R_v55 (H : Stage D x0 x1 x2 x3 x4 x5 x6 x7) (i : S16x16x256.Idx) : val_main_v55 (F := Ideal) x0 x1 i = ((∑ k : Fin 256, D.top (i 0) (i 1) (i 2) k : ℝ) : EReal) :=
  (val_main_v55_apply _ _ i).trans (sum1 z32 fun k => R_v54 H (idx_main_v55 i k))

theorem R_v59 (H : Stage D x0 x1 x2 x3 x4 x5 x6 x7) (i : S16x16x256x256.Idx) : val_main_v59 (F := Ideal) x0 x1 i = ((D.E (i 0) (i 1) (i 2) (i 3) : ℝ) : EReal) := by
  rw [val_main_v59_apply, val_main_v58_apply, R_v49_0 H.toArgs, R_v57 H]
  exact exp_masked _ _ _ _

theorem R_v60 (H : Stage D x0 x1 x2 x3 x4 x5 x6 x7) (i : S16x16x256.Idx) : val_main_v60 (F := Ideal) x0 x1 i = ((D.den (i 0) (i 1) (i 2) : ℝ) : EReal) :=
  (val_main_v60_apply _ _ i).trans (sum1 z32 fun k => R_v59 H (idx_main_v60 i k))

theorem R_v61 (H : Stage D x0 x1 x2 x3 x4 x5 x6 x7) (i : S16x16x256x1.Idx) : val_main_v61 (F := Ideal) x0 x1 i = ((D.den (i 0) (i 1) (i 2) : ℝ) : EReal) :=
  (val_main_v61_apply _ _ i).trans (R_v60 H _)

theorem R_v62 (H : Stage D x0 x1 x2 x3 x4 x5 x6 x7) (i : S16x16x256x256.Idx) : val_main_v62 (F := Ideal) x0 x1 i = ((D.den (i 0) (i 1) (i 2) : ℝ) : EReal) :=
  (val_main_v62_apply _ _ i).trans (R_v61 H _)

theorem R_v63 (H : Stage D x0 x1 x2 x3 x4 x5 x6 x7) (i : S16x16x256x256.Idx) : val_main_v63 (F := Ideal) x0 x1 i = ((D.P (i 0) (i 1) (i 2) (i 3) : ℝ) : EReal) :=
  (val_main_v63_apply _ _ i).trans (div2 (R_v59 H _) (R_v62 H _) (D.den_ne _ _ _))

theorem R_v64 (H : Stage D x0 x1 x2 x3 x4 x5 x6 x7) (i : S16x16x256x1.Idx) : val_main_v64 (F := Ideal) x0 x1 i = ((D.den (i 0) (i 1) (i 2) * D.den (i 0) (i 1) (i 2) : ℝ) : EReal) :=
  (val_main_v64_apply _ _ i).trans (mul2 (R_v61 H _) (R_v61 H _))

theorem R_v65 (i : S16x16x256x1.Idx) : val_main_v65 (F := Ideal)  i = ((1 : ℝ) : EReal) :=
  (val_main_v65_apply i).trans one32

theorem R_v66 (H : Stage D x0 x1 x2 x3 x4 x5 x6 x7) (i : S16x16x256x1.Idx) : val_main_v66 (F := Ideal) x0 x1 i = ((1 / (D.den (i 0) (i 1) (i 2) * D.den (i 0) (i 1) (i 2)) : ℝ) : EReal) :=
  (val_main_v66_apply _ _ i).trans (div2 (R_v65 _) (R_v64 H _) (mul_ne_zero (D.den_ne _ _ _) (D.den_ne _ _ _)))

theorem R_v68 (H : Stage D x0 x1 x2 x3 x4 x5 x6 x7) (i : S16x16x128x256.Idx) : val_main_v68 (F := Ideal) x0 x1 x2 i = ((D.o (i 0) (i 1) (i 3) (i 2) : ℝ) : EReal) :=
  (val_main_v68_apply _ _ _ i).trans (dot1 (fun k => R_v67 H.toArgs (lidx_main_v68 i k)) fun k => R_v63 H (ridx_main_v68 i k))

theorem R_v69 (H : Stage D x0 x1 x2 x3 x4 x5 x6 x7) (i : S16x256x16x128.Idx) : val_main_v69 (F := Ideal) x0 x1 x2 i = ((D.o (i 0) (i 2) (i 1) (i 3) : ℝ) : EReal) :=
  (val_main_v69_apply _ _ _ i).trans (R_v68 H _)

theorem R_v70 (H : Stage D x0 x1 x2 x3 x4 x5 x6 x7) (i : S16x16x256x1.Idx) : val_main_v70 (F := Ideal) x0 x1 i = ((Real.log (D.den (i 0) (i 1) (i 2)) : ℝ) : EReal) :=
  (val_main_v70_apply _ _ i).trans (log1 (R_v61 H _) (D.den_pos _ _ _))

theorem R_v71 (H : Stage D x0 x1 x2 x3 x4 x5 x6 x7) (i : S16x16x256x1.Idx) : val_main_v71 (F := Ideal) x0 x1 i = ((D.lse (i 0) (i 1) (i 2) : ℝ) : EReal) :=
  (val_main_v71_apply _ _ i).trans (add2 (R_v56 H _) (R_v70 H _))

theorem R_v72 (H : Stage D x0 x1 x2 x3 x4 x5 x6 x7) (i : S16x16x256.Idx) : val_main_v72 (F := Ideal) x0 x1 i = ((D.lse (i 0) (i 1) (i 2) : ℝ) : EReal) := by
  have h0 : (i 0).val < 16 := (i 0).isLt
  have h1 : (i 1).val < 16 := (i 1).isLt
  have h2 : (i 2).val < 256 := (i 2).isLt
  have e0 : (idx_main_v72 i 0 : Fin 16) = i 0 := Fin.ext (by show (((i 0).val * 16 + (i 1).val) * 256 + (i 2).val) / 4096 = (i 0).val; omega)
  have e1 : (idx_main_v72 i 1 : Fin 16) = i 1 := Fin.ext (by show (((i 0).val * 16 + (i 1).val) * 256 + (i 2).val) / 256 % 16 = (i 1).val; omega)
  have e2 : (idx_main_v72 i 2 : Fin 256) = i 2 := Fin.ext (by show (((i 0).val * 16 + (i 1).val) * 256 + (i 2).val) / 1 % 256 = (i 2).val; omega)
  exact (val_main_v72_apply _ _ i).trans ((R_v71 H _).trans (congrArg Real.toEReal (congr (congr (congrArg D.lse e0) e1) e2)))

theorem R_v73 (H : Stage D x0 x1 x2 x3 x4 x5 x6 x7) (i : S16x256x16.Idx) : val_main_v73 (F := Ideal) x0 x1 i = ((D.lse (i 0) (i 2) (i 1) : ℝ) : EReal) :=
  (val_main_v73_apply _ _ i).trans (R_v72 H _)

theorem R_v74 (H : Stage D x0 x1 x2 x3 x4 x5 x6 x7) (i : S1x16x256x16.Idx) : val_main_v74 (F := Ideal) x5 i = ((D.l1 (i 1) (i 2) (i 3) : ℝ) : EReal) :=
  (val_main_v74_apply _ i).trans (H.h5 _)

theorem R_v75 (H : Stage D x0 x1 x2 x3 x4 x5 x6 x7) (i : S1x16x256x16.Idx) : val_main_v75 (F := Ideal) x7 i = ((D.l4 (i 1) (i 2) (i 3) : ℝ) : EReal) :=
  (val_main_v75_apply _ i).trans (H.h7 _)

theorem R_v76 (H : Stage D x0 x1 x2 x3 x4 x5 x6 x7) (i : S1x16x256x16.Idx) : val_main_v76 (F := Ideal) x0 x1 i = ((D.lse (i 1) (i 3) (i 2) : ℝ) : EReal) :=
  (val_main_v76_apply _ _ i).trans (R_v73 H _)

theorem R_v77 (H : Stage D x0 x1 x2 x3 x4 x5 x6 x7) (i : S3x16x256x16.Idx) : val_main_v77 (F := Ideal) x0 x1 x5 x7 i = ((D.l (i 0) (i 1) (i 2) (i 3) : ℝ) : EReal) := by
  unfold val_main_v77
  rcases fin3 (i 0) with h | h | h
  · refine Eq.trans (concatenate_apply_piece (t := S3x16x256x16) 0 _ _ _ 0 (by show 0 < 3; decide) S1x16x256x16 (val_main_v74 (F := Ideal) x5) rfl rfl 0 rfl (fun a => match a with | ⟨0, _⟩ => (⟨0, Nat.one_pos⟩ : Fin 1) | ⟨1, _⟩ => i 1 | ⟨2, _⟩ => i 2 | ⟨3, _⟩ => i 3 : S1x16x256x16.Idx) (fun b hb => match b with | ⟨0, _⟩ => absurd rfl hb | ⟨1, _⟩ => rfl | ⟨2, _⟩ => rfl | ⟨3, _⟩ => rfl) (by show 0 + 0 = (i 0).val; omega)) ((R_v74 H _).trans (congrArg Real.toEReal ?_))
    exact (D.l_at 0 (i 0) h _ _ _).symm
  · refine Eq.trans (concatenate_apply_piece (t := S3x16x256x16) 0 _ _ _ 1 (by show 1 < 3; decide) S1x16x256x16 (val_main_v75 (F := Ideal) x7) rfl rfl 1 rfl (fun a => match a with | ⟨0, _⟩ => (⟨0, Nat.one_pos⟩ : Fin 1) | ⟨1, _⟩ => i 1 | ⟨2, _⟩ => i 2 | ⟨3, _⟩ => i 3 : S1x16x256x16.Idx) (fun b hb => match b with | ⟨0, _⟩ => absurd rfl hb | ⟨1, _⟩ => rfl | ⟨2, _⟩ => rfl | ⟨3, _⟩ => rfl) (by show 1 + 0 = (i 0).val; omega)) ((R_v75 H _).trans (congrArg Real.toEReal ?_))
    exact (D.l_at 1 (i 0) h _ _ _).symm
  · refine Eq.trans (concatenate_apply_piece (t := S3x16x256x16) 0 _ _ _ 2 (by show 2 < 3; decide) S1x16x256x16 (val_main_v76 (F := Ideal) x0 x1) rfl rfl 2 rfl (fun a => match a with | ⟨0, _⟩ => (⟨0, Nat.one_pos⟩ : Fin 1) | ⟨1, _⟩ => i 1 | ⟨2, _⟩ => i 2 | ⟨3, _⟩ => i 3 : S1x16x256x16.Idx) (fun b hb => match b with | ⟨0, _⟩ => absurd rfl hb | ⟨1, _⟩ => rfl | ⟨2, _⟩ => rfl | ⟨3, _⟩ => rfl) (by show 2 + 0 = (i 0).val; omega)) ((R_v76 H _).trans (congrArg Real.toEReal ?_))
    exact (D.l_at 2 (i 0) h _ _ _).symm

theorem R_v87 (H : Reads D x0 x1 x2 x3 x4 x5 x6 x7) (i : S16x256x16.Idx) : val_main_v87 (F := Ideal) x0 x1 x5 x7 i = ((D.T (i 0) (i 1) (i 2) : ℝ) : EReal) := by
  rw [val_main_v87_apply, val_main_v86_apply, R_v80 H]
  exact max_bot32 _

theorem R_v97 (H : Reads D x0 x1 x2 x3 x4 x5 x6 x7) (i : S1x16x256x16.Idx) : val_main_v97 (F := Ideal) x0 x1 x5 x7 i = ((D.T (i 1) (i 2) (i 3) : ℝ) : EReal) :=
  (val_main_v97_apply _ _ _ _ i).trans (R_v87 H _)

theorem R_v98 (H : Reads D x0 x1 x2 x3 x4 x5 x6 x7) (i : S3x16x256x16.Idx) : val_main_v98 (F := Ideal) x0 x1 x5 x7 i = ((D.T (i 1) (i 2) (i 3) : ℝ) : EReal) :=
  (val_main_v98_apply _ _ _ _ i).trans (R_v97 H _)

theorem R_v99 (H : Reads D x0 x1 x2 x3 x4 x5 x6 x7) (i : S3x16x256x16.Idx) : val_main_v99 (F := Ideal) x0 x1 x5 x7 i = ((D.l (i 0) (i 1) (i 2) (i 3) - D.T (i 1) (i 2) (i 3) : ℝ) : EReal) :=
  (val_main_v99_apply _ _ _ _ i).trans (sub2 (R_v77 H.toStage _) (R_v98 H _))

theorem R_v100 (H : Reads D x0 x1 x2 x3 x4 x5 x6 x7) (i : S3x16x256x16.Idx) : val_main_v100 (F := Ideal) x0 x1 x5 x7 i = ((D.X (i 0) (i 1) (i 2) (i 3) : ℝ) : EReal) :=
  (val_main_v100_apply _ _ _ _ i).trans (exp1 (R_v99 H _))

theorem R_v101 (H : Reads D x0 x1 x2 x3 x4 x5 x6 x7) (i : S16x256x16.Idx) : val_main_v101 (F := Ideal) x0 x1 x5 x7 i = ((D.Z (i 0) (i 1) (i 2) : ℝ) : EReal) :=
  (val_main_v101_apply _ _ _ _ i).trans (sum1 z32 fun k => R_v100 H (idx_main_v101 i k))

theorem R_v102 (H : Reads D x0 x1 x2 x3 x4 x5 x6 x7) (i : S1x16x256x16.Idx) : val_main_v102 (F := Ideal) x0 x1 x5 x7 i = ((D.Z (i 1) (i 2) (i 3) : ℝ) : EReal) :=
  (val_main_v102_apply _ _ _ _ i).trans (R_v101 H _)

theorem R_v103 (H : Reads D x0 x1 x2 x3 x4 x5 x6 x7) (i : S3x16x256x16.Idx) : val_main_v103 (F := Ideal) x0 x1 x5 x7 i = ((D.Z (i 1) (i 2) (i 3) : ℝ) : EReal) :=
  (val_main_v103_apply _ _ _ _ i).trans (R_v102 H _)

theorem R_v104 (H : Reads D x0 x1 x2 x3 x4 x5 x6 x7) (i : S3x16x256x16.Idx) : val_main_v104 (F := Ideal) x0 x1 x5 x7 i = ((D.w (i 0) (i 1) (i 2) (i 3) : ℝ) : EReal) :=
  (val_main_v104_apply _ _ _ _ i).trans (div2 (R_v100 H _) (R_v103 H _) (D.Z_ne _ _ _))

theorem R_v105 (H : Reads D x0 x1 x2 x3 x4 x5 x6 x7) (i : S1x16x256x16.Idx) : val_main_v105 (F := Ideal) x0 x1 x5 x7 i = ((D.Z (i 1) (i 2) (i 3) * D.Z (i 1) (i 2) (i 3) : ℝ) : EReal) :=
  (val_main_v105_apply _ _ _ _ i).trans (mul2 (R_v102 H _) (R_v102 H _))

theorem R_v106 (i : S1x16x256x16.Idx) : val_main_v106 (F := Ideal)  i = ((1 : ℝ) : EReal) :=
  (val_main_v106_apply i).trans one32

theorem R_v107 (H : Reads D x0 x1 x2 x3 x4 x5 x6 x7) (i : S1x16x256x16.Idx) : val_main_v107 (F := Ideal) x0 x1 x5 x7 i = ((1 / (D.Z (i 1) (i 2) (i 3) * D.Z (i 1) (i 2) (i 3)) : ℝ) : EReal) :=
  (val_main_v107_apply _ _ _ _ i).trans (div2 (R_v106 _) (R_v105 H _) (mul_ne_zero (D.Z_ne _ _ _) (D.Z_ne _ _ _)))

theorem R_v108 (H : Reads D x0 x1 x2 x3 x4 x5 x6 x7) (i : S3x16x256x16x1.Idx) : val_main_v108 (F := Ideal) x0 x1 x5 x7 i = ((D.w (i 0) (i 1) (i 2) (i 3) : ℝ) : EReal) :=
  (val_main_v108_apply _ _ _ _ i).trans (R_v104 H _)

theorem R_v113 (H : Reads D x0 x1 x2 x3 x4 x5 x6 x7) (i : S1x16x256x16x128.Idx) : val_main_v113 (F := Ideal) x4 i = ((D.o1 (i 1) (i 2) (i 3) (i 4) : ℝ) : EReal) :=
  (val_main_v113_apply _ i).trans (R_v110 H.toArgs _)

theorem R_v114 (H : Reads D x0 x1 x2 x3 x4 x5 x6 x7) (i : S1x16x256x16x128.Idx) : val_main_v114 (F := Ideal) x6 i = ((D.o4 (i 1) (i 2) (i 3) (i 4) : ℝ) : EReal) :=
  (val_main_v114_apply _ i).trans (R_v112 H.toArgs _)

theorem R_v115 (H : Reads D x0 x1 x2 x3 x4 x5 x6 x7) (i : S1x16x256x16x128.Idx) : val_main_v115 (F := Ideal) x0 x1 x2 i = ((D.o (i 1) (i 3) (i 2) (i 4) : ℝ) : EReal) :=
  (val_main_v115_apply _ _ _ i).trans (R_v69 H.toStage _)

theorem R_v116 (H : Reads D x0 x1 x2 x3 x4 x5 x6 x7) (i : S3x16x256x16x128.Idx) : val_main_v116 (F := Ideal) x0 x1 x2 x4 x6 i = ((D.ob (i 0) (i 1) (i 2) (i 3) (i 4) : ℝ) : EReal) := by
  unfold val_main_v116
  rcases fin3 (i 0) with h | h | h
  · refine Eq.trans (concatenate_apply_piece (t := S3x16x256x16x128) 0 _ _ _ 0 (by show 0 < 3; decide) S1x16x256x16x128 (val_main_v113 (F := Ideal) x4) rfl rfl 0 rfl (fun a => match a with | ⟨0, _⟩ => (⟨0, Nat.one_pos⟩ : Fin 1) | ⟨1, _⟩ => i 1 | ⟨2, _⟩ => i 2 | ⟨3, _⟩ => i 3 | ⟨4, _⟩ => i 4 : S1x16x256x16x128.Idx) (fun b hb => match b with | ⟨0, _⟩ => absurd rfl hb | ⟨1, _⟩ => rfl | ⟨2, _⟩ => rfl | ⟨3, _⟩ => rfl | ⟨4, _⟩ => rfl) (by show 0 + 0 = (i 0).val; omega)) ((R_v113 H _).trans (congrArg Real.toEReal ?_))
    exact (D.ob_at 0 (i 0) h _ _ _ _).symm
  · refine Eq.trans (concatenate_apply_piece (t := S3x16x256x16x128) 0 _ _ _ 1 (by show 1 < 3; decide) S1x16x256x16x128 (val_main_v114 (F := Ideal) x6) rfl rfl 1 rfl (fun a => match a with | ⟨0, _⟩ => (⟨0, Nat.one_pos⟩ : Fin 1) | ⟨1, _⟩ => i 1 | ⟨2, _⟩ => i 2 | ⟨3, _⟩ => i 3 | ⟨4, _⟩ => i 4 : S1x16x256x16x128.Idx) (fun b hb => match b with | ⟨0, _⟩ => absurd rfl hb | ⟨1, _⟩ => rfl | ⟨2, _⟩ => rfl | ⟨3, _⟩ => rfl | ⟨4, _⟩ => rfl) (by show 1 + 0 = (i 0).val; omega)) ((R_v114 H _).trans (congrArg Real.toEReal ?_))
    exact (D.ob_at 1 (i 0) h _ _ _ _).symm
  · refine Eq.trans (concatenate_apply_piece (t := S3x16x256x16x128) 0 _ _ _ 2 (by show 2 < 3; decide) S1x16x256x16x128 (val_main_v115 (F := Ideal) x0 x1 x2) rfl rfl 2 rfl (fun a => match a with | ⟨0, _⟩ => (⟨0, Nat.one_pos⟩ : Fin 1) | ⟨1, _⟩ => i 1 | ⟨2, _⟩ => i 2 | ⟨3, _⟩ => i 3 | ⟨4, _⟩ => i 4 : S1x16x256x16x128.Idx) (fun b hb => match b with | ⟨0, _⟩ => absurd rfl hb | ⟨1, _⟩ => rfl | ⟨2, _⟩ => rfl | ⟨3, _⟩ => rfl | ⟨4, _⟩ => rfl) (by show 2 + 0 = (i 0).val; omega)) ((R_v115 H _).trans (congrArg Real.toEReal ?_))
    exact (D.ob_at 2 (i 0) h _ _ _ _).symm

theorem R_v119 (H : Reads D x0 x1 x2 x3 x4 x5 x6 x7) (i : S3x16x256x16x128.Idx) : val_main_v119 (F := Ideal) x0 x1 x5 x7 i = ((D.w (i 0) (i 1) (i 2) (i 3) : ℝ) : EReal) :=
  (val_main_v119_apply _ _ _ _ i).trans (R_v108 H _)

theorem R_v120 (H : Reads D x0 x1 x2 x3 x4 x5 x6 x7) (i : S3x16x256x16x128.Idx) : val_main_v120 (F := Ideal) x0 x1 x2 x4 x5 x6 x7 i = ((D.w (i 0) (i 1) (i 2) (i 3) * D.ob (i 0) (i 1) (i 2) (i 3) (i 4) : ℝ) : EReal) :=
  (val_main_v120_apply _ _ _ _ _ _ _ i).trans (mul2 (R_v119 H _) (R_v116 H _))

theorem R_v121 (H : Reads D x0 x1 x2 x3 x4 x5 x6 x7) (i : S16x256x16x128.Idx) : val_main_v121 (F := Ideal) x0 x1 x2 x4 x5 x6 x7 i = ((D.att (i 0) (i 1) (i 2) (i 3) : ℝ) : EReal) :=
  (val_main_v121_apply _ _ _ _ _ _ _ i).trans (sum1 z32 fun k => R_v120 H (idx_main_v121 i k))

theorem R_v125 (H : Reads D x0 x1 x2 x3 x4 x5 x6 x7) (i : S3x16x256x16x128.Idx) : val_main_v125 (F := Ideal) x3 i = ((D.g (i 1) (i 2) (i 3) (i 4) : ℝ) : EReal) :=
  (val_main_v125_apply _ i).trans (R_v124 H.toArgs _)

theorem R_v126 (H : Reads D x0 x1 x2 x3 x4 x5 x6 x7) (i : S3x16x256x16x128.Idx) : val_main_v126 (F := Ideal) x0 x1 x5 x7 i = ((D.w (i 0) (i 1) (i 2) (i 3) : ℝ) : EReal) :=
  (val_main_v126_apply _ _ _ _ i).trans (R_v108 H _)

theorem R_v127 (H : Reads D x0 x1 x2 x3 x4 x5 x6 x7) (i : S3x16x256x16x128.Idx) : val_main_v127 (F := Ideal) x0 x1 x3 x5 x7 i = ((D.wg (i 0) (i 1) (i 2) (i 3) (i 4) : ℝ) : EReal) :=
  (val_main_v127_apply _ _ _ _ _ i).trans (mul2 (R_v126 H _) (R_v125 H _))

theorem R_v128 (H : Reads D x0 x1 x2 x3 x4 x5 x6 x7) (i : S3x16x256x16x128.Idx) : val_main_v128 (F := Ideal) x0 x1 x2 x3 x4 x6 i = ((D.g (i 1) (i 2) (i 3) (i 4) * D.ob (i 0) (i 1) (i 2) (i 3) (i 4) : ℝ) : EReal) :=
  (val_main_v128_apply _ _ _ _ _ _ i).trans (mul2 (R_v125 H _) (R_v116 H _))

theorem R_v129 (H : Reads D x0 x1 x2 x3 x4 x5 x6 x7) (i : S3x16x256x16.Idx) : val_main_v129 (F := Ideal) x0 x1 x2 x3 x4 x6 i = ((D.u (i 0) (i 1) (i 2) (i 3) : ℝ) : EReal) :=
  (val_main_v129_apply _ _ _ _ _ _ i).trans (sum1 z32 fun k => R_v128 H (idx_main_v129 i k))

theorem R_v130 (H : Reads D x0 x1 x2 x3 x4 x5 x6 x7) (i : S3x16x256x16x1.Idx) : val_main_v130 (F := Ideal) x0 x1 x2 x3 x4 x6 i = ((D.u (i 0) (i 1) (i 2) (i 3) : ℝ) : EReal) := by
  have h0 : (i 0).val < 3 := (i 0).isLt
  have h1 : (i 1).val < 16 := (i 1).isLt
  have h2 : (i 2).val < 256 := (i 2).isLt
  have h3 : (i 3).val < 16 := (i 3).isLt
  have h4 : (i 4).val < 1 := (i 4).isLt
  have e0 : (idx_main_v130 i 0 : Fin 3) = i 0 := Fin.ext (by show (((((i 0).val * 16 + (i 1).val) * 256 + (i 2).val) * 16 + (i 3).val) * 1 + (i 4).val) / 65536 = (i 0).val; omega)
  have e1 : (idx_main_v130 i 1 : Fin 16) = i 1 := Fin.ext (by show (((((i 0).val * 16 + (i 1).val) * 256 + (i 2).val) * 16 + (i 3).val) * 1 + (i 4).val) / 4096 % 16 = (i 1).val; omega)
  have e2 : (idx_main_v130 i 2 : Fin 256) = i 2 := Fin.ext (by show (((((i 0).val * 16 + (i 1).val) * 256 + (i 2).val) * 16 + (i 3).val) * 1 + (i 4).val) / 16 % 256 = (i 2).val; omega)
  have e3 : (idx_main_v130 i 3 : Fin 16) = i 3 := Fin.ext (by show (((((i 0).val * 16 + (i 1).val) * 256 + (i 2).val) * 16 + (i 3).val) * 1 + (i 4).val) % 16 = (i 3).val; omega)
  exact (val_main_v130_apply _ _ _ _ _ _ i).trans ((R_v129 H _).trans (congrArg Real.toEReal (congr (congr (congr (congrArg D.u e0) e1) e2) e3)))

theorem R_v135 (H : Reads D x0 x1 x2 x3 x4 x5 x6 x7) (i : S1x16x256x16x128.Idx) : val_main_v135 (F := Ideal) x0 x1 x3 x5 x7 i = ((D.wg 2 (i 1) (i 2) (i 3) (i 4) : ℝ) : EReal) := by
  have h0 : (i 0).val < 1 := (i 0).isLt
  have e0 : (idx_main_v135 i 0 : Fin 3) = (2 : Fin 3) := Fin.ext (by show 2 + (i 0).val = 2; omega)
  exact (val_main_v135_apply _ _ _ _ _ i).trans ((R_v127 H _).trans (congrArg (fun z => Real.toEReal (D.wg z (i 1) (i 2) (i 3) (i 4))) e0))

theorem R_v136 (H : Reads D x0 x1 x2 x3 x4 x5 x6 x7) (i : S16x256x16x128.Idx) : val_main_v136 (F := Ideal) x0 x1 x3 x5 x7 i = ((D.wg 2 (i 0) (i 1) (i 2) (i 3) : ℝ) : EReal) := by
  have h0 : (i 0).val < 16 := (i 0).isLt
  have h1 : (i 1).val < 256 := (i 1).isLt
  have h2 : (i 2).val < 16 := (i 2).isLt
  have h3 : (i 3).val < 128 := (i 3).isLt
  have e0 : (idx_main_v136 i 1 : Fin 16) = i 0 := Fin.ext (by show ((((i 0).val * 256 + (i 1).val) * 16 + (i 2).val) * 128 + (i 3).val) / 524288 % 16 = (i 0).val; omega)
  have e1 : (idx_main_v136 i 2 : Fin 256) = i 1 := Fin.ext (by show ((((i 0).val * 256 + (i 1).val) * 16 + (i 2).val) * 128 + (i 3).val) / 2048 % 256 = (i 1).val; omega)
  have e2 : (idx_main_v136 i 3 : Fin 16) = i 2 := Fin.ext (by show ((((i 0).val * 256 + (i 1).val) * 16 + (i 2).val) * 128 + (i 3).val) / 128 % 16 = (i 2).val; omega)
  have e3 : (idx_main_v136 i 4 : Fin 128) = i 3 := Fin.ext (by show ((((i 0).val * 256 + (i 1).val) * 16 + (i 2).val) * 128 + (i 3).val) % 128 = (i 3).val; omega)
  exact (val_main_v136_apply _ _ _ _ _ i).trans ((R_v135 H _).trans (congrArg Real.toEReal (congr (congr (congr (congrArg (D.wg 2) e0) e1) e2) e3)))

theorem R_v137 (H : Reads D x0 x1 x2 x3 x4 x5 x6 x7) (i : S3x16x256x16.Idx) : val_main_v137 (F := Ideal) x0 x1 x2 x3 x4 x6 i = ((D.u (i 0) (i 1) (i 2) (i 3) : ℝ) : EReal) :=
  (val_main_v137_apply _ _ _ _ _ _ i).trans (sum_one z32 (R_v130 H _))

theorem R_v138 (H : Reads D x0 x1 x2 x3 x4 x5 x6 x7) (i : S3x16x256x16.Idx) : val_main_v138 (F := Ideal) x0 x1 x5 x7 i = ((1 / (D.Z (i 1) (i 2) (i 3) * D.Z (i 1) (i 2) (i 3)) : ℝ) : EReal) :=
  (val_main_v138_apply _ _ _ _ i).trans (R_v107 H _)

theorem R_v139 (H : Reads D x0 x1 x2 x3 x4 x5 x6 x7) (i : S3x16x256x16.Idx) : val_main_v139 (F := Ideal) x0 x1 x2 x3 x4 x5 x6 x7 i = ((D.u (i 0) (i 1) (i 2) (i 3) * (1 / (D.Z (i 1) (i 2) (i 3) * D.Z (i 1) (i 2) (i 3))) : ℝ) : EReal) :=
  (val_main_v139_apply _ _ _ _ _ _ _ _ i).trans (mul2 (R_v137 H _) (R_v138 H _))

theorem R_v140 (H : Reads D x0 x1 x2 x3 x4 x5 x6 x7) (i : S3x16x256x16.Idx) : val_main_v140 (F := Ideal) x0 x1 x2 x3 x4 x5 x6 x7 i = ((D.u (i 0) (i 1) (i 2) (i 3) * (1 / (D.Z (i 1) (i 2) (i 3) * D.Z (i 1) (i 2) (i 3))) * D.X (i 0) (i 1) (i 2) (i 3) : ℝ) : EReal) :=
  (val_main_v140_apply _ _ _ _ _ _ _ _ i).trans (mul2 (R_v139 H _) (R_v100 H _))

theorem R_v141 (H : Reads D x0 x1 x2 x3 x4 x5 x6 x7) (i : S16x256x16.Idx) : val_main_v141 (F := Ideal) x0 x1 x2 x3 x4 x5 x6 x7 i = ((D.uz (i 0) (i 1) (i 2) : ℝ) : EReal) :=
  (val_main_v141_apply _ _ _ _ _ _ _ _ i).trans (sum1 z32 fun k => R_v140 H (idx_main_v141 i k))

theorem R_v142 (H : Reads D x0 x1 x2 x3 x4 x5 x6 x7) (i : S1x16x256x16.Idx) : val_main_v142 (F := Ideal) x0 x1 x2 x3 x4 x5 x6 x7 i = ((D.uz (i 1) (i 2) (i 3) : ℝ) : EReal) := by
  have h0 : (i 0).val < 1 := (i 0).isLt
  have h1 : (i 1).val < 16 := (i 1).isLt
  have h2 : (i 2).val < 256 := (i 2).isLt
  have h3 : (i 3).val < 16 := (i 3).isLt
  have e0 : (idx_main_v142 i 0 : Fin 16) = i 1 := Fin.ext (by show ((((i 0).val * 16 + (i 1).val) * 256 + (i 2).val) * 16 + (i 3).val) / 4096 = (i 1).val; omega)
  have e1 : (idx_main_v142 i 1 : Fin 256) = i 2 := Fin.ext (by show ((((i 0).val * 16 + (i 1).val) * 256 + (i 2).val) * 16 + (i 3).val) / 16 % 256 = (i 2).val; omega)
  have e2 : (idx_main_v142 i 2 : Fin 16) = i 3 := Fin.ext (by show ((((i 0).val * 16 + (i 1).val) * 256 + (i 2).val) * 16 + (i 3).val) % 16 = (i 3).val; omega)
  exact (val_main_v142_apply _ _ _ _ _ _ _ _ i).trans ((R_v141 H _).trans (congrArg Real.toEReal (congr (congr (congrArg D.uz e0) e1) e2)))

theorem R_v143 (H : Reads D x0 x1 x2 x3 x4 x5 x6 x7) (i : S1x16x256x16.Idx) : val_main_v143 (F := Ideal) x0 x1 x2 x3 x4 x5 x6 x7 i = ((-(D.uz (i 1) (i 2) (i 3)) : ℝ) : EReal) :=
  (val_main_v143_apply _ _ _ _ _ _ _ _ i).trans (neg1 (R_v142 H _))

theorem R_v144 (H : Reads D x0 x1 x2 x3 x4 x5 x6 x7) (i : S3x16x256x16.Idx) : val_main_v144 (F := Ideal) x0 x1 x5 x7 i = ((D.Z (i 1) (i 2) (i 3) : ℝ) : EReal) :=
  (val_main_v144_apply _ _ _ _ i).trans (R_v102 H _)

theorem R_v145 (H : Reads D x0 x1 x2 x3 x4 x5 x6 x7) (i : S3x16x256x16.Idx) : val_main_v145 (F := Ideal) x0 x1 x2 x3 x4 x5 x6 x7 i = ((D.u (i 0) (i 1) (i 2) (i 3) / D.Z (i 1) (i 2) (i 3) : ℝ) : EReal) :=
  (val_main_v145_apply _ _ _ _ _ _ _ _ i).trans (div2 (R_v137 H _) (R_v144 H _) (D.Z_ne _ _ _))

theorem R_v146 (H : Reads D x0 x1 x2 x3 x4 x5 x6 x7) (i : S16x256x16.Idx) : val_main_v146 (F := Ideal) x0 x1 x2 x3 x4 x5 x6 x7 i = ((-(D.uz (i 0) (i 1) (i 2)) : ℝ) : EReal) :=
  (val_main_v146_apply _ _ _ _ _ _ _ _ i).trans (sum_one z32 (R_v143 H _))

theorem R_v147 (H : Reads D x0 x1 x2 x3 x4 x5 x6 x7) (i : S3x16x256x16.Idx) : val_main_v147 (F := Ideal) x0 x1 x2 x3 x4 x5 x6 x7 i = ((-(D.uz (i 1) (i 2) (i 3)) : ℝ) : EReal) :=
  (val_main_v147_apply _ _ _ _ _ _ _ _ i).trans (R_v146 H _)

theorem R_v148 (H : Reads D x0 x1 x2 x3 x4 x5 x6 x7) (i : S3x16x256x16.Idx) : val_main_v148 (F := Ideal) x0 x1 x2 x3 x4 x5 x6 x7 i = ((D.u (i 0) (i 1) (i 2) (i 3) / D.Z (i 1) (i 2) (i 3) + -(D.uz (i 1) (i 2) (i 3)) : ℝ) : EReal) :=
  (val_main_v148_apply _ _ _ _ _ _ _ _ i).trans (add2 (R_v145 H _) (R_v147 H _))

theorem R_v149 (H : Reads D x0 x1 x2 x3 x4 x5 x6 x7) (i : S3x16x256x16.Idx) : val_main_v149 (F := Ideal) x0 x1 x2 x3 x4 x5 x6 x7 i = ((D.dli (i 0) (i 1) (i 2) (i 3) : ℝ) : EReal) :=
  (val_main_v149_apply _ _ _ _ _ _ _ _ i).trans (mul2 (R_v148 H _) (R_v100 H _))

theorem R_v154 (H : Reads D x0 x1 x2 x3 x4 x5 x6 x7) (i : S1x16x256x16.Idx) : val_main_v154 (F := Ideal) x0 x1 x2 x3 x4 x5 x6 x7 i = ((D.dli 2 (i 1) (i 2) (i 3) : ℝ) : EReal) := by
  have h0 : (i 0).val < 1 := (i 0).isLt
  have e0 : (idx_main_v154 i 0 : Fin 3) = (2 : Fin 3) := Fin.ext (by show 2 + (i 0).val = 2; omega)
  exact (val_main_v154_apply _ _ _ _ _ _ _ _ i).trans ((R_v149 H _).trans (congrArg (fun z => Real.toEReal (D.dli z (i 1) (i 2) (i 3))) e0))

theorem R_v155 (H : Reads D x0 x1 x2 x3 x4 x5 x6 x7) (i : S16x256x16.Idx) : val_main_v155 (F := Ideal) x0 x1 x2 x3 x4 x5 x6 x7 i = ((D.dli 2 (i 0) (i 1) (i 2) : ℝ) : EReal) := by
  have h0 : (i 0).val < 16 := (i 0).isLt
  have h1 : (i 1).val < 256 := (i 1).isLt
  have h2 : (i 2).val < 16 := (i 2).isLt
  have e0 : (idx_main_v155 i 1 : Fin 16) = i 0 := Fin.ext (by show (((i 0).val * 256 + (i 1).val) * 16 + (i 2).val) / 4096 % 16 = (i 0).val; omega)
  have e1 : (idx_main_v155 i 2 : Fin 256) = i 1 := Fin.ext (by show (((i 0).val * 256 + (i 1).val) * 16 + (i 2).val) / 16 % 256 = (i 1).val; omega)
  have e2 : (idx_main_v155 i 3 : Fin 16) = i 2 := Fin.ext (by show (((i 0).val * 256 + (i 1).val) * 16 + (i 2).val) % 16 = (i 2).val; omega)
  exact (val_main_v155_apply _ _ _ _ _ _ _ _ i).trans ((R_v154 H _).trans (congrArg Real.toEReal (congr (congr (congrArg (D.dli 2) e0) e1) e2)))

theorem R_v156 (H : Reads D x0 x1 x2 x3 x4 x5 x6 x7) (i : S16x16x256.Idx) : val_main_v156 (F := Ideal) x0 x1 x2 x3 x4 x5 x6 x7 i = ((D.dl (i 0) (i 2) (i 1) : ℝ) : EReal) :=
  (val_main_v156_apply _ _ _ _ _ _ _ _ i).trans (R_v155 H _)

theorem R_v157 (H : Reads D x0 x1 x2 x3 x4 x5 x6 x7) (i : S16x16x256x1.Idx) : val_main_v157 (F := Ideal) x0 x1 x2 x3 x4 x5 x6 x7 i = ((D.dl (i 0) (i 2) (i 1) : ℝ) : EReal) :=
  (val_main_v157_apply _ _ _ _ _ _ _ _ i).trans (R_v156 H _)

theorem R_v158 (H : Reads D x0 x1 x2 x3 x4 x5 x6 x7) (i : S16x16x256x1.Idx) : val_main_v158 (F := Ideal) x0 x1 x2 x3 x4 x5 x6 x7 i = ((D.dl (i 0) (i 2) (i 1) / D.den (i 0) (i 1) (i 2) : ℝ) : EReal) :=
  (val_main_v158_apply _ _ _ _ _ _ _ _ i).trans (div2 (R_v157 H _) (R_v61 H.toStage _) (D.den_ne _ _ _))

theorem R_v159 (H : Reads D x0 x1 x2 x3 x4 x5 x6 x7) (i : S16x16x128x256.Idx) : val_main_v159 (F := Ideal) x0 x1 x3 x5 x7 i = ((D.wg 2 (i 0) (i 3) (i 1) (i 2) : ℝ) : EReal) :=
  (val_main_v159_apply _ _ _ _ _ i).trans (R_v136 H _)

theorem R_v160 (H : Reads D x0 x1 x2 x3 x4 x5 x6 x7) (i : S16x16x256x256.Idx) : val_main_v160 (F := Ideal) x0 x1 x2 x3 x5 x7 i = ((D.dP (i 0) (i 1) (i 2) (i 3) : ℝ) : EReal) :=
  (val_main_v160_apply _ _ _ _ _ _ i).trans (dot1 (fun k => R_v159 H (lidx_main_v160 i k)) fun k => R_v67 H.toArgs (ridx_main_v160 i k))

theorem R_v161 (H : Reads D x0 x1 x2 x3 x4 x5 x6 x7) (i : S16x16x128x256.Idx) : val_main_v161 (F := Ideal) x0 x1 x3 x5 x7 i = ((D.dv (i 0) (i 3) (i 1) (i 2) : ℝ) : EReal) :=
  (val_main_v161_apply _ _ _ _ _ i).trans (dot1 (fun k => R_v159 H (lidx_main_v161 i k)) fun k => R_v63 H.toStage (ridx_main_v161 i k))

theorem R_v162 (H : Reads D x0 x1 x2 x3 x4 x5 x6 x7) (i : S16x256x16x128.Idx) : val_main_v162 (F := Ideal) x0 x1 x3 x5 x7 i = ((D.dv (i 0) (i 1) (i 2) (i 3) : ℝ) : EReal) :=
  (val_main_v162_apply _ _ _ _ _ i).trans (R_v161 H _)

theorem R_v164 (H : Reads D x0 x1 x2 x3 x4 x5 x6 x7) (i : S16x16x256x256.Idx) : val_main_v164 (F := Ideal) x0 x1 i = ((1 / (D.den (i 0) (i 1) (i 2) * D.den (i 0) (i 1) (i 2)) : ℝ) : EReal) :=
  (val_main_v164_apply _ _ i).trans (R_v66 H.toStage _)

theorem R_v165 (H : Reads D x0 x1 x2 x3 x4 x5 x6 x7) (i : S16x16x256x256.Idx) : val_main_v165 (F := Ideal) x0 x1 x2 x3 x5 x7 i = ((D.dP (i 0) (i 1) (i 2) (i 3) * (1 / (D.den (i 0) (i 1) (i 2) * D.den (i 0) (i 1) (i 2))) : ℝ) : EReal) :=
  (val_main_v165_apply _ _ _ _ _ _ i).trans (mul2 (R_v160 H _) (R_v164 H _))

theorem R_v166 (H : Reads D x0 x1 x2 x3 x4 x5 x6 x7) (i : S16x16x256x256.Idx) : val_main_v166 (F := Ideal) x0 x1 x2 x3 x5 x7 i = ((D.dP (i 0) (i 1) (i 2) (i 3) * (1 / (D.den (i 0) (i 1) (i 2) * D.den (i 0) (i 1) (i 2))) * D.E (i 0) (i 1) (i 2) (i 3) : ℝ) : EReal) :=
  (val_main_v166_apply _ _ _ _ _ _ i).trans (mul2 (R_v165 H _) (R_v59 H.toStage _))

theorem R_v167 (H : Reads D x0 x1 x2 x3 x4 x5 x6 x7) (i : S16x16x256.Idx) : val_main_v167 (F := Ideal) x0 x1 x2 x3 x5 x7 i = ((D.dE (i 0) (i 1) (i 2) : ℝ) : EReal) :=
  (val_main_v167_apply _ _ _ _ _ _ i).trans (sum1 z32 fun k => R_v166 H (idx_main_v167 i k))

theorem R_v168 (H : Reads D x0 x1 x2 x3 x4 x5 x6 x7) (i : S16x16x256x1.Idx) : val_main_v168 (F := Ideal) x0 x1 x2 x3 x5 x7 i = ((D.dE (i 0) (i 1) (i 2) : ℝ) : EReal) := by
  have h0 : (i 0).val < 16 := (i 0).isLt
  have h1 : (i 1).val < 16 := (i 1).isLt
  have h2 : (i 2).val < 256 := (i 2).isLt
  have h3 : (i 3).val < 1 := (i 3).isLt
  have e0 : (idx_main_v168 i 0 : Fin 16) = i 0 := Fin.ext (by show ((((i 0).val * 16 + (i 1).val) * 256 + (i 2).val) * 1 + (i 3).val) / 4096 = (i 0).val; omega)
  have e1 : (idx_main_v168 i 1 : Fin 16) = i 1 := Fin.ext (by show ((((i 0).val * 16 + (i 1).val) * 256 + (i 2).val) * 1 + (i 3).val) / 256 % 16 = (i 1).val; omega)
  have e2 : (idx_main_v168 i 2 : Fin 256) = i 2 := Fin.ext (by show ((((i 0).val * 16 + (i 1).val) * 256 + (i 2).val) * 1 + (i 3).val) % 256 = (i 2).val; omega)
  exact (val_main_v168_apply _ _ _ _ _ _ i).trans ((R_v167 H _).trans (congrArg Real.toEReal (congr (congr (congrArg D.dE e0) e1) e2)))

theorem R_v169 (H : Reads D x0 x1 x2 x3 x4 x5 x6 x7) (i : S16x16x256x1.Idx) : val_main_v169 (F := Ideal) x0 x1 x2 x3 x5 x7 i = ((-(D.dE (i 0) (i 1) (i 2)) : ℝ) : EReal) :=
  (val_main_v169_apply _ _ _ _ _ _ i).trans (neg1 (R_v168 H _))

theorem R_v170 (H : Reads D x0 x1 x2 x3 x4 x5 x6 x7) (i : S16x16x256x1.Idx) : val_main_v170 (F := Ideal) x0 x1 x2 x3 x4 x5 x6 x7 i = ((D.dl (i 0) (i 2) (i 1) / D.den (i 0) (i 1) (i 2) + -(D.dE (i 0) (i 1) (i 2)) : ℝ) : EReal) :=
  (val_main_v170_apply _ _ _ _ _ _ _ _ i).trans (add2 (R_v158 H _) (R_v169 H _))

theorem R_v171 (H : Reads D x0 x1 x2 x3 x4 x5 x6 x7) (i : S16x16x256x256.Idx) : val_main_v171 (F := Ideal) x0 x1 i = ((D.den (i 0) (i 1) (i 2) : ℝ) : EReal) :=
  (val_main_v171_apply _ _ i).trans (R_v61 H.toStage _)

theorem R_v172 (H : Reads D x0 x1 x2 x3 x4 x5 x6 x7) (i : S16x16x256x256.Idx) : val_main_v172 (F := Ideal) x0 x1 x2 x3 x5 x7 i = ((D.dP (i 0) (i 1) (i 2) (i 3) / D.den (i 0) (i 1) (i 2) : ℝ) : EReal) :=
  (val_main_v172_apply _ _ _ _ _ _ i).trans (div2 (R_v160 H _) (R_v171 H _) (D.den_ne _ _ _))

theorem R_v173 (H : Reads D x0 x1 x2 x3 x4 x5 x6 x7) (i : S16x16x256.Idx) : val_main_v173 (F := Ideal) x0 x1 x2 x3 x4 x5 x6 x7 i = ((D.dl (i 0) (i 2) (i 1) / D.den (i 0) (i 1) (i 2) + -(D.dE (i 0) (i 1) (i 2)) : ℝ) : EReal) :=
  (val_main_v173_apply _ _ _ _ _ _ _ _ i).trans (sum_one z32 (R_v170 H _))

theorem R_v174 (H : Reads D x0 x1 x2 x3 x4 x5 x6 x7) (i : S16x16x256x256.Idx) : val_main_v174 (F := Ideal) x0 x1 x2 x3 x4 x5 x6 x7 i = ((D.dl (i 0) (i 2) (i 1) / D.den (i 0) (i 1) (i 2) + -(D.dE (i 0) (i 1) (i 2)) : ℝ) : EReal) :=
  (val_main_v174_apply _ _ _ _ _ _ _ _ i).trans (R_v173 H _)

theorem R_v175 (H : Reads D x0 x1 x2 x3 x4 x5 x6 x7) (i : S16x16x256x256.Idx) : val_main_v175 (F := Ideal) x0 x1 x2 x3 x4 x5 x6 x7 i = ((D.dP (i 0) (i 1) (i 2) (i 3) / D.den (i 0) (i 1) (i 2) + (D.dl (i 0) (i 2) (i 1) / D.den (i 0) (i 1) (i 2) + -(D.dE (i 0) (i 1) (i 2))) : ℝ) : EReal) :=
  (val_main_v175_apply _ _ _ _ _ _ _ _ i).trans (add2 (R_v172 H _) (R_v174 H _))

theorem R_v176 (H : Reads D x0 x1 x2 x3 x4 x5 x6 x7) (i : S16x16x256x256.Idx) : val_main_v176 (F := Ideal) x0 x1 x2 x3 x4 x5 x6 x7 i = ((D.dA (i 0) (i 1) (i 2) (i 3) : ℝ) : EReal) :=
  (val_main_v176_apply _ _ _ _ _ _ _ _ i).trans (mul2 (R_v175 H _) (R_v59 H.toStage _))

theorem R_v177 (H : Reads D x0 x1 x2 x3 x4 x5 x6 x7) (i : S16x16x256x256.Idx) : val_main_v177 (F := Ideal) x0 x1 x2 x3 x4 x5 x6 x7 i = ((-(D.dA (i 0) (i 1) (i 2) (i 3)) : ℝ) : EReal) :=
  (val_main_v177_apply _ _ _ _ _ _ _ _ i).trans (neg1 (R_v176 H _))

theorem R_v178 (H : Reads D x0 x1 x2 x3 x4 x5 x6 x7) (i : S16x16x256.Idx) : val_main_v178 (F := Ideal) x0 x1 x2 x3 x4 x5 x6 x7 i = ((D.ndA (i 0) (i 1) (i 2) : ℝ) : EReal) :=
  (val_main_v178_apply _ _ _ _ _ _ _ _ i).trans (sum1 z32 fun k => R_v177 H (idx_main_v178 i k))

theorem R_v179 (H : Reads D x0 x1 x2 x3 x4 x5 x6 x7) (i : S16x16x256x1.Idx) : val_main_v179 (F := Ideal) x0 x1 x2 x3 x4 x5 x6 x7 i = ((D.ndA (i 0) (i 1) (i 2) : ℝ) : EReal) := by
  have h0 : (i 0).val < 16 := (i 0).isLt
  have h1 : (i 1).val < 16 := (i 1).isLt
  have h2 : (i 2).val < 256 := (i 2).isLt
  have h3 : (i 3).val < 1 := (i 3).isLt
  have e0 : (idx_main_v179 i 0 : Fin 16) = i 0 := Fin.ext (by show ((((i 0).val * 16 + (i 1).val) * 256 + (i 2).val) * 1 + (i 3).val) / 4096 = (i 0).val; omega)
  have e1 : (idx_main_v179 i 1 : Fin 16) = i 1 := Fin.ext (by show ((((i 0).val * 16 + (i 1).val) * 256 + (i 2).val) * 1 + (i 3).val) / 256 % 16 = (i 1).val; omega)
  have e2 : (idx_main_v179 i 2 : Fin 256) = i 2 := Fin.ext (by show ((((i 0).val * 16 + (i 1).val) * 256 + (i 2).val) * 1 + (i 3).val) % 256 = (i 2).val; omega)
  exact (val_main_v179_apply _ _ _ _ _ _ _ _ i).trans ((R_v178 H _).trans (congrArg Real.toEReal (congr (congr (congrArg D.ndA e0) e1) e2)))

theorem R_v180 (H : Reads D x0 x1 x2 x3 x4 x5 x6 x7) (i : S16x16x256x1.Idx) : val_main_v180 (F := Ideal) x0 x1 x2 x3 x4 x5 x6 x7 i = ((0 : ℝ) : EReal) :=
  (val_main_v180_apply _ _ _ _ _ _ _ _ i).trans ((add2 (R_v157 H _) (R_v179 H _)).trans (congrArg Real.toEReal (D.rest_zero' _ _ _)))

theorem R_v181 (H : Reads D x0 x1 x2 x3 x4 x5 x6 x7) (i : S16x16x256.Idx) : val_main_v181 (F := Ideal) x0 x1 x2 x3 x4 x5 x6 x7 i = ((0 : ℝ) : EReal) :=
  (val_main_v181_apply _ _ _ _ _ _ _ _ i).trans (sum_one z32 (R_v180 H _))

theorem R_v182 (H : Reads D x0 x1 x2 x3 x4 x5 x6 x7) (i : S16x16x256.Idx) : val_main_v182 (F := Ideal) x0 x1 x2 x3 x4 x5 x6 x7 i = ((0 : ℝ) : EReal) :=
  (val_main_v182_apply _ _ _ _ _ _ _ _ i).trans ((div2 (R_v181 H _) (R_v55 H.toStage _) (H.hN _ _ _)).trans (congrArg Real.toEReal (zero_div _)))

theorem R_v183 (H : Reads D x0 x1 x2 x3 x4 x5 x6 x7) (i : S16x16x256x256.Idx) : val_main_v183 (F := Ideal) x0 x1 x2 x3 x4 x5 x6 x7 i = ((0 : ℝ) : EReal) :=
  (val_main_v183_apply _ _ _ _ _ _ _ _ i).trans (R_v182 H _)

theorem R_v184 (H : Reads D x0 x1 x2 x3 x4 x5 x6 x7) (i : S16x16x256x256.Idx) : val_main_v184 (F := Ideal) x0 x1 x2 x3 x4 x5 x6 x7 i = ((0 : ℝ) : EReal) :=
  (val_main_v184_apply _ _ _ _ _ _ _ _ i).trans ((mul2 (R_v183 H _) (R_v54 H.toStage _)).trans (congrArg Real.toEReal (zero_mul _)))

theorem R_v185 (H : Reads D x0 x1 x2 x3 x4 x5 x6 x7) (i : S16x16x256x256.Idx) : val_main_v185 (F := Ideal) x0 x1 x2 x3 x4 x5 x6 x7 i = ((D.ds (i 0) (i 1) (i 2) (i 3) : ℝ) : EReal) :=
  (val_main_v185_apply _ _ _ _ _ _ _ _ i).trans ((add2 (R_v176 H _) (R_v184 H _)).trans (congrArg Real.toEReal ((add_zero _).trans (D.dA_eq _ _ _ _))))

theorem R_v186 (H : Reads D x0 x1 x2 x3 x4 x5 x6 x7) (i : S16x16x256x256.Idx) : val_main_v186 (F := Ideal) x0 x1 x2 x3 x4 x5 x6 x7 i = ((D.ds (i 0) (i 1) (i 2) (i 3) : ℝ) : EReal) := by
  rw [val_main_v186_apply, R_v49_1, R_v185 H, val_main_call1_v0_apply]
  exact select_zero _ (fun hv => D.ds_invalid _ _ _ _ hv) z32

theorem R_v187 (i : S16x16x256x256.Idx) : val_main_v187 (F := Ideal)  i = ((sc : ℝ) : EReal) :=
  (val_main_v187_apply i).trans c_scale

theorem R_v188 (H : Reads D x0 x1 x2 x3 x4 x5 x6 x7) (i : S16x16x256x256.Idx) : val_main_v188 (F := Ideal) x0 x1 x2 x3 x4 x5 x6 x7 i = ((D.ds (i 0) (i 1) (i 2) (i 3) * sc : ℝ) : EReal) :=
  (val_main_v188_apply _ _ _ _ _ _ _ _ i).trans (mul2 (R_v186 H _) (R_v187 _))

theorem R_v189 (H : Reads D x0 x1 x2 x3 x4 x5 x6 x7) (i : S16x16x256x128.Idx) : val_main_v189 (F := Ideal) x0 x1 x2 x3 x4 x5 x6 x7 i = ((D.dk (i 0) (i 2) (i 1) (i 3) : ℝ) : EReal) :=
  (val_main_v189_apply _ _ _ _ _ _ _ _ i).trans (dot1 (fun k => R_v188 H (lidx_main_v189 i k)) fun k => R_v3 H.toArgs (ridx_main_v189 i k))

theorem R_v190 (H : Reads D x0 x1 x2 x3 x4 x5 x6 x7) (i : S16x256x16x128.Idx) : val_main_v190 (F := Ideal) x0 x1 x2 x3 x4 x5 x6 x7 i = ((D.dk (i 0) (i 1) (i 2) (i 3) : ℝ) : EReal) :=
  (val_main_v190_apply _ _ _ _ _ _ _ _ i).trans (R_v189 H _)

theorem R_v191 (H : Reads D x0 x1 x2 x3 x4 x5 x6 x7) (i : S16x16x256x128.Idx) : val_main_v191 (F := Ideal) x0 x1 x2 x3 x4 x5 x6 x7 i = ((D.dq (i 0) (i 2) (i 1) (i 3) : ℝ) : EReal) :=
  (val_main_v191_apply _ _ _ _ _ _ _ _ i).trans (dot1 (fun k => R_v188 H (lidx_main_v191 i k)) fun k => R_v4 H.toArgs (ridx_main_v191 i k))

theorem R_v192 (H : Reads D x0 x1 x2 x3 x4 x5 x6 x7) (i : S16x256x16x128.Idx) : val_main_v192 (F := Ideal) x0 x1 x2 x3 x4 x5 x6 x7 i = ((D.dq (i 0) (i 1) (i 2) (i 3) : ℝ) : EReal) :=
  (val_main_v192_apply _ _ _ _ _ _ _ _ i).trans (R_v191 H _)

theorem R_v122 (H : Reads D x0 x1 x2 x3 x4 x5 x6 x7) (i : S16x256x2048.Idx) : val_main_v122 (F := Ideal) x0 x1 x2 x4 x5 x6 x7 i = ((D.att (i 0) (i 1) (hd (i 2)) (ln (i 2)) : ℝ) : EReal) := by
  have h0 : (i 0).val < 16 := (i 0).isLt
  have h1 : (i 1).val < 256 := (i 1).isLt
  have h2 : (i 2).val < 2048 := (i 2).isLt
  have e0 : (idx_main_v122 i 0 : Fin 16) = i 0 := Fin.ext (by show (((i 0).val * 256 + (i 1).val) * 2048 + (i 2).val) / 524288 = (i 0).val; omega)
  have e1 : (idx_main_v122 i 1 : Fin 256) = i 1 := Fin.ext (by show (((i 0).val * 256 + (i 1).val) * 2048 + (i 2).val) / 2048 % 256 = (i 1).val; omega)
  have e2 : (idx_main_v122 i 2 : Fin 16) = hd (i 2) := Fin.ext (by show (((i 0).val * 256 + (i 1).val) * 2048 + (i 2).val) / 128 % 16 = (i 2).val / 128; omega)
  have e3 : (idx_main_v122 i 3 : Fin 128) = ln (i 2) := Fin.ext (by show (((i 0).val * 256 + (i 1).val) * 2048 + (i 2).val) % 128 = (i 2).val % 128; omega)
  exact (val_main_v122_apply _ _ _ _ _ _ _ i).trans ((R_v121 H _).trans (congrArg Real.toEReal (congr (congr (congr (congrArg D.att e0) e1) e2) e3)))

theorem R_v163 (H : Reads D x0 x1 x2 x3 x4 x5 x6 x7) (i : S16x256x2048.Idx) : val_main_v163 (F := Ideal) x0 x1 x3 x5 x7 i = ((D.dv (i 0) (i 1) (hd (i 2)) (ln (i 2)) : ℝ) : EReal) := by
  have h0 : (i 0).val < 16 := (i 0).isLt
  have h1 : (i 1).val < 256 := (i 1).isLt
  have h2 : (i 2).val < 2048 := (i 2).isLt
  have e0 : (idx_main_v163 i 0 : Fin 16) = i 0 := Fin.ext (by show (((i 0).val * 256 + (i 1).val) * 2048 + (i 2).val) / 524288 = (i 0).val; omega)
  have e1 : (idx_main_v163 i 1 : Fin 256) = i 1 := Fin.ext (by show (((i 0).val * 256 + (i 1).val) * 2048 + (i 2).val) / 2048 % 256 = (i 1).val; omega)
  have e2 : (idx_main_v163 i 2 : Fin 16) = hd (i 2) := Fin.ext (by show (((i 0).val * 256 + (i 1).val) * 2048 + (i 2).val) / 128 % 16 = (i 2).val / 128; omega)
  have e3 : (idx_main_v163 i 3 : Fin 128) = ln (i 2) := Fin.ext (by show (((i 0).val * 256 + (i 1).val) * 2048 + (i 2).val) % 128 = (i 2).val % 128; omega)
  exact (val_main_v163_apply _ _ _ _ _ i).trans ((R_v162 H _).trans (congrArg Real.toEReal (congr (congr (congr (congrArg D.dv e0) e1) e2) e3)))

theorem R_v193 (H : Reads D x0 x1 x2 x3 x4 x5 x6 x7) (i : S16x256x2048.Idx) : val_main_v193 (F := Ideal) x0 x1 x2 x3 x4 x5 x6 x7 i = ((D.dk (i 0) (i 1) (hd (i 2)) (ln (i 2)) : ℝ) : EReal) := by
  have h0 : (i 0).val < 16 := (i 0).isLt
  have h1 : (i 1).val < 256 := (i 1).isLt
  have h2 : (i 2).val < 2048 := (i 2).isLt
  have e0 : (idx_main_v193 i 0 : Fin 16) = i 0 := Fin.ext (by show (((i 0).val * 256 + (i 1).val) * 2048 + (i 2).val) / 524288 = (i 0).val; omega)
  have e1 : (idx_main_v193 i 1 : Fin 256) = i 1 := Fin.ext (by show (((i 0).val * 256 + (i 1).val) * 2048 + (i 2).val) / 2048 % 256 = (i 1).val; omega)
  have e2 : (idx_main_v193 i 2 : Fin 16) = hd (i 2) := Fin.ext (by show (((i 0).val * 256 + (i 1).val) * 2048 + (i 2).val) / 128 % 16 = (i 2).val / 128; omega)
  have e3 : (idx_main_v193 i 3 : Fin 128) = ln (i 2) := Fin.ext (by show (((i 0).val * 256 + (i 1).val) * 2048 + (i 2).val) % 128 = (i 2).val % 128; omega)
  exact (val_main_v193_apply _ _ _ _ _ _ _ _ i).trans ((R_v190 H _).trans (congrArg Real.toEReal (congr (congr (congr (congrArg D.dk e0) e1) e2) e3)))

theorem R_v194 (H : Reads D x0 x1 x2 x3 x4 x5 x6 x7) (i : S16x256x2048.Idx) : val_main_v194 (F := Ideal) x0 x1 x2 x3 x4 x5 x6 x7 i = ((D.dq (i 0) (i 1) (hd (i 2)) (ln (i 2)) : ℝ) : EReal) := by
  have h0 : (i 0).val < 16 := (i 0).isLt
  have h1 : (i 1).val < 256 := (i 1).isLt
  have h2 : (i 2).val < 2048 := (i 2).isLt
  have e0 : (idx_main_v194 i 0 : Fin 16) = i 0 := Fin.ext (by show (((i 0).val * 256 + (i 1).val) * 2048 + (i 2).val) / 524288 = (i 0).val; omega)
  have e1 : (idx_main_v194 i 1 : Fin 256) = i 1 := Fin.ext (by show (((i 0).val * 256 + (i 1).val) * 2048 + (i 2).val) / 2048 % 256 = (i 1).val; omega)
  have e2 : (idx_main_v194 i 2 : Fin 16) = hd (i 2) := Fin.ext (by show (((i 0).val * 256 + (i 1).val) * 2048 + (i 2).val) / 128 % 16 = (i 2).val / 128; omega)
  have e3 : (idx_main_v194 i 3 : Fin 128) = ln (i 2) := Fin.ext (by show (((i 0).val * 256 + (i 1).val) * 2048 + (i 2).val) % 128 = (i 2).val % 128; omega)
  exact (val_main_v194_apply _ _ _ _ _ _ _ _ i).trans ((R_v192 H _).trans (congrArg Real.toEReal (congr (congr (congr (congrArg D.dq e0) e1) e2) e3)))

theorem R_v195 (H : Reads D x0 x1 x2 x3 x4 x5 x6 x7) (i : S16x256x2048.Idx) : val_main_v195 (F := Ideal) x0 x1 x2 x3 x4 x5 x6 x7 i = ((D.dq (i 0) (i 1) (hd (i 2)) (ln (i 2)) : ℝ) : EReal) :=
  (val_main_v195_apply _ _ _ _ _ _ _ _ i).trans (R_v194 H _)

theorem R_v196 (H : Reads D x0 x1 x2 x3 x4 x5 x6 x7) (i : S16x256x2048.Idx) : val_main_v196 (F := Ideal) x0 x1 x2 x3 x4 x5 x6 x7 i = ((D.dk (i 0) (i 1) (hd (i 2)) (ln (i 2)) : ℝ) : EReal) :=
  (val_main_v196_apply _ _ _ _ _ _ _ _ i).trans (R_v193 H _)

theorem R_v197 (H : Reads D x0 x1 x2 x3 x4 x5 x6 x7) (i : S16x256x2048.Idx) : val_main_v197 (F := Ideal) x0 x1 x3 x5 x7 i = ((D.dv (i 0) (i 1) (hd (i 2)) (ln (i 2)) : ℝ) : EReal) :=
  (val_main_v197_apply _ _ _ _ _ i).trans (R_v163 H _)

end Cert.ReferenceIdeal.Hand
-- ==== Proof.Ideal.Maxes.lean ====
module

public import proofs.«01_k».proof.Proof.Ideal.RefB

/-! The two maxima which the forward pass subtracts are real numbers at real arguments, and the first is one of the
query's logits. -/

@[expose] public section
noncomputable section

namespace Cert.ReferenceIdeal.Hand

open Idealize.ShloMosaic Idealize.SL Idealize.ShloMosaic.StableHlo Idealize.SL.Sem
open Cert.ReferenceIdeal Cert.ReferenceIdeal.Gen Cert.ReferenceIdeal.Read Attn

/-- A maximum over a finite family is at least each member, and is a member unless it is the least element. -/
theorem fold_max {α : Type} [DecidableEq α] (s : Finset α) (f : α → EReal) :
    (∀ k ∈ s, f k ≤ s.fold max ⊥ f) ∧ (s.fold max ⊥ f = ⊥ ∨ ∃ k ∈ s, s.fold max ⊥ f = f k) := by
  induction s using Finset.induction_on with
  | empty => exact ⟨fun k hk => absurd hk (Finset.notMem_empty k), Or.inl Finset.fold_empty⟩
  | insert a s ha ih =>
    rw [Finset.fold_insert ha]
    refine ⟨fun k hk => ?_, ?_⟩
    · rcases Finset.mem_insert.1 hk with rfl | hk
      · exact le_max_left _ _
      · exact (ih.1 k hk).trans (le_max_right _ _)
    · rcases le_total (s.fold max ⊥ f) (f a) with h | h
      · exact Or.inr ⟨a, Finset.mem_insert_self a s, max_eq_left h⟩
      · rw [max_eq_right h]
        rcases ih.2 with e | ⟨k, hk, e⟩
        · exact Or.inl e
        · exact Or.inr ⟨k, Finset.mem_insert_of_mem hk, e⟩

theorem max_mem {n : ℕ} {f g : Fin n → EReal} {v : EReal} (e : v = (Finset.univ : Finset (Fin n)).fold max ⊥ f) (hf : ∀ k, f k = g k) :
    (∀ k, g k ≤ v) ∧ (v = ⊥ ∨ ∃ k, v = g k) := by
  subst e
  obtain rfl : f = g := funext hf
  obtain ⟨h, h'⟩ := fold_max (Finset.univ : Finset (Fin n)) f
  exact ⟨fun k => h k (Finset.mem_univ k), h'.imp id fun ⟨k, _, e⟩ => ⟨k, e⟩⟩

theorem real_of {z : EReal} {a : ℝ} (h : z = ((a : ℝ) : EReal)) : z = ((EReal.toReal z : ℝ) : EReal) := by
  rw [h, EReal.toReal_coe]
theorem real_eq {z : EReal} {a : ℝ} (h : z = ((a : ℝ) : EReal)) : a = EReal.toReal z := by
  rw [h, EReal.toReal_coe]

theorem red50 : S16x16x256x256.Reduces [3] S16x16x256 := by decide
theorem red80 : S3x16x256x16.Reduces [0] S16x256x16 := by decide

variable {D : Data} {x0 x1 x2 x3 x4 x6 : (⟨S16x256x2048, .bf16⟩ : BufTy).Contents (Elt Ideal)} {x5 x7 : (⟨S16x256x16, .f32⟩ : BufTy).Contents (Elt Ideal)}

theorem v50_fold (i : S16x16x256.Idx) : val_main_v50 (F := Ideal) x0 x1 i
    = (Finset.univ : Finset (Fin 256)).fold max (⊥ : EReal) (fun y => val_main_v49_0 (F := Ideal) x0 x1 (red50.lift i y)) := by
  have e := Host.reduce_eq_fold_single (max : EReal → EReal → EReal) (val_main_v49_0 (F := Ideal) x0 x1) (val_main_cst_19 (F := Ideal))
    reducesTo_S16x16x256x256_S16x16x256_d3 red50 h_S_ i
  rw [val_main_cst_19_apply, bot32] at e
  exact e
theorem v80_fold (i : S16x256x16.Idx) : val_main_v80 (F := Ideal) x0 x1 x5 x7 i
    = (Finset.univ : Finset (Fin 3)).fold max (⊥ : EReal) (fun y => val_main_v77 (F := Ideal) x0 x1 x5 x7 (red80.lift i y)) := by
  have e := Host.reduce_eq_fold_single (max : EReal → EReal → EReal) (val_main_v77 (F := Ideal) x0 x1 x5 x7) (val_main_cst_25 (F := Ideal))
    reducesTo_S3x16x256x16_S16x256x16_d0 red80 h_S_ i
  rw [val_main_cst_25_apply, bot32] at e
  exact e

/-- The maximum of a query's logits is one of them. -/
theorem v50_mem (H : Args D x0 x1 x2 x3 x4 x5 x6 x7) (i : S16x16x256.Idx) :
    ∃ y : Fin 256, valid (i 2) y ∧ val_main_v50 (F := Ideal) x0 x1 i = ((D.A (i 0) (i 1) (i 2) y : ℝ) : EReal) := by
  have at_y : ∀ y : Fin 256, val_main_v49_0 (F := Ideal) x0 x1 (red50.lift i y)
      = if valid (i 2) y then ((D.A (i 0) (i 1) (i 2) y : ℝ) : EReal) else ⊥ := fun y => R_v49_0 H (red50.lift i y)
  obtain ⟨hle, hmem⟩ := max_mem (v50_fold (x0 := x0) (x1 := x1) i) at_y
  have hnb : val_main_v50 (F := Ideal) x0 x1 i ≠ ⊥ := fun h => by
    have hx := hle (i 2)
    rw [h, if_pos ⟨le_rfl, by omega⟩] at hx
    exact EReal.coe_ne_bot _ (le_bot_iff.1 hx)
  rcases hmem with h | ⟨y, h⟩
  · exact absurd h hnb
  · by_cases hv : valid (i 2) y
    · rw [if_pos hv] at h; exact ⟨y, hv, h⟩
    · rw [if_neg hv] at h; exact absurd h hnb

/-- The maximum of the log-sums is a real number. -/
theorem v80_mem (H : Stage D x0 x1 x2 x3 x4 x5 x6 x7) (i : S16x256x16.Idx) :
    ∃ y : Fin 3, val_main_v80 (F := Ideal) x0 x1 x5 x7 i = ((D.l y (i 0) (i 1) (i 2) : ℝ) : EReal) := by
  have at_y : ∀ y : Fin 3, val_main_v77 (F := Ideal) x0 x1 x5 x7 (red80.lift i y) = ((D.l y (i 0) (i 1) (i 2) : ℝ) : EReal) :=
    fun y => R_v77 H (red80.lift i y)
  obtain ⟨hle, hmem⟩ := max_mem (v80_fold (x0 := x0) (x1 := x1) (x5 := x5) (x7 := x7) i) at_y
  rcases hmem with h | ⟨y, h⟩
  · have hx := hle (⟨0, by decide⟩ : Fin 3)
    rw [h] at hx
    exact absurd (le_bot_iff.1 hx) (EReal.coe_ne_bot _)
  · exact ⟨y, h⟩

/-- An index from its coordinates. -/
def ixM (r h : Fin 16) (x : Fin 256) : S16x16x256.Idx := fun a => match a with | ⟨0, _⟩ => r | ⟨1, _⟩ => h | ⟨2, _⟩ => x
def ixT (r : Fin 16) (x : Fin 256) (h : Fin 16) : S16x256x16.Idx := fun a => match a with | ⟨0, _⟩ => r | ⟨1, _⟩ => x | ⟨2, _⟩ => h
theorem ixM_eta (i : S16x16x256.Idx) : ixM (i 0) (i 1) (i 2) = i := funext fun a => match a with | ⟨0, _⟩ => rfl | ⟨1, _⟩ => rfl | ⟨2, _⟩ => rfl
theorem ixT_eta (i : S16x256x16.Idx) : ixT (i 0) (i 1) (i 2) = i := funext fun a => match a with | ⟨0, _⟩ => rfl | ⟨1, _⟩ => rfl | ⟨2, _⟩ => rfl

/-- The two maxima as real numbers. -/
def maxM (x0 x1 : (⟨S16x256x2048, .bf16⟩ : BufTy).Contents (Elt Ideal)) (r h : Fin 16) (x : Fin 256) : ℝ :=
  EReal.toReal (val_main_v50 (F := Ideal) x0 x1 (ixM r h x))
def maxT (x0 x1 : (⟨S16x256x2048, .bf16⟩ : BufTy).Contents (Elt Ideal)) (x5 x7 : (⟨S16x256x16, .f32⟩ : BufTy).Contents (Elt Ideal))
    (r : Fin 16) (x : Fin 256) (h : Fin 16) : ℝ :=
  EReal.toReal (val_main_v80 (F := Ideal) x0 x1 x5 x7 (ixT r x h))
theorem maxM_at (i : S16x16x256.Idx) : maxM x0 x1 (i 0) (i 1) (i 2) = EReal.toReal (val_main_v50 (F := Ideal) x0 x1 i) :=
  congrArg (fun z => EReal.toReal (val_main_v50 (F := Ideal) x0 x1 z)) (ixM_eta i)
theorem maxT_at (i : S16x256x16.Idx) : maxT x0 x1 x5 x7 (i 0) (i 1) (i 2) = EReal.toReal (val_main_v80 (F := Ideal) x0 x1 x5 x7 i) :=
  congrArg (fun z => EReal.toReal (val_main_v80 (F := Ideal) x0 x1 x5 x7 z)) (ixT_eta i)
theorem maxM_eq {i : S16x16x256.Idx} {a : ℝ} (h : val_main_v50 (F := Ideal) x0 x1 i = ((a : ℝ) : EReal)) : a = maxM x0 x1 (i 0) (i 1) (i 2) := by
  have e := real_eq h
  exact e.trans (maxM_at i).symm
theorem maxT_eq {i : S16x256x16.Idx} {a : ℝ} (h : val_main_v80 (F := Ideal) x0 x1 x5 x7 i = ((a : ℝ) : EReal)) : a = maxT x0 x1 x5 x7 (i 0) (i 1) (i 2) := by
  have e := real_eq h
  exact e.trans (maxT_at i).symm

/-- The real numbers of an array of real numbers. -/
def dat (x0 x1 x2 x3 x4 : (⟨S16x256x2048, .bf16⟩ : BufTy).Contents (Elt Ideal)) (x5 : (⟨S16x256x16, .f32⟩ : BufTy).Contents (Elt Ideal))
    (x6 : (⟨S16x256x2048, .bf16⟩ : BufTy).Contents (Elt Ideal)) (x7 : (⟨S16x256x16, .f32⟩ : BufTy).Contents (Elt Ideal)) : Data where
  q r x h e := EReal.toReal (x0 (at3 r x h e))
  k r x h e := EReal.toReal (x1 (at3 r x h e))
  v r x h e := EReal.toReal (x2 (at3 r x h e))
  g r x h e := EReal.toReal (x3 (at3 r x h e))
  o1 r x h e := EReal.toReal (x4 (at3 r x h e))
  o4 r x h e := EReal.toReal (x6 (at3 r x h e))
  l1 r x h := EReal.toReal (x5 (ixT r x h))
  l4 r x h := EReal.toReal (x7 (ixT r x h))
  M := maxM x0 x1
  T := maxT x0 x1 x5 x7

theorem dat_M : (dat x0 x1 x2 x3 x4 x5 x6 x7).M = maxM x0 x1 := by simp only [dat]
theorem dat_T : (dat x0 x1 x2 x3 x4 x5 x6 x7).T = maxT x0 x1 x5 x7 := by simp only [dat]

/-- An array all of whose elements are real numbers. -/
def IsReal {S : Shape} (x : S.Idx → EReal) : Prop := ∀ i, x i ≠ ⊤ ∧ x i ≠ ⊥
theorem IsReal.coe {S : Shape} {x : S.Idx → EReal} (h : IsReal x) (i : S.Idx) : x i = ((EReal.toReal (x i) : ℝ) : EReal) :=
  (EReal.coe_toReal (h i).1 (h i).2).symm

theorem args_of (h0 : IsReal (S := S16x256x2048) x0) (h1 : IsReal (S := S16x256x2048) x1) (h2 : IsReal (S := S16x256x2048) x2)
    (h3 : IsReal (S := S16x256x2048) x3) (h4 : IsReal (S := S16x256x2048) x4) (h5 : IsReal (S := S16x256x16) x5)
    (h6 : IsReal (S := S16x256x2048) x6) (h7 : IsReal (S := S16x256x16) x7) :
    Args (dat x0 x1 x2 x3 x4 x5 x6 x7) x0 x1 x2 x3 x4 x5 x6 x7 where
  h0 r x h e := h0.coe _
  h1 r x h e := h1.coe _
  h2 r x h e := h2.coe _
  h3 r x h e := h3.coe _
  h4 r x h e := h4.coe _
  h6 r x h e := h6.coe _
  h5 i := (h5.coe i).trans (congrArg (fun z => ((EReal.toReal (x5 z) : ℝ) : EReal)) (ixT_eta i).symm)
  h7 i := (h7.coe i).trans (congrArg (fun z => ((EReal.toReal (x7 z) : ℝ) : EReal)) (ixT_eta i).symm)

theorem stage_of (H : Args (dat x0 x1 x2 x3 x4 x5 x6 x7) x0 x1 x2 x3 x4 x5 x6 x7) :
    Stage (dat x0 x1 x2 x3 x4 x5 x6 x7) x0 x1 x2 x3 x4 x5 x6 x7 where
  toArgs := H
  hM i := by
    obtain ⟨y, _, h⟩ := v50_mem H i
    have e := congrArg Real.toEReal (maxM_eq h)
    have e' : (dat x0 x1 x2 x3 x4 x5 x6 x7).M (i 0) (i 1) (i 2) = maxM x0 x1 (i 0) (i 1) (i 2) := congrFun (congrFun (congrFun dat_M _) _) _
    exact (h.trans e).trans (congrArg Real.toEReal e').symm
  hN r h x := by
    obtain ⟨y, hv, e⟩ := v50_mem H (ixM r h x)
    refine (Finset.sum_pos' (fun z _ => ?_) ⟨y, Finset.mem_univ _, ?_⟩).ne'
    · unfold Data.top; split_ifs <;> norm_num
    · unfold Data.top
      have e2 := maxM_eq e
      rw [dat_M, if_pos ⟨hv, e2⟩]; norm_num

theorem reads_of (H : Stage (dat x0 x1 x2 x3 x4 x5 x6 x7) x0 x1 x2 x3 x4 x5 x6 x7) :
    Reads (dat x0 x1 x2 x3 x4 x5 x6 x7) x0 x1 x2 x3 x4 x5 x6 x7 where
  toStage := H
  hT i := by
    obtain ⟨y, h⟩ := v80_mem H i
    have e := congrArg Real.toEReal (maxT_eq h)
    have e' : (dat x0 x1 x2 x3 x4 x5 x6 x7).T (i 0) (i 1) (i 2) = maxT x0 x1 x5 x7 (i 0) (i 1) (i 2) := congrFun (congrFun (congrFun dat_T _) _) _
    exact (h.trans e).trans (congrArg Real.toEReal e').symm

end Cert.ReferenceIdeal.Hand
-- ==== Proof.Ideal.Consts.lean ====
module

public import proofs.«01_k».proof.Proof.Ideal.Maxes

/-! The kernel's constants as real numbers, and the infinity of the precondition. -/

@[expose] public section
noncomputable section

namespace Cert.ReferenceIdeal.Hand

open Idealize.ShloMosaic Attn

theorem inf32 : (FloatOps.ofBits (F := Ideal) .f32 0x7F800000#32 : EReal) = ⊤ := by
  show Ideal.ofBits .f32 0x7F800000#32 = _
  simp [Ideal.ofBits, Ideal.ieee]
theorem kslope_0 : (FloatOps.ofBits (F := Ideal) .f32 3241477363#32 : EReal) = ((-(16 * sl 0) : ℝ) : EReal) := by
  have e : sl 0 = 11863283 / 2 ^ 24 := rfl
  rw [e]; show Ideal.ofBits .f32 3241477363#32 = _
  simp [Ideal.ofBits, Ideal.ieee, -EReal.coe_mul]; norm_num
theorem kslope_1 : (FloatOps.ofBits (F := Ideal) .f32 3238002688#32 : EReal) = ((-(16 * sl 1) : ℝ) : EReal) := by
  have e : sl 1 = 1 / 2 := rfl
  rw [e]; show Ideal.ofBits .f32 3238002688#32 = _
  simp [Ideal.ofBits, Ideal.ieee, -EReal.coe_mul]; norm_num
theorem kslope_2 : (FloatOps.ofBits (F := Ideal) .f32 3233088755#32 : EReal) = ((-(16 * sl 2) : ℝ) : EReal) := by
  have e : sl 2 = 11863283 / 2 ^ 25 := rfl
  rw [e]; show Ideal.ofBits .f32 3233088755#32 = _
  simp [Ideal.ofBits, Ideal.ieee, -EReal.coe_mul]; norm_num
theorem kslope_3 : (FloatOps.ofBits (F := Ideal) .f32 3229614080#32 : EReal) = ((-(16 * sl 3) : ℝ) : EReal) := by
  have e : sl 3 = 1 / 4 := rfl
  rw [e]; show Ideal.ofBits .f32 3229614080#32 = _
  simp [Ideal.ofBits, Ideal.ieee, -EReal.coe_mul]; norm_num
theorem kslope_4 : (FloatOps.ofBits (F := Ideal) .f32 3224700147#32 : EReal) = ((-(16 * sl 4) : ℝ) : EReal) := by
  have e : sl 4 = 11863283 / 2 ^ 26 := rfl
  rw [e]; show Ideal.ofBits .f32 3224700147#32 = _
  simp [Ideal.ofBits, Ideal.ieee, -EReal.coe_mul]; norm_num
theorem kslope_5 : (FloatOps.ofBits (F := Ideal) .f32 3221225472#32 : EReal) = ((-(16 * sl 5) : ℝ) : EReal) := by
  have e : sl 5 = 1 / 8 := rfl
  rw [e]; show Ideal.ofBits .f32 3221225472#32 = _
  simp [Ideal.ofBits, Ideal.ieee, -EReal.coe_mul]; norm_num
theorem kslope_6 : (FloatOps.ofBits (F := Ideal) .f32 3216311539#32 : EReal) = ((-(16 * sl 6) : ℝ) : EReal) := by
  have e : sl 6 = 11863283 / 2 ^ 27 := rfl
  rw [e]; show Ideal.ofBits .f32 3216311539#32 = _
  simp [Ideal.ofBits, Ideal.ieee, -EReal.coe_mul]; norm_num
theorem kslope_7 : (FloatOps.ofBits (F := Ideal) .f32 3212836864#32 : EReal) = ((-(16 * sl 7) : ℝ) : EReal) := by
  have e : sl 7 = 1 / 16 := rfl
  rw [e]; show Ideal.ofBits .f32 3212836864#32 = _
  simp [Ideal.ofBits, Ideal.ieee, -EReal.coe_mul]; norm_num
theorem kslope_8 : (FloatOps.ofBits (F := Ideal) .f32 3207922931#32 : EReal) = ((-(16 * sl 8) : ℝ) : EReal) := by
  have e : sl 8 = 11863283 / 2 ^ 28 := rfl
  rw [e]; show Ideal.ofBits .f32 3207922931#32 = _
  simp [Ideal.ofBits, Ideal.ieee, -EReal.coe_mul]; norm_num
theorem kslope_9 : (FloatOps.ofBits (F := Ideal) .f32 3204448256#32 : EReal) = ((-(16 * sl 9) : ℝ) : EReal) := by
  have e : sl 9 = 1 / 32 := rfl
  rw [e]; show Ideal.ofBits .f32 3204448256#32 = _
  simp [Ideal.ofBits, Ideal.ieee, -EReal.coe_mul]; norm_num
theorem kslope_10 : (FloatOps.ofBits (F := Ideal) .f32 3199534323#32 : EReal) = ((-(16 * sl 10) : ℝ) : EReal) := by
  have e : sl 10 = 11863283 / 2 ^ 29 := rfl
  rw [e]; show Ideal.ofBits .f32 3199534323#32 = _
  simp [Ideal.ofBits, Ideal.ieee, -EReal.coe_mul]; norm_num
theorem kslope_11 : (FloatOps.ofBits (F := Ideal) .f32 3196059648#32 : EReal) = ((-(16 * sl 11) : ℝ) : EReal) := by
  have e : sl 11 = 1 / 64 := rfl
  rw [e]; show Ideal.ofBits .f32 3196059648#32 = _
  simp [Ideal.ofBits, Ideal.ieee, -EReal.coe_mul]; norm_num
theorem kslope_12 : (FloatOps.ofBits (F := Ideal) .f32 3191145715#32 : EReal) = ((-(16 * sl 12) : ℝ) : EReal) := by
  have e : sl 12 = 11863283 / 2 ^ 30 := rfl
  rw [e]; show Ideal.ofBits .f32 3191145715#32 = _
  simp [Ideal.ofBits, Ideal.ieee, -EReal.coe_mul]; norm_num
theorem kslope_13 : (FloatOps.ofBits (F := Ideal) .f32 3187671040#32 : EReal) = ((-(16 * sl 13) : ℝ) : EReal) := by
  have e : sl 13 = 1 / 128 := rfl
  rw [e]; show Ideal.ofBits .f32 3187671040#32 = _
  simp [Ideal.ofBits, Ideal.ieee, -EReal.coe_mul]; norm_num
theorem kslope_14 : (FloatOps.ofBits (F := Ideal) .f32 3182757107#32 : EReal) = ((-(16 * sl 14) : ℝ) : EReal) := by
  have e : sl 14 = 11863283 / 2 ^ 31 := rfl
  rw [e]; show Ideal.ofBits .f32 3182757107#32 = _
  simp [Ideal.ofBits, Ideal.ieee, -EReal.coe_mul]; norm_num
theorem kslope_15 : (FloatOps.ofBits (F := Ideal) .f32 3179282432#32 : EReal) = ((-(16 * sl 15) : ℝ) : EReal) := by
  have e : sl 15 = 1 / 256 := rfl
  rw [e]; show Ideal.ofBits .f32 3179282432#32 = _
  simp [Ideal.ofBits, Ideal.ieee, -EReal.coe_mul]; norm_num
theorem sl_pos (h : Fin 16) : 0 < sl h := by
  fin_cases h <;> simp [sl] <;> norm_num

end Cert.ReferenceIdeal.Hand
-- ==== Proof.Ideal.Tiles.lean ====
module

public import proofs.«01_k».proof.Proof.Ideal.Consts
public import proofs.«01_k».proof.Proof.Ideal.Spec
public import Idealize.ShloMosaic.Lib.MatmulPlain
public import Idealize.ShloMosaic.Lib.Pipeline.ValueKit
public import Idealize.ShloMosaic.PureOps.IdealRules

/-! The operations of one head's tiles, read element by element over the extended reals. -/

@[expose] public section
noncomputable section

namespace Cert.KernelIdeal.Hand

open Idealize.ShloMosaic hiding ix1 ix2 ix3 ix4 ix5 eq_ix1 eq_ix2 eq_ix3 eq_ix4 eq_ix5
open Idealize.ShloMosaic.ValueIdx
open Cert.KernelIdeal Cert.KernelIdeal.Gen Attn
open Cert.ReferenceIdeal.Hand (mul2 add2 sub2 neg1 exp1 sum1 dot1 coe_sum z32 c_scale)
open scoped BigOperators

/-- The column of head `h`, lane `e`. -/
def cl (h : Fin 16) (e : Fin 128) : Fin 2048 := ⟨128 * h.val + e.val, by have := h.isLt; have := e.isLt; omega⟩
/-- The lane of a head's log-sum. -/
def hl (h : Fin 16) : Fin 128 := ⟨h.val, by have := h.isLt; omega⟩

theorem tile_at (X : S1x128x2048.Idx → EReal) (h : Fin 16) (a e : Fin 128) :
    tile (F := Ideal) X h (ix2 a e) = X (ix3 0 a (cl h e)) := by
  unfold tile
  refine (shapeCast_apply _ _ _ (ix3 0 a e) ?_).trans (congrArg X (funext fun d => Fin.ext ?_))
  · rw [Shape.rowMajor_val_two, Shape.rowMajor_val_three]
    show (0 * 128 + a.val) * 128 + e.val = a.val * 128 + e.val; omega
  · match d with
    | ⟨0, _⟩ => rfl
    | ⟨1, _⟩ => show 0 + 1 * a.val = a.val; omega
    | ⟨2, _⟩ => show 128 * h.val + 1 * e.val = 128 * h.val + e.val; omega

theorem laneCol_at (X : S1x128x128.Idx → EReal) (h : Fin 16) (a : Fin 128) :
    laneCol (F := Ideal) X h (ix2 a 0) = X (ix3 0 a (hl h)) := by
  unfold laneCol
  refine (shapeCast_apply _ _ _ (ix3 0 a 0) ?_).trans (congrArg X (funext fun d => Fin.ext ?_))
  · rw [Shape.rowMajor_val_two, Shape.rowMajor_val_three]
    show (0 * 128 + a.val) * 1 + 0 = a.val * 1 + 0; omega
  · match d with
    | ⟨0, _⟩ => rfl
    | ⟨1, _⟩ => show 0 + 1 * a.val = a.val; omega
    | ⟨2, _⟩ => show h.val + 1 * 0 = h.val; omega

theorem ctile_at (X : S128x2048.Idx → EReal) (h : Fin 16) (a e : Fin 128) :
    ctile (F := Ideal) X h (ix2 a e) = X (ix2 a (cl h e)) := by
  unfold ctile
  refine congrArg X (funext fun d => Fin.ext ?_)
  match d with
  | ⟨0, _⟩ => show 0 + 1 * a.val = a.val; omega
  | ⟨1, _⟩ => show 128 * h.val + 1 * e.val = 128 * h.val + e.val; omega

theorem both_lo (P C : FVec Ideal S128x128 .bf16) (y : Fin 256) (y' e : Fin 128) (hy : y.val = y'.val) :
    both P C (ix2 y e) = P (ix2 y' e) := by
  unfold both
  exact concatenate_apply_piece (t := S256x128) 0 _ _ _ 0 (by show 0 < 2; decide) S128x128 P rfl rfl 0 rfl (ix2 y' e)
    (fun b hb => match b with | ⟨0, _⟩ => absurd rfl hb | ⟨1, _⟩ => rfl) (by show 0 + y'.val = y.val; omega)
theorem both_hi (P C : FVec Ideal S128x128 .bf16) (y : Fin 256) (y' e : Fin 128) (hy : y.val = 128 + y'.val) :
    both P C (ix2 y e) = C (ix2 y' e) := by
  unfold both
  exact concatenate_apply_piece (t := S256x128) 0 _ _ _ 1 (by show 1 < 2; decide) S128x128 C rfl rfl 128 rfl (ix2 y' e)
    (fun b hb => match b with | ⟨0, _⟩ => absurd rfl hb | ⟨1, _⟩ => rfl) (by show 128 + y'.val = y.val; omega)

/-- The scores' product: rows of both operands. -/
theorem mm_rows (A : FVec Ideal S128x128 .bf16) (B : FVec Ideal S256x128 .bf16) (a : Fin 128) (y : Fin 256)
    {f g : Fin 128 → ℝ} (hA : ∀ e, A (ix2 a e) = ((f e : ℝ) : EReal)) (hB : ∀ e, B (ix2 y e) = ((g e : ℝ) : EReal)) :
    matmul dot_S128x128_S256x128_S128x256_1_1_0_0_n_n none A B (constant S128x256 .f32 0#32) (ix2 a y)
      = ((∑ e : Fin 128, f e * g e : ℝ) : EReal) := by
  refine (Ideal.matmul_transposedRhs_apply (M := 128) (K := 128) (N := 256) none A B _ a y).trans ?_
  exact sum1 z32 fun e => mul2 (hA e) (hB e)

/-- The query cotangent's product. -/
theorem mm_plain (A : FVec Ideal S128x256 .bf16) (B : FVec Ideal S256x128 .bf16) (a : Fin 128) (e : Fin 128)
    {f g : Fin 256 → ℝ} (hA : ∀ y, A (ix2 a y) = ((f y : ℝ) : EReal)) (hB : ∀ y, B (ix2 y e) = ((g y : ℝ) : EReal)) :
    matmul dot_S128x256_S256x128_S128x128_1_0_0_1_n_n none A B (constant S128x128 .f32 0#32) (ix2 a e)
      = ((∑ y : Fin 256, f y * g y : ℝ) : EReal) := by
  refine (Ideal.matmul_plain_apply (M := 128) (K := 256) (N := 128) none A B _ a e).trans ?_
  exact sum1 z32 fun y => mul2 (hA y) (hB y)

/-- The key and value cotangents' product: columns of both operands. -/
theorem mm_cols (A : FVec Ideal S128x256 .bf16) (B : FVec Ideal S128x128 .bf16) (y : Fin 256) (e : Fin 128)
    {f g : Fin 128 → ℝ} (hA : ∀ a, A (ix2 a y) = ((f a : ℝ) : EReal)) (hB : ∀ a, B (ix2 a e) = ((g a : ℝ) : EReal)) :
    matmul dot_S128x256_S128x128_S256x128_0_0_1_1_n_n none A B (constant S256x128 .f32 0#32) (ix2 y e)
      = ((∑ a : Fin 128, f a * g a : ℝ) : EReal) := by
  have hr : (dot_S128x256_S128x128_S256x128_0_0_1_1_n_n).contr.rank = 1 := rfl
  have hs : (dot_S128x256_S128x128_S256x128_0_0_1_1_n_n).contr.size ⟨0, by rw [hr]; exact Nat.one_pos⟩ = 128 := rfl
  refine (Ideal.matmul_apply _ _ A B _ (ix2 y e)).trans ?_
  rw [← Equiv.sum_comp (contrEquiv1 _ 128 hr hs).symm]
  refine sum1 z32 fun a => ?_
  have hk := contrEquiv1_symm_val _ 128 hr hs a
  have el : (dot_S128x256_S128x128_S256x128_0_0_1_1_n_n).lhsIdx (ix2 y e) ((contrEquiv1 _ 128 hr hs).symm a) = ix2 a y := by
    funext d; apply Fin.ext
    match d with
    | ⟨0, _⟩ => exact hk
    | ⟨1, _⟩ => rfl
  have er : (dot_S128x256_S128x128_S256x128_0_0_1_1_n_n).rhsIdx (ix2 y e) ((contrEquiv1 _ 128 hr hs).symm a) = ix2 a e := by
    funext d; apply Fin.ext
    match d with
    | ⟨0, _⟩ => exact hk
    | ⟨1, _⟩ => rfl
  rw [el, er]
  exact mul2 (hA a) (hB a)

/-- A column repeated over the keys. -/
theorem col_at (x : FVec Ideal S128x1 .f32) (a : Fin 128) (y : Fin 256) :
    broadcastTo S128x256 x broadcasts_S128x1_S128x256 (ix2 a y) = x (ix2 a 0) := by
  refine broadcastTo_apply _ _ _ (ix2 a 0) fun d => ?_
  match d with
  | ⟨0, _⟩ => show a.val = if (128 : ℕ) = 1 then 0 else a.val; rw [if_neg (by decide)]
  | ⟨1, _⟩ => show 0 = if (1 : ℕ) = 1 then 0 else y.val; rw [if_pos rfl]

/-- The row sums of a tile, as a column. -/
theorem rowsum_at (x : FVec Ideal S128x128 .f32) (a : Fin 128) {f : Fin 128 → ℝ} (hx : ∀ e, x (ix2 a e) = ((f e : ℝ) : EReal)) :
    shapeCast S128x1 (multiReduction .add [1] S128 x 0x00000000#32 reduces_S128x128_S128 (.inl rfl) rfl) shapeCasts_S128_S128x1 (ix2 a 0)
      = ((∑ e : Fin 128, f e : ℝ) : EReal) := by
  refine (shapeCast_apply _ _ _ (ix1 a) ?_).trans ?_
  · rw [Shape.rowMajor_val_one, Shape.rowMajor_val_two]
    show a.val = a.val * 1 + 0; omega
  refine (Ideal.multiReduction_add_single x _ _ _ _ (ix1 a)).trans ?_
  rw [← coe_sum]
  refine Finset.sum_congr rfl fun e _ => Eq.trans (congrArg x (funext fun d => ?_)) (hx e)
  match d with
  | ⟨0, _⟩ => rfl
  | ⟨1, _⟩ => rfl

/-! ## The distances -/

/-- Query `a` of block `b` and column `y` of its 256 keys are a pair of the band. -/
abbrev ok (b : Fin 2) (a : Fin 128) (y : Fin 256) : Prop :=
  (y.val ≤ a.val + 128 ∧ a.val ≤ y.val) ∧ (b.val = 1 ∨ 128 ≤ y.val)

theorem dist_word (a : Fin 128) (y : Fin 256) :
    (BitVec.ofNat 32 a.val - BitVec.ofNat 32 y.val + 128#32).toInt = (a.val : ℤ) - (y.val : ℤ) + 128 := by
  have hx := a.isLt
  have hy := y.isLt
  have o : ∀ n : ℕ, n < 256 → (BitVec.ofNat 32 n).toInt = (n : ℤ) := fun n hn => by
    rw [BitVec.toInt_eq_toNat_cond, BitVec.toNat_ofNat, Nat.mod_eq_of_lt (by omega), if_pos (by omega)]
  rw [BitVec.toInt_add, BitVec.toInt_sub, o _ (by omega), o _ hy]
  show Int.bmod (Int.bmod _ _ + 128) _ = _
  simp only [Int.bmod_def]
  split_ifs <;> omega

theorem ok_word (b : Fin 2) (a : Fin 128) (y : Fin 256) :
    IntOp.andi (IntOp.andi (IntOp.cmpi .sge (BitVec.ofNat 32 a.val - BitVec.ofNat 32 y.val + 128#32) 0#32)
      (IntOp.cmpi .sle (BitVec.ofNat 32 a.val - BitVec.ofNat 32 y.val + 128#32) 128#32))
      (IntOp.ori (Scalar.cmpi .sgt (BitVec.ofNat 32 b.val) 0#32) (IntOp.cmpi .sge (BitVec.ofNat 32 y.val) 128#32))
      = BitVec.ofBool (decide (ok b a y)) := by
  have hx := a.isLt
  have hy := y.isLt
  have h := dist_word a y
  generalize BitVec.ofNat 32 a.val - BitVec.ofNat 32 y.val + 128#32 = d at h ⊢
  have h1 : (0#32).sle d = decide (y.val ≤ a.val + 128) := by
    rw [BitVec.sle_eq_decide, h]; exact decide_eq_decide.2 (by show (0 : ℤ) ≤ _ ↔ _; omega)
  have h2 : d.sle 128#32 = decide (a.val ≤ y.val) := by
    rw [BitVec.sle_eq_decide, h]; exact decide_eq_decide.2 (by show _ ≤ (128 : ℤ) ↔ _; omega)
  have h3 : (128#32).sle (BitVec.ofNat 32 y.val) = decide (128 ≤ y.val) := by
    have o : (BitVec.ofNat 32 y.val).toInt = (y.val : ℤ) := by
      rw [BitVec.toInt_eq_toNat_cond, BitVec.toNat_ofNat, Nat.mod_eq_of_lt (by omega), if_pos (by omega)]
    rw [BitVec.sle_eq_decide, o]; exact decide_eq_decide.2 (by show (128 : ℤ) ≤ _ ↔ _; omega)
  have h4 : (0#32).slt (BitVec.ofNat 32 b.val) = decide (b.val = 1) := by
    revert b; decide
  show (BitVec.ofBool ((0#32).sle d) &&& BitVec.ofBool (d.sle 128#32)) &&& (BitVec.ofBool ((0#32).slt (BitVec.ofNat 32 b.val)) ||| BitVec.ofBool ((128#32).sle (BitVec.ofNat 32 y.val))) = _
  rw [h1, h2, h3, h4]
  show _ = BitVec.ofBool (decide ((y.val ≤ a.val + 128 ∧ a.val ≤ y.val) ∧ (b.val = 1 ∨ 128 ≤ y.val)))
  rw [Bool.decide_and, Bool.decide_and, Bool.decide_or]
  cases decide (y.val ≤ a.val + 128) <;> cases decide (a.val ≤ y.val) <;> cases decide (b.val = 1) <;> cases decide (128 ≤ y.val) <;> rfl

theorem far_top : (Named.named (F := Ideal) κ "far" (φ := .f32) 0x76453719#32 : EReal) = ⊤ :=
  IdealRules.named_const.ideal_named_scalar _ _ _ _ rfl

theorem pay8_at (b : Fin 2) (a : Fin 128) (y : Fin 256) :
    k0_pay8 (F := Ideal) (BitVec.ofNat 32 b.val) (ix2 a y) = if ok b a y then (((a.val : ℝ) - (y.val : ℝ) + 128 : ℝ) : EReal) else ⊤ := by
  have e0 : iota .tc S128x256 32 [0] iota_S128x256_d0_w32 (ix2 a y) = BitVec.ofNat 32 a.val := iota_single_apply _ _ _ _ _ _
  have e1 : iota .tc S128x256 32 [1] iota_S128x256_d1_w32 (ix2 a y) = BitVec.ofNat 32 y.val := iota_single_apply _ _ _ _ _ _
  refine Eq.trans (b := Scalar.select (BitVec.ofBool (decide (ok b a y)))
    ((((BitVec.ofNat 32 a.val - BitVec.ofNat 32 y.val + 128#32).toInt : ℤ) : ℝ) : EReal) (⊤ : EReal)) ?_ ?_
  · rw [← ok_word, ← far_top, ← e0, ← e1]; unfold k0_pay8; rfl
  · rw [dist_word]
    by_cases h : ok b a y
    · rw [if_pos h, decide_eq_true h]
      show (((((a.val : ℤ) - (y.val : ℤ) + 128 : ℤ) : ℤ) : ℝ) : EReal) = _
      push_cast; rfl
    · rw [if_neg h, decide_eq_false h]; rfl

end Cert.KernelIdeal.Hand
-- ==== Proof.Ideal.Blk.lean ====
module

public import proofs.«01_k».proof.Proof.Ideal.Tiles

/-! One head of one block of 128 queries: the kernel's tiles as real numbers. -/

@[expose] public section
noncomputable section

namespace Cert.KernelIdeal.Hand

open Idealize.ShloMosaic hiding ix1 ix2 ix3 ix4 ix5 eq_ix1 eq_ix2 eq_ix3 eq_ix4 eq_ix5
open Idealize.ShloMosaic.ValueIdx
open Cert.KernelIdeal Cert.KernelIdeal.Gen Attn
open Cert.ReferenceIdeal.Hand (mul2 add2 sub2 neg1 exp1 sum1 dot1 coe_sum z32 c_scale sl_pos)
open scoped BigOperators

theorem slope_word (h : Fin 16) : (FloatOps.ofBits (F := Ideal) .f32 (slopeW h) : EReal) = ((-(16 * sl h) : ℝ) : EReal) := by
  fin_cases h
  · exact Cert.ReferenceIdeal.Hand.kslope_0
  · exact Cert.ReferenceIdeal.Hand.kslope_1
  · exact Cert.ReferenceIdeal.Hand.kslope_2
  · exact Cert.ReferenceIdeal.Hand.kslope_3
  · exact Cert.ReferenceIdeal.Hand.kslope_4
  · exact Cert.ReferenceIdeal.Hand.kslope_5
  · exact Cert.ReferenceIdeal.Hand.kslope_6
  · exact Cert.ReferenceIdeal.Hand.kslope_7
  · exact Cert.ReferenceIdeal.Hand.kslope_8
  · exact Cert.ReferenceIdeal.Hand.kslope_9
  · exact Cert.ReferenceIdeal.Hand.kslope_10
  · exact Cert.ReferenceIdeal.Hand.kslope_11
  · exact Cert.ReferenceIdeal.Hand.kslope_12
  · exact Cert.ReferenceIdeal.Hand.kslope_13
  · exact Cert.ReferenceIdeal.Hand.kslope_14
  · exact Cert.ReferenceIdeal.Hand.kslope_15

/-- The position of query `a` of block `b`. -/
def qx (b : Fin 2) (a : Fin 128) : Fin 256 := ⟨128 * b.val + a.val, by have := b.isLt; have := a.isLt; omega⟩
/-- The position of the key in column `y`: the first block's keys stand above the second's, or above themselves. -/
def ky (b : Fin 2) (y : Fin 256) : Fin 256 := ⟨if b.val = 1 then y.val else y.val % 128, by have := y.isLt; split_ifs <;> omega⟩
/-- A position in the first 128. -/
def lw (a : Fin 128) : Fin 256 := ⟨a.val, by have := a.isLt; omega⟩

theorem ok_valid {b : Fin 2} {a : Fin 128} {y : Fin 256} (h : ok b a y) : valid (qx b a) (ky b y) := by
  have := b.isLt; have := a.isLt; have := y.isLt
  obtain ⟨⟨h1, h2⟩, h3⟩ := h
  show (if b.val = 1 then y.val else y.val % 128) ≤ 128 * b.val + a.val ∧ 128 * b.val + a.val ≤ (if b.val = 1 then y.val else y.val % 128) + 128
  split_ifs <;> omega

theorem ok_dist {b : Fin 2} {a : Fin 128} {y : Fin 256} (h : ok b a y) :
    ((qx b a).val : ℝ) - ((ky b y).val : ℝ) = (a.val : ℝ) - (y.val : ℝ) + 128 := by
  have := b.isLt; have := a.isLt; have := y.isLt
  obtain ⟨⟨h1, h2⟩, h3⟩ := h
  have e : (qx b a).val + y.val = a.val + 128 + (ky b y).val := by
    show 128 * b.val + a.val + y.val = a.val + 128 + (if b.val = 1 then y.val else y.val % 128)
    split_ifs <;> omega
  have e' : ((qx b a).val : ℝ) + (y.val : ℝ) = (a.val : ℝ) + 128 + ((ky b y).val : ℝ) := by exact_mod_cast e
  linarith

/-- The blocks hold the rows of residue `r` around block `b`. -/
structure Blk (D : Data) (r : Fin 16) (b : Fin 2) (XQ XKC XKP XVC XVP XG XO : S1x128x2048.Idx → EReal) (XL : S1x128x128.Idx → EReal) : Prop where
  hQ : ∀ a h e, XQ (ix3 0 a (cl h e)) = ((D.q r (qx b a) h e : ℝ) : EReal)
  hKC : ∀ a h e, XKC (ix3 0 a (cl h e)) = ((D.k r (qx b a) h e : ℝ) : EReal)
  hKP : ∀ a h e, XKP (ix3 0 a (cl h e)) = ((D.k r (lw a) h e : ℝ) : EReal)
  hVC : ∀ a h e, XVC (ix3 0 a (cl h e)) = ((D.v r (qx b a) h e : ℝ) : EReal)
  hVP : ∀ a h e, XVP (ix3 0 a (cl h e)) = ((D.v r (lw a) h e : ℝ) : EReal)
  hG : ∀ a h e, XG (ix3 0 a (cl h e)) = ((D.g r (qx b a) h e : ℝ) : EReal)
  hO : ∀ a h e, XO (ix3 0 a (cl h e)) = ((D.att r (qx b a) h e : ℝ) : EReal)
  hL : ∀ a h, XL (ix3 0 a (hl h)) = ((D.LM r (qx b a) h : ℝ) : EReal)

theorem both_at (P C : S1x128x2048.Idx → EReal) (f : Fin 256 → Fin 16 → Fin 128 → ℝ) (b : Fin 2)
    (hC : ∀ a h e, C (ix3 0 a (cl h e)) = ((f (qx b a) h e : ℝ) : EReal)) (hP : ∀ a h e, P (ix3 0 a (cl h e)) = ((f (lw a) h e : ℝ) : EReal))
    (h : Fin 16) (y : Fin 256) (e : Fin 128) :
    both (F := Ideal) (tile P h) (tile C h) (ix2 y e) = ((f (ky b y) h e : ℝ) : EReal) := by
  have hy := y.isLt
  have hb := b.isLt
  by_cases hlt : y.val < 128
  · refine (both_lo _ _ y ⟨y.val, hlt⟩ e rfl).trans ((tile_at P h _ e).trans ((hP _ h e).trans ?_))
    have : lw ⟨y.val, hlt⟩ = ky b y := Fin.ext (by show y.val = if b.val = 1 then y.val else y.val % 128; split_ifs <;> omega)
    rw [this]
  · refine (both_hi _ _ y ⟨y.val - 128, by omega⟩ e (by show y.val = 128 + (y.val - 128); omega)).trans ((tile_at C h _ e).trans ((hC _ h e).trans ?_))
    have : qx b ⟨y.val - 128, by omega⟩ = ky b y := Fin.ext (by
      show 128 * b.val + (y.val - 128) = if b.val = 1 then y.val else y.val % 128; split_ifs <;> omega)
    rw [this]

variable {D : Data} {r : Fin 16} {b : Fin 2} {XQ XKC XKP XVC XVP XG XO : S1x128x2048.Idx → EReal} {XL : S1x128x128.Idx → EReal}

/-- The probability of a pair in the kernel's arrangement. -/
def pp (D : Data) (r : Fin 16) (b : Fin 2) (h : Fin 16) (a : Fin 128) (y : Fin 256) : ℝ := if ok b a y then D.p r h (qx b a) (ky b y) else 0
/-- The cotangent of a score in the kernel's arrangement. -/
def dd (D : Data) (r : Fin 16) (b : Fin 2) (h : Fin 16) (a : Fin 128) (y : Fin 256) : ℝ := if ok b a y then D.ds r h (qx b a) (ky b y) else 0

theorem top_mul_neg {z : ℝ} (hz : z < 0) : (⊤ : EReal) * (z : EReal) = ⊥ := EReal.top_mul_coe_of_neg hz

theorem probs_at (B : Blk D r b XQ XKC XKP XVC XVP XG XO XL) (h : Fin 16) (a : Fin 128) (y : Fin 256) :
    probs (F := Ideal) b.val h XQ XKC XKP XL (ix2 a y) = ((pp D r b h a y : ℝ) : EReal) := by
  have hS := mm_rows (tile XQ h) (both (tile XKP h) (tile XKC h)) a y (fun e => (tile_at XQ h a e).trans (B.hQ a h e))
    (fun e => both_at XKP XKC (fun x h e => D.k r x h e) b B.hKC B.hKP h y e)
  have hL : broadcastTo S128x256 (laneCol (F := Ideal) XL h) broadcasts_S128x1_S128x256 (ix2 a y) = ((D.LM r (qx b a) h : ℝ) : EReal) :=
    (col_at _ a y).trans ((laneCol_at XL h a).trans (B.hL a h))
  have hD := pay8_at b a y
  unfold probs
  show Ideal.exp ((matmul (F := Ideal) dot_S128x128_S256x128_S128x256_1_1_0_0_n_n none (tile XQ h) (both (tile XKP h) (tile XKC h)) (constant S128x256 .f32 0#32) (ix2 a y) : EReal)
    * FloatOps.ofBits (F := Ideal) .f32 1035273459#32
    + k0_pay8 (F := Ideal) (BitVec.ofNat 32 b.val) (ix2 a y) * FloatOps.ofBits (F := Ideal) .f32 (slopeW h)
    - broadcastTo S128x256 (laneCol (F := Ideal) XL h) broadcasts_S128x1_S128x256 (ix2 a y)) = _
  by_cases hk : ok b a y
  · rw [if_pos hk] at hD
    refine (exp1 (sub2 (add2 (mul2 hS c_scale) (mul2 hD (slope_word h))) hL)).trans (congrArg _ ?_)
    unfold pp Data.p
    rw [if_pos hk, if_pos (ok_valid hk)]
    refine congrArg Real.exp ?_
    unfold Data.A Data.S
    rw [ok_dist hk]; ring
  · rw [if_neg hk] at hD
    have hm : (k0_pay8 (F := Ideal) (BitVec.ofNat 32 b.val) (ix2 a y) * FloatOps.ofBits (F := Ideal) .f32 (slopeW h) : EReal) = ⊥ :=
      (congrArg₂ (fun u v : EReal => u * v) hD (slope_word h)).trans (top_mul_neg (by have := sl_pos h; linarith))
    have hb : ∀ u v w : EReal, v = ⊥ → ∀ z : ℝ, w = (z : EReal) → Ideal.exp (u + v - w) = ((0 : ℝ) : EReal) := by
      intro u v w hv z hw
      rw [hv, hw, EReal.add_bot, EReal.bot_sub, Ideal.exp_bot]; rfl
    refine (hb _ _ _ hm _ hL).trans (congrArg _ ?_)
    unfold pp; rw [if_neg hk]

theorem dscores_at (B : Blk D r b XQ XKC XKP XVC XVP XG XO XL) (h : Fin 16) (a : Fin 128) (y : Fin 256) :
    dscores (F := Ideal) b.val h XQ XKC XKP XVC XVP XG XO XL (ix2 a y) = ((dd D r b h a y : ℝ) : EReal) := by
  have hS := mm_rows (tile XG h) (both (tile XVP h) (tile XVC h)) a y (fun e => (tile_at XG h a e).trans (B.hG a h e))
    (fun e => both_at XVP XVC (fun x h e => D.v r x h e) b B.hVC B.hVP h y e)
  have hd := (col_at _ a y).trans (rowsum_at (mulf (extf .f32 (tile (F := Ideal) XG h) bitsLt_bf16_f32) (extf .f32 (tile (F := Ideal) XO h) bitsLt_bf16_f32)) a
    (fun e => mul2 ((tile_at XG h a e).trans (B.hG a h e)) ((tile_at XO h a e).trans (B.hO a h e))))
  unfold dscores
  refine (mul2 (probs_at B h a y) (sub2 hS hd)).trans (congrArg _ ?_)
  unfold pp dd Data.ds Data.dp Data.delta
  split_ifs
  · rfl
  · rw [zero_mul]

theorem dqT_at (B : Blk D r b XQ XKC XKP XVC XVP XG XO XL) (h : Fin 16) (a e : Fin 128) :
    dqT (F := Ideal) b.val h XQ XKC XKP XVC XVP XG XO XL (ix2 a e)
      = (((∑ y : Fin 256, dd D r b h a y * D.k r (ky b y) h e) * sc : ℝ) : EReal) := by
  unfold dqT
  exact mul2 (mm_plain _ _ a e (fun y => dscores_at B h a y) (fun y => both_at XKP XKC (fun x h e => D.k r x h e) b B.hKC B.hKP h y e)) c_scale

theorem dkT_at (B : Blk D r b XQ XKC XKP XVC XVP XG XO XL) (h : Fin 16) (y : Fin 256) (e : Fin 128) :
    dkT (F := Ideal) b.val h XQ XKC XKP XVC XVP XG XO XL (ix2 y e)
      = (((∑ a : Fin 128, dd D r b h a y * D.q r (qx b a) h e) * sc : ℝ) : EReal) := by
  unfold dkT
  exact mul2 (mm_cols _ _ y e (fun a => dscores_at B h a y) (fun a => (tile_at XQ h a e).trans (B.hQ a h e))) c_scale

theorem dvT_at (B : Blk D r b XQ XKC XKP XVC XVP XG XO XL) (h : Fin 16) (y : Fin 256) (e : Fin 128) :
    dvT (F := Ideal) b.val h XQ XKC XKP XG XL (ix2 y e)
      = ((∑ a : Fin 128, pp D r b h a y * D.g r (qx b a) h e : ℝ) : EReal) := by
  unfold dvT
  exact mm_cols _ _ y e (fun a => probs_at B h a y) (fun a => (tile_at XG h a e).trans (B.hG a h e))

/-! ## The sums over the kernel's arrangement -/

theorem split_sum (f : Fin 256 → ℝ) : ∑ x : Fin 256, f x = (∑ a : Fin 128, f (qx 0 a)) + ∑ a : Fin 128, f (qx 1 a) := by
  refine (Fin.sum_univ_add (a := 128) (b := 128) f).trans ?_
  refine congrArg₂ (· + ·) (Finset.sum_congr rfl fun a _ => congrArg f (Fin.ext ?_)) (Finset.sum_congr rfl fun a _ => congrArg f (Fin.ext ?_))
  · show a.val = 128 * 0 + a.val; omega
  · show 128 + a.val = 128 * 1 + a.val; omega

theorem ky1 (y : Fin 256) : ky 1 y = y := by
  apply Fin.ext
  have e : (ky 1 y).val = if (1 : Fin 2).val = 1 then y.val else y.val % 128 := rfl
  rw [e]; exact if_pos rfl
theorem ky0 (c : Fin 128) : ky 0 (qx 1 c) = qx 0 c := by
  have hc := c.isLt
  apply Fin.ext
  have e : (ky 0 (qx 1 c)).val = if (0 : Fin 2).val = 1 then (qx 1 c).val else (qx 1 c).val % 128 := rfl
  rw [e, if_neg (by decide : ¬ (0 : Fin 2).val = 1)]
  show (128 * 1 + c.val) % 128 = 128 * 0 + c.val; omega

/-- A sum over the keys of a query. -/
theorem sum_keys (f g : Fin 256 → Fin 256 → ℝ) (hf : ∀ x y, ¬ valid x y → f x y = 0) (b : Fin 2) (a : Fin 128) :
    ∑ y : Fin 256, (if ok b a y then f (qx b a) (ky b y) else 0) * g (qx b a) (ky b y) = ∑ y : Fin 256, f (qx b a) y * g (qx b a) y := by
  have ha := a.isLt
  by_cases hb : b.val = 1
  · obtain rfl : b = 1 := Fin.ext hb
    refine Finset.sum_congr rfl fun y _ => ?_
    have e : ky 1 y = y := ky1 y
    rw [e]
    by_cases hk : ok 1 a y
    · rw [if_pos hk]
    · rw [if_neg hk, hf _ y ?_]
      rintro ⟨h1, h2⟩
      have h1' : y.val ≤ 128 * 1 + a.val := h1
      have h2' : 128 * 1 + a.val ≤ y.val + 128 := h2
      exact hk ⟨⟨by omega, by omega⟩, Or.inl rfl⟩
  · obtain rfl : b = 0 := Fin.ext (by have := b.isLt; show b.val = 0; omega)
    rw [split_sum, split_sum]
    have z1 : ∑ c : Fin 128, (if ok 0 a (qx 0 c) then f (qx 0 a) (ky 0 (qx 0 c)) else 0) * g (qx 0 a) (ky 0 (qx 0 c)) = 0 := by
      refine Finset.sum_eq_zero fun c _ => ?_
      have hc := c.isLt
      rw [if_neg ?_, zero_mul]
      rintro ⟨_, h | h⟩
      · exact absurd h (by decide)
      · have h' : 128 ≤ 128 * 0 + c.val := h
        omega
    have z2 : ∑ c : Fin 128, f (qx 0 a) (qx 1 c) * g (qx 0 a) (qx 1 c) = 0 := by
      refine Finset.sum_eq_zero fun c _ => ?_
      rw [hf _ _ ?_, zero_mul]
      rintro ⟨h1, _⟩
      have h1' : 128 * 1 + c.val ≤ 128 * 0 + a.val := h1
      omega
    rw [z1, z2, zero_add, add_zero]
    refine Finset.sum_congr rfl fun c _ => ?_
    have hc := c.isLt
    have e : ky 0 (qx 1 c) = qx 0 c := ky0 c
    rw [e]
    by_cases hk : ok 0 a (qx 1 c)
    · rw [if_pos hk]
    · rw [if_neg hk, hf _ (qx 0 c) ?_]
      rintro ⟨h1, h2⟩
      have h1' : 128 * 0 + c.val ≤ 128 * 0 + a.val := h1
      exact hk ⟨⟨by show 128 * 1 + c.val ≤ _; omega, by show _ ≤ 128 * 1 + c.val; omega⟩, Or.inr (by show _ ≤ 128 * 1 + c.val; omega)⟩

/-- A sum over the queries of one of the first 128 keys. -/
theorem sum_lo (f g : Fin 256 → Fin 256 → ℝ) (hf : ∀ x y, ¬ valid x y → f x y = 0) (c : Fin 128) :
    (∑ a : Fin 128, (if ok 0 a (qx 1 c) then f (qx 0 a) (ky 0 (qx 1 c)) else 0) * g (qx 0 a) (ky 0 (qx 1 c)))
      + (∑ a : Fin 128, (if ok 1 a (qx 0 c) then f (qx 1 a) (ky 1 (qx 0 c)) else 0) * g (qx 1 a) (ky 1 (qx 0 c)))
      = ∑ x : Fin 256, f x (qx 0 c) * g x (qx 0 c) := by
  have hc := c.isLt
  rw [split_sum (fun x => f x (qx 0 c) * g x (qx 0 c))]
  refine congrArg₂ (· + ·) (Finset.sum_congr rfl fun a _ => ?_) (Finset.sum_congr rfl fun a _ => ?_)
  · have ha := a.isLt
    have e : ky 0 (qx 1 c) = qx 0 c := ky0 c
    rw [e]
    by_cases hk : ok 0 a (qx 1 c)
    · rw [if_pos hk]
    · rw [if_neg hk, hf _ (qx 0 c) ?_]
      rintro ⟨h1, h2⟩
      have h1' : 128 * 0 + c.val ≤ 128 * 0 + a.val := h1
      exact hk ⟨⟨by show 128 * 1 + c.val ≤ _; omega, by show _ ≤ 128 * 1 + c.val; omega⟩, Or.inr (by show _ ≤ 128 * 1 + c.val; omega)⟩
  · have ha := a.isLt
    have e : ky 1 (qx 0 c) = qx 0 c := ky1 _
    rw [e]
    by_cases hk : ok 1 a (qx 0 c)
    · rw [if_pos hk]
    · rw [if_neg hk, hf _ (qx 0 c) ?_]
      rintro ⟨h1, h2⟩
      have h2' : 128 * 1 + a.val ≤ 128 * 0 + c.val + 128 := h2
      exact hk ⟨⟨by show 128 * 0 + c.val ≤ _; omega, by show _ ≤ 128 * 0 + c.val; omega⟩, Or.inl rfl⟩

/-- A sum over the queries of one of the last 128 keys. -/
theorem sum_hi (f g : Fin 256 → Fin 256 → ℝ) (hf : ∀ x y, ¬ valid x y → f x y = 0) (c : Fin 128) :
    (∑ a : Fin 128, (if ok 1 a (qx 1 c) then f (qx 1 a) (ky 1 (qx 1 c)) else 0) * g (qx 1 a) (ky 1 (qx 1 c)))
      = ∑ x : Fin 256, f x (qx 1 c) * g x (qx 1 c) := by
  have hc := c.isLt
  rw [split_sum (fun x => f x (qx 1 c) * g x (qx 1 c))]
  have z : ∑ a : Fin 128, f (qx 0 a) (qx 1 c) * g (qx 0 a) (qx 1 c) = 0 := by
    refine Finset.sum_eq_zero fun a _ => ?_
    have ha := a.isLt
    rw [hf _ _ ?_, zero_mul]
    rintro ⟨h1, _⟩
    have h1' : 128 * 1 + c.val ≤ 128 * 0 + a.val := h1
    omega
  rw [z, zero_add]
  refine Finset.sum_congr rfl fun a _ => ?_
  have ha := a.isLt
  have e : ky 1 (qx 1 c) = qx 1 c := ky1 _
  rw [e]
  by_cases hk : ok 1 a (qx 1 c)
  · rw [if_pos hk]
  · rw [if_neg hk, hf _ (qx 1 c) ?_]
    rintro ⟨h1, h2⟩
    have h1' : 128 * 1 + c.val ≤ 128 * 1 + a.val := h1
    exact hk ⟨⟨by show 128 * 1 + c.val ≤ _; omega, by show _ ≤ 128 * 1 + c.val; omega⟩, Or.inl rfl⟩

theorem dq_sum (D : Data) (r : Fin 16) (b : Fin 2) (h : Fin 16) (a e : Fin 128) :
    (∑ y : Fin 256, dd D r b h a y * D.k r (ky b y) h e) * sc = D.dq r (qx b a) h e := by
  have := sum_keys (fun x y => D.ds r h x y) (fun _ y => D.k r y h e) (fun x y => D.ds_invalid r h x y) b a
  unfold dd
  refine (congrArg (· * sc) this).trans ?_
  unfold Data.dq
  rw [Finset.sum_mul]
  exact Finset.sum_congr rfl fun y _ => by ring

theorem dk_lo_sum (D : Data) (r h : Fin 16) (c e : Fin 128) :
    (∑ a : Fin 128, dd D r 0 h a (qx 1 c) * D.q r (qx 0 a) h e) * sc + (∑ a : Fin 128, dd D r 1 h a (qx 0 c) * D.q r (qx 1 a) h e) * sc
      = D.dk r (qx 0 c) h e := by
  have := sum_lo (fun x y => D.ds r h x y) (fun x _ => D.q r x h e) (fun x y => D.ds_invalid r h x y) c
  unfold dd
  rw [← add_mul]
  refine (congrArg (· * sc) this).trans ?_
  unfold Data.dk
  rw [Finset.sum_mul]
  exact Finset.sum_congr rfl fun y _ => by ring

theorem dk_hi_sum (D : Data) (r h : Fin 16) (c e : Fin 128) :
    (∑ a : Fin 128, dd D r 1 h a (qx 1 c) * D.q r (qx 1 a) h e) * sc = D.dk r (qx 1 c) h e := by
  have := sum_hi (fun x y => D.ds r h x y) (fun x _ => D.q r x h e) (fun x y => D.ds_invalid r h x y) c
  unfold dd
  refine (congrArg (· * sc) this).trans ?_
  unfold Data.dk
  rw [Finset.sum_mul]
  exact Finset.sum_congr rfl fun y _ => by ring

theorem dv_lo_sum (D : Data) (r h : Fin 16) (c e : Fin 128) :
    (∑ a : Fin 128, pp D r 0 h a (qx 1 c) * D.g r (qx 0 a) h e) + (∑ a : Fin 128, pp D r 1 h a (qx 0 c) * D.g r (qx 1 a) h e)
      = D.dv r (qx 0 c) h e :=
  (sum_lo (fun x y => D.p r h x y) (fun x _ => D.g r x h e) (fun x y => D.p_invalid r h x y) c).trans (D.dv_eq r _ h e).symm

theorem dv_hi_sum (D : Data) (r h : Fin 16) (c e : Fin 128) :
    (∑ a : Fin 128, pp D r 1 h a (qx 1 c) * D.g r (qx 1 a) h e) = D.dv r (qx 1 c) h e :=
  (sum_hi (fun x y => D.p r h x y) (fun x _ => D.g r x h e) (fun x y => D.p_invalid r h x y) c).trans (D.dv_eq r _ h e).symm

end Cert.KernelIdeal.Hand
-- ==== Proof.Ideal.Out.lean ====
module

public import proofs.«01_k».proof.Proof.Ideal.Frame
public import Idealize.ShloMosaic.Lib.Pipeline.ValueKit

@[expose] public section
noncomputable section

namespace Cert.KernelIdeal.Hand

open Idealize.ShloMosaic hiding ix1 ix2 ix3 ix4 ix5 eq_ix1 eq_ix2 eq_ix3 eq_ix4 eq_ix5
open Idealize.ShloMosaic.ValueIdx Idealize.SL
open Idealize.ShloMosaic.TcCoe Idealize.SL.Sem
open Idealize.ShloMosaic.Pipeline (RDat Dat)
open Cert.KernelIdeal.Gen

variable {F : FTy → Type} [FloatOps F] [Named F]
variable (m : (ℓ : Loc nD τ sig) → Buf (Elt F) ℓ) (ρ : Dev nD → PrngReg)

/-- The grid point of block `n / 128` of residue `r`. -/
def ptQ (r n : ℕ) : Fin cfg0.N := ⟨(2 * r + n / 128) % 32, Nat.mod_lt _ (by decide)⟩
def ptK (r : ℕ) : Fin cfg0.N := ⟨(2 * r + 1) % 32, Nat.mod_lt _ (by decide)⟩
def ixm (n : ℕ) : Fin 128 := ⟨n % 128, Nat.mod_lt _ (by decide)⟩

/-- The three results, element by element. -/
def GQ (c : Dev nD) : S16x256x2048.Idx → Elt F .bf16 := fun i => oQ m c (ptQ (i 0).val (i 1).val) (ix3 0 (ixm (i 1).val) (i 2))
def GK (c : Dev nD) : S16x256x2048.Idx → Elt F .bf16 := fun i => oK m c (ptK (i 0).val) (ix3 0 (i 1) (i 2))
def GV (c : Dev nD) : S16x256x2048.Idx → Elt F .bf16 := fun i => oV m c (ptK (i 0).val) (ix3 0 (i 1) (i 2))

theorem idx8 (t : Fin cfg0.N) : ∀ a, win0_8.index t a = ![t.val / 2, t.val % 2, 0] a := by
  revert t; decide +kernel
theorem idx9 (t : Fin cfg0.N) : ∀ a, win0_9.index t a = ![t.val / 2, 0, 0] a := by
  revert t; decide +kernel
theorem idx10 (t : Fin cfg0.N) : ∀ a, win0_10.index t a = ![t.val / 2, 0, 0] a := by
  revert t; decide +kernel

theorem idx0 (t : Fin cfg0.N) : ∀ a, win0_0.index t a = ![t.val / 2, t.val % 2, 0] a := by
  revert t; decide +kernel
theorem idx1 (t : Fin cfg0.N) : ∀ a, win0_1.index t a = ![t.val / 2, t.val % 2, 0] a := by
  revert t; decide +kernel
theorem idx2 (t : Fin cfg0.N) : ∀ a, win0_2.index t a = ![t.val / 2, t.val % 2 - 1, 0] a := by
  revert t; decide +kernel
theorem idx3 (t : Fin cfg0.N) : ∀ a, win0_3.index t a = ![t.val / 2, t.val % 2, 0] a := by
  revert t; decide +kernel
theorem idx4 (t : Fin cfg0.N) : ∀ a, win0_4.index t a = ![t.val / 2, t.val % 2 - 1, 0] a := by
  revert t; decide +kernel
theorem idx5 (t : Fin cfg0.N) : ∀ a, win0_5.index t a = ![t.val / 2, t.val % 2, 0] a := by
  revert t; decide +kernel
theorem idx6 (t : Fin cfg0.N) : ∀ a, win0_6.index t a = ![t.val / 2, t.val % 2, 0] a := by
  revert t; decide +kernel
theorem idx7 (t : Fin cfg0.N) : ∀ a, win0_7.index t a = ![t.val / 2, t.val % 2, 0] a := by
  revert t; decide +kernel
theorem leaves8 (c : Dev nD) (t : Fin cfg0.N) (X) (h : (rd m c).Leaves 8 t X) : X = oQ m c t := by
  obtain ⟨Y, _, h⟩ := h; exact h
theorem leaves9 (c : Dev nD) (t : Fin cfg0.N) (ht : t.val % 2 = 1) (X) (h : (rd m c).Leaves 9 t X) : X = oK m c t := by
  obtain ⟨Y, _, h⟩ := h; exact h (by omega)
theorem leaves10 (c : Dev nD) (t : Fin cfg0.N) (ht : t.val % 2 = 1) (X) (h : (rd m c).Leaves 10 t X) : X = oV m c t := by
  obtain ⟨Y, _, h⟩ := h; exact h (by omega)

theorem N32 (t : Fin cfg0.N) : t.val < 32 := t.isLt

theorem ext3 {n : Fin 3 → ℕ} (i j : (a : Fin 3) → Fin (n a)) (h0 : (i 0).val = (j 0).val) (h1 : (i 1).val = (j 1).val) (h2 : (i 2).val = (j 2).val) : i = j := by
  funext a; apply Fin.ext
  match a with
  | ⟨0, _⟩ => exact h0
  | ⟨1, _⟩ => exact h1
  | ⟨2, _⟩ => exact h2

theorem arr8 (c : Dev nD) (af) (haf : ∀ u, af 8 u = oQ m c u) : ((rd m c).withAfter af).arrAt 8 cfg0.N = GQ m c := by
  refine Dat.arrAt_eq_of_covers _ 8 _ (by decide +kernel) fun t hf y => ?_
  blk_simp
  show af 8 t _ = _
  rw [haf]
  unfold GQ
  have h0 := N32 t
  have h1 : (y 1 : ℕ) < 128 := (y 1).isLt
  blk_simp [idx8 t]
  have ht : ptQ (t.val / 2) (t.val % 2 * 128 + (y 1).val) = t := Fin.ext (by
    show (2 * (t.val / 2) + (t.val % 2 * 128 + (y 1).val) / 128) % 32 = t.val
    omega)
  rw [ht]
  have h3 : (y 0 : ℕ) < 1 := (y 0).isLt
  refine congrArg (oQ m c t) (ext3 _ _ ?_ ?_ ?_)
  · show (y 0 : ℕ) = 0; omega
  · show (y 1 : ℕ) = (t.val % 2 * 128 + (y 1).val) % 128; omega
  · show (y 2 : ℕ) = ((win0_8.blk t).view.emb y 2 : ℕ); blk_simp [idx8 t]

theorem arr9 (c : Dev nD) (af) (haf : ∀ u : Fin cfg0.N, u.val % 2 = 1 → af 9 u = oK m c u) : ((rd m c).withAfter af).arrAt 9 cfg0.N = GK m c := by
  refine Dat.arrAt_eq_of_covers _ 9 _ (by decide +kernel) fun t hf y => ?_
  blk_simp
  show af 9 t _ = _
  have hp := (flush0_9 t).1 hf
  rw [haf t hp]
  unfold GK
  have h0 := N32 t
  blk_simp [idx9 t]
  have ht : ptK (t.val / 2) = t := Fin.ext (by
    show (2 * (t.val / 2) + 1) % 32 = t.val
    omega)
  rw [ht]
  have h3 : (y 0 : ℕ) < 1 := (y 0).isLt
  refine congrArg (oK m c t) (ext3 _ _ ?_ ?_ ?_)
  · show (y 0 : ℕ) = 0; omega
  · show (y 1 : ℕ) = ((win0_9.blk t).view.emb y 1 : ℕ); blk_simp [idx9 t]
  · show (y 2 : ℕ) = ((win0_9.blk t).view.emb y 2 : ℕ); blk_simp [idx9 t]

theorem arr10 (c : Dev nD) (af) (haf : ∀ u : Fin cfg0.N, u.val % 2 = 1 → af 10 u = oV m c u) : ((rd m c).withAfter af).arrAt 10 cfg0.N = GV m c := by
  refine Dat.arrAt_eq_of_covers _ 10 _ (by decide +kernel) fun t hf y => ?_
  blk_simp
  show af 10 t _ = _
  have hp := (flush0_10 t).1 hf
  rw [haf t hp]
  unfold GV
  have h0 := N32 t
  blk_simp [idx10 t]
  have ht : ptK (t.val / 2) = t := Fin.ext (by
    show (2 * (t.val / 2) + 1) % 32 = t.val
    omega)
  rw [ht]
  have h3 : (y 0 : ℕ) < 1 := (y 0).isLt
  refine congrArg (oV m c t) (ext3 _ _ ?_ ?_ ?_)
  · show (y 0 : ℕ) = 0; omega
  · show (y 1 : ℕ) = ((win0_10.blk t).view.emb y 1 : ℕ); blk_simp [idx10 t]
  · show (y 2 : ℕ) = ((win0_10.blk t).view.emb y 2 : ℕ); blk_simp [idx10 t]

set_option maxHeartbeats 1600000 in
/-- The run of the call: the arguments as launched, the three results in place. -/
theorem val_run : θ_run defs (onTc (τ := τ) (main (F := F))) ⟨m, fun _ => 0, ρ⟩ (fun r => ∀ c : Dev nD,
      r.2.mem ((c.tc : Thread nD τ).loc main_v108_0) = GQ m c
      ∧ r.2.mem ((c.tc : Thread nD τ).loc main_v108_1) = GK m c
      ∧ r.2.mem ((c.tc : Thread nD τ).loc main_v108_2) = GV m c) :=
  (θ_run defs _ _).mono (fun _ ⟨h, hs⟩ c => by
    obtain ⟨af, hL, hA⟩ := RDat.FramePost.exists_exact h c
    exact ⟨(hA 8).trans (arr8 m c af fun u => leaves8 m c u _ (hL 8 u (flush0_8 u))),
      (hA 9).trans (arr9 m c af fun u hu => leaves9 m c u hu _ (hL 9 u ((flush0_9 u).2 hu))),
      (hA 10).trans (arr10 m c af fun u hu => leaves10 m c u hu _ (hL 10 u ((flush0_10 u).2 hu)))⟩) (run_main m ρ)

theorem Bq_at (c : Dev nD) (t : Fin cfg0.N) (y : S1x128x2048.Idx) (z : S16x256x2048.Idx) (h0 : (z 0).val = t.val / 2) (h1 : (z 1).val = t.val % 2 * 128 + (y 1).val) (h2 : (z 2).val = (y 2).val) :
    Bq m c t y = V m c main_arg0 z := by
  have ht := N32 t
  have hy : (y 0).val < 1 := (y 0).isLt
  unfold Bq iblk
  refine congrArg (V m c main_arg0) ?_
  blk_ext [idx0 t]

theorem Bkc_at (c : Dev nD) (t : Fin cfg0.N) (y : S1x128x2048.Idx) (z : S16x256x2048.Idx) (h0 : (z 0).val = t.val / 2) (h1 : (z 1).val = t.val % 2 * 128 + (y 1).val) (h2 : (z 2).val = (y 2).val) :
    Bkc m c t y = V m c main_arg1 z := by
  have ht := N32 t
  have hy : (y 0).val < 1 := (y 0).isLt
  unfold Bkc iblk
  refine congrArg (V m c main_arg1) ?_
  blk_ext [idx1 t]

theorem Bkp_at (c : Dev nD) (t : Fin cfg0.N) (y : S1x128x2048.Idx) (z : S16x256x2048.Idx) (h0 : (z 0).val = t.val / 2) (h1 : (z 1).val = (y 1).val) (h2 : (z 2).val = (y 2).val) :
    Bkp m c t y = V m c main_arg1 z := by
  have ht := N32 t
  have hy : (y 0).val < 1 := (y 0).isLt
  unfold Bkp iblk
  have he : ∀ a, win0_2.index (ev t) a = ![t.val / 2, 0, 0] a := fun a => by
    rw [idx2 (ev t) a]
    show (![(t.val - t.val % 2) / 2, (t.val - t.val % 2) % 2 - 1, 0] : Fin 3 → ℕ) a = _
    rw [show (t.val - t.val % 2) / 2 = t.val / 2 by omega, show (t.val - t.val % 2) % 2 - 1 = 0 by omega]
  refine congrArg (V m c main_arg1) ?_
  blk_ext [he]

theorem Bvc_at (c : Dev nD) (t : Fin cfg0.N) (y : S1x128x2048.Idx) (z : S16x256x2048.Idx) (h0 : (z 0).val = t.val / 2) (h1 : (z 1).val = t.val % 2 * 128 + (y 1).val) (h2 : (z 2).val = (y 2).val) :
    Bvc m c t y = V m c main_arg2 z := by
  have ht := N32 t
  have hy : (y 0).val < 1 := (y 0).isLt
  unfold Bvc iblk
  refine congrArg (V m c main_arg2) ?_
  blk_ext [idx3 t]

theorem Bvp_at (c : Dev nD) (t : Fin cfg0.N) (y : S1x128x2048.Idx) (z : S16x256x2048.Idx) (h0 : (z 0).val = t.val / 2) (h1 : (z 1).val = (y 1).val) (h2 : (z 2).val = (y 2).val) :
    Bvp m c t y = V m c main_arg2 z := by
  have ht := N32 t
  have hy : (y 0).val < 1 := (y 0).isLt
  unfold Bvp iblk
  have he : ∀ a, win0_4.index (ev t) a = ![t.val / 2, 0, 0] a := fun a => by
    rw [idx4 (ev t) a]
    show (![(t.val - t.val % 2) / 2, (t.val - t.val % 2) % 2 - 1, 0] : Fin 3 → ℕ) a = _
    rw [show (t.val - t.val % 2) / 2 = t.val / 2 by omega, show (t.val - t.val % 2) % 2 - 1 = 0 by omega]
  refine congrArg (V m c main_arg2) ?_
  blk_ext [he]

theorem Bg_at (c : Dev nD) (t : Fin cfg0.N) (y : S1x128x2048.Idx) (z : S16x256x2048.Idx) (h0 : (z 0).val = t.val / 2) (h1 : (z 1).val = t.val % 2 * 128 + (y 1).val) (h2 : (z 2).val = (y 2).val) :
    Bg m c t y = V m c main_arg3 z := by
  have ht := N32 t
  have hy : (y 0).val < 1 := (y 0).isLt
  unfold Bg iblk
  refine congrArg (V m c main_arg3) ?_
  blk_ext [idx5 t]

theorem Bo_at (c : Dev nD) (t : Fin cfg0.N) (y : S1x128x2048.Idx) (z : S16x256x2048.Idx) (h0 : (z 0).val = t.val / 2) (h1 : (z 1).val = t.val % 2 * 128 + (y 1).val) (h2 : (z 2).val = (y 2).val) :
    Bo m c t y = V m c main_v94 z := by
  have ht := N32 t
  have hy : (y 0).val < 1 := (y 0).isLt
  unfold Bo iblk
  refine congrArg (V m c main_v94) ?_
  blk_ext [idx6 t]

theorem Bl_at (c : Dev nD) (t : Fin cfg0.N) (y : S1x128x128.Idx) (z : S16x256x128.Idx) (h0 : (z 0).val = t.val / 2) (h1 : (z 1).val = t.val % 2 * 128 + (y 1).val) (h2 : (z 2).val = (y 2).val) :
    Bl m c t y = V m c main_v107 z := by
  have ht := N32 t
  have hy : (y 0).val < 1 := (y 0).isLt
  unfold Bl iblk
  refine congrArg (V m c main_v107) ?_
  blk_ext [idx7 t]

end Cert.KernelIdeal.Hand
-- ==== Proof.Ideal.Host.lean ====
module

public import proofs.«01_k».proof.Proof.Gen.KernelIdeal.Frame
public import proofs.«01_k».proof.Proof.Gen.ReferenceIdeal.Read
public import Idealize.ShloMosaic.Lib.StableHlo.RunRead
public import Idealize.ShloMosaic.Lib.Claim

/-! What the kernel's host code leaves in each buffer, of the arguments. The lines up to the merged output are the
lines of the reference's forward pass, so each buffer is the reference's value of the same name in its reading; the
lines after them prepare the merged log-sum, and have values of their own here. -/

@[expose] public section
noncomputable section

namespace Cert.KernelIdeal.Hand

open Idealize.ShloMosaic Idealize.SL Idealize.ShloMosaic.StableHlo
open Idealize.ShloMosaic.TcCoe Idealize.SL.Sem
open Cert.KernelIdeal Cert.KernelIdeal.Gen
open Cert.ReferenceIdeal.Read

variable {F : FTy → Type} [FloatOps F] [Named F]
variable (m : (ℓ : Loc nD τ sig) → Buf (Elt F) ℓ)

/-- What the lines of host code write, in order. -/
def Wall : List (Ref sig .tc) := [main_v0, main_v1, main_v2, main_v3, main_v4, main_cst, main_v5, main_v6, main_v7, main_v8, main_v9, main_v10, main_v11, main_v12, main_v13, main_c, main_v14, main_v15, main_c_0, main_v16, main_v17, main_v18, main_cst_1, main_cst_2, main_cst_3, main_cst_4, main_cst_5, main_cst_6, main_cst_7, main_cst_8, main_cst_9, main_cst_10, main_cst_11, main_cst_12, main_cst_13, main_cst_14, main_cst_15, main_cst_16, main_v19, main_v20, main_v21, main_v22, main_v23, main_v24, main_v25, main_v26, main_v27, main_v28, main_v29, main_v30, main_v31, main_v32, main_v33, main_v34, main_v35, main_v36, main_v37, main_c_17, main_v38, main_v39, main_v40, main_v41, main_v42, main_v43, main_v44, main_v45, main_v46, main_v47, main_cst_18, main_call0_v0, main_call0_v1, main_call0_v2, main_v48, main_cst_19, main_v49, main_v50, main_v51, main_v52, main_v53, main_cst_20, main_v54, main_v55, main_v56, main_v57, main_v58, main_v59, main_v60, main_v61, main_v62, main_v63, main_v64, main_v65, main_v66, main_v67, main_v68, main_v69, main_cst_21, main_v70, main_cst_22, main_v71, main_v72, main_v73, main_v74, main_v75, main_v76, main_cst_23, main_v77, main_v78, main_v79, main_v80, main_v81, main_v82, main_v83, main_v84, main_v85, main_v86, main_v87, main_v88, main_v89, main_v90, main_v91, main_cst_24, main_v92, main_v93, main_v94, main_v95, main_v96, main_v97, main_v98, main_v99, main_v100, main_v101, main_v102, main_v103, main_v104, main_v105, main_v106, main_c_25, main_call1_v0, main_v107]

/-- The lines of host code, as one list. -/
abbrev L : List (HloOp τ sig (Elt F)) := List.flatten [hostOps0, hostOps0_1, hostOps0_2, hostOps0_3]

theorem L_writes : (L (F := F)).map HloOp.writes = Wall.map fun w => {Proc.devRef (τ := τ) .tc w} := rfl

theorem op_at (c : Dev nD) (i : ℕ) (op : HloOp τ sig (Elt F)) (h : (L (F := F))[i]? = some op) (r : Ref sig .tc)
    (hr : r ∉ Wall.drop (i + 1)) :
    V m c r = op.result (upto L (fun b => m (c, b)) i) (Proc.tc.devRef r) := by
  obtain ⟨hi, he⟩ := List.getElem?_eq_some_iff.1 h
  refine after_last_write (rest := L.drop (i + 1)) (Wall.drop (i + 1)) ?_ ?_ hr _
  · rw [List.drop_eq_getElem_cons hi, he]
  · rw [List.map_drop, L_writes, List.map_drop]

theorem upto_at (c : Dev nD) (i : ℕ) (r : Ref sig .tc) (hr : r ∉ Wall.drop i) :
    upto L (fun b => m (c, b)) i (Proc.tc.devRef r) = V m c r := by
  have h := StableHlo.after_append (L (F := F)|>.take i) ((L (F := F)).drop i) (fun b => m (c, b))
  rw [List.take_append_drop] at h
  refine Eq.symm ((congrFun h _).trans ?_)
  exact after_unwritten (Wall.drop i) (by rw [List.map_drop, L_writes, List.map_drop]) hr _

theorem upto_arg (c : Dev nD) (i : ℕ) (r : Ref sig .tc) (hr : r ∉ Wall.take i) :
    upto L (fun b => m (c, b)) i (Proc.tc.devRef r) = m ((c : Thread nD τ).loc r) :=
  upto_unwritten (Wall.take i) (by rw [List.map_take, L_writes, List.map_take]) hr _

theorem V_v0 (c : Dev nD) : V m c main_v0 = (val_main_v0 (F := F) (m ((c : Thread nD τ).loc main_arg0))) := by
  refine (op_at m c 0 _ rfl main_v0 (by decide)).trans ?_
  refine (unary_result _ _ _ _ _ _).trans ?_
  rw [upto_arg m c 0 main_arg0 (by decide)]
  rfl

theorem V_v1 (c : Dev nD) : V m c main_v1 = (val_main_v3 (F := F) (m ((c : Thread nD τ).loc main_arg0))) := by
  refine (op_at m c 1 _ rfl main_v1 (by decide)).trans ?_
  refine (reshape_result _ _ _ _ _ _ _).trans ?_
  rw [upto_at m c 1 main_v0 (by decide), V_v0 m c]
  rfl

theorem V_v2 (c : Dev nD) : V m c main_v2 = (val_main_v1 (F := F) (m ((c : Thread nD τ).loc main_arg1))) := by
  refine (op_at m c 2 _ rfl main_v2 (by decide)).trans ?_
  refine (unary_result _ _ _ _ _ _).trans ?_
  rw [upto_arg m c 2 main_arg1 (by decide)]
  rfl

theorem V_v3 (c : Dev nD) : V m c main_v3 = (val_main_v4 (F := F) (m ((c : Thread nD τ).loc main_arg1))) := by
  refine (op_at m c 3 _ rfl main_v3 (by decide)).trans ?_
  refine (reshape_result _ _ _ _ _ _ _).trans ?_
  rw [upto_at m c 3 main_v2 (by decide), V_v2 m c]
  rfl

theorem V_v4 (c : Dev nD) : V m c main_v4 = (val_main_v5 (F := F) (m ((c : Thread nD τ).loc main_arg0)) (m ((c : Thread nD τ).loc main_arg1))) := by
  refine (op_at m c 4 _ rfl main_v4 (by decide)).trans ?_
  refine (binary_result _ _ _ _ _ _ _ _).trans ?_
  rw [upto_at m c 4 main_v1 (by decide), V_v1 m c, upto_at m c 4 main_v3 (by decide), V_v3 m c]
  rfl

theorem V_cst (c : Dev nD) : V m c main_cst = (val_main_cst (F := F)) := by
  refine (op_at m c 5 _ rfl main_cst (by decide)).trans ?_
  exact nullary_result _ _ _ _

theorem V_v5 (c : Dev nD) : V m c main_v5 = (val_main_v6 (F := F)) := by
  refine (op_at m c 6 _ rfl main_v5 (by decide)).trans ?_
  refine (unary_result _ _ _ _ _ _).trans ?_
  rw [upto_at m c 6 main_cst (by decide), V_cst m c]
  rfl

theorem V_v6 (c : Dev nD) : V m c main_v6 = (val_main_v7 (F := F) (m ((c : Thread nD τ).loc main_arg0)) (m ((c : Thread nD τ).loc main_arg1))) := by
  refine (op_at m c 7 _ rfl main_v6 (by decide)).trans ?_
  refine (binary_result _ _ _ _ _ _ _ _).trans ?_
  rw [upto_at m c 7 main_v4 (by decide), V_v4 m c, upto_at m c 7 main_v5 (by decide), V_v5 m c]
  rfl

theorem V_v7 (c : Dev nD) : V m c main_v7 = (val_main_v8 (F := F)) := by
  refine (op_at m c 8 _ rfl main_v7 (by decide)).trans ?_
  exact nullary_result _ _ _ _

theorem V_v8 (c : Dev nD) : V m c main_v8 = (val_main_v9 (F := F)) := by
  refine (op_at m c 9 _ rfl main_v8 (by decide)).trans ?_
  refine (unary_result _ _ _ _ _ _).trans ?_
  rw [upto_at m c 9 main_v7 (by decide), V_v7 m c]
  rfl

theorem V_v9 (c : Dev nD) : V m c main_v9 = (val_main_v8 (F := F)) := by
  refine (op_at m c 10 _ rfl main_v9 (by decide)).trans ?_
  exact nullary_result _ _ _ _

theorem V_v10 (c : Dev nD) : V m c main_v10 = (val_main_v11 (F := F)) := by
  refine (op_at m c 11 _ rfl main_v10 (by decide)).trans ?_
  refine (unary_result _ _ _ _ _ _).trans ?_
  rw [upto_at m c 11 main_v9 (by decide), V_v9 m c]
  rfl

theorem V_v11 (c : Dev nD) : V m c main_v11 = (val_main_v12 (F := F)) := by
  refine (op_at m c 12 _ rfl main_v11 (by decide)).trans ?_
  refine (unary_result _ _ _ _ _ _).trans ?_
  rw [upto_at m c 12 main_v8 (by decide), V_v8 m c]
  rfl

theorem V_v12 (c : Dev nD) : V m c main_v12 = (val_main_v13 (F := F)) := by
  refine (op_at m c 13 _ rfl main_v12 (by decide)).trans ?_
  refine (unary_result _ _ _ _ _ _).trans ?_
  rw [upto_at m c 13 main_v10 (by decide), V_v10 m c]
  rfl

theorem V_v13 (c : Dev nD) : V m c main_v13 = (val_main_v14 (F := F)) := by
  refine (op_at m c 14 _ rfl main_v13 (by decide)).trans ?_
  refine (binary_result _ _ _ _ _ _ _ _).trans ?_
  rw [upto_at m c 14 main_v11 (by decide), V_v11 m c, upto_at m c 14 main_v12 (by decide), V_v12 m c]
  rfl

theorem V_c (c : Dev nD) : V m c main_c = (val_main_c (F := F)) := by
  refine (op_at m c 15 _ rfl main_c (by decide)).trans ?_
  exact nullary_result _ _ _ _

theorem V_v14 (c : Dev nD) : V m c main_v14 = (val_main_v15 (F := F)) := by
  refine (op_at m c 16 _ rfl main_v14 (by decide)).trans ?_
  refine (unary_result _ _ _ _ _ _).trans ?_
  rw [upto_at m c 16 main_c (by decide), V_c m c]
  rfl

theorem V_v15 (c : Dev nD) : V m c main_v15 = (val_main_v16 (F := F)) := by
  refine (op_at m c 17 _ rfl main_v15 (by decide)).trans ?_
  refine (binary_result _ _ _ _ _ _ _ _).trans ?_
  rw [upto_at m c 17 main_v13 (by decide), V_v13 m c, upto_at m c 17 main_v14 (by decide), V_v14 m c]
  rfl

theorem V_c_0 (c : Dev nD) : V m c main_c_0 = (val_main_c_0 (F := F)) := by
  refine (op_at m c 18 _ rfl main_c_0 (by decide)).trans ?_
  exact nullary_result _ _ _ _

theorem V_v16 (c : Dev nD) : V m c main_v16 = (val_main_v17 (F := F)) := by
  refine (op_at m c 19 _ rfl main_v16 (by decide)).trans ?_
  refine (unary_result _ _ _ _ _ _).trans ?_
  rw [upto_at m c 19 main_c_0 (by decide), V_c_0 m c]
  rfl

theorem V_v17 (c : Dev nD) : V m c main_v17 = (val_main_v18 (F := F)) := by
  refine (op_at m c 20 _ rfl main_v17 (by decide)).trans ?_
  refine (binary_result _ _ _ _ _ _ _ _).trans ?_
  rw [upto_at m c 20 main_v13 (by decide), V_v13 m c, upto_at m c 20 main_v16 (by decide), V_v16 m c]
  rfl

theorem V_v18 (c : Dev nD) : V m c main_v18 = (val_main_v19 (F := F)) := by
  refine (op_at m c 21 _ rfl main_v18 (by decide)).trans ?_
  refine (binary_result _ _ _ _ _ _ _ _).trans ?_
  rw [upto_at m c 21 main_v15 (by decide), V_v15 m c, upto_at m c 21 main_v17 (by decide), V_v17 m c]
  rfl

theorem V_cst_1 (c : Dev nD) : V m c main_cst_1 = (val_main_cst_1 (F := F)) := by
  refine (op_at m c 22 _ rfl main_cst_1 (by decide)).trans ?_
  exact nullary_result _ _ _ _

theorem V_cst_2 (c : Dev nD) : V m c main_cst_2 = (val_main_cst_2 (F := F)) := by
  refine (op_at m c 23 _ rfl main_cst_2 (by decide)).trans ?_
  exact nullary_result _ _ _ _

theorem V_cst_3 (c : Dev nD) : V m c main_cst_3 = (val_main_cst_3 (F := F)) := by
  refine (op_at m c 24 _ rfl main_cst_3 (by decide)).trans ?_
  exact nullary_result _ _ _ _

theorem V_cst_4 (c : Dev nD) : V m c main_cst_4 = (val_main_cst_4 (F := F)) := by
  refine (op_at m c 25 _ rfl main_cst_4 (by decide)).trans ?_
  exact nullary_result _ _ _ _

theorem V_cst_5 (c : Dev nD) : V m c main_cst_5 = (val_main_cst_5 (F := F)) := by
  refine (op_at m c 26 _ rfl main_cst_5 (by decide)).trans ?_
  exact nullary_result _ _ _ _

theorem V_cst_6 (c : Dev nD) : V m c main_cst_6 = (val_main_cst_6 (F := F)) := by
  refine (op_at m c 27 _ rfl main_cst_6 (by decide)).trans ?_
  exact nullary_result _ _ _ _

theorem V_cst_7 (c : Dev nD) : V m c main_cst_7 = (val_main_cst (F := F)) := by
  refine (op_at m c 28 _ rfl main_cst_7 (by decide)).trans ?_
  exact nullary_result _ _ _ _

theorem V_cst_8 (c : Dev nD) : V m c main_cst_8 = (val_main_cst_8 (F := F)) := by
  refine (op_at m c 29 _ rfl main_cst_8 (by decide)).trans ?_
  exact nullary_result _ _ _ _

theorem V_cst_9 (c : Dev nD) : V m c main_cst_9 = (val_main_cst_9 (F := F)) := by
  refine (op_at m c 30 _ rfl main_cst_9 (by decide)).trans ?_
  exact nullary_result _ _ _ _

theorem V_cst_10 (c : Dev nD) : V m c main_cst_10 = (val_main_cst_10 (F := F)) := by
  refine (op_at m c 31 _ rfl main_cst_10 (by decide)).trans ?_
  exact nullary_result _ _ _ _

theorem V_cst_11 (c : Dev nD) : V m c main_cst_11 = (val_main_cst_11 (F := F)) := by
  refine (op_at m c 32 _ rfl main_cst_11 (by decide)).trans ?_
  exact nullary_result _ _ _ _

theorem V_cst_12 (c : Dev nD) : V m c main_cst_12 = (val_main_cst_12 (F := F)) := by
  refine (op_at m c 33 _ rfl main_cst_12 (by decide)).trans ?_
  exact nullary_result _ _ _ _

theorem V_cst_13 (c : Dev nD) : V m c main_cst_13 = (val_main_cst_13 (F := F)) := by
  refine (op_at m c 34 _ rfl main_cst_13 (by decide)).trans ?_
  exact nullary_result _ _ _ _

theorem V_cst_14 (c : Dev nD) : V m c main_cst_14 = (val_main_cst_14 (F := F)) := by
  refine (op_at m c 35 _ rfl main_cst_14 (by decide)).trans ?_
  exact nullary_result _ _ _ _

theorem V_cst_15 (c : Dev nD) : V m c main_cst_15 = (val_main_cst_15 (F := F)) := by
  refine (op_at m c 36 _ rfl main_cst_15 (by decide)).trans ?_
  exact nullary_result _ _ _ _

theorem V_cst_16 (c : Dev nD) : V m c main_cst_16 = (val_main_cst_16 (F := F)) := by
  refine (op_at m c 37 _ rfl main_cst_16 (by decide)).trans ?_
  exact nullary_result _ _ _ _

theorem V_v19 (c : Dev nD) : V m c main_v19 = (val_main_v20 (F := F)) := by
  refine (op_at m c 38 _ rfl main_v19 (by decide)).trans ?_
  refine (unary_result _ _ _ _ _ _).trans ?_
  rw [upto_at m c 38 main_cst_1 (by decide), V_cst_1 m c]
  rfl

theorem V_v20 (c : Dev nD) : V m c main_v20 = (val_main_v21 (F := F)) := by
  refine (op_at m c 39 _ rfl main_v20 (by decide)).trans ?_
  refine (unary_result _ _ _ _ _ _).trans ?_
  rw [upto_at m c 39 main_cst_2 (by decide), V_cst_2 m c]
  rfl

theorem V_v21 (c : Dev nD) : V m c main_v21 = (val_main_v22 (F := F)) := by
  refine (op_at m c 40 _ rfl main_v21 (by decide)).trans ?_
  refine (unary_result _ _ _ _ _ _).trans ?_
  rw [upto_at m c 40 main_cst_3 (by decide), V_cst_3 m c]
  rfl

theorem V_v22 (c : Dev nD) : V m c main_v22 = (val_main_v23 (F := F)) := by
  refine (op_at m c 41 _ rfl main_v22 (by decide)).trans ?_
  refine (unary_result _ _ _ _ _ _).trans ?_
  rw [upto_at m c 41 main_cst_4 (by decide), V_cst_4 m c]
  rfl

theorem V_v23 (c : Dev nD) : V m c main_v23 = (val_main_v24 (F := F)) := by
  refine (op_at m c 42 _ rfl main_v23 (by decide)).trans ?_
  refine (unary_result _ _ _ _ _ _).trans ?_
  rw [upto_at m c 42 main_cst_5 (by decide), V_cst_5 m c]
  rfl

theorem V_v24 (c : Dev nD) : V m c main_v24 = (val_main_v25 (F := F)) := by
  refine (op_at m c 43 _ rfl main_v24 (by decide)).trans ?_
  refine (unary_result _ _ _ _ _ _).trans ?_
  rw [upto_at m c 43 main_cst_6 (by decide), V_cst_6 m c]
  rfl

theorem V_v25 (c : Dev nD) : V m c main_v25 = (val_main_v26 (F := F)) := by
  refine (op_at m c 44 _ rfl main_v25 (by decide)).trans ?_
  refine (unary_result _ _ _ _ _ _).trans ?_
  rw [upto_at m c 44 main_cst_7 (by decide), V_cst_7 m c]
  rfl

theorem V_v26 (c : Dev nD) : V m c main_v26 = (val_main_v27 (F := F)) := by
  refine (op_at m c 45 _ rfl main_v26 (by decide)).trans ?_
  refine (unary_result _ _ _ _ _ _).trans ?_
  rw [upto_at m c 45 main_cst_8 (by decide), V_cst_8 m c]
  rfl

theorem V_v27 (c : Dev nD) : V m c main_v27 = (val_main_v28 (F := F)) := by
  refine (op_at m c 46 _ rfl main_v27 (by decide)).trans ?_
  refine (unary_result _ _ _ _ _ _).trans ?_
  rw [upto_at m c 46 main_cst_9 (by decide), V_cst_9 m c]
  rfl

theorem V_v28 (c : Dev nD) : V m c main_v28 = (val_main_v29 (F := F)) := by
  refine (op_at m c 47 _ rfl main_v28 (by decide)).trans ?_
  refine (unary_result _ _ _ _ _ _).trans ?_
  rw [upto_at m c 47 main_cst_10 (by decide), V_cst_10 m c]
  rfl

theorem V_v29 (c : Dev nD) : V m c main_v29 = (val_main_v30 (F := F)) := by
  refine (op_at m c 48 _ rfl main_v29 (by decide)).trans ?_
  refine (unary_result _ _ _ _ _ _).trans ?_
  rw [upto_at m c 48 main_cst_11 (by decide), V_cst_11 m c]
  rfl

theorem V_v30 (c : Dev nD) : V m c main_v30 = (val_main_v31 (F := F)) := by
  refine (op_at m c 49 _ rfl main_v30 (by decide)).trans ?_
  refine (unary_result _ _ _ _ _ _).trans ?_
  rw [upto_at m c 49 main_cst_12 (by decide), V_cst_12 m c]
  rfl

theorem V_v31 (c : Dev nD) : V m c main_v31 = (val_main_v32 (F := F)) := by
  refine (op_at m c 50 _ rfl main_v31 (by decide)).trans ?_
  refine (unary_result _ _ _ _ _ _).trans ?_
  rw [upto_at m c 50 main_cst_13 (by decide), V_cst_13 m c]
  rfl

theorem V_v32 (c : Dev nD) : V m c main_v32 = (val_main_v33 (F := F)) := by
  refine (op_at m c 51 _ rfl main_v32 (by decide)).trans ?_
  refine (unary_result _ _ _ _ _ _).trans ?_
  rw [upto_at m c 51 main_cst_14 (by decide), V_cst_14 m c]
  rfl

theorem V_v33 (c : Dev nD) : V m c main_v33 = (val_main_v34 (F := F)) := by
  refine (op_at m c 52 _ rfl main_v33 (by decide)).trans ?_
  refine (unary_result _ _ _ _ _ _).trans ?_
  rw [upto_at m c 52 main_cst_15 (by decide), V_cst_15 m c]
  rfl

theorem V_v34 (c : Dev nD) : V m c main_v34 = (val_main_v35 (F := F)) := by
  refine (op_at m c 53 _ rfl main_v34 (by decide)).trans ?_
  refine (unary_result _ _ _ _ _ _).trans ?_
  rw [upto_at m c 53 main_cst_16 (by decide), V_cst_16 m c]
  rfl

theorem V_v35 (c : Dev nD) : V m c main_v35 = (val_main_v36 (F := F)) := by
  refine (op_at m c 54 _ rfl main_v35 (by decide)).trans ?_
  refine (nary_result _ _ _ _ _ _).trans ?_
  have e : (fun k => upto L (fun b => m (c, b)) 54 (Proc.tc.devRef ((![main_v19, main_v20, main_v21, main_v22, main_v23, main_v24, main_v25, main_v26, main_v27, main_v28, main_v29, main_v30, main_v31, main_v32, main_v33, main_v34] : Fin 16 → Ref sig .tc) k))) = Fin.cons (val_main_v20 (F := F)) (Fin.cons (val_main_v21 (F := F)) (Fin.cons (val_main_v22 (F := F)) (Fin.cons (val_main_v23 (F := F)) (Fin.cons (val_main_v24 (F := F)) (Fin.cons (val_main_v25 (F := F)) (Fin.cons (val_main_v26 (F := F)) (Fin.cons (val_main_v27 (F := F)) (Fin.cons (val_main_v28 (F := F)) (Fin.cons (val_main_v29 (F := F)) (Fin.cons (val_main_v30 (F := F)) (Fin.cons (val_main_v31 (F := F)) (Fin.cons (val_main_v32 (F := F)) (Fin.cons (val_main_v33 (F := F)) (Fin.cons (val_main_v34 (F := F)) (Fin.cons (val_main_v35 (F := F)) (fun k => k.elim0)))))))))))))))) := by
    funext k; fin_cases k
    · exact (upto_at m c 54 main_v19 (by decide)).trans (V_v19 m c)
    · exact (upto_at m c 54 main_v20 (by decide)).trans (V_v20 m c)
    · exact (upto_at m c 54 main_v21 (by decide)).trans (V_v21 m c)
    · exact (upto_at m c 54 main_v22 (by decide)).trans (V_v22 m c)
    · exact (upto_at m c 54 main_v23 (by decide)).trans (V_v23 m c)
    · exact (upto_at m c 54 main_v24 (by decide)).trans (V_v24 m c)
    · exact (upto_at m c 54 main_v25 (by decide)).trans (V_v25 m c)
    · exact (upto_at m c 54 main_v26 (by decide)).trans (V_v26 m c)
    · exact (upto_at m c 54 main_v27 (by decide)).trans (V_v27 m c)
    · exact (upto_at m c 54 main_v28 (by decide)).trans (V_v28 m c)
    · exact (upto_at m c 54 main_v29 (by decide)).trans (V_v29 m c)
    · exact (upto_at m c 54 main_v30 (by decide)).trans (V_v30 m c)
    · exact (upto_at m c 54 main_v31 (by decide)).trans (V_v31 m c)
    · exact (upto_at m c 54 main_v32 (by decide)).trans (V_v32 m c)
    · exact (upto_at m c 54 main_v33 (by decide)).trans (V_v33 m c)
    · exact (upto_at m c 54 main_v34 (by decide)).trans (V_v34 m c)
  rw [e]; rfl

theorem V_v36 (c : Dev nD) : V m c main_v36 = (val_main_v37 (F := F)) := by
  refine (op_at m c 55 _ rfl main_v36 (by decide)).trans ?_
  refine (unary_result _ _ _ _ _ _).trans ?_
  rw [upto_at m c 55 main_v35 (by decide), V_v35 m c]
  rfl

theorem V_v37 (c : Dev nD) : V m c main_v37 = (val_main_v38 (F := F)) := by
  refine (op_at m c 56 _ rfl main_v37 (by decide)).trans ?_
  refine (unary_result _ _ _ _ _ _).trans ?_
  rw [upto_at m c 56 main_v36 (by decide), V_v36 m c]
  rfl

theorem V_c_17 (c : Dev nD) : V m c main_c_17 = (val_main_c_17 (F := F)) := by
  refine (op_at m c 57 _ rfl main_c_17 (by decide)).trans ?_
  exact nullary_result _ _ _ _

theorem V_v38 (c : Dev nD) : V m c main_v38 = (val_main_v39 (F := F)) := by
  refine (op_at m c 58 _ rfl main_v38 (by decide)).trans ?_
  refine (unary_result _ _ _ _ _ _).trans ?_
  rw [upto_at m c 58 main_c_17 (by decide), V_c_17 m c]
  rfl

theorem V_v39 (c : Dev nD) : V m c main_v39 = (val_main_v40 (F := F)) := by
  refine (op_at m c 59 _ rfl main_v39 (by decide)).trans ?_
  refine (binary_result _ _ _ _ _ _ _ _).trans ?_
  rw [upto_at m c 59 main_v38 (by decide), V_v38 m c, upto_at m c 59 main_v13 (by decide), V_v13 m c]
  rfl

theorem V_v40 (c : Dev nD) : V m c main_v40 = (val_main_v41 (F := F)) := by
  refine (op_at m c 60 _ rfl main_v40 (by decide)).trans ?_
  refine (unary_result _ _ _ _ _ _).trans ?_
  rw [upto_at m c 60 main_v39 (by decide), V_v39 m c]
  rfl

theorem V_v41 (c : Dev nD) : V m c main_v41 = (val_main_v42 (F := F)) := by
  refine (op_at m c 61 _ rfl main_v41 (by decide)).trans ?_
  refine (unary_result _ _ _ _ _ _).trans ?_
  rw [upto_at m c 61 main_v40 (by decide), V_v40 m c]
  rfl

theorem V_v42 (c : Dev nD) : V m c main_v42 = (val_main_v43 (F := F)) := by
  refine (op_at m c 62 _ rfl main_v42 (by decide)).trans ?_
  refine (unary_result _ _ _ _ _ _).trans ?_
  rw [upto_at m c 62 main_v37 (by decide), V_v37 m c]
  rfl

theorem V_v43 (c : Dev nD) : V m c main_v43 = (val_main_v44 (F := F)) := by
  refine (op_at m c 63 _ rfl main_v43 (by decide)).trans ?_
  refine (unary_result _ _ _ _ _ _).trans ?_
  rw [upto_at m c 63 main_v41 (by decide), V_v41 m c]
  rfl

theorem V_v44 (c : Dev nD) : V m c main_v44 = (val_main_v45 (F := F)) := by
  refine (op_at m c 64 _ rfl main_v44 (by decide)).trans ?_
  refine (binary_result _ _ _ _ _ _ _ _).trans ?_
  rw [upto_at m c 64 main_v42 (by decide), V_v42 m c, upto_at m c 64 main_v43 (by decide), V_v43 m c]
  rfl

theorem V_v45 (c : Dev nD) : V m c main_v45 = (val_main_v46 (F := F)) := by
  refine (op_at m c 65 _ rfl main_v45 (by decide)).trans ?_
  refine (unary_result _ _ _ _ _ _).trans ?_
  rw [upto_at m c 65 main_v44 (by decide), V_v44 m c]
  rfl

theorem V_v46 (c : Dev nD) : V m c main_v46 = (val_main_v47 (F := F)) := by
  refine (op_at m c 66 _ rfl main_v46 (by decide)).trans ?_
  refine (unary_result _ _ _ _ _ _).trans ?_
  rw [upto_at m c 66 main_v45 (by decide), V_v45 m c]
  rfl

theorem V_v47 (c : Dev nD) : V m c main_v47 = (val_main_v48 (F := F) (m ((c : Thread nD τ).loc main_arg0)) (m ((c : Thread nD τ).loc main_arg1))) := by
  refine (op_at m c 67 _ rfl main_v47 (by decide)).trans ?_
  refine (binary_result _ _ _ _ _ _ _ _).trans ?_
  rw [upto_at m c 67 main_v6 (by decide), V_v6 m c, upto_at m c 67 main_v46 (by decide), V_v46 m c]
  rfl

theorem V_cst_18 (c : Dev nD) : V m c main_cst_18 = (val_main_cst_18 (F := F)) := by
  refine (op_at m c 68 _ rfl main_cst_18 (by decide)).trans ?_
  exact nullary_result _ _ _ _

theorem V_call0_v0 (c : Dev nD) : V m c main_call0_v0 = (val_main_call0_v0 (F := F)) := by
  refine (op_at m c 69 _ rfl main_call0_v0 (by decide)).trans ?_
  refine (unary_result _ _ _ _ _ _).trans ?_
  rw [upto_at m c 69 main_cst_18 (by decide), V_cst_18 m c]
  rfl

theorem V_call0_v1 (c : Dev nD) : V m c main_call0_v1 = (val_main_v49_1 (F := F)) := by
  refine (op_at m c 70 _ rfl main_call0_v1 (by decide)).trans ?_
  refine (unary_result _ _ _ _ _ _).trans ?_
  rw [upto_at m c 70 main_v18 (by decide), V_v18 m c]
  rfl

theorem V_call0_v2 (c : Dev nD) : V m c main_call0_v2 = (val_main_call0_v2 (F := F)) := by
  refine (op_at m c 71 _ rfl main_call0_v2 (by decide)).trans ?_
  refine (unary_result _ _ _ _ _ _).trans ?_
  rw [upto_at m c 71 main_call0_v0 (by decide), V_call0_v0 m c]
  rfl

theorem V_v48 (c : Dev nD) : V m c main_v48 = (val_main_v49_0 (F := F) (m ((c : Thread nD τ).loc main_arg0)) (m ((c : Thread nD τ).loc main_arg1))) := by
  refine (op_at m c 72 _ rfl main_v48 (by decide)).trans ?_
  refine (ternary_result _ _ _ _ _ _ _ _ _ _).trans ?_
  rw [upto_at m c 72 main_call0_v1 (by decide), V_call0_v1 m c, upto_at m c 72 main_v47 (by decide), V_v47 m c, upto_at m c 72 main_call0_v2 (by decide), V_call0_v2 m c]
  rfl

theorem V_cst_19 (c : Dev nD) : V m c main_cst_19 = (val_main_cst_18 (F := F)) := by
  refine (op_at m c 73 _ rfl main_cst_19 (by decide)).trans ?_
  exact nullary_result _ _ _ _

theorem V_v49 (c : Dev nD) : V m c main_v49 = (val_main_v50 (F := F) (m ((c : Thread nD τ).loc main_arg0)) (m ((c : Thread nD τ).loc main_arg1))) := by
  refine (op_at m c 74 _ rfl main_v49 (by decide)).trans ?_
  refine (binary_result _ _ _ _ _ _ _ _).trans ?_
  rw [upto_at m c 74 main_v48 (by decide), V_v48 m c, upto_at m c 74 main_cst_19 (by decide), V_cst_19 m c]
  rfl

theorem V_v50 (c : Dev nD) : V m c main_v50 = (val_main_v56 (F := F) (m ((c : Thread nD τ).loc main_arg0)) (m ((c : Thread nD τ).loc main_arg1))) := by
  refine (op_at m c 75 _ rfl main_v50 (by decide)).trans ?_
  refine (unary_result _ _ _ _ _ _).trans ?_
  rw [upto_at m c 75 main_v49 (by decide), V_v49 m c]
  rfl

theorem V_v51 (c : Dev nD) : V m c main_v51 = (val_main_v57 (F := F) (m ((c : Thread nD τ).loc main_arg0)) (m ((c : Thread nD τ).loc main_arg1))) := by
  refine (op_at m c 76 _ rfl main_v51 (by decide)).trans ?_
  refine (unary_result _ _ _ _ _ _).trans ?_
  rw [upto_at m c 76 main_v50 (by decide), V_v50 m c]
  rfl

theorem V_v52 (c : Dev nD) : V m c main_v52 = (val_main_v58 (F := F) (m ((c : Thread nD τ).loc main_arg0)) (m ((c : Thread nD τ).loc main_arg1))) := by
  refine (op_at m c 77 _ rfl main_v52 (by decide)).trans ?_
  refine (binary_result _ _ _ _ _ _ _ _).trans ?_
  rw [upto_at m c 77 main_v48 (by decide), V_v48 m c, upto_at m c 77 main_v51 (by decide), V_v51 m c]
  rfl

theorem V_v53 (c : Dev nD) : V m c main_v53 = (val_main_v59 (F := F) (m ((c : Thread nD τ).loc main_arg0)) (m ((c : Thread nD τ).loc main_arg1))) := by
  refine (op_at m c 78 _ rfl main_v53 (by decide)).trans ?_
  refine (unary_result _ _ _ _ _ _).trans ?_
  rw [upto_at m c 78 main_v52 (by decide), V_v52 m c]
  rfl

theorem V_cst_20 (c : Dev nD) : V m c main_cst_20 = (val_main_call0_cst (F := F)) := by
  refine (op_at m c 79 _ rfl main_cst_20 (by decide)).trans ?_
  exact nullary_result _ _ _ _

theorem V_v54 (c : Dev nD) : V m c main_v54 = (val_main_v60 (F := F) (m ((c : Thread nD τ).loc main_arg0)) (m ((c : Thread nD τ).loc main_arg1))) := by
  refine (op_at m c 80 _ rfl main_v54 (by decide)).trans ?_
  refine (binary_result _ _ _ _ _ _ _ _).trans ?_
  rw [upto_at m c 80 main_v53 (by decide), V_v53 m c, upto_at m c 80 main_cst_20 (by decide), V_cst_20 m c]
  rfl

theorem V_v55 (c : Dev nD) : V m c main_v55 = (val_main_v61 (F := F) (m ((c : Thread nD τ).loc main_arg0)) (m ((c : Thread nD τ).loc main_arg1))) := by
  refine (op_at m c 81 _ rfl main_v55 (by decide)).trans ?_
  refine (unary_result _ _ _ _ _ _).trans ?_
  rw [upto_at m c 81 main_v54 (by decide), V_v54 m c]
  rfl

theorem V_v56 (c : Dev nD) : V m c main_v56 = (val_main_v62 (F := F) (m ((c : Thread nD τ).loc main_arg0)) (m ((c : Thread nD τ).loc main_arg1))) := by
  refine (op_at m c 82 _ rfl main_v56 (by decide)).trans ?_
  refine (unary_result _ _ _ _ _ _).trans ?_
  rw [upto_at m c 82 main_v55 (by decide), V_v55 m c]
  rfl

theorem V_v57 (c : Dev nD) : V m c main_v57 = (val_main_v63 (F := F) (m ((c : Thread nD τ).loc main_arg0)) (m ((c : Thread nD τ).loc main_arg1))) := by
  refine (op_at m c 83 _ rfl main_v57 (by decide)).trans ?_
  refine (binary_result _ _ _ _ _ _ _ _).trans ?_
  rw [upto_at m c 83 main_v53 (by decide), V_v53 m c, upto_at m c 83 main_v56 (by decide), V_v56 m c]
  rfl

theorem V_v58 (c : Dev nD) : V m c main_v58 = (val_main_v2 (F := F) (m ((c : Thread nD τ).loc main_arg2))) := by
  refine (op_at m c 84 _ rfl main_v58 (by decide)).trans ?_
  refine (unary_result _ _ _ _ _ _).trans ?_
  rw [upto_arg m c 84 main_arg2 (by decide)]
  rfl

theorem V_v59 (c : Dev nD) : V m c main_v59 = (val_main_v67 (F := F) (m ((c : Thread nD τ).loc main_arg2))) := by
  refine (op_at m c 85 _ rfl main_v59 (by decide)).trans ?_
  refine (reshape_result _ _ _ _ _ _ _).trans ?_
  rw [upto_at m c 85 main_v58 (by decide), V_v58 m c]
  rfl

theorem V_v60 (c : Dev nD) : V m c main_v60 = (val_main_v68 (F := F) (m ((c : Thread nD τ).loc main_arg0)) (m ((c : Thread nD τ).loc main_arg1)) (m ((c : Thread nD τ).loc main_arg2))) := by
  refine (op_at m c 86 _ rfl main_v60 (by decide)).trans ?_
  refine (binary_result _ _ _ _ _ _ _ _).trans ?_
  rw [upto_at m c 86 main_v59 (by decide), V_v59 m c, upto_at m c 86 main_v57 (by decide), V_v57 m c]
  rfl

theorem V_v61 (c : Dev nD) : V m c main_v61 = (val_main_v69 (F := F) (m ((c : Thread nD τ).loc main_arg0)) (m ((c : Thread nD τ).loc main_arg1)) (m ((c : Thread nD τ).loc main_arg2))) := by
  refine (op_at m c 87 _ rfl main_v61 (by decide)).trans ?_
  refine (unary_result _ _ _ _ _ _).trans ?_
  rw [upto_at m c 87 main_v60 (by decide), V_v60 m c]
  rfl

theorem V_v62 (c : Dev nD) : V m c main_v62 = (val_main_v70 (F := F) (m ((c : Thread nD τ).loc main_arg0)) (m ((c : Thread nD τ).loc main_arg1))) := by
  refine (op_at m c 88 _ rfl main_v62 (by decide)).trans ?_
  refine (unary_result _ _ _ _ _ _).trans ?_
  rw [upto_at m c 88 main_v55 (by decide), V_v55 m c]
  rfl

theorem V_v63 (c : Dev nD) : V m c main_v63 = (val_main_v71 (F := F) (m ((c : Thread nD τ).loc main_arg0)) (m ((c : Thread nD τ).loc main_arg1))) := by
  refine (op_at m c 89 _ rfl main_v63 (by decide)).trans ?_
  refine (binary_result _ _ _ _ _ _ _ _).trans ?_
  rw [upto_at m c 89 main_v50 (by decide), V_v50 m c, upto_at m c 89 main_v62 (by decide), V_v62 m c]
  rfl

theorem V_v64 (c : Dev nD) : V m c main_v64 = (val_main_v72 (F := F) (m ((c : Thread nD τ).loc main_arg0)) (m ((c : Thread nD τ).loc main_arg1))) := by
  refine (op_at m c 90 _ rfl main_v64 (by decide)).trans ?_
  refine (reshape_result _ _ _ _ _ _ _).trans ?_
  rw [upto_at m c 90 main_v63 (by decide), V_v63 m c]
  rfl

theorem V_v65 (c : Dev nD) : V m c main_v65 = (val_main_v73 (F := F) (m ((c : Thread nD τ).loc main_arg0)) (m ((c : Thread nD τ).loc main_arg1))) := by
  refine (op_at m c 91 _ rfl main_v65 (by decide)).trans ?_
  refine (unary_result _ _ _ _ _ _).trans ?_
  rw [upto_at m c 91 main_v64 (by decide), V_v64 m c]
  rfl

theorem V_v66 (c : Dev nD) : V m c main_v66 = (val_main_v74 (F := F) (m ((c : Thread nD τ).loc main_arg5))) := by
  refine (op_at m c 92 _ rfl main_v66 (by decide)).trans ?_
  refine (unary_result _ _ _ _ _ _).trans ?_
  rw [upto_arg m c 92 main_arg5 (by decide)]
  rfl

theorem V_v67 (c : Dev nD) : V m c main_v67 = (val_main_v75 (F := F) (m ((c : Thread nD τ).loc main_arg7))) := by
  refine (op_at m c 93 _ rfl main_v67 (by decide)).trans ?_
  refine (unary_result _ _ _ _ _ _).trans ?_
  rw [upto_arg m c 93 main_arg7 (by decide)]
  rfl

theorem V_v68 (c : Dev nD) : V m c main_v68 = (val_main_v76 (F := F) (m ((c : Thread nD τ).loc main_arg0)) (m ((c : Thread nD τ).loc main_arg1))) := by
  refine (op_at m c 94 _ rfl main_v68 (by decide)).trans ?_
  refine (unary_result _ _ _ _ _ _).trans ?_
  rw [upto_at m c 94 main_v65 (by decide), V_v65 m c]
  rfl

theorem V_v69 (c : Dev nD) : V m c main_v69 = (val_main_v77 (F := F) (m ((c : Thread nD τ).loc main_arg0)) (m ((c : Thread nD τ).loc main_arg1)) (m ((c : Thread nD τ).loc main_arg5)) (m ((c : Thread nD τ).loc main_arg7))) := by
  refine (op_at m c 95 _ rfl main_v69 (by decide)).trans ?_
  refine (nary_result _ _ _ _ _ _).trans ?_
  have e : (fun k => upto L (fun b => m (c, b)) 95 (Proc.tc.devRef ((![main_v66, main_v67, main_v68] : Fin 3 → Ref sig .tc) k))) = Fin.cons (val_main_v74 (F := F) (m ((c : Thread nD τ).loc main_arg5))) (Fin.cons (val_main_v75 (F := F) (m ((c : Thread nD τ).loc main_arg7))) (Fin.cons (val_main_v76 (F := F) (m ((c : Thread nD τ).loc main_arg0)) (m ((c : Thread nD τ).loc main_arg1))) (fun k => k.elim0))) := by
    funext k; fin_cases k
    · exact (upto_at m c 95 main_v66 (by decide)).trans (V_v66 m c)
    · exact (upto_at m c 95 main_v67 (by decide)).trans (V_v67 m c)
    · exact (upto_at m c 95 main_v68 (by decide)).trans (V_v68 m c)
  rw [e]; rfl

theorem V_cst_21 (c : Dev nD) : V m c main_cst_21 = (val_main_cst_18 (F := F)) := by
  refine (op_at m c 96 _ rfl main_cst_21 (by decide)).trans ?_
  exact nullary_result _ _ _ _

theorem V_v70 (c : Dev nD) : V m c main_v70 = (val_main_v80 (F := F) (m ((c : Thread nD τ).loc main_arg0)) (m ((c : Thread nD τ).loc main_arg1)) (m ((c : Thread nD τ).loc main_arg5)) (m ((c : Thread nD τ).loc main_arg7))) := by
  refine (op_at m c 97 _ rfl main_v70 (by decide)).trans ?_
  refine (binary_result _ _ _ _ _ _ _ _).trans ?_
  rw [upto_at m c 97 main_v69 (by decide), V_v69 m c, upto_at m c 97 main_cst_21 (by decide), V_cst_21 m c]
  rfl

theorem V_cst_22 (c : Dev nD) : V m c main_cst_22 = (val_main_cst_18 (F := F)) := by
  refine (op_at m c 98 _ rfl main_cst_22 (by decide)).trans ?_
  exact nullary_result _ _ _ _

theorem V_v71 (c : Dev nD) : V m c main_v71 = (val_main_v86 (F := F)) := by
  refine (op_at m c 99 _ rfl main_v71 (by decide)).trans ?_
  refine (unary_result _ _ _ _ _ _).trans ?_
  rw [upto_at m c 99 main_cst_22 (by decide), V_cst_22 m c]
  rfl

theorem V_v72 (c : Dev nD) : V m c main_v72 = (val_main_v87 (F := F) (m ((c : Thread nD τ).loc main_arg0)) (m ((c : Thread nD τ).loc main_arg1)) (m ((c : Thread nD τ).loc main_arg5)) (m ((c : Thread nD τ).loc main_arg7))) := by
  refine (op_at m c 100 _ rfl main_v72 (by decide)).trans ?_
  refine (binary_result _ _ _ _ _ _ _ _).trans ?_
  rw [upto_at m c 100 main_v71 (by decide), V_v71 m c, upto_at m c 100 main_v70 (by decide), V_v70 m c]
  rfl

theorem V_v73 (c : Dev nD) : V m c main_v73 = (val_main_v97 (F := F) (m ((c : Thread nD τ).loc main_arg0)) (m ((c : Thread nD τ).loc main_arg1)) (m ((c : Thread nD τ).loc main_arg5)) (m ((c : Thread nD τ).loc main_arg7))) := by
  refine (op_at m c 101 _ rfl main_v73 (by decide)).trans ?_
  refine (unary_result _ _ _ _ _ _).trans ?_
  rw [upto_at m c 101 main_v72 (by decide), V_v72 m c]
  rfl

theorem V_v74 (c : Dev nD) : V m c main_v74 = (val_main_v98 (F := F) (m ((c : Thread nD τ).loc main_arg0)) (m ((c : Thread nD τ).loc main_arg1)) (m ((c : Thread nD τ).loc main_arg5)) (m ((c : Thread nD τ).loc main_arg7))) := by
  refine (op_at m c 102 _ rfl main_v74 (by decide)).trans ?_
  refine (unary_result _ _ _ _ _ _).trans ?_
  rw [upto_at m c 102 main_v73 (by decide), V_v73 m c]
  rfl

theorem V_v75 (c : Dev nD) : V m c main_v75 = (val_main_v99 (F := F) (m ((c : Thread nD τ).loc main_arg0)) (m ((c : Thread nD τ).loc main_arg1)) (m ((c : Thread nD τ).loc main_arg5)) (m ((c : Thread nD τ).loc main_arg7))) := by
  refine (op_at m c 103 _ rfl main_v75 (by decide)).trans ?_
  refine (binary_result _ _ _ _ _ _ _ _).trans ?_
  rw [upto_at m c 103 main_v69 (by decide), V_v69 m c, upto_at m c 103 main_v74 (by decide), V_v74 m c]
  rfl

theorem V_v76 (c : Dev nD) : V m c main_v76 = (val_main_v100 (F := F) (m ((c : Thread nD τ).loc main_arg0)) (m ((c : Thread nD τ).loc main_arg1)) (m ((c : Thread nD τ).loc main_arg5)) (m ((c : Thread nD τ).loc main_arg7))) := by
  refine (op_at m c 104 _ rfl main_v76 (by decide)).trans ?_
  refine (unary_result _ _ _ _ _ _).trans ?_
  rw [upto_at m c 104 main_v75 (by decide), V_v75 m c]
  rfl

theorem V_cst_23 (c : Dev nD) : V m c main_cst_23 = (val_main_call0_cst (F := F)) := by
  refine (op_at m c 105 _ rfl main_cst_23 (by decide)).trans ?_
  exact nullary_result _ _ _ _

theorem V_v77 (c : Dev nD) : V m c main_v77 = (val_main_v101 (F := F) (m ((c : Thread nD τ).loc main_arg0)) (m ((c : Thread nD τ).loc main_arg1)) (m ((c : Thread nD τ).loc main_arg5)) (m ((c : Thread nD τ).loc main_arg7))) := by
  refine (op_at m c 106 _ rfl main_v77 (by decide)).trans ?_
  refine (binary_result _ _ _ _ _ _ _ _).trans ?_
  rw [upto_at m c 106 main_v76 (by decide), V_v76 m c, upto_at m c 106 main_cst_23 (by decide), V_cst_23 m c]
  rfl

theorem V_v78 (c : Dev nD) : V m c main_v78 = (val_main_v102 (F := F) (m ((c : Thread nD τ).loc main_arg0)) (m ((c : Thread nD τ).loc main_arg1)) (m ((c : Thread nD τ).loc main_arg5)) (m ((c : Thread nD τ).loc main_arg7))) := by
  refine (op_at m c 107 _ rfl main_v78 (by decide)).trans ?_
  refine (unary_result _ _ _ _ _ _).trans ?_
  rw [upto_at m c 107 main_v77 (by decide), V_v77 m c]
  rfl

theorem V_v79 (c : Dev nD) : V m c main_v79 = (val_main_v103 (F := F) (m ((c : Thread nD τ).loc main_arg0)) (m ((c : Thread nD τ).loc main_arg1)) (m ((c : Thread nD τ).loc main_arg5)) (m ((c : Thread nD τ).loc main_arg7))) := by
  refine (op_at m c 108 _ rfl main_v79 (by decide)).trans ?_
  refine (unary_result _ _ _ _ _ _).trans ?_
  rw [upto_at m c 108 main_v78 (by decide), V_v78 m c]
  rfl

theorem V_v80 (c : Dev nD) : V m c main_v80 = (val_main_v104 (F := F) (m ((c : Thread nD τ).loc main_arg0)) (m ((c : Thread nD τ).loc main_arg1)) (m ((c : Thread nD τ).loc main_arg5)) (m ((c : Thread nD τ).loc main_arg7))) := by
  refine (op_at m c 109 _ rfl main_v80 (by decide)).trans ?_
  refine (binary_result _ _ _ _ _ _ _ _).trans ?_
  rw [upto_at m c 109 main_v76 (by decide), V_v76 m c, upto_at m c 109 main_v79 (by decide), V_v79 m c]
  rfl

theorem V_v81 (c : Dev nD) : V m c main_v81 = (val_main_v108 (F := F) (m ((c : Thread nD τ).loc main_arg0)) (m ((c : Thread nD τ).loc main_arg1)) (m ((c : Thread nD τ).loc main_arg5)) (m ((c : Thread nD τ).loc main_arg7))) := by
  refine (op_at m c 110 _ rfl main_v81 (by decide)).trans ?_
  refine (unary_result _ _ _ _ _ _).trans ?_
  rw [upto_at m c 110 main_v80 (by decide), V_v80 m c]
  rfl

theorem V_v82 (c : Dev nD) : V m c main_v82 = (val_main_v109 (F := F) (m ((c : Thread nD τ).loc main_arg4))) := by
  refine (op_at m c 111 _ rfl main_v82 (by decide)).trans ?_
  refine (unary_result _ _ _ _ _ _).trans ?_
  rw [upto_arg m c 111 main_arg4 (by decide)]
  rfl

theorem V_v83 (c : Dev nD) : V m c main_v83 = (val_main_v110 (F := F) (m ((c : Thread nD τ).loc main_arg4))) := by
  refine (op_at m c 112 _ rfl main_v83 (by decide)).trans ?_
  refine (reshape_result _ _ _ _ _ _ _).trans ?_
  rw [upto_at m c 112 main_v82 (by decide), V_v82 m c]
  rfl

theorem V_v84 (c : Dev nD) : V m c main_v84 = (val_main_v111 (F := F) (m ((c : Thread nD τ).loc main_arg6))) := by
  refine (op_at m c 113 _ rfl main_v84 (by decide)).trans ?_
  refine (unary_result _ _ _ _ _ _).trans ?_
  rw [upto_arg m c 113 main_arg6 (by decide)]
  rfl

theorem V_v85 (c : Dev nD) : V m c main_v85 = (val_main_v112 (F := F) (m ((c : Thread nD τ).loc main_arg6))) := by
  refine (op_at m c 114 _ rfl main_v85 (by decide)).trans ?_
  refine (reshape_result _ _ _ _ _ _ _).trans ?_
  rw [upto_at m c 114 main_v84 (by decide), V_v84 m c]
  rfl

theorem V_v86 (c : Dev nD) : V m c main_v86 = (val_main_v113 (F := F) (m ((c : Thread nD τ).loc main_arg4))) := by
  refine (op_at m c 115 _ rfl main_v86 (by decide)).trans ?_
  refine (unary_result _ _ _ _ _ _).trans ?_
  rw [upto_at m c 115 main_v83 (by decide), V_v83 m c]
  rfl

theorem V_v87 (c : Dev nD) : V m c main_v87 = (val_main_v114 (F := F) (m ((c : Thread nD τ).loc main_arg6))) := by
  refine (op_at m c 116 _ rfl main_v87 (by decide)).trans ?_
  refine (unary_result _ _ _ _ _ _).trans ?_
  rw [upto_at m c 116 main_v85 (by decide), V_v85 m c]
  rfl

theorem V_v88 (c : Dev nD) : V m c main_v88 = (val_main_v115 (F := F) (m ((c : Thread nD τ).loc main_arg0)) (m ((c : Thread nD τ).loc main_arg1)) (m ((c : Thread nD τ).loc main_arg2))) := by
  refine (op_at m c 117 _ rfl main_v88 (by decide)).trans ?_
  refine (unary_result _ _ _ _ _ _).trans ?_
  rw [upto_at m c 117 main_v61 (by decide), V_v61 m c]
  rfl

theorem V_v89 (c : Dev nD) : V m c main_v89 = (val_main_v116 (F := F) (m ((c : Thread nD τ).loc main_arg0)) (m ((c : Thread nD τ).loc main_arg1)) (m ((c : Thread nD τ).loc main_arg2)) (m ((c : Thread nD τ).loc main_arg4)) (m ((c : Thread nD τ).loc main_arg6))) := by
  refine (op_at m c 118 _ rfl main_v89 (by decide)).trans ?_
  refine (nary_result _ _ _ _ _ _).trans ?_
  have e : (fun k => upto L (fun b => m (c, b)) 118 (Proc.tc.devRef ((![main_v86, main_v87, main_v88] : Fin 3 → Ref sig .tc) k))) = Fin.cons (val_main_v113 (F := F) (m ((c : Thread nD τ).loc main_arg4))) (Fin.cons (val_main_v114 (F := F) (m ((c : Thread nD τ).loc main_arg6))) (Fin.cons (val_main_v115 (F := F) (m ((c : Thread nD τ).loc main_arg0)) (m ((c : Thread nD τ).loc main_arg1)) (m ((c : Thread nD τ).loc main_arg2))) (fun k => k.elim0))) := by
    funext k; fin_cases k
    · exact (upto_at m c 118 main_v86 (by decide)).trans (V_v86 m c)
    · exact (upto_at m c 118 main_v87 (by decide)).trans (V_v87 m c)
    · exact (upto_at m c 118 main_v88 (by decide)).trans (V_v88 m c)
  rw [e]; rfl

theorem V_v90 (c : Dev nD) : V m c main_v90 = (val_main_v119 (F := F) (m ((c : Thread nD τ).loc main_arg0)) (m ((c : Thread nD τ).loc main_arg1)) (m ((c : Thread nD τ).loc main_arg5)) (m ((c : Thread nD τ).loc main_arg7))) := by
  refine (op_at m c 119 _ rfl main_v90 (by decide)).trans ?_
  refine (unary_result _ _ _ _ _ _).trans ?_
  rw [upto_at m c 119 main_v81 (by decide), V_v81 m c]
  rfl

theorem V_v91 (c : Dev nD) : V m c main_v91 = (val_main_v120 (F := F) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  refine (op_at m c 120 _ rfl main_v91 (by decide)).trans ?_
  refine (binary_result _ _ _ _ _ _ _ _).trans ?_
  rw [upto_at m c 120 main_v90 (by decide), V_v90 m c, upto_at m c 120 main_v89 (by decide), V_v89 m c]
  rfl

theorem V_cst_24 (c : Dev nD) : V m c main_cst_24 = (val_main_call0_cst (F := F)) := by
  refine (op_at m c 121 _ rfl main_cst_24 (by decide)).trans ?_
  exact nullary_result _ _ _ _

theorem V_v92 (c : Dev nD) : V m c main_v92 = (val_main_v121 (F := F) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  refine (op_at m c 122 _ rfl main_v92 (by decide)).trans ?_
  refine (binary_result _ _ _ _ _ _ _ _).trans ?_
  rw [upto_at m c 122 main_v91 (by decide), V_v91 m c, upto_at m c 122 main_cst_24 (by decide), V_cst_24 m c]
  rfl

theorem V_v93 (c : Dev nD) : V m c main_v93 = (val_main_v122 (F := F) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  refine (op_at m c 123 _ rfl main_v93 (by decide)).trans ?_
  refine (reshape_result _ _ _ _ _ _ _).trans ?_
  rw [upto_at m c 123 main_v92 (by decide), V_v92 m c]
  rfl

/-- One line of the host code, of the arguments. -/
def tl_main_v94 (x0 : (⟨S16x256x2048, .bf16⟩ : BufTy).Contents (Elt F)) (x1 : (⟨S16x256x2048, .bf16⟩ : BufTy).Contents (Elt F)) (x2 : (⟨S16x256x2048, .bf16⟩ : BufTy).Contents (Elt F)) (x4 : (⟨S16x256x2048, .bf16⟩ : BufTy).Contents (Elt F)) (x5 : (⟨S16x256x16, .f32⟩ : BufTy).Contents (Elt F)) (x6 : (⟨S16x256x2048, .bf16⟩ : BufTy).Contents (Elt F)) (x7 : (⟨S16x256x16, .f32⟩ : BufTy).Contents (Elt F)) : (⟨S16x256x2048, .bf16⟩ : BufTy).Contents (Elt F) :=
  (truncf .bf16 · bitsLt_bf16_f32) (val_main_v122 (F := F) x0 x1 x2 x4 x5 x6 x7)

theorem V_v94 (c : Dev nD) : V m c main_v94 = (tl_main_v94 (F := F) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  refine (op_at m c 124 _ rfl main_v94 (by decide)).trans ?_
  refine (unary_result _ _ _ _ _ _).trans ?_
  rw [upto_at m c 124 main_v93 (by decide), V_v93 m c]
  rfl

/-- One line of the host code, of the arguments. -/
def tl_main_v95 (x5 : (⟨S16x256x16, .f32⟩ : BufTy).Contents (Elt F)) (x7 : (⟨S16x256x16, .f32⟩ : BufTy).Contents (Elt F)) : (⟨S16x256x16, .f32⟩ : BufTy).Contents (Elt F) :=
  (maximumf) x5 x7

theorem V_v95 (c : Dev nD) : V m c main_v95 = (tl_main_v95 (F := F) (m ((c : Thread nD τ).loc main_arg5)) (m ((c : Thread nD τ).loc main_arg7))) := by
  refine (op_at m c 125 _ rfl main_v95 (by decide)).trans ?_
  refine (binary_result _ _ _ _ _ _ _ _).trans ?_
  rw [upto_arg m c 125 main_arg5 (by decide), upto_arg m c 125 main_arg7 (by decide)]
  rfl

/-- One line of the host code, of the arguments. -/
def tl_main_v96 (x0 : (⟨S16x256x2048, .bf16⟩ : BufTy).Contents (Elt F)) (x1 : (⟨S16x256x2048, .bf16⟩ : BufTy).Contents (Elt F)) (x5 : (⟨S16x256x16, .f32⟩ : BufTy).Contents (Elt F)) (x7 : (⟨S16x256x16, .f32⟩ : BufTy).Contents (Elt F)) : (⟨S16x256x16, .f32⟩ : BufTy).Contents (Elt F) :=
  (maximumf) (tl_main_v95 (F := F) x5 x7) (val_main_v73 (F := F) x0 x1)

theorem V_v96 (c : Dev nD) : V m c main_v96 = (tl_main_v96 (F := F) (m ((c : Thread nD τ).loc main_arg0)) (m ((c : Thread nD τ).loc main_arg1)) (m ((c : Thread nD τ).loc main_arg5)) (m ((c : Thread nD τ).loc main_arg7))) := by
  refine (op_at m c 126 _ rfl main_v96 (by decide)).trans ?_
  refine (binary_result _ _ _ _ _ _ _ _).trans ?_
  rw [upto_at m c 126 main_v95 (by decide), V_v95 m c, upto_at m c 126 main_v65 (by decide), V_v65 m c]
  rfl

/-- One line of the host code, of the arguments. -/
def tl_main_v97 (x0 : (⟨S16x256x2048, .bf16⟩ : BufTy).Contents (Elt F)) (x1 : (⟨S16x256x2048, .bf16⟩ : BufTy).Contents (Elt F)) (x5 : (⟨S16x256x16, .f32⟩ : BufTy).Contents (Elt F)) (x7 : (⟨S16x256x16, .f32⟩ : BufTy).Contents (Elt F)) : (⟨S16x256x16, .f32⟩ : BufTy).Contents (Elt F) :=
  (subf) x5 (tl_main_v96 (F := F) x0 x1 x5 x7)

theorem V_v97 (c : Dev nD) : V m c main_v97 = (tl_main_v97 (F := F) (m ((c : Thread nD τ).loc main_arg0)) (m ((c : Thread nD τ).loc main_arg1)) (m ((c : Thread nD τ).loc main_arg5)) (m ((c : Thread nD τ).loc main_arg7))) := by
  refine (op_at m c 127 _ rfl main_v97 (by decide)).trans ?_
  refine (binary_result _ _ _ _ _ _ _ _).trans ?_
  rw [upto_arg m c 127 main_arg5 (by decide), upto_at m c 127 main_v96 (by decide), V_v96 m c]
  rfl

/-- One line of the host code, of the arguments. -/
def tl_main_v98 (x0 : (⟨S16x256x2048, .bf16⟩ : BufTy).Contents (Elt F)) (x1 : (⟨S16x256x2048, .bf16⟩ : BufTy).Contents (Elt F)) (x5 : (⟨S16x256x16, .f32⟩ : BufTy).Contents (Elt F)) (x7 : (⟨S16x256x16, .f32⟩ : BufTy).Contents (Elt F)) : (⟨S16x256x16, .f32⟩ : BufTy).Contents (Elt F) :=
  (Host.exp) (tl_main_v97 (F := F) x0 x1 x5 x7)

theorem V_v98 (c : Dev nD) : V m c main_v98 = (tl_main_v98 (F := F) (m ((c : Thread nD τ).loc main_arg0)) (m ((c : Thread nD τ).loc main_arg1)) (m ((c : Thread nD τ).loc main_arg5)) (m ((c : Thread nD τ).loc main_arg7))) := by
  refine (op_at m c 128 _ rfl main_v98 (by decide)).trans ?_
  refine (unary_result _ _ _ _ _ _).trans ?_
  rw [upto_at m c 128 main_v97 (by decide), V_v97 m c]
  rfl

/-- One line of the host code, of the arguments. -/
def tl_main_v99 (x0 : (⟨S16x256x2048, .bf16⟩ : BufTy).Contents (Elt F)) (x1 : (⟨S16x256x2048, .bf16⟩ : BufTy).Contents (Elt F)) (x5 : (⟨S16x256x16, .f32⟩ : BufTy).Contents (Elt F)) (x7 : (⟨S16x256x16, .f32⟩ : BufTy).Contents (Elt F)) : (⟨S16x256x16, .f32⟩ : BufTy).Contents (Elt F) :=
  (subf) x7 (tl_main_v96 (F := F) x0 x1 x5 x7)

theorem V_v99 (c : Dev nD) : V m c main_v99 = (tl_main_v99 (F := F) (m ((c : Thread nD τ).loc main_arg0)) (m ((c : Thread nD τ).loc main_arg1)) (m ((c : Thread nD τ).loc main_arg5)) (m ((c : Thread nD τ).loc main_arg7))) := by
  refine (op_at m c 129 _ rfl main_v99 (by decide)).trans ?_
  refine (binary_result _ _ _ _ _ _ _ _).trans ?_
  rw [upto_arg m c 129 main_arg7 (by decide), upto_at m c 129 main_v96 (by decide), V_v96 m c]
  rfl

/-- One line of the host code, of the arguments. -/
def tl_main_v100 (x0 : (⟨S16x256x2048, .bf16⟩ : BufTy).Contents (Elt F)) (x1 : (⟨S16x256x2048, .bf16⟩ : BufTy).Contents (Elt F)) (x5 : (⟨S16x256x16, .f32⟩ : BufTy).Contents (Elt F)) (x7 : (⟨S16x256x16, .f32⟩ : BufTy).Contents (Elt F)) : (⟨S16x256x16, .f32⟩ : BufTy).Contents (Elt F) :=
  (Host.exp) (tl_main_v99 (F := F) x0 x1 x5 x7)

theorem V_v100 (c : Dev nD) : V m c main_v100 = (tl_main_v100 (F := F) (m ((c : Thread nD τ).loc main_arg0)) (m ((c : Thread nD τ).loc main_arg1)) (m ((c : Thread nD τ).loc main_arg5)) (m ((c : Thread nD τ).loc main_arg7))) := by
  refine (op_at m c 130 _ rfl main_v100 (by decide)).trans ?_
  refine (unary_result _ _ _ _ _ _).trans ?_
  rw [upto_at m c 130 main_v99 (by decide), V_v99 m c]
  rfl

/-- One line of the host code, of the arguments. -/
def tl_main_v101 (x0 : (⟨S16x256x2048, .bf16⟩ : BufTy).Contents (Elt F)) (x1 : (⟨S16x256x2048, .bf16⟩ : BufTy).Contents (Elt F)) (x5 : (⟨S16x256x16, .f32⟩ : BufTy).Contents (Elt F)) (x7 : (⟨S16x256x16, .f32⟩ : BufTy).Contents (Elt F)) : (⟨S16x256x16, .f32⟩ : BufTy).Contents (Elt F) :=
  (addf) (tl_main_v98 (F := F) x0 x1 x5 x7) (tl_main_v100 (F := F) x0 x1 x5 x7)

theorem V_v101 (c : Dev nD) : V m c main_v101 = (tl_main_v101 (F := F) (m ((c : Thread nD τ).loc main_arg0)) (m ((c : Thread nD τ).loc main_arg1)) (m ((c : Thread nD τ).loc main_arg5)) (m ((c : Thread nD τ).loc main_arg7))) := by
  refine (op_at m c 131 _ rfl main_v101 (by decide)).trans ?_
  refine (binary_result _ _ _ _ _ _ _ _).trans ?_
  rw [upto_at m c 131 main_v98 (by decide), V_v98 m c, upto_at m c 131 main_v100 (by decide), V_v100 m c]
  rfl

/-- One line of the host code, of the arguments. -/
def tl_main_v102 (x0 : (⟨S16x256x2048, .bf16⟩ : BufTy).Contents (Elt F)) (x1 : (⟨S16x256x2048, .bf16⟩ : BufTy).Contents (Elt F)) (x5 : (⟨S16x256x16, .f32⟩ : BufTy).Contents (Elt F)) (x7 : (⟨S16x256x16, .f32⟩ : BufTy).Contents (Elt F)) : (⟨S16x256x16, .f32⟩ : BufTy).Contents (Elt F) :=
  (subf) (val_main_v73 (F := F) x0 x1) (tl_main_v96 (F := F) x0 x1 x5 x7)

theorem V_v102 (c : Dev nD) : V m c main_v102 = (tl_main_v102 (F := F) (m ((c : Thread nD τ).loc main_arg0)) (m ((c : Thread nD τ).loc main_arg1)) (m ((c : Thread nD τ).loc main_arg5)) (m ((c : Thread nD τ).loc main_arg7))) := by
  refine (op_at m c 132 _ rfl main_v102 (by decide)).trans ?_
  refine (binary_result _ _ _ _ _ _ _ _).trans ?_
  rw [upto_at m c 132 main_v65 (by decide), V_v65 m c, upto_at m c 132 main_v96 (by decide), V_v96 m c]
  rfl

/-- One line of the host code, of the arguments. -/
def tl_main_v103 (x0 : (⟨S16x256x2048, .bf16⟩ : BufTy).Contents (Elt F)) (x1 : (⟨S16x256x2048, .bf16⟩ : BufTy).Contents (Elt F)) (x5 : (⟨S16x256x16, .f32⟩ : BufTy).Contents (Elt F)) (x7 : (⟨S16x256x16, .f32⟩ : BufTy).Contents (Elt F)) : (⟨S16x256x16, .f32⟩ : BufTy).Contents (Elt F) :=
  (Host.exp) (tl_main_v102 (F := F) x0 x1 x5 x7)

theorem V_v103 (c : Dev nD) : V m c main_v103 = (tl_main_v103 (F := F) (m ((c : Thread nD τ).loc main_arg0)) (m ((c : Thread nD τ).loc main_arg1)) (m ((c : Thread nD τ).loc main_arg5)) (m ((c : Thread nD τ).loc main_arg7))) := by
  refine (op_at m c 133 _ rfl main_v103 (by decide)).trans ?_
  refine (unary_result _ _ _ _ _ _).trans ?_
  rw [upto_at m c 133 main_v102 (by decide), V_v102 m c]
  rfl

/-- One line of the host code, of the arguments. -/
def tl_main_v104 (x0 : (⟨S16x256x2048, .bf16⟩ : BufTy).Contents (Elt F)) (x1 : (⟨S16x256x2048, .bf16⟩ : BufTy).Contents (Elt F)) (x5 : (⟨S16x256x16, .f32⟩ : BufTy).Contents (Elt F)) (x7 : (⟨S16x256x16, .f32⟩ : BufTy).Contents (Elt F)) : (⟨S16x256x16, .f32⟩ : BufTy).Contents (Elt F) :=
  (addf) (tl_main_v101 (F := F) x0 x1 x5 x7) (tl_main_v103 (F := F) x0 x1 x5 x7)

theorem V_v104 (c : Dev nD) : V m c main_v104 = (tl_main_v104 (F := F) (m ((c : Thread nD τ).loc main_arg0)) (m ((c : Thread nD τ).loc main_arg1)) (m ((c : Thread nD τ).loc main_arg5)) (m ((c : Thread nD τ).loc main_arg7))) := by
  refine (op_at m c 134 _ rfl main_v104 (by decide)).trans ?_
  refine (binary_result _ _ _ _ _ _ _ _).trans ?_
  rw [upto_at m c 134 main_v101 (by decide), V_v101 m c, upto_at m c 134 main_v103 (by decide), V_v103 m c]
  rfl

/-- One line of the host code, of the arguments. -/
def tl_main_v105 (x0 : (⟨S16x256x2048, .bf16⟩ : BufTy).Contents (Elt F)) (x1 : (⟨S16x256x2048, .bf16⟩ : BufTy).Contents (Elt F)) (x5 : (⟨S16x256x16, .f32⟩ : BufTy).Contents (Elt F)) (x7 : (⟨S16x256x16, .f32⟩ : BufTy).Contents (Elt F)) : (⟨S16x256x16, .f32⟩ : BufTy).Contents (Elt F) :=
  (Host.log) (tl_main_v104 (F := F) x0 x1 x5 x7)

theorem V_v105 (c : Dev nD) : V m c main_v105 = (tl_main_v105 (F := F) (m ((c : Thread nD τ).loc main_arg0)) (m ((c : Thread nD τ).loc main_arg1)) (m ((c : Thread nD τ).loc main_arg5)) (m ((c : Thread nD τ).loc main_arg7))) := by
  refine (op_at m c 135 _ rfl main_v105 (by decide)).trans ?_
  refine (unary_result _ _ _ _ _ _).trans ?_
  rw [upto_at m c 135 main_v104 (by decide), V_v104 m c]
  rfl

/-- One line of the host code, of the arguments. -/
def tl_main_v106 (x0 : (⟨S16x256x2048, .bf16⟩ : BufTy).Contents (Elt F)) (x1 : (⟨S16x256x2048, .bf16⟩ : BufTy).Contents (Elt F)) (x5 : (⟨S16x256x16, .f32⟩ : BufTy).Contents (Elt F)) (x7 : (⟨S16x256x16, .f32⟩ : BufTy).Contents (Elt F)) : (⟨S16x256x16, .f32⟩ : BufTy).Contents (Elt F) :=
  (addf) (tl_main_v96 (F := F) x0 x1 x5 x7) (tl_main_v105 (F := F) x0 x1 x5 x7)

theorem V_v106 (c : Dev nD) : V m c main_v106 = (tl_main_v106 (F := F) (m ((c : Thread nD τ).loc main_arg0)) (m ((c : Thread nD τ).loc main_arg1)) (m ((c : Thread nD τ).loc main_arg5)) (m ((c : Thread nD τ).loc main_arg7))) := by
  refine (op_at m c 136 _ rfl main_v106 (by decide)).trans ?_
  refine (binary_result _ _ _ _ _ _ _ _).trans ?_
  rw [upto_at m c 136 main_v96 (by decide), V_v96 m c, upto_at m c 136 main_v105 (by decide), V_v105 m c]
  rfl

theorem V_c_25 (c : Dev nD) : V m c main_c_25 = (val_main_c (F := F)) := by
  refine (op_at m c 137 _ rfl main_c_25 (by decide)).trans ?_
  exact nullary_result _ _ _ _

/-- One line of the host code, of the arguments. -/
def tl_main_call1_v0  : (⟨S_, .f32⟩ : BufTy).Contents (Elt F) :=
  (sitofp .f32) (val_main_c (F := F) )

theorem V_call1_v0 (c : Dev nD) : V m c main_call1_v0 = (tl_main_call1_v0 (F := F)) := by
  refine (op_at m c 138 _ rfl main_call1_v0 (by decide)).trans ?_
  refine (unary_result _ _ _ _ _ _).trans ?_
  rw [upto_at m c 138 main_c_25 (by decide), V_c_25 m c]
  rfl

/-- One line of the host code, of the arguments. -/
def tl_main_v107 (x0 : (⟨S16x256x2048, .bf16⟩ : BufTy).Contents (Elt F)) (x1 : (⟨S16x256x2048, .bf16⟩ : BufTy).Contents (Elt F)) (x5 : (⟨S16x256x16, .f32⟩ : BufTy).Contents (Elt F)) (x7 : (⟨S16x256x16, .f32⟩ : BufTy).Contents (Elt F)) : (⟨S16x256x128, .f32⟩ : BufTy).Contents (Elt F) :=
  (fun x v => pad S16x256x128 ![0, 0, 0] ![0, 0, 112] ![0, 0, 0] x v pads_S16x256x16_S16x256x128_000_000_01120 h_S_) (tl_main_v106 (F := F) x0 x1 x5 x7) (tl_main_call1_v0 (F := F) )

theorem V_v107 (c : Dev nD) : V m c main_v107 = (tl_main_v107 (F := F) (m ((c : Thread nD τ).loc main_arg0)) (m ((c : Thread nD τ).loc main_arg1)) (m ((c : Thread nD τ).loc main_arg5)) (m ((c : Thread nD τ).loc main_arg7))) := by
  refine (op_at m c 139 _ rfl main_v107 (by decide)).trans ?_
  refine (binary_result _ _ _ _ _ _ _ _).trans ?_
  rw [upto_at m c 139 main_v106 (by decide), V_v106 m c, upto_at m c 139 main_call1_v0 (by decide), V_call1_v0 m c]
  rfl

end Cert.KernelIdeal.Hand
-- ==== Proof.Ideal.Final.lean ====
module

public import proofs.«01_k».proof.Proof.Ideal.Blk
public import proofs.«01_k».proof.Proof.Ideal.Out
public import proofs.«01_k».proof.Proof.Ideal.Host
public import Idealize.ShloMosaic.Lib.KernelVsHost

/-! The kernel's three results are the reference's. -/

@[expose] public section
noncomputable section

namespace Cert.KernelIdeal.Hand

open Idealize.ShloMosaic hiding ix1 ix2 ix3 ix4 ix5 eq_ix1 eq_ix2 eq_ix3 eq_ix4 eq_ix5
open Idealize.ShloMosaic.ValueIdx
open Idealize.ShloMosaic.TcCoe Idealize.SL.Sem
open Cert.KernelIdeal Cert.KernelIdeal.Gen Attn
open Cert.ReferenceIdeal.Read
open Cert.ReferenceIdeal.Hand (mul2 add2 sub2 neg1 exp1 log1 sum1 dot1 coe_sum at3 Args Stage Reads R_v73 R_v122)
open scoped BigOperators

/-! ## The merged log-sum -/

theorem max2 {a b : EReal} {p q : ℝ} (ha : a = (p : EReal)) (hb : b = (q : EReal)) : max a b = ((max p q : ℝ) : EReal) := by
  rw [ha, hb]; exact (EReal.coe_strictMono.monotone.map_max).symm

theorem lm_eq (a b c M : ℝ) : M + Real.log (Real.exp (a - M) + Real.exp (b - M) + Real.exp (c - M)) = Real.log (Real.exp a + Real.exp b + Real.exp c) := by
  have e : Real.exp a + Real.exp b + Real.exp c = Real.exp M * (Real.exp (a - M) + Real.exp (b - M) + Real.exp (c - M)) := by
    rw [mul_add, mul_add, ← Real.exp_add, ← Real.exp_add, ← Real.exp_add]; simp only [add_sub_cancel]
  rw [e, Real.log_mul (Real.exp_pos _).ne' (by positivity), Real.log_exp]

theorem LM_eq (D : Data) (r : Fin 16) (x : Fin 256) (h : Fin 16) :
    D.LM r x h = Real.log (Real.exp (D.l1 r x h) + Real.exp (D.l4 r x h) + Real.exp (D.lse r h x)) := by
  unfold Data.LM
  rw [Fin.sum_univ_three]
  rw [D.l_at 0 0 rfl, D.l_at 1 1 rfl, D.l_at 2 2 rfl]
  rfl

variable {D : Data} {x0 x1 x2 x3 x4 x6 : S16x256x2048.Idx → EReal} {x5 x7 : S16x256x16.Idx → EReal}

theorem maxf_at (a b : FVec Ideal S16x256x16 .f32) (i : S16x256x16.Idx) {p q : ℝ} (ha : a i = (p : EReal)) (hb : b i = (q : EReal)) :
    maximumf a b i = ((max p q : ℝ) : EReal) := max2 ha hb

theorem v96_at (x0 x1 : S16x256x2048.Idx → EReal) (x5 x7 : S16x256x16.Idx → EReal) (i : S16x256x16.Idx) {p q r : ℝ} (h1 : x5 i = (p : EReal)) (h2 : x7 i = (q : EReal))
    (h3 : val_main_v73 (F := Ideal) x0 x1 i = (r : EReal)) : tl_main_v96 (F := Ideal) x0 x1 x5 x7 i = ((max (max p q) r : ℝ) : EReal) := by
  unfold tl_main_v96 tl_main_v95
  exact maxf_at _ _ i (maxf_at x5 x7 i h1 h2) h3

theorem lse_at (a b c w : FVec Ideal S16x256x16 .f32) (i : S16x256x16.Idx) {p q r M : ℝ} (ha : a i = (p : EReal)) (hb : b i = (q : EReal))
    (hc : c i = (r : EReal)) (hw : w i = (M : EReal)) :
    addf w (Host.log (addf (addf (Host.exp (subf a w)) (Host.exp (subf b w))) (Host.exp (subf c w)))) i
      = ((Real.log (Real.exp p + Real.exp q + Real.exp r) : ℝ) : EReal) :=
  (add2 hw (log1 (add2 (add2 (exp1 (sub2 ha hw)) (exp1 (sub2 hb hw))) (exp1 (sub2 hc hw))) (by positivity))).trans
    (congrArg _ (lm_eq p q r M))

theorem T_v106 (H : Reads D x0 x1 x2 x3 x4 x5 x6 x7) (i : S16x256x16.Idx) :
    tl_main_v106 (F := Ideal) x0 x1 x5 x7 i = ((D.LM (i 0) (i 1) (i 2) : ℝ) : EReal) := by
  have h1 := H.toStage.toArgs.h5 i
  have h2 := H.toStage.toArgs.h7 i
  have h3 := R_v73 H.toStage i
  have h4 := v96_at x0 x1 x5 x7 i h1 h2 h3
  unfold tl_main_v106 tl_main_v105 tl_main_v104 tl_main_v103 tl_main_v102 tl_main_v101 tl_main_v100 tl_main_v99 tl_main_v98 tl_main_v97
  exact (lse_at x5 x7 _ _ i h1 h2 h3 h4).trans (congrArg _ (LM_eq D (i 0) (i 1) (i 2)).symm)

theorem T_v107 (H : Reads D x0 x1 x2 x3 x4 x5 x6 x7) (r : Fin 16) (x : Fin 256) (h : Fin 16) :
    tl_main_v107 (F := Ideal) x0 x1 x5 x7 (ix3 r x (hl h)) = ((D.LM r x h : ℝ) : EReal) := by
  unfold tl_main_v107
  refine (pad_apply_of_inside _ _ _ _ _ _ _ _ (ix3 r x h) fun a => ?_).trans (T_v106 H (ix3 r x h))
  match a with
  | ⟨0, _⟩ => show r.val = 0 + r.val * 1; omega
  | ⟨1, _⟩ => show x.val = 0 + x.val * 1; omega
  | ⟨2, _⟩ => show h.val = 0 + h.val * 1; omega

theorem T_v94 (H : Reads D x0 x1 x2 x3 x4 x5 x6 x7) (r : Fin 16) (x : Fin 256) (h : Fin 16) (e : Fin 128) :
    tl_main_v94 (F := Ideal) x0 x1 x2 x4 x5 x6 x7 (at3 r x h e) = ((D.att r x h e : ℝ) : EReal) := by
  refine (R_v122 H (at3 r x h e)).trans (congrArg _ ?_)
  have e1 : Cert.ReferenceIdeal.Hand.hd (at3 r x h e 2) = h := Fin.ext (by show (128 * h.val + e.val) / 128 = h.val; omega)
  have e2 : Cert.ReferenceIdeal.Hand.ln (at3 r x h e 2) = e := Fin.ext (by show (128 * h.val + e.val) % 128 = e.val; omega)
  rw [e1, e2]; rfl

/-! ## The blocks -/

variable (m : (ℓ : Loc nD τ sig) → Buf (Elt Ideal) ℓ) (c : Dev nD)

/-- What the arguments of the device at hand hold. -/
abbrev HR (D : Data) : Prop :=
  Reads D (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem coords1 : ∀ t : Fin cfg0.N, ((grid0.coords t) 1).val = t.val % 2 :=
  (by decide +kernel : ∀ t : Fin grid0.N, ((grid0.coords t) 1).val = t.val % 2)

theorem blk_of (H : HR m c D) (r : Fin 16) (b : Fin 2) (t : Fin cfg0.N) (ht : t.val = 2 * r.val + b.val) :
    Blk D r b (Bq m c t) (Bkc m c t) (Bkp m c t) (Bvc m c t) (Bvp m c t) (Bg m c t) (Bo m c t) (Bl m c t) := by
  have hb := b.isLt
  have t0 : r.val = t.val / 2 := by omega
  have t1 : t.val % 2 = b.val := by omega
  have q1 : ∀ a : Fin 128, (qx b a).val = t.val % 2 * 128 + a.val := fun a => by
    rw [t1]; show 128 * b.val + a.val = _; omega
  refine ⟨fun a h e => ?_, fun a h e => ?_, fun a h e => ?_, fun a h e => ?_, fun a h e => ?_, fun a h e => ?_, fun a h e => ?_, fun a h => ?_⟩
  · exact (Bq_at m c t (ix3 0 a (cl h e)) (at3 r (qx b a) h e) t0 (q1 a) rfl).trans
      ((congrFun (V_main_arg0 m c) _).trans (H.toStage.toArgs.h0 r (qx b a) h e))
  · exact (Bkc_at m c t (ix3 0 a (cl h e)) (at3 r (qx b a) h e) t0 (q1 a) rfl).trans
      ((congrFun (V_main_arg1 m c) _).trans (H.toStage.toArgs.h1 r (qx b a) h e))
  · exact (Bkp_at m c t (ix3 0 a (cl h e)) (at3 r (lw a) h e) t0 rfl rfl).trans
      ((congrFun (V_main_arg1 m c) _).trans (H.toStage.toArgs.h1 r (lw a) h e))
  · exact (Bvc_at m c t (ix3 0 a (cl h e)) (at3 r (qx b a) h e) t0 (q1 a) rfl).trans
      ((congrFun (V_main_arg2 m c) _).trans (H.toStage.toArgs.h2 r (qx b a) h e))
  · exact (Bvp_at m c t (ix3 0 a (cl h e)) (at3 r (lw a) h e) t0 rfl rfl).trans
      ((congrFun (V_main_arg2 m c) _).trans (H.toStage.toArgs.h2 r (lw a) h e))
  · exact (Bg_at m c t (ix3 0 a (cl h e)) (at3 r (qx b a) h e) t0 (q1 a) rfl).trans
      ((congrFun (V_main_arg3 m c) _).trans (H.toStage.toArgs.h3 r (qx b a) h e))
  · exact (Bo_at m c t (ix3 0 a (cl h e)) (at3 r (qx b a) h e) t0 (q1 a) rfl).trans
      ((congrFun (V_v94 m c) _).trans (T_v94 H r (qx b a) h e))
  · exact (Bl_at m c t (ix3 0 a (hl h)) (ix3 r (qx b a) (hl h)) t0 (q1 a) rfl).trans
      ((congrFun (V_v107 m c) _).trans (T_v107 H r (qx b a) h))

/-- The head and the lane of a column. -/
abbrev Hd := Cert.ReferenceIdeal.Hand.hd
abbrev Ln := Cert.ReferenceIdeal.Hand.ln

theorem col_split (n : Fin 2048) : n.val = 128 * (Hd n).val + (Ln n).val := by
  show n.val = 128 * (n.val / 128) + n.val % 128; omega

theorem GQ_at (H : HR m c D) (i : S16x256x2048.Idx) : GQ m c i = ((D.dq (i 0) (i 1) (Hd (i 2)) (Ln (i 2)) : ℝ) : EReal) := by
  have i0 : (i 0).val < 16 := (i 0).isLt
  have i1 : (i 1).val < 256 := (i 1).isLt
  let b : Fin 2 := ⟨(i 1).val / 128, by omega⟩
  have ht : (ptQ (i 0).val (i 1).val).val = 2 * (i 0).val + b.val := by
    show (2 * (i 0).val + (i 1).val / 128) % 32 = 2 * (i 0).val + (i 1).val / 128; omega
  have B := blk_of m c H (i 0) b _ ht
  have hc : ((grid0.coords (ptQ (i 0).val (i 1).val)) 1).val = b.val := by
    have := b.isLt
    rw [coords1, ht]; omega
  have hx : qx b (ixm (i 1).val) = i 1 := Fin.ext (by show 128 * ((i 1).val / 128) + (i 1).val % 128 = (i 1).val; omega)
  unfold GQ oQ
  rw [hc]
  refine (asmQ_at _ _ (Hd (i 2)) (ixm (i 1).val) (Ln (i 2)) rfl (col_split (i 2))).trans ?_
  refine (dqT_at B (Hd (i 2)) (ixm (i 1).val) (Ln (i 2))).trans (congrArg _ ?_)
  exact (dq_sum D (i 0) b (Hd (i 2)) _ (Ln (i 2))).trans (congrArg (fun x => D.dq (i 0) x (Hd (i 2)) (Ln (i 2))) hx)

/-- The carry after a residue's first block. -/
theorem cK_at (H : HR m c D) (r : Fin 16) (b : Fin 2) (t : Fin cfg0.N) (ht : t.val = 2 * r.val + b.val) (a : Fin 128) (h : Fin 16) (e : Fin 128) :
    cK m c t (ix2 a (cl h e)) = (((∑ x : Fin 128, dd D r b h x (qx 1 a) * D.q r (qx b x) h e) * sc : ℝ) : EReal) := by
  have B := blk_of m c H r b t ht
  have hc : ((grid0.coords t) 1).val = b.val := by
    have := b.isLt
    rw [coords1, ht]; omega
  unfold cK
  rw [hc]
  exact (asmC_at _ _ h a e rfl rfl).trans (dkT_at B h (qx 1 a) e)

theorem cV_at (H : HR m c D) (r : Fin 16) (b : Fin 2) (t : Fin cfg0.N) (ht : t.val = 2 * r.val + b.val) (a : Fin 128) (h : Fin 16) (e : Fin 128) :
    cV m c t (ix2 a (cl h e)) = ((∑ x : Fin 128, pp D r b h x (qx 1 a) * D.g r (qx b x) h e : ℝ) : EReal) := by
  have B := blk_of m c H r b t ht
  have hc : ((grid0.coords t) 1).val = b.val := by
    have := b.isLt
    rw [coords1, ht]; omega
  unfold cV
  rw [hc]
  exact (asmC_at _ _ h a e rfl rfl).trans (dvT_at B h (qx 1 a) e)

theorem cl_split (n : Fin 2048) : n = cl (Hd n) (Ln n) := Fin.ext (col_split n)

theorem dk_lo_at (D : Data) (r h : Fin 16) (c e : Fin 128) (y : Fin 256) (hy : y = qx 0 c) :
    (∑ a : Fin 128, dd D r 0 h a (qx 1 c) * D.q r (qx 0 a) h e) * sc + (∑ a : Fin 128, dd D r 1 h a y * D.q r (qx 1 a) h e) * sc = D.dk r y h e := by
  subst hy; exact dk_lo_sum D r h c e
theorem dv_lo_at (D : Data) (r h : Fin 16) (c e : Fin 128) (y : Fin 256) (hy : y = qx 0 c) :
    (∑ a : Fin 128, pp D r 0 h a (qx 1 c) * D.g r (qx 0 a) h e) + (∑ a : Fin 128, pp D r 1 h a y * D.g r (qx 1 a) h e) = D.dv r y h e := by
  subst hy; exact dv_lo_sum D r h c e

theorem GK_at (H : HR m c D) (i : S16x256x2048.Idx) : GK m c i = ((D.dk (i 0) (i 1) (Hd (i 2)) (Ln (i 2)) : ℝ) : EReal) := by
  have i0 : (i 0).val < 16 := (i 0).isLt
  have i1 : (i 1).val < 256 := (i 1).isLt
  have ht : (ptK (i 0).val).val = 2 * (i 0).val + (1 : Fin 2).val := by
    show (2 * (i 0).val + 1) % 32 = 2 * (i 0).val + 1; omega
  have hp : (pv (ptK (i 0).val)).val = 2 * (i 0).val + (0 : Fin 2).val := by
    show (2 * (i 0).val + 1) % 32 - 1 = 2 * (i 0).val + 0; omega
  have B := blk_of m c H (i 0) 1 _ ht
  have hc : ((grid0.coords (ptK (i 0).val)) 1).val = (1 : Fin 2).val := by
    rw [coords1, ht]; show (2 * (i 0).val + 1) % 2 = 1; omega
  unfold GK oK
  by_cases hl : (i 1).val < 128
  · have hx : qx 0 ⟨(i 1).val, hl⟩ = i 1 := Fin.ext (by show 128 * 0 + (i 1).val = (i 1).val; omega)
    refine (asmK_lo _ _ _ (Hd (i 2)) ⟨(i 1).val, hl⟩ (Ln (i 2)) rfl (col_split (i 2))).trans ?_
    rw [hc]
    have e1 := (ctile_at (cK m c (pv (ptK (i 0).val))) (Hd (i 2)) ⟨(i 1).val, hl⟩ (Ln (i 2))).trans (cK_at m c H (i 0) 0 _ hp ⟨(i 1).val, hl⟩ (Hd (i 2)) (Ln (i 2)))
    have e2 := (lo_apply _ (ix2 ⟨(i 1).val, hl⟩ (Ln (i 2)))).trans (dkT_at B (Hd (i 2)) ⟨(i 1).val, i1⟩ (Ln (i 2)))
    refine (add2 e1 e2).trans (congrArg _ ?_)
    exact dk_lo_at D (i 0) (Hd (i 2)) ⟨(i 1).val, hl⟩ (Ln (i 2)) (i 1) hx.symm
  · have hx : qx 1 ⟨(i 1).val - 128, by omega⟩ = i 1 := Fin.ext (by show 128 * 1 + ((i 1).val - 128) = (i 1).val; omega)
    refine (asmK_hi _ _ _ ⟨(i 1).val - 128, by omega⟩ (cl (Hd (i 2)) (Ln (i 2))) (by show (i 1).val = 128 + ((i 1).val - 128); omega) (col_split (i 2))).trans ?_
    refine (cK_at m c H (i 0) 1 _ ht _ (Hd (i 2)) (Ln (i 2))).trans (congrArg _ ?_)
    exact (dk_hi_sum D (i 0) (Hd (i 2)) _ (Ln (i 2))).trans (congrArg (fun x => D.dk (i 0) x (Hd (i 2)) (Ln (i 2))) hx)

theorem GV_at (H : HR m c D) (i : S16x256x2048.Idx) : GV m c i = ((D.dv (i 0) (i 1) (Hd (i 2)) (Ln (i 2)) : ℝ) : EReal) := by
  have i0 : (i 0).val < 16 := (i 0).isLt
  have i1 : (i 1).val < 256 := (i 1).isLt
  have ht : (ptK (i 0).val).val = 2 * (i 0).val + (1 : Fin 2).val := by
    show (2 * (i 0).val + 1) % 32 = 2 * (i 0).val + 1; omega
  have hp : (pv (ptK (i 0).val)).val = 2 * (i 0).val + (0 : Fin 2).val := by
    show (2 * (i 0).val + 1) % 32 - 1 = 2 * (i 0).val + 0; omega
  have B := blk_of m c H (i 0) 1 _ ht
  have hc : ((grid0.coords (ptK (i 0).val)) 1).val = (1 : Fin 2).val := by
    rw [coords1, ht]; show (2 * (i 0).val + 1) % 2 = 1; omega
  unfold GV oV
  by_cases hl : (i 1).val < 128
  · have hx : qx 0 ⟨(i 1).val, hl⟩ = i 1 := Fin.ext (by show 128 * 0 + (i 1).val = (i 1).val; omega)
    refine (asmK_lo _ _ _ (Hd (i 2)) ⟨(i 1).val, hl⟩ (Ln (i 2)) rfl (col_split (i 2))).trans ?_
    rw [hc]
    have e1 := (ctile_at (cV m c (pv (ptK (i 0).val))) (Hd (i 2)) ⟨(i 1).val, hl⟩ (Ln (i 2))).trans (cV_at m c H (i 0) 0 _ hp ⟨(i 1).val, hl⟩ (Hd (i 2)) (Ln (i 2)))
    have e2 := (lo_apply _ (ix2 ⟨(i 1).val, hl⟩ (Ln (i 2)))).trans (dvT_at B (Hd (i 2)) ⟨(i 1).val, i1⟩ (Ln (i 2)))
    refine (add2 e1 e2).trans (congrArg _ ?_)
    exact dv_lo_at D (i 0) (Hd (i 2)) ⟨(i 1).val, hl⟩ (Ln (i 2)) (i 1) hx.symm
  · have hx : qx 1 ⟨(i 1).val - 128, by omega⟩ = i 1 := Fin.ext (by show 128 * 1 + ((i 1).val - 128) = (i 1).val; omega)
    refine (asmK_hi _ _ _ ⟨(i 1).val - 128, by omega⟩ (cl (Hd (i 2)) (Ln (i 2))) (by show (i 1).val = 128 + ((i 1).val - 128); omega) (col_split (i 2))).trans ?_
    refine (cV_at m c H (i 0) 1 _ ht _ (Hd (i 2)) (Ln (i 2))).trans (congrArg _ ?_)
    exact (dv_hi_sum D (i 0) (Hd (i 2)) _ (Ln (i 2))).trans (congrArg (fun x => D.dv (i 0) x (Hd (i 2)) (Ln (i 2))) hx)

end Cert.KernelIdeal.Hand
-- ==== Proof.Ideal.Algebraic.lean ====
module

public import proofs.«01_k».proof.Defs
public import proofs.«01_k».proof.Proof.Gen.ReferenceIdeal.Run
public import proofs.«01_k».proof.Proof.Ideal.Final

/-! The value claim: on finite arguments the kernel's three results are the reference's gradients. -/

@[expose] public section
noncomputable section

namespace Cert.Hand

open Idealize.ShloMosaic Idealize.SL.Sem
open Idealize.ShloMosaic.TcCoe
open Cert.ReferenceIdeal.Read Cert.ReferenceIdeal.Hand

/-- The side conditions of the precondition's operations. -/
theorem facts_finite : Cert.Pre_finite.Facts := ⟨by decide, by decide, by decide⟩

/-- An extended real whose absolute value is below the largest is a real number. -/
theorem real_of_lt {x y : EReal} (hy : y = ⊤) (h : BitVec.ofBool (decide (max x (-x) < y)) = 1#1) : x ≠ ⊤ ∧ x ≠ ⊥ := by
  have hlt : max x (-x) < ⊤ := by
    by_contra hn
    rw [hy, decide_eq_false hn] at h
    exact absurd h (by decide)
  constructor
  · rintro rfl
    exact absurd (lt_of_le_of_lt (le_max_left _ _) hlt) (lt_irrefl _)
  · rintro rfl
    exact absurd (lt_of_le_of_lt (le_max_right _ _) hlt) (by rw [EReal.neg_bot]; exact lt_irrefl _)

section fin
open Cert.Pre_finite

theorem real_bf16 (hf : Facts) (x : FVec Ideal S16x256x2048 .bf16)
    (h : cmpf .olt (Host.absf (extf .f32 x hf.bitsLt_bf16_f32))
      (broadcastInDim S16x256x2048 ![] hf.bcast_S_S16x256x2048 (constant S_ .f32 0x7F800000#32)) = fun _ => 1#1) : IsReal (S := S16x256x2048) x :=
  fun i => real_of_lt inf32 (congrFun h i)

theorem real_f32 (hf : Facts) (x : FVec Ideal S16x256x16 .f32)
    (h : cmpf .olt (Host.absf x)
      (broadcastInDim S16x256x16 ![] hf.bcast_S_S16x256x16 (constant S_ .f32 0x7F800000#32)) = fun _ => 1#1) : IsReal (S := S16x256x16) x :=
  fun i => real_of_lt inf32 (congrFun h i)

end fin

/-- Under the precondition the arguments of every device are real numbers, and the reference's lines read them. -/
theorem reads_finite (hf : Cert.Pre_finite.Facts)
    (m : (ℓ : Loc Cert.KernelIdeal.nD Cert.KernelIdeal.τ Cert.KernelIdeal.sig) → Buf (Elt Ideal) ℓ) (h : Cert.Pre_KernelIdeal_finite (hPre_finite := hf) m)
    (c : Dev Cert.KernelIdeal.nD) : ∃ D, Cert.KernelIdeal.Hand.HR m c D := by
  obtain ⟨h0, h1, h2, h3, h4, h5, h6, h7⟩ := h c
  unfold Cert.Pre_finite.fn Cert.Pre_finite.fn_part1 at h0 h1 h2 h3 h4 h5 h6 h7
  exact ⟨_, reads_of (stage_of (args_of (real_bf16 hf _ h0) (real_bf16 hf _ h1) (real_bf16 hf _ h2) (real_bf16 hf _ h3) (real_bf16 hf _ h4)
    (real_f32 hf _ h5) (real_bf16 hf _ h6) (real_f32 hf _ h7)))⟩

theorem algebraic : Cert.algebraic_KernelIdeal_ReferenceIdeal_pre_finite (hKernelIdeal := Cert.KernelIdeal.Gen.facts)
    (hReferenceIdeal := Cert.ReferenceIdeal.Gen.facts) (hPre_finite := facts_finite) := by
  intro m g m' g' hpre hargs
  refine ⟨fun c => Cert.KernelIdeal.Hand.GQ m c, fun c => Cert.KernelIdeal.Hand.GK m c, fun c => Cert.KernelIdeal.Hand.GV m c, ?_, ?_⟩
  · exact (θ_run Cert.KernelIdeal.defs _ _).mono
      (fun r h c => ⟨(h.1 c).1, (h.1 c).2.1, (h.1 c).2.2, h.2.1 c⟩)
      (θ_run_and (Cert.KernelIdeal.Hand.val_run m g) (Cert.KernelIdeal.Hand.frame_run m g))
  · refine (θ_run Cert.ReferenceIdeal.defs _ _).mono (fun r h c => ?_) (Cert.ReferenceIdeal.Value.run m' g')
    obtain ⟨D, H⟩ := reads_finite facts_finite m hpre c
    obtain ⟨a0, a1, a2, a3, a4, a5, a6, a7⟩ := hargs c
    have H' : Reads D (m' ((c : Thread Cert.ReferenceIdeal.nD Cert.ReferenceIdeal.τ).loc Cert.ReferenceIdeal.main_arg0))
        (m' ((c : Thread Cert.ReferenceIdeal.nD Cert.ReferenceIdeal.τ).loc Cert.ReferenceIdeal.main_arg1))
        (m' ((c : Thread Cert.ReferenceIdeal.nD Cert.ReferenceIdeal.τ).loc Cert.ReferenceIdeal.main_arg2))
        (m' ((c : Thread Cert.ReferenceIdeal.nD Cert.ReferenceIdeal.τ).loc Cert.ReferenceIdeal.main_arg3))
        (m' ((c : Thread Cert.ReferenceIdeal.nD Cert.ReferenceIdeal.τ).loc Cert.ReferenceIdeal.main_arg4))
        (m' ((c : Thread Cert.ReferenceIdeal.nD Cert.ReferenceIdeal.τ).loc Cert.ReferenceIdeal.main_arg5))
        (m' ((c : Thread Cert.ReferenceIdeal.nD Cert.ReferenceIdeal.τ).loc Cert.ReferenceIdeal.main_arg6))
        (m' ((c : Thread Cert.ReferenceIdeal.nD Cert.ReferenceIdeal.τ).loc Cert.ReferenceIdeal.main_arg7)) := by
      rw [a0, a1, a2, a3, a4, a5, a6, a7]; exact H
    refine ⟨(h c).1.trans ((val_main_v195_eq _).trans (funext fun i => ?_)), (h c).2.1.trans ((val_main_v196_eq _).trans (funext fun i => ?_)),
      (h c).2.2.1.trans ((val_main_v197_eq _).trans (funext fun i => ?_)), (h c).2.2.2⟩
    · exact (R_v195 H' i).trans (Cert.KernelIdeal.Hand.GQ_at m c H i).symm
    · exact (R_v196 H' i).trans (Cert.KernelIdeal.Hand.GK_at m c H i).symm
    · exact (R_v197 H' i).trans (Cert.KernelIdeal.Hand.GV_at m c H i).symm

end Cert.Hand
-- ==== Proof.Ideal.Dw.lean ====
module

public import proofs.«01_k».proof.Proof.Gen.Kernel2Ideal.Frame
public import proofs.«01_k».proof.Proof.Gen.Reference2Ideal.Read
public import Idealize.ShloMosaic.Lib.Pipeline.ValueKit
public import proofs.«01_k».proof.Proof.Ideal.Algebraic
public import Idealize.ShloMosaic.Lib.Pipeline.ReadBack

/-! The gradient of a product in its weight: the kernel's eight row blocks are the reference's. -/

@[expose] public section
set_option maxRecDepth 16384
noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen
open Cert.Reference2Ideal.Read
variable (m : (ℓ : Loc nD τ sig) → Buf (Elt Ideal) ℓ)

theorem idx : ∀ t : Fin cfg0.N, win0_0.index t = ![t.val, 0] ∧ win0_1.index t = ![t.val, 0] ∧ win0_2.index t = ![0, 0, 0] :=
  (by decide +kernel : ∀ t : Fin grid0.N, _)

theorem hzero (j) : k0_pay1 (F := Ideal) j = 0 := by pointwise [k0_pay1]

theorem hpay (acc : FVec Ideal S2048x2048 .f32) (x0 : FVec Ideal S512x2048 .bf16) (x1 : FVec Ideal S512x2048 .bf16) (j : S2048x2048.Idx) :
    k0_pay2 (F := Ideal) acc x0 x1 j = acc j + ∑ k : Fin 512, x0 (ix2 k (j 0)) * x1 (ix2 k (j 1)) := by
  pointwise [k0_pay2]

theorem href (X0 : FVec Ideal S4096x2048 .bf16) (X2 : FVec Ideal S4096x2048 .bf16) (i : S8x256x2048.Idx) (e : Fin 2048) (he : e.val = ((i 0).val % 4 * 2 + (i 0).val / 4) * 256 + (i 1).val) :
    val_main_v9 (F := Ideal) X0 X2 i = ∑ k : Fin 4096, X0 (ix2 k e) * X2 (ix2 k (i 2)) := by
  pointwise [val_main_v9, val_main_v8, val_main_v7, val_main_v6, val_main_v5, val_main_v4, val_main_v3, val_main_v1]
  refine Fin.sum_fin_congr fun k => ?_
  refine (mul_comm _ _).trans ?_
  blk_point []

theorem scr (c : Dev nD) (t : Fin cfg0.N) (hr : t.val % 8 = 7) (i : S2048x2048.Idx) :
    (outsAt0 m c t.val t.isLt).2 i = ∑ s : Fin 8, ∑ k : Fin 512,
      (show FVec Ideal S512x2048 .bf16 from iblk m c 0 ⟨8 * (t.val / 8) + s.val, Pipeline.run_point_lt_of_flush t hr s⟩) (ix2 k (i 0))
        * (show FVec Ideal S512x2048 .bf16 from iblk m c 1 ⟨8 * (t.val / 8) + s.val, Pipeline.run_point_lt_of_flush t hr s⟩) (ix2 k (i 1)) := by
  refine (Pipeline.eq_sum_fin_of_reset_step_apply_of_flush (fun n h => (outsAt0 m c n h).2) 8 (fun _ => 0)
    (fun p j => ∑ k : Fin 512, (show FVec Ideal S512x2048 .bf16 from iblk m c 0 p) (ix2 k (j 0)) * (show FVec Ideal S512x2048 .bf16 from iblk m c 1 p) (ix2 k (j 1)))
    (fun t h j => ?_) (fun t h j => ?_) t hr i).trans (zero_add _)
  · rw [outsAt0_A m c t h (by omega)]; frame_out; rw [hpay, hzero]
  · by_cases h1 : t.val % 8 = 7
    · rw [outsAt0_C m c t h h1]; frame_out; rw [hpay]; exact congrArg (· + _) (congrFun (Memref.IsWhole.read_unread _ _) j)
    · rw [outsAt0_B m c t h h1]; frame_out; rw [hpay]; exact congrArg (· + _) (congrFun (Memref.IsWhole.read_unread _ _) j)

theorem pieceG {κ : Kind} {sp : Space} {sig' : RefSig} (v : View sig' κ sp S2048x2048 .f32) (T : FVec Ideal S2048x2048 .f32) {o : Fin 2 → ℕ} (ho : ∀ a, o a = 0) (inb') (r : Rect S2048x2048) :
    v.readCov [(⟨Rect.unit o S2048x2048.size inb', T⟩ : View.Piece (Elt Ideal) S2048x2048 .f32)] r.toLoadRect = fun x => T (r.idx x) := by
  have h := View.readCov_fill (Val := Elt Ideal) (s := S2048x2048) (e := .f32) v (off := o) inb' T [] r ho
  exact h

theorem piece (T : FVec Ideal S2048x2048 .f32) {off : Fin 2 → ℕ} (inb') (inb) (a : Fin 256) (b : Fin 2048) (e : S2048x2048.Idx)
    (h0 : (e 0).val = off 0 + a.val) (h1 : (e 1).val = off 1 + b.val) :
    (View.whole cc0_scratch0).readCov [(⟨Rect.unit ![0, 0] ![2048, 2048] inb', T⟩ : View.Piece (Elt Ideal) S2048x2048 .f32)] (Rect.unit (s := S2048x2048) off ![256, 2048] inb).toLoadRect (ix2 a b) = T e := by
  have h := pieceG (View.whole cc0_scratch0) T (o := ![0, 0]) (by decide) inb' (Rect.unit (s := S2048x2048) off ![256, 2048] inb)
  refine (congrFun h (ix2 a b)).trans ?_
  have h2 : ∀ q, (e q).val = off q + (ix2 a b q).val := fun q => by
    fin_cases q
    · exact h0
    · exact h1
  exact congrArg T (funext fun q => Fin.ext ((congrArg (off q + ·) (Nat.one_mul _)).trans (h2 q).symm))

theorem slot4 (v : FVec Ideal S256x2048 .f32) (x : S1x256x2048.Idx) : k0_pay4 (F := Ideal) v x = v (ix2 (x 1) (x 2)) := by pointwise [k0_pay4]
theorem slot5 (v : FVec Ideal S256x2048 .f32) (x : S1x256x2048.Idx) : k0_pay5 (F := Ideal) v x = v (ix2 (x 1) (x 2)) := by pointwise [k0_pay5]
theorem slot6 (v : FVec Ideal S256x2048 .f32) (x : S1x256x2048.Idx) : k0_pay6 (F := Ideal) v x = v (ix2 (x 1) (x 2)) := by pointwise [k0_pay6]
theorem slot7 (v : FVec Ideal S256x2048 .f32) (x : S1x256x2048.Idx) : k0_pay7 (F := Ideal) v x = v (ix2 (x 1) (x 2)) := by pointwise [k0_pay7]
theorem slot8 (v : FVec Ideal S256x2048 .f32) (x : S1x256x2048.Idx) : k0_pay8 (F := Ideal) v x = v (ix2 (x 1) (x 2)) := by pointwise [k0_pay8]
theorem slot9 (v : FVec Ideal S256x2048 .f32) (x : S1x256x2048.Idx) : k0_pay9 (F := Ideal) v x = v (ix2 (x 1) (x 2)) := by pointwise [k0_pay9]
theorem slot10 (v : FVec Ideal S256x2048 .f32) (x : S1x256x2048.Idx) : k0_pay10 (F := Ideal) v x = v (ix2 (x 1) (x 2)) := by pointwise [k0_pay10]
theorem slot3 (v : FVec Ideal S256x2048 .f32) (x : S1x256x2048.Idx) : k0_pay3 (F := Ideal) (k0_pay11 v) x = v (ix2 (x 1) (x 2)) := by pointwise [k0_pay3, k0_pay11]

theorem out (c : Dev nD) (t : Fin cfg0.N) (hr : t.val % 8 = 7) (y : S8x256x2048.Idx) (e : S2048x2048.Idx)
    (he0 : (e 0).val = ((y 0).val % 4 * 2 + (y 0).val / 4) * 256 + (y 1).val) (he1 : (e 1).val = (y 2).val) :
    (outsAt0 m c t.val t.isLt).1 y = (outsAt0 m c t.val t.isLt).2 e := by
  rw [outsAt0_C m c t (by omega) hr]; frame_out
  generalize k0_pay2 (F := Ideal) _ (iblk m c 0 t) (iblk m c 1 t) = T
  canon_tiles x h
  case piece0 =>
    refine (slot5 _ x).trans ?_
    exact piece T (off := ![1792, 0]) (by decide) (by decide) (x 1) (x 2) e (show (e 0).val = 1792 + (x 1).val by omega) (show (e 1).val = 0 + (x 2).val by omega)
  case piece1 =>
    refine (slot4 _ x).trans ?_
    exact piece T (off := ![1536, 0]) (by decide) (by decide) (x 1) (x 2) e (show (e 0).val = 1536 + (x 1).val by omega) (show (e 1).val = 0 + (x 2).val by omega)
  case piece2 =>
    refine (slot3 _ x).trans ?_
    exact piece T (off := ![1280, 0]) (by decide) (by decide) (x 1) (x 2) e (show (e 0).val = 1280 + (x 1).val by omega) (show (e 1).val = 0 + (x 2).val by omega)
  case piece3 =>
    refine (slot10 _ x).trans ?_
    exact piece T (off := ![1024, 0]) (by decide) (by decide) (x 1) (x 2) e (show (e 0).val = 1024 + (x 1).val by omega) (show (e 1).val = 0 + (x 2).val by omega)
  case piece4 =>
    refine (slot9 _ x).trans ?_
    exact piece T (off := ![768, 0]) (by decide) (by decide) (x 1) (x 2) e (show (e 0).val = 768 + (x 1).val by omega) (show (e 1).val = 0 + (x 2).val by omega)
  case piece5 =>
    refine (slot8 _ x).trans ?_
    exact piece T (off := ![512, 0]) (by decide) (by decide) (x 1) (x 2) e (show (e 0).val = 512 + (x 1).val by omega) (show (e 1).val = 0 + (x 2).val by omega)
  case piece6 =>
    refine (slot7 _ x).trans ?_
    exact piece T (off := ![256, 0]) (by decide) (by decide) (x 1) (x 2) e (show (e 0).val = 256 + (x 1).val by omega) (show (e 1).val = 0 + (x 2).val by omega)
  case piece7 =>
    refine (slot6 _ x).trans ?_
    exact piece T (off := ![0, 0]) (by decide) (by decide) (x 1) (x 2) e (show (e 0).val = 0 + (x 1).val by omega) (show (e 1).val = 0 + (x 2).val by omega)

theorem final (c : Dev nD) : (dats m 0 c).arrAt 2 (cfgs 0).N
    = val_main_v9 (F := Ideal) (m ((c : Thread nD τ).loc main_arg0)) (m ((c : Thread nD τ).loc main_arg2)) := by
  refine (dats m 0 c).arrAt_eq_of_covers 2 _ (by decide +kernel) fun t hf y => ?_
  have hr : t.val % 8 = 7 := (flush0_2 t).mp hf
  blk_simp
  rw [after0_2]
  have hN : t.val < 8 := lt_of_lt_of_eq t.isLt N_0
  obtain_idx e : S2048x2048 := [((y 0 : ℕ) % 4 * 2 + (y 0 : ℕ) / 4) * 256 + (y 1 : ℕ), (y 2 : ℕ)] with he
  refine (out m c t hr y e he0 he1).trans ?_
  rw [href _ _ _ (e 0) (by blk_simp [idx t] <;> (try omega))]
  refine (scr m c t hr _).trans ?_
  refine Fin.sum_mul_add_congr fun s k hl => ?_
  blk_point [iblk, V, idx t, idx ⟨_, Pipeline.run_point_lt_of_flush t hr s⟩]

end Cert.Kernel2Ideal.Hand
-- ==== Proof.Ideal.Dwd.lean ====
module

public import proofs.«01_k».proof.Proof.Gen.Kernel3Ideal.Frame
public import proofs.«01_k».proof.Proof.Gen.Reference3Ideal.Read
public import Idealize.ShloMosaic.Lib.Pipeline.ValueKit
public import proofs.«01_k».proof.Proof.Ideal.Dw

/-! The gradient of the down product's weight: each row block the kernel writes is the reference's. -/

@[expose] public section
set_option maxRecDepth 16384
noncomputable section

open Idealize.ShloMosaic Idealize.ShloMosaic.TcCoe Idealize.SL.Sem
open Idealize.ShloMosaic.Pipeline (Dat)

namespace Cert.Kernel3Ideal.Hand

open Cert.Kernel3Ideal Cert.Kernel3Ideal.Gen
open Cert.Reference3Ideal.Read
variable (m : (ℓ : Loc nD τ sig) → Buf (Elt Ideal) ℓ)

theorem idx : ∀ t : Fin cfg0.N, win0_0.index t = ![t.val / 4, t.val % 4, 0] ∧ win0_1.index t = ![t.val % 4, 0]
    ∧ win0_2.index t = ![t.val / 4 % 2 * 4 + t.val / 8, 0, 0] :=
  (by decide +kernel : ∀ t : Fin grid0.N, _)

theorem hzero (j) : k0_pay1 (F := Ideal) j = 0 := by pointwise [k0_pay1]

theorem hpay (acc : FVec Ideal S704x2048 .f32) (x0 : FVec Ideal S1x1024x704 .bf16) (x1 : FVec Ideal S1024x2048 .bf16) (j : S704x2048.Idx) :
    k0_pay2 (F := Ideal) acc x0 x1 j = acc j + ∑ k : Fin 1024, x0 (ix3 0 k (j 0)) * x1 (ix2 k (j 1)) := by
  pointwise [k0_pay2]

theorem href (X0 : FVec Ideal S8x4096x704 .bf16) (X2 : FVec Ideal S4096x2048 .bf16) (i : S8x704x2048.Idx) (e : Fin 8) (he : e.val = (i 0).val % 4 * 2 + (i 0).val / 4) :
    val_main_v12 (F := Ideal) X0 X2 i = ∑ k : Fin 4096, X0 (ix3 e k (i 1)) * X2 (ix2 k (i 2)) := by
  pointwise [val_main_v12, val_main_v11, val_main_v10, val_main_v9, val_main_v8, val_main_v7, val_main_v6, val_main_v4, val_main_v3, val_main_v2]
  refine Fin.sum_fin_congr fun k => ?_
  refine (mul_comm _ _).trans ?_
  blk_point []

theorem scr (c : Dev nD) (t : Fin cfg0.N) (hr : t.val % 4 = 3) (i : S704x2048.Idx) :
    (outsAt0 m c t.val t.isLt).2 i = ∑ s : Fin 4, ∑ k : Fin 1024,
      (show FVec Ideal S1x1024x704 .bf16 from iblk m c 0 ⟨4 * (t.val / 4) + s.val, Pipeline.run_point_lt_of_flush t hr s⟩) (ix3 0 k (i 0))
        * (show FVec Ideal S1024x2048 .bf16 from iblk m c 1 ⟨4 * (t.val / 4) + s.val, Pipeline.run_point_lt_of_flush t hr s⟩) (ix2 k (i 1)) := by
  refine (Pipeline.eq_sum_fin_of_reset_step_apply_of_flush (fun n h => (outsAt0 m c n h).2) 4 (fun _ => 0)
    (fun p j => ∑ k : Fin 1024, (show FVec Ideal S1x1024x704 .bf16 from iblk m c 0 p) (ix3 0 k (j 0)) * (show FVec Ideal S1024x2048 .bf16 from iblk m c 1 p) (ix2 k (j 1)))
    (fun t h j => ?_) (fun t h j => ?_) t hr i).trans (zero_add _)
  · rw [outsAt0_A m c t h (by omega)]; frame_out; rw [hpay, hzero]
  · by_cases h1 : t.val % 4 = 3
    · rw [outsAt0_C m c t h h1]; frame_out; rw [hpay]; exact congrArg (· + _) (congrFun (Memref.IsWhole.read_unread _ _) j)
    · rw [outsAt0_B m c t h h1]; frame_out; rw [hpay]; exact congrArg (· + _) (congrFun (Memref.IsWhole.read_unread _ _) j)

theorem out (c : Dev nD) (t : Fin cfg0.N) (hr : t.val % 4 = 3) (y : S1x704x2048.Idx) :
    (outsAt0 m c t.val t.isLt).1 y = k0_pay3 (F := Ideal) (outsAt0 m c t.val t.isLt).2 y := by
  rw [outsAt0_C m c t (by omega) hr]; frame_out

theorem final (c : Dev nD) : (dats m 0 c).arrAt 2 (cfgs 0).N
    = val_main_v12 (F := Ideal) (m ((c : Thread nD τ).loc main_arg0)) (m ((c : Thread nD τ).loc main_arg2)) := by
  refine (dats m 0 c).arrAt_eq_of_covers 2 _ (by decide +kernel) fun t hf y => ?_
  have hr : t.val % 4 = 3 := (flush0_2 t).mp hf
  blk_simp
  rw [after0_2]
  refine (out m c t hr y).trans ?_
  have hN : t.val < 32 := lt_of_lt_of_eq t.isLt N_0
  rw [href _ _ _ ⟨t.val / 4, by omega⟩ (by blk_simp [idx t]; show t.val / 4 = _; have h8 : t.val / 8 = t.val / 4 / 2 := (Nat.div_div_eq_div_mul _ 4 2).symm; omega)]
  pointwise [k0_pay3]
  refine (scr m c t hr _).trans ?_
  refine Fin.sum_mul_add_congr fun s k hl => ?_
  blk_point [iblk, V, idx t, idx ⟨_, Pipeline.run_point_lt_of_flush t hr s⟩]

end Cert.Kernel3Ideal.Hand
-- ==== Proof.Ideal.Swiglu.lean ====
module

public import proofs.«01_k».proof.Proof.Gen.Kernel4Ideal.Frame
public import proofs.«01_k».proof.Proof.Gen.Reference4Ideal.Read
public import Idealize.ShloMosaic.Lib.Pipeline.ValueKit
public import proofs.«01_k».proof.Proof.Ideal.Dwd

/-! The feed-forward's gate, up and activation: each block the kernel writes is the reference's at the same place. -/

@[expose] public section
set_option maxRecDepth 16384
noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen
open Cert.Reference4Ideal.Read
variable (m : (ℓ : Loc nD τ sig) → Buf (Elt Ideal) ℓ)

theorem idx : ∀ t : Fin cfg0.N, win0_0.index t = ![t.val / 8, 0] ∧ win0_1.index t = ![t.val % 8, 0, 0] ∧ win0_2.index t = ![t.val % 8, 0, 0]
    ∧ win0_3.index t = ![t.val % 8, t.val / 8, 0] ∧ win0_4.index t = ![t.val % 8, t.val / 8, 0] ∧ win0_5.index t = ![t.val % 8, t.val / 8, 0]
    ∧ t.val / 8 < 4 :=
  (by decide +kernel : ∀ t : Fin grid0.N, _)

theorem point3 (c : Dev nD) (t : Fin cfg0.N) (y) : k0_pay3 (F := Ideal) (iblk m c 0 t) (iblk m c 1 t) y
    = val_main_v12 (F := Ideal) (m ((c : Thread nD τ).loc main_arg0)) (m ((c : Thread nD τ).loc main_arg1)) (((cfg0.win 3).blk t).view.emb y) := by
  pointwise [k0_pay3, k0_pay1, val_main_v12, val_main_v11, val_main_v10, val_main_v4, val_main_v3, val_main_v2, val_main_v1, val_main_v0]
  blk_point [iblk, V, idx t]

theorem point4 (c : Dev nD) (t : Fin cfg0.N) (y) : k0_pay4 (F := Ideal) (iblk m c 0 t) (iblk m c 2 t) y
    = val_main_v15 (F := Ideal) (m ((c : Thread nD τ).loc main_arg0)) (m ((c : Thread nD τ).loc main_arg2)) (((cfg0.win 4).blk t).view.emb y) := by
  pointwise [k0_pay4, k0_pay2, val_main_v15, val_main_v14, val_main_v13, val_main_v9, val_main_v8, val_main_v7, val_main_v6, val_main_v5]
  blk_point [iblk, V, idx t]

theorem point5 (c : Dev nD) (t : Fin cfg0.N) (y) : k0_pay5 (F := Ideal) (iblk m c 0 t) (iblk m c 1 t) (iblk m c 2 t) y
    = val_main_v20 (F := Ideal) (m ((c : Thread nD τ).loc main_arg0)) (m ((c : Thread nD τ).loc main_arg1)) (m ((c : Thread nD τ).loc main_arg2)) (((cfg0.win 5).blk t).view.emb y) := by
  pointwise [k0_pay5, k0_pay1, k0_pay2, val_main_v20, val_main_v19, val_main_v18, val_main_v17, val_main_v16, val_main_call0_v5, val_main_call0_v4, val_main_call0_v3, val_main_call0_v2, val_main_call0_v1, val_main_call0_v0, val_main_call0_cst, val_main_call0_cst_0, val_main_v9, val_main_v8, val_main_v7, val_main_v6, val_main_v5, val_main_v4, val_main_v3, val_main_v2, val_main_v1, val_main_v0]
  rw [zero_sub]
  blk_point [iblk, V, idx t]

theorem final3 (c : Dev nD) : (dats m 0 c).arrAt 3 (cfgs 0).N
    = val_main_v12 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

theorem final4 (c : Dev nD) : (dats m 0 c).arrAt 4 (cfgs 0).N
    = val_main_v15 (F := Ideal) (m ((c : Thread nD τ).loc main_arg0)) (m ((c : Thread nD τ).loc main_arg2)) := by
  refine (dats m 0 c).arrAt_eq_of_covers 4 _ (by decide +kernel) fun t _ y => ?_
  blk_simp
  rw [after0_4]; frame_out
  exact point4 m c t y

theorem final5 (c : Dev nD) : (dats m 0 c).arrAt 5 (cfgs 0).N
    = val_main_v20 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point5 m c t y

end Cert.Kernel4Ideal.Hand
-- ==== Proof.Ideal.Down.lean ====
module

public import proofs.«01_k».proof.Proof.Gen.Kernel5Ideal.Frame
public import proofs.«01_k».proof.Proof.Gen.Reference5Ideal.Read
public import Idealize.ShloMosaic.Lib.Pipeline.ValueKit
public import proofs.«01_k».proof.Proof.Ideal.Swiglu

/-! The feed-forward's down product and residual: each row block the kernel writes is the reference's. -/

@[expose] public section
set_option maxRecDepth 16384
noncomputable section

open Idealize.ShloMosaic Idealize.ShloMosaic.TcCoe Idealize.SL.Sem
open Idealize.ShloMosaic.Pipeline (Dat)

namespace Cert.Kernel5Ideal.Hand

open Cert.Kernel5Ideal Cert.Kernel5Ideal.Gen
open Cert.Reference5Ideal.Read
variable (m : (ℓ : Loc nD τ sig) → Buf (Elt Ideal) ℓ)

theorem idx : ∀ t : Fin cfg0.N, win0_0.index t = ![t.val % 8, t.val / 8, 0] ∧ win0_1.index t = ![t.val % 8, 0, 0]
    ∧ win0_2.index t = ![t.val / 8, 0] ∧ win0_3.index t = ![t.val / 8, 0] :=
  (by decide +kernel : ∀ t : Fin grid0.N, _)

theorem hpay (acc : FVec Ideal S1024x2048 .f32) (x0 : FVec Ideal S1x1024x704 .bf16) (x1 : FVec Ideal S1x704x2048 .bf16) (j : S1024x2048.Idx) :
    k0_pay1 (F := Ideal) acc x0 x1 j = acc j + ∑ k : Fin 704, x0 (ix3 0 (j 0) k) * x1 (ix3 0 k (j 1)) := by
  pointwise [k0_pay1]

theorem href (X0 : FVec Ideal S8x4096x704 .bf16) (X1 : FVec Ideal S8x704x2048 .bf16) (X2 : FVec Ideal S4096x2048 .f32) (i : S4096x2048.Idx) :
    val_main_v6 (F := Ideal) X0 X1 X2 i = X2 i + ∑ s : Fin 8, ∑ k : Fin 704, X0 (ix3 s (i 0) k) * X1 (ix3 s k (i 1)) := by
  pointwise [val_main_v6, val_main_v5, val_main_v4, val_main_v3, val_main_v2, val_main_v1, val_main_v0]
  refine congrArg _ ?_
  symm
  refine Fin.sum_mul_add_congr fun s k hl => ?_
  blk_point []

theorem scr (c : Dev nD) (t : Fin cfg0.N) (hr : t.val % 8 = 7) (i : S1024x2048.Idx) :
    (outsAt0 m c t.val t.isLt) i = ∑ s : Fin 8,
      ((if s.val = 0 then (show FVec Ideal S1024x2048 .f32 from iblk m c 2 ⟨8 * (t.val / 8) + s.val, Pipeline.run_point_lt_of_flush t hr s⟩) i else 0) + ∑ k : Fin 704,
      (show FVec Ideal S1x1024x704 .bf16 from iblk m c 0 ⟨8 * (t.val / 8) + s.val, Pipeline.run_point_lt_of_flush t hr s⟩) (ix3 0 (i 0) k)
        * (show FVec Ideal S1x704x2048 .bf16 from iblk m c 1 ⟨8 * (t.val / 8) + s.val, Pipeline.run_point_lt_of_flush t hr s⟩) (ix3 0 k (i 1))) := by
  refine (Pipeline.eq_sum_fin_of_reset_step_apply_of_flush (fun n h => outsAt0 m c n h) 8 (fun _ => 0)
    (fun p j => (if p.val % 8 = 0 then (show FVec Ideal S1024x2048 .f32 from iblk m c 2 p) j else 0)
      + ∑ k : Fin 704, (show FVec Ideal S1x1024x704 .bf16 from iblk m c 0 p) (ix3 0 (j 0) k) * (show FVec Ideal S1x704x2048 .bf16 from iblk m c 1 p) (ix3 0 k (j 1)))
    (fun t h j => ?_) (fun t h j => ?_) t hr i).trans ((zero_add _).trans ?_)
  · rw [outsAt0_A m c t h, if_pos h, zero_add]; frame_out; rw [hpay]
  · rw [outsAt0_B m c t h, if_neg h, zero_add]; frame_out; rw [hpay]
  · refine Finset.sum_congr rfl fun s _ => ?_
    have e : (8 * (t.val / 8) + s.val) % 8 = s.val := by omega
    rw [e]

theorem final (c : Dev nD) : (dats m 0 c).arrAt 3 (cfgs 0).N
    = val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hr : t.val % 8 = 7 := (flush0_3 t).mp hf
  blk_simp
  rw [after0_3, href]
  refine (scr m c t hr y).trans ?_
  refine (Finset.sum_add_distrib).trans ?_
  refine congrArg₂ (· + ·) ?_ ?_
  · rw [Fin.sum_univ_succ]
    simp only [Fin.val_succ, Nat.succ_ne_zero, if_false, Finset.sum_const_zero, add_zero, Fin.val_zero, if_true]
    blk_point [iblk, V, idx t, idx ⟨8 * (t.val / 8), lt_of_le_of_lt (Nat.mul_div_le t.val 8) t.isLt⟩]
  · refine Fin.sum_fin_congr fun s => ?_
    blk_point [iblk, V, idx t, idx ⟨_, Pipeline.run_point_lt_of_flush t hr s⟩]

end Cert.Kernel5Ideal.Hand
-- ==== Proof.Ideal.Dact.lean ====
module

public import proofs.«01_k».proof.Proof.Gen.Kernel6Ideal.Frame
public import proofs.«01_k».proof.Proof.Gen.Reference6Ideal.Read
public import Idealize.ShloMosaic.Lib.Pipeline.ValueKit
public import proofs.«01_k».proof.Proof.Ideal.Down

/-! The gradient through the activation: each block the kernel writes is the reference's at the same place. -/

@[expose] public section
set_option maxRecDepth 16384
noncomputable section

open Idealize.ShloMosaic Idealize.ShloMosaic.TcCoe Idealize.SL.Sem
open Idealize.ShloMosaic.Pipeline (Dat)

namespace Cert.Kernel6Ideal.Hand

open Cert.Kernel6Ideal Cert.Kernel6Ideal.Gen
open Cert.Reference6Ideal.Read
open Cert.ReferenceIdeal.Hand (IsReal coe_sum div2)
variable (m : (ℓ : Loc nD τ sig) → Buf (Elt Ideal) ℓ)

theorem idx : ∀ t : Fin cfg0.N, win0_0.index t = ![t.val / 8, 0] ∧ win0_1.index t = ![t.val % 8, 0, 0] ∧ win0_2.index t = ![t.val % 8, t.val / 8, 0]
    ∧ win0_3.index t = ![t.val % 8, t.val / 8, 0] ∧ win0_4.index t = ![t.val % 8, t.val / 8, 0] ∧ win0_5.index t = ![t.val % 8, t.val / 8, 0]
    ∧ t.val / 8 < 4 :=
  (by decide +kernel : ∀ t : Fin grid0.N, _)

theorem point5 (c : Dev nD) (t : Fin cfg0.N) (y) : k0_pay5 (F := Ideal) (iblk m c 0 t) (iblk m c 1 t) (iblk m c 2 t) y
    = val_main_v21 (F := Ideal) (m ((c : Thread nD τ).loc main_arg0)) (m ((c : Thread nD τ).loc main_arg1)) (m ((c : Thread nD τ).loc main_arg2)) (((cfg0.win 5).blk t).view.emb y) := by
  pointwise [k0_pay5, k0_pay4, k0_pay3, k0_pay2, val_main_v21, val_main_v20, val_main_v19, val_main_v18, val_main_v17, val_main_v16, val_main_v15, val_main_call1_v2, val_main_call1_v1, val_main_call1_v0, val_main_v14, val_main_v13, val_main_v12, val_main_v11, val_main_v10, val_main_v9, val_main_v8_0, val_main_v8_1, val_main_call0_v7, val_main_call0_v6, val_main_call0_cst_1, val_main_v8_2, val_main_call0_v4, val_main_call0_cst_0, val_main_call0_v3, val_main_call0_v2, val_main_call0_cst, val_main_call0_v1, val_main_call0_v0, val_main_v7, val_main_v6, val_main_v5, val_main_v4, val_main_v3, val_main_v2, val_main_v1, val_main_v0]
  rw [zero_sub]
  refine (mul_comm _ _).trans ?_
  blk_point [iblk, V, idx t]

/-- An extended real which is a real number. -/
def Real1 (x : EReal) : Prop := x ≠ ⊤ ∧ x ≠ ⊥

theorem Real1.coe {x : EReal} (h : Real1 x) : x = ((EReal.toReal x : ℝ) : EReal) := (EReal.coe_toReal h.1 h.2).symm

theorem prod_real {a b : EReal} (ha : Real1 a) (hb : Real1 b) : Real1 (a * b) := by
  rw [ha.coe, hb.coe, ← EReal.coe_mul]; exact ⟨EReal.coe_ne_top _, EReal.coe_ne_bot _⟩

theorem sum_real {n : ℕ} {f : Fin n → EReal} (hf : ∀ k, Real1 (f k)) : Real1 (∑ k : Fin n, f k) := by
  have h : ∑ k : Fin n, f k = ∑ k : Fin n, ((EReal.toReal (f k) : ℝ) : EReal) := Finset.sum_congr rfl fun k _ => (hf k).coe
  rw [h, coe_sum]; exact ⟨EReal.coe_ne_top _, EReal.coe_ne_bot _⟩

/-- The logistic function at a real number is a real number. -/
theorem logistic_real (g : ℝ) : ∃ s : ℝ, Ideal.div 1 (1 + Ideal.exp (-(g : EReal))) = (s : EReal) := by
  have hp : (1 + Real.exp (-g) : ℝ) ≠ 0 := by positivity
  refine ⟨1 / (1 + Real.exp (-g)), ?_⟩
  rw [← EReal.coe_neg, Ideal.exp_coe, ← EReal.coe_one, ← EReal.coe_add]
  exact div2 rfl rfl hp

/-- The derivative of `g * logistic g` in factored form and as the product rule gives it. -/
theorem gate {d u g : EReal} (hd : Real1 d) (hu : Real1 u) (hg : Real1 g) :
    d * u * (Ideal.div 1 (1 + Ideal.exp (-g)) * (1 + g * (1 - Ideal.div 1 (1 + Ideal.exp (-g)))))
      = d * u * Ideal.div 1 (1 + Ideal.exp (-g)) + g * (d * u) * (Ideal.div 1 (1 + Ideal.exp (-g)) * (1 - Ideal.div 1 (1 + Ideal.exp (-g)))) := by
  rw [hd.coe, hu.coe, hg.coe]
  obtain ⟨s, hs⟩ := logistic_real (EReal.toReal g)
  rw [hs, ← EReal.coe_one]
  simp only [← EReal.coe_mul, ← EReal.coe_add, ← EReal.coe_sub]
  refine congrArg _ ?_
  ring

theorem point4 (h0 : ∀ c : Dev nD, IsReal (S := S4096x2048) (m ((c : Thread nD τ).loc main_arg0))) (h1 : ∀ c : Dev nD, IsReal (S := S8x704x2048) (m ((c : Thread nD τ).loc main_arg1)))
    (h2 : ∀ c : Dev nD, IsReal (S := S8x4096x704) (m ((c : Thread nD τ).loc main_arg2))) (h3 : ∀ c : Dev nD, IsReal (S := S8x4096x704) (m ((c : Thread nD τ).loc main_arg3)))
    (c : Dev nD) (t : Fin cfg0.N) (y) : k0_pay1 (F := Ideal) (k0_pay6 (iblk m c 0 t) (iblk m c 1 t) (iblk m c 2 t) (iblk m c 3 t)) y
    = val_main_v18 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay6, k0_pay4, k0_pay3, k0_pay2, val_main_v21, val_main_v20, val_main_v19, val_main_v18, val_main_v17, val_main_v16, val_main_v15, val_main_call1_v2, val_main_call1_v1, val_main_call1_v0, val_main_v14, val_main_v13, val_main_v12, val_main_v11, val_main_v10, val_main_v9, val_main_v8_0, val_main_v8_1, val_main_call0_v7, val_main_call0_v6, val_main_call0_cst_1, val_main_v8_2, val_main_call0_v4, val_main_call0_cst_0, val_main_call0_v3, val_main_call0_v2, val_main_call0_cst, val_main_call0_v1, val_main_call0_v0, val_main_v7, val_main_v6, val_main_v5, val_main_v4, val_main_v3, val_main_v2, val_main_v1, val_main_v0]
  simp only [zero_sub]
  refine (gate (sum_real fun k => prod_real (h0 c _) (h1 c _)) (h3 c _) (h2 c _)).trans ?_
  blk_point [iblk, V, idx t]

theorem final5 (c : Dev nD) : (dats m 0 c).arrAt 5 (cfgs 0).N
    = val_main_v21 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point5 m c t y

theorem final4 (h0 : ∀ c : Dev nD, IsReal (S := S4096x2048) (m ((c : Thread nD τ).loc main_arg0))) (h1 : ∀ c : Dev nD, IsReal (S := S8x704x2048) (m ((c : Thread nD τ).loc main_arg1)))
    (h2 : ∀ c : Dev nD, IsReal (S := S8x4096x704) (m ((c : Thread nD τ).loc main_arg2))) (h3 : ∀ c : Dev nD, IsReal (S := S8x4096x704) (m ((c : Thread nD τ).loc main_arg3)))
    (c : Dev nD) : (dats m 0 c).arrAt 4 (cfgs 0).N
    = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point4 m h0 h1 h2 h3 c t y

end Cert.Kernel6Ideal.Hand
-- ==== Proof.Ideal.Dwgu.lean ====
module

public import proofs.«01_k».proof.Proof.Gen.Kernel7Ideal.Frame
public import proofs.«01_k».proof.Proof.Gen.Reference7Ideal.Read
public import Idealize.ShloMosaic.Lib.Pipeline.ValueKit
public import proofs.«01_k».proof.Proof.Ideal.Dact

/-! The gradients of the gate's and the up product's weights: each row block the kernel writes is the reference's. -/

@[expose] public section
set_option maxRecDepth 16384
noncomputable section

open Idealize.ShloMosaic Idealize.ShloMosaic.TcCoe Idealize.SL.Sem
open Idealize.ShloMosaic.Pipeline (Dat)

namespace Cert.Kernel7Ideal.Hand

open Cert.Kernel7Ideal Cert.Kernel7Ideal.Gen
open Cert.Reference7Ideal.Read
variable (m : (ℓ : Loc nD τ sig) → Buf (Elt Ideal) ℓ)

theorem idx : ∀ t : Fin cfg0.N, win0_0.index t = ![t.val % 4, 0] ∧ win0_1.index t = ![t.val / 4, t.val % 4, 0]
    ∧ win0_2.index t = ![t.val / 4, t.val % 4, 0] ∧ win0_3.index t = ![t.val / 4 % 2 * 4 + t.val / 8, 0, 0]
    ∧ win0_4.index t = ![t.val / 4 % 2 * 4 + t.val / 8, 0, 0] :=
  (by decide +kernel : ∀ t : Fin grid0.N, _)

theorem hzero (j) : k0_pay1 (F := Ideal) j = 0 := by pointwise [k0_pay1]
theorem hzero' (j) : k0_pay2 (F := Ideal) j = 0 := by pointwise [k0_pay2]

/-- One step adds the products of a block of tokens to the gate's sums. -/
theorem hpay (a : FVec Ideal S1024x2048 .bf16) (acc : FVec Ideal S704x2048 .f32) (x : FVec Ideal S1x1024x704 .bf16) (j : S704x2048.Idx) :
    k0_pay3 (F := Ideal) a acc x j = acc j + ∑ k : Fin 1024, x (ix3 0 k (j 0)) * a (ix2 k (j 1)) := by
  pointwise [k0_pay3]

/-- The same for the up product's sums. -/
theorem hpay' (a : FVec Ideal S1024x2048 .bf16) (acc : FVec Ideal S704x2048 .f32) (x : FVec Ideal S1x1024x704 .bf16) (j : S704x2048.Idx) :
    k0_pay4 (F := Ideal) a acc x j = acc j + ∑ k : Fin 1024, x (ix3 0 k (j 0)) * a (ix2 k (j 1)) := by
  pointwise [k0_pay4]

/-- The reference's gradient of w_gate, at the block that the kernel's slot holds. -/
theorem href (X0 : FVec Ideal S4096x2048 .bf16) (X : FVec Ideal S8x4096x704 .bf16) (i : S8x704x2048.Idx) (e : Fin 8) (he : e.val = (i 0).val % 4 * 2 + (i 0).val / 4) :
    val_main_v24 (F := Ideal) X0 X i = ∑ k : Fin 4096, X (ix3 e k (i 1)) * X0 (ix2 k (i 2)) := by
  pointwise [val_main_v24, val_main_v23, val_main_v22, val_main_v21, val_main_v20, val_main_v19, val_main_v18, val_main_v12, val_main_v11, val_main_v10, val_main_v8]
  refine Fin.sum_fin_congr fun k => ?_
  blk_point []

/-- The reference's gradient of w_up. -/
theorem href' (X0 : FVec Ideal S4096x2048 .bf16) (X : FVec Ideal S8x4096x704 .bf16) (i : S8x704x2048.Idx) (e : Fin 8) (he : e.val = (i 0).val % 4 * 2 + (i 0).val / 4) :
    val_main_v29 (F := Ideal) X0 X i = ∑ k : Fin 4096, X (ix3 e k (i 1)) * X0 (ix2 k (i 2)) := by
  pointwise [val_main_v29, val_main_v28, val_main_v27, val_main_v26, val_main_v25, val_main_v17, val_main_v16, val_main_v15, val_main_v14, val_main_v13, val_main_v6]
  refine Fin.sum_fin_congr fun k => ?_
  blk_point []

/-- What the first accumulator holds at the last block of tokens. -/
theorem scr (c : Dev nD) (t : Fin cfg0.N) (hr : t.val % 4 = 3) (i : S704x2048.Idx) :
    (outsAt0 m c t.val t.isLt).2.2.1 i = ∑ s : Fin 4, ∑ k : Fin 1024,
      (show FVec Ideal S1x1024x704 .bf16 from iblk m c 1 ⟨4 * (t.val / 4) + s.val, Pipeline.run_point_lt_of_flush t hr s⟩) (ix3 0 k (i 0))
        * (show FVec Ideal S1024x2048 .bf16 from iblk m c 0 ⟨4 * (t.val / 4) + s.val, Pipeline.run_point_lt_of_flush t hr s⟩) (ix2 k (i 1)) := by
  refine (Pipeline.eq_sum_fin_of_reset_step_apply_of_flush (fun n h => (outsAt0 m c n h).2.2.1) 4 (fun _ => 0)
    (fun p j => ∑ k : Fin 1024, (show FVec Ideal S1x1024x704 .bf16 from iblk m c 1 p) (ix3 0 k (j 0)) * (show FVec Ideal S1024x2048 .bf16 from iblk m c 0 p) (ix2 k (j 1)))
    (fun t h j => ?_) (fun t h j => ?_) t hr i).trans (zero_add _)
  · rw [outsAt0_A m c t h (by omega)]; frame_out; rw [hpay, hzero]
  · by_cases h1 : t.val % 4 = 3
    · rw [outsAt0_C m c t h h1]; frame_out; rw [hpay]; exact congrArg (· + _) (congrFun (Memref.IsWhole.read_unread _ _) j)
    · rw [outsAt0_B m c t h h1]; frame_out; rw [hpay]; exact congrArg (· + _) (congrFun (Memref.IsWhole.read_unread _ _) j)

/-- What the second accumulator holds at the last block of tokens. -/
theorem scr' (c : Dev nD) (t : Fin cfg0.N) (hr : t.val % 4 = 3) (i : S704x2048.Idx) :
    (outsAt0 m c t.val t.isLt).2.2.2 i = ∑ s : Fin 4, ∑ k : Fin 1024,
      (show FVec Ideal S1x1024x704 .bf16 from iblk m c 2 ⟨4 * (t.val / 4) + s.val, Pipeline.run_point_lt_of_flush t hr s⟩) (ix3 0 k (i 0))
        * (show FVec Ideal S1024x2048 .bf16 from iblk m c 0 ⟨4 * (t.val / 4) + s.val, Pipeline.run_point_lt_of_flush t hr s⟩) (ix2 k (i 1)) := by
  refine (Pipeline.eq_sum_fin_of_reset_step_apply_of_flush (fun n h => (outsAt0 m c n h).2.2.2) 4 (fun _ => 0)
    (fun p j => ∑ k : Fin 1024, (show FVec Ideal S1x1024x704 .bf16 from iblk m c 2 p) (ix3 0 k (j 0)) * (show FVec Ideal S1024x2048 .bf16 from iblk m c 0 p) (ix2 k (j 1)))
    (fun t h j => ?_) (fun t h j => ?_) t hr i).trans (zero_add _)
  · rw [outsAt0_A m c t h (by omega)]; frame_out; rw [hpay', hzero']
  · by_cases h1 : t.val % 4 = 3
    · rw [outsAt0_C m c t h h1]; frame_out; rw [hpay']; exact congrArg (· + _) (congrFun (Memref.IsWhole.read_unread _ _) j)
    · rw [outsAt0_B m c t h h1]; frame_out; rw [hpay']; exact congrArg (· + _) (congrFun (Memref.IsWhole.read_unread _ _) j)

theorem out (c : Dev nD) (t : Fin cfg0.N) (hr : t.val % 4 = 3) (y : S1x704x2048.Idx) :
    (outsAt0 m c t.val t.isLt).1 y = k0_pay5 (F := Ideal) (outsAt0 m c t.val t.isLt).2.2.1 y := by
  rw [outsAt0_C m c t (by omega) hr]; frame_out

/-- The kernel's array of the gate's weight's gradient is the reference's. -/
theorem final3 (c : Dev nD) : (dats m 0 c).arrAt 3 (cfgs 0).N
    = val_main_v24 (F := Ideal) (m ((c : Thread nD τ).loc main_arg0)) (m ((c : Thread nD τ).loc main_arg3)) := by
  refine (dats m 0 c).arrAt_eq_of_covers 3 _ (by decide +kernel) fun t hf y => ?_
  have hr : t.val % 4 = 3 := (flush0_3 t).mp hf
  blk_simp
  rw [after0_3]
  refine (out m c t hr y).trans ?_
  have hN : t.val < 32 := lt_of_lt_of_eq t.isLt N_0
  rw [href _ _ _ ⟨t.val / 4, by omega⟩ (by blk_simp [idx t]; show t.val / 4 = _; have h8 : t.val / 8 = t.val / 4 / 2 := (Nat.div_div_eq_div_mul _ 4 2).symm; omega)]
  pointwise [k0_pay5]
  refine (scr m c t hr _).trans ?_
  refine Fin.sum_mul_add_congr fun s k hl => ?_
  blk_point [iblk, V, idx t, idx ⟨_, Pipeline.run_point_lt_of_flush t hr s⟩]

theorem out' (c : Dev nD) (t : Fin cfg0.N) (hr : t.val % 4 = 3) (y : S1x704x2048.Idx) :
    (outsAt0 m c t.val t.isLt).2.1 y = k0_pay6 (F := Ideal) (outsAt0 m c t.val t.isLt).2.2.2 y := by
  rw [outsAt0_C m c t (by omega) hr]; frame_out

/-- The kernel's array of the up product's weight's gradient is the reference's. -/
theorem final4 (c : Dev nD) : (dats m 0 c).arrAt 4 (cfgs 0).N
    = val_main_v29 (F := Ideal) (m ((c : Thread nD τ).loc main_arg0)) (m ((c : Thread nD τ).loc main_arg4)) := by
  refine (dats m 0 c).arrAt_eq_of_covers 4 _ (by decide +kernel) fun t hf y => ?_
  have hr : t.val % 4 = 3 := (flush0_4 t).mp hf
  blk_simp
  rw [after0_4]
  refine (out' m c t hr y).trans ?_
  have hN : t.val < 32 := lt_of_lt_of_eq t.isLt N_0
  rw [href' _ _ _ ⟨t.val / 4, by omega⟩ (by blk_simp [idx t]; show t.val / 4 = _; have h8 : t.val / 8 = t.val / 4 / 2 := (Nat.div_div_eq_div_mul _ 4 2).symm; omega)]
  pointwise [k0_pay6]
  refine (scr' m c t hr _).trans ?_
  refine Fin.sum_mul_add_congr fun s k hl => ?_
  blk_point [iblk, V, idx t, idx ⟨_, Pipeline.run_point_lt_of_flush t hr s⟩]

end Cert.Kernel7Ideal.Hand
-- ==== Proof.Ideal.Dn.lean ====
module

public import proofs.«01_k».proof.Proof.Gen.Kernel8Ideal.Frame
public import proofs.«01_k».proof.Proof.Gen.Reference8Ideal.Read
public import Idealize.ShloMosaic.Lib.Pipeline.ValueKit
public import proofs.«01_k».proof.Proof.Ideal.Dwgu

/-! The gradient of the feed-forward's input: each row block the kernel writes is the reference's. -/

@[expose] public section
set_option maxRecDepth 16384
noncomputable section

open Idealize.ShloMosaic Idealize.ShloMosaic.TcCoe Idealize.SL.Sem
open Idealize.ShloMosaic.Pipeline (Dat)

namespace Cert.Kernel8Ideal.Hand

open Cert.Kernel8Ideal Cert.Kernel8Ideal.Gen
open Cert.Reference8Ideal.Read
variable (m : (ℓ : Loc nD τ sig) → Buf (Elt Ideal) ℓ)

theorem idx : ∀ t : Fin cfg0.N, win0_0.index t = ![t.val % 8, t.val / 8, 0] ∧ win0_1.index t = ![t.val % 8, t.val / 8, 0]
    ∧ win0_2.index t = ![t.val % 8, 0, 0] ∧ win0_3.index t = ![t.val % 8, 0, 0] ∧ win0_4.index t = ![t.val / 8, 0] :=
  (by decide +kernel : ∀ t : Fin grid0.N, _)

theorem hzero (j) : k0_pay1 (F := Ideal) j = 0 := by pointwise [k0_pay1]

/-- One step adds the two products of one block of hidden lanes. -/
theorem hpay (acc : FVec Ideal S1024x2048 .f32) (g : FVec Ideal S1x1024x704 .bf16) (wg : FVec Ideal S1x2048x704 .bf16) (u : FVec Ideal S1x1024x704 .bf16)
    (wu : FVec Ideal S1x2048x704 .bf16) (j : S1024x2048.Idx) :
    k0_pay2 (F := Ideal) acc g wg u wu j
      = acc j + ((∑ k : Fin 704, g (ix3 0 (j 0) k) * wg (ix3 0 (j 1) k)) + ∑ k : Fin 704, u (ix3 0 (j 0) k) * wu (ix3 0 (j 1) k)) := by
  pointwise [k0_pay2]

/-- A product over all hidden lanes is the sum over the eight blocks: the up product's part. -/
theorem hup (W : FVec Ideal S8x2048x704 .bf16) (X : FVec Ideal S8x4096x704 .bf16) (i : S4096x2048.Idx) :
    val_main_v15 (F := Ideal) W X i = ∑ s : Fin 8, ∑ k : Fin 704, X (ix3 s (i 0) k) * W (ix3 s (i 1) k) := by
  pointwise [val_main_v15, val_main_v14, val_main_v13, val_main_v12, val_main_v7, val_main_v6, val_main_v5]
  symm
  refine Fin.sum_mul_add_congr fun s k hl => ?_
  blk_point []

/-- The gate's part. -/
theorem hgate (W : FVec Ideal S8x2048x704 .bf16) (X : FVec Ideal S8x4096x704 .bf16) (i : S4096x2048.Idx) :
    val_main_v16 (F := Ideal) W X i = ∑ s : Fin 8, ∑ k : Fin 704, X (ix3 s (i 0) k) * W (ix3 s (i 1) k) := by
  pointwise [val_main_v16, val_main_v11, val_main_v10, val_main_v9, val_main_v3, val_main_v2, val_main_v1]
  symm
  refine Fin.sum_mul_add_congr fun s k hl => ?_
  blk_point []

theorem href (X1 X2 : FVec Ideal S8x2048x704 .bf16) (X3 X4 : FVec Ideal S8x4096x704 .bf16) (i : S4096x2048.Idx) :
    val_main_v17 (F := Ideal) X1 X2 X3 X4 i = ∑ s : Fin 8, ((∑ k : Fin 704, X3 (ix3 s (i 0) k) * X1 (ix3 s (i 1) k))
      + ∑ k : Fin 704, X4 (ix3 s (i 0) k) * X2 (ix3 s (i 1) k)) := by
  rw [Finset.sum_add_distrib, ← hgate X1 X3 i, ← hup X2 X4 i, add_comm]
  pointwise [val_main_v17]

/-- What the output block holds after its eight steps. -/
theorem scr (c : Dev nD) (t : Fin cfg0.N) (hr : t.val % 8 = 7) (i : S1024x2048.Idx) :
    (outsAt0 m c t.val t.isLt) i = ∑ s : Fin 8,
      ((∑ k : Fin 704, (show FVec Ideal S1x1024x704 .bf16 from iblk m c 0 ⟨8 * (t.val / 8) + s.val, Pipeline.run_point_lt_of_flush t hr s⟩) (ix3 0 (i 0) k)
        * (show FVec Ideal S1x2048x704 .bf16 from iblk m c 2 ⟨8 * (t.val / 8) + s.val, Pipeline.run_point_lt_of_flush t hr s⟩) (ix3 0 (i 1) k))
      + ∑ k : Fin 704, (show FVec Ideal S1x1024x704 .bf16 from iblk m c 1 ⟨8 * (t.val / 8) + s.val, Pipeline.run_point_lt_of_flush t hr s⟩) (ix3 0 (i 0) k)
        * (show FVec Ideal S1x2048x704 .bf16 from iblk m c 3 ⟨8 * (t.val / 8) + s.val, Pipeline.run_point_lt_of_flush t hr s⟩) (ix3 0 (i 1) k)) := by
  refine (Pipeline.eq_sum_fin_of_reset_step_apply_of_flush (fun n h => outsAt0 m c n h) 8 (fun _ => 0)
    (fun p j => (∑ k : Fin 704, (show FVec Ideal S1x1024x704 .bf16 from iblk m c 0 p) (ix3 0 (j 0) k) * (show FVec Ideal S1x2048x704 .bf16 from iblk m c 2 p) (ix3 0 (j 1) k))
      + ∑ k : Fin 704, (show FVec Ideal S1x1024x704 .bf16 from iblk m c 1 p) (ix3 0 (j 0) k) * (show FVec Ideal S1x2048x704 .bf16 from iblk m c 3 p) (ix3 0 (j 1) k))
    (fun t h j => ?_) (fun t h j => ?_) t hr i).trans (zero_add _)
  · rw [outsAt0_A m c t h]; frame_out; rw [hpay, hzero]
  · rw [outsAt0_B m c t h]; frame_out; rw [hpay]

/-- The kernel's array is the reference's. -/
theorem final (c : Dev nD) : (dats m 0 c).arrAt 4 (cfgs 0).N
    = val_main_v17 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 4 _ (by decide +kernel) fun t hf y => ?_
  have hr : t.val % 8 = 7 := (flush0_4 t).mp hf
  blk_simp
  rw [after0_4, href]
  refine (scr m c t hr y).trans ?_
  refine Fin.sum_fin_congr fun s => ?_
  refine congrArg₂ (· + ·) (Fin.sum_fin_congr fun k => ?_) (Fin.sum_fin_congr fun k => ?_)
  · blk_point [iblk, V, idx t, idx ⟨_, Pipeline.run_point_lt_of_flush t hr s⟩]
  · blk_point [iblk, V, idx t, idx ⟨_, Pipeline.run_point_lt_of_flush t hr s⟩]

end Cert.Kernel8Ideal.Hand
-- ==== Proof.Ideal.Rms.lean ====
module

public import proofs.«01_k».proof.Proof.Gen.Kernel9Ideal.Frame
public import proofs.«01_k».proof.Proof.Gen.Reference9Ideal.Read
public import Idealize.ShloMosaic.Lib.Pipeline.ValueKit
public import proofs.«01_k».proof.Proof.Ideal.Dn

/-! The gradients of a norm's input and gain: each block of rows the kernel writes is the reference's at the same place, and
the gain's gradient, added up over the blocks, is the reference's sum over all rows. -/

@[expose] public section
set_option maxRecDepth 16384
noncomputable section

open Idealize.ShloMosaic Idealize.ShloMosaic.TcCoe Idealize.SL.Sem
open Idealize.ShloMosaic.Pipeline (Dat)

namespace Cert.Kernel9Ideal.Hand

open Cert.Kernel9Ideal Cert.Kernel9Ideal.Gen
open Cert.Reference9Ideal.Read
open Cert.ReferenceIdeal.Hand (coe_sum div2)
variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

/-- The literals: the number of lanes, the small number under the root, and minus a half. -/
def lanes : EReal := FloatOps.ofBits (F := Ideal) .f32 0x45000000#32
def eps : EReal := FloatOps.ofBits (F := Ideal) .f32 0x358637BD#32
def mhalf : EReal := FloatOps.ofBits (F := Ideal) .f32 0xBF000000#32

theorem lanes_eq : lanes = ((2048 : ℝ) : EReal) := by
  show Ideal.ofBits .f32 0x45000000#32 = _
  simp [Ideal.ofBits, Ideal.ieee, -EReal.coe_mul]; norm_num
theorem mhalf_eq : mhalf = ((-(1 / 2) : ℝ) : EReal) := by
  show Ideal.ofBits .f32 0xBF000000#32 = _
  simp [Ideal.ofBits, Ideal.ieee, -EReal.coe_mul]; norm_num
theorem eps_eq : ∃ e : ℝ, 0 < e ∧ eps = (e : EReal) := by
  refine ⟨_, ?_, show Ideal.ofBits .f32 0x358637BD#32 = _ by simp [Ideal.ofBits, Ideal.ieee, -EReal.coe_mul]; rfl⟩
  positivity

/-- A row's mean square, moved off zero, and one over its root. -/
def var (x : Fin 2048 → EReal) : EReal := Ideal.div (∑ k : Fin 2048, x k * x k) lanes + eps
def inv (x : Fin 2048 → EReal) : EReal := Ideal.rsqrt (var x)

/-- One element of the input's gradient as the kernel computes it. -/
def kdx (x g y : Fin 2048 → EReal) (d : EReal) (j : Fin 2048) : EReal :=
  d + inv x * (y j * g j - x j * inv x * Ideal.div (∑ k : Fin 2048, y k * g k * (x k * inv x)) lanes)

theorem kdx_congr {x x' g g' y y' : Fin 2048 → EReal} {d d' : EReal} {j j' : Fin 2048} (hx : ∀ k, x k = x' k) (hg : ∀ k, g k = g' k)
    (hy : ∀ k, y k = y' k) (hd : d = d') (hj : j = j') : kdx x g y d j = kdx x' g' y' d' j' := by
  rw [funext hx, funext hg, funext hy, hd, hj]

/-- The gradient through the mean square as the reference computes it. -/
def rb (x g y : Fin 2048 → EReal) : EReal :=
  Ideal.div ((∑ k : Fin 2048, x k * (y k * g k)) * (mhalf * Ideal.div (inv x) (var x))) lanes
/-- One element of the input's gradient as the reference computes it. -/
def rdx (x g y : Fin 2048 → EReal) (d : EReal) (j : Fin 2048) : EReal :=
  d + y j * g j * inv x + x j * rb x g y + rb x g y * x j

theorem div_lanes (a : EReal) : Ideal.div a lanes = a * ((1 / 2048 : ℝ) : EReal) := by
  rw [lanes_eq]
  have h : ((2048 : ℝ) : EReal) ≠ 0 := by exact_mod_cast (by norm_num : (2048 : ℝ) ≠ 0)
  unfold Ideal.div
  rw [if_neg h, ← EReal.coe_inv, one_div]

theorem sum_scale {ι : Type} [DecidableEq ι] (R : ℝ) (hR : 0 ≤ R) (f : ι → EReal) (s : Finset ι) : ∑ k ∈ s, (R : EReal) * f k = (R : EReal) * ∑ k ∈ s, f k := by
  induction s using Finset.induction_on with
  | empty => simp
  | insert a s ha ih =>
    rw [Finset.sum_insert ha, Finset.sum_insert ha, ih]
    exact (EReal.left_distrib_of_nonneg_of_ne_top (EReal.coe_nonneg.mpr hR) (EReal.coe_ne_top R) _ _).symm

theorem sq_nonneg' (a : EReal) : 0 ≤ a * a := by
  rcases le_total 0 a with h | h
  · exact EReal.mul_nonneg_iff.mpr (Or.inl ⟨h, h⟩)
  · exact EReal.mul_nonneg_iff.mpr (Or.inr ⟨h, h⟩)

theorem neg_split (T : EReal) (K c : ℝ) (hK : 0 < K) (hc : c = -K / 2) : -(T * (K : EReal)) = T * (c : EReal) + T * (c : EReal) := by
  have hn : c < 0 := by rw [hc]; linarith
  induction T using EReal.rec with
  | bot => rw [EReal.bot_mul_coe_of_pos hK, EReal.bot_mul_coe_of_neg hn, EReal.neg_bot]; rfl
  | top => rw [EReal.top_mul_coe_of_pos hK, EReal.top_mul_coe_of_neg hn, EReal.neg_top]; rfl
  | coe r =>
    simp only [← EReal.coe_mul, ← EReal.coe_add, ← EReal.coe_neg]
    refine congrArg _ ?_
    rw [hc]; ring

/-- An infinite entry makes the mean square infinite and one over its root zero: either form is then `d`. -/
theorem dx_inf (x g y : Fin 2048 → EReal) (d : EReal) (j : Fin 2048) (k : Fin 2048) (hk : x k * x k = ⊤) : kdx x g y d j = rdx x g y d j := by
  obtain ⟨e, he, hee⟩ := eps_eq
  have hs : ∑ k : Fin 2048, x k * x k = ⊤ :=
    top_le_iff.mp (hk ▸ Finset.single_le_sum (f := fun k => x k * x k) (fun i _ => sq_nonneg' (x i)) (Finset.mem_univ k))
  have hv : var x = ⊤ := by
    unfold var
    rw [hs, div_lanes, EReal.top_mul_coe_of_pos (by norm_num), hee, EReal.top_add_coe]
  have hr : inv x = 0 := by unfold inv; rw [hv, Ideal.rsqrt_top]
  have hd : Ideal.div 0 (⊤ : EReal) = 0 := by
    unfold Ideal.div
    rw [if_neg (by simp), zero_mul]
  have hb : rb x g y = 0 := by
    unfold rb
    rw [hr, hv, hd, mul_zero, mul_zero, div_lanes, zero_mul]
  unfold kdx rdx
  rw [hb, hr, zero_mul, mul_zero, mul_zero, zero_mul, add_zero, add_zero, add_zero]

/-- The two forms for a row of real entries, whatever the other arguments. -/
theorem dx_fin (x : Fin 2048 → ℝ) (g y : Fin 2048 → EReal) (d : EReal) (j : Fin 2048) :
    kdx (fun k => (x k : EReal)) g y d j = rdx (fun k => (x k : EReal)) g y d j := by
  obtain ⟨e, he, hee⟩ := eps_eq
  have hs : 0 ≤ ∑ k : Fin 2048, x k * x k := Finset.sum_nonneg fun k _ => mul_self_nonneg _
  set V : ℝ := (∑ k : Fin 2048, x k * x k) / 2048 + e with hV
  have hVp : 0 < V := by positivity
  have hv : var (fun k => (x k : EReal)) = (V : EReal) := by
    unfold var
    simp only [← EReal.coe_mul]
    rw [coe_sum, div2 rfl lanes_eq (by norm_num), hee, ← EReal.coe_add]
  set R : ℝ := (Real.sqrt V)⁻¹ with hR
  have hRp : 0 < R := inv_pos.mpr (Real.sqrt_pos.mpr hVp)
  have hr : inv (fun k => (x k : EReal)) = (R : EReal) := by
    unfold inv
    rw [hv, Ideal.rsqrt_coe, if_neg hVp.le.not_gt, if_neg hVp.ne']
  have hRV : R / V = R * R * R := by
    have hq : Real.sqrt V ≠ 0 := (Real.sqrt_pos.mpr hVp).ne'
    have h2 : V = Real.sqrt V * Real.sqrt V := (Real.mul_self_sqrt hVp.le).symm
    have h3 : R * R * V = 1 := by rw [hR, h2, Real.sqrt_mul_self (Real.sqrt_nonneg V)]; field_simp
    rw [div_eq_iff hVp.ne', mul_assoc, mul_assoc, ← mul_assoc R R V, h3, mul_one]
  set S : EReal := ∑ k : Fin 2048, (x k : EReal) * (y k * g k) with hS
  have hb : rb (fun k => (x k : EReal)) g y = S * ((-(1 / 2) * (R * R * R) * (1 / 2048) : ℝ) : EReal) := by
    unfold rb
    rw [hr, hv, div2 rfl rfl hVp.ne', hRV, mhalf_eq, div_lanes, mul_assoc]
    simp only [← EReal.coe_mul]
    rfl
  have hk : ∑ k : Fin 2048, y k * g k * ((x k : EReal) * (R : EReal)) = (R : EReal) * S := by
    rw [hS, ← sum_scale R hRp.le]
    refine Finset.sum_congr rfl fun k _ => ?_
    rw [← mul_assoc, mul_comm _ (R : EReal), mul_comm (x k : EReal)]
  unfold kdx rdx
  rw [hb, hr, hk, div_lanes, sub_eq_add_neg, EReal.left_distrib_of_nonneg_of_ne_top (EReal.coe_nonneg.mpr hRp.le) (EReal.coe_ne_top R),
    mul_comm (R : EReal) (y j * g j), mul_neg]
  have hw : (R : EReal) * ((x j : EReal) * (R : EReal) * ((R : EReal) * S * ((1 / 2048 : ℝ) : EReal)))
      = (x j : EReal) * S * ((R * R * R * (1 / 2048) : ℝ) : EReal) := by
    simp only [EReal.coe_mul]
    ac_rfl
  rw [hw, neg_split _ (R * R * R * (1 / 2048)) (-(1 / 2) * (R * R * R) * (1 / 2048)) (by positivity) (by ring)]
  rw [mul_comm (S * _) (x j : EReal), ← mul_assoc (x j : EReal) S, add_assoc, add_assoc]

theorem dx_eq (x g y : Fin 2048 → EReal) (d : EReal) (j : Fin 2048) : kdx x g y d j = rdx x g y d j := by
  by_cases h : ∃ k, x k = ⊤ ∨ x k = ⊥
  · obtain ⟨k, hk⟩ := h
    refine dx_inf x g y d j k ?_
    rcases hk with hk | hk <;> rw [hk]
    · exact EReal.top_mul_top
    · exact EReal.bot_mul_bot
  · have h' : ∀ k, x k ≠ ⊤ ∧ x k ≠ ⊥ := fun k => ⟨fun e => h ⟨k, Or.inl e⟩, fun e => h ⟨k, Or.inr e⟩⟩
    have := dx_fin (fun k => (x k).toReal) g y d j
    simp only [EReal.coe_toReal (h' _).1 (h' _).2] at this
    exact this

theorem hpay4 (x d y : FVec Ideal S256x2048 .f32) (g : FVec Ideal S1x2048 .f32) (j : S256x2048.Idx) :
    k0_pay4 (F := Ideal) x d y g j
      = kdx (fun k => x (ix2 (j 0) k)) (fun k => g (ix2 0 k)) (fun k => y (ix2 (j 0) k)) (d j) (j 1) := by
  unfold kdx inv var lanes eps
  pointwise [k0_pay4, k0_pay3, k0_pay2]

theorem href34 (X : FVec Ideal S4096x2048 .f32) (G : FVec Ideal S1x2048 .f32) (D Y : FVec Ideal S4096x2048 .f32) (i : S4096x2048.Idx) :
    val_main_v34 (F := Ideal) X G D Y i
      = rdx (fun k => X (ix2 (i 0) k)) (fun k => G (ix2 0 k)) (fun k => Y (ix2 (i 0) k)) (D i) (i 1) := by
  unfold rdx rb inv var lanes eps mhalf
  pointwise [val_main_v34, val_main_v33, val_main_v32, val_main_v31, val_main_v30, val_main_v29, val_main_cst_6, val_main_v28, val_main_v27, val_main_cst_5,
    val_main_v26, val_main_v25, val_main_v24, val_main_v23, val_main_v22, val_main_v21, val_main_cst_4, val_main_v20, val_main_v19, val_main_v18,
    val_main_v11, val_main_v10, val_main_v9, val_main_cst_2, val_main_v8, val_main_v7, val_main_v6, val_main_v5, val_main_cst_1, val_main_v4, val_main_v3,
    val_main_cst_0, val_main_v2, val_main_v1, val_main_cst, val_main_v0]
  simp only [Finset.sum_const, Finset.card_univ, Fintype.card_fin, one_smul]

theorem hzero (j) : k0_pay5 (F := Ideal) j = 0 := by pointwise [k0_pay5]

/-- One block's share of the gain's gradient. -/
theorem hpay6 (x y : FVec Ideal S256x2048 .f32) (acc : FVec Ideal S1x2048 .f32) (j : S1x2048.Idx) :
    k0_pay6 (F := Ideal) x y acc j
      = acc j + ∑ l : Fin 256, y (ix2 l (j 1)) * (x (ix2 l (j 1)) * inv (fun k => x (ix2 l k))) := by
  unfold inv var lanes eps
  pointwise [k0_pay6, k0_pay3, k0_pay2]

/-- The sum over all rows is the sum over the blocks of rows. -/
theorem href17 (X Y : FVec Ideal S4096x2048 .f32) (i : S1x2048.Idx) :
    val_main_v17 (F := Ideal) X Y i = ∑ s : Fin 16, ∑ l : Fin 256,
      Y (ix2 ⟨256 * s.val + l.val, by omega⟩ (i 1)) * (X (ix2 ⟨256 * s.val + l.val, by omega⟩ (i 1)) * inv (fun k => X (ix2 ⟨256 * s.val + l.val, by omega⟩ k))) := by
  unfold inv var lanes eps
  pointwise [val_main_v17, val_main_v16, val_main_cst_3, val_main_v15, val_main_v12, val_main_v11, val_main_v7, val_main_v6, val_main_v5, val_main_cst_1, val_main_v4, val_main_v3,
    val_main_cst_0, val_main_v2, val_main_v1, val_main_cst, val_main_v0]
  symm
  refine Fin.sum_mul_add_congr fun s k hl => ?_
  blk_point []

/-- The input's gradient at one element of a block. -/
theorem point4 (c : Dev nD) (t : Fin cfg0.N) (y : S256x2048.Idx) : k0_pay4 (F := Ideal) (iblk m c 0 t) (iblk m c 1 t) (iblk m c 3 t) (iblk m c 2 t) y
    = val_main_v34 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  refine (hpay4 _ _ _ _ y).trans (Eq.trans ?_ ((dx_eq _ _ _ _ _).trans (href34 _ _ _ _ _).symm))
  refine kdx_congr (fun k => ?_) (fun k => ?_) (fun k => ?_) ?_ ?_
  · blk_point [iblk, V, idx t]
  · blk_point [iblk, V, idx t]
  · blk_point [iblk, V, idx t]
  · blk_point [iblk, V, idx t]
  · apply Fin.ext
    blk_simp [idx t]

theorem outs4 (c : Dev nD) (t : Fin cfg0.N) : (outsAt0 m c t.val t.isLt).1 = k0_pay4 (F := Ideal) (iblk m c 0 t) (iblk m c 1 t) (iblk m c 3 t) (iblk m c 2 t) := by
  by_cases h : t.val % 16 = 0
  · rw [outsAt0_A m c t h]; frame_out
  · rw [outsAt0_B m c t h]; frame_out

theorem outs5 (c : Dev nD) (t : Fin cfg0.N) : (outsAt0 m c t.val t.isLt).2.1 = k0_pay1 (F := Ideal) (k0_pay4 (iblk m c 0 t) (iblk m c 1 t) (iblk m c 3 t) (iblk m c 2 t)) := by
  by_cases h : t.val % 16 = 0
  · rw [outsAt0_A m c t h]; frame_out
  · rw [outsAt0_B m c t h]; frame_out

theorem final4 (c : Dev nD) : (dats m 0 c).arrAt 4 (cfgs 0).N
    = val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, outs4]
  exact point4 m c t y

theorem final5 (c : Dev nD) : (dats m 0 c).arrAt 5 (cfgs 0).N
    = val_main_v35 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, outs5]
  exact point4 m c t y

/-- What the gain's block holds after the sixteen steps. -/
theorem scr (c : Dev nD) (t : Fin cfg0.N) (hr : t.val % 16 = 15) (i : S1x2048.Idx) :
    (outsAt0 m c t.val t.isLt).2.2 i = ∑ s : Fin 16, ∑ l : Fin 256,
      (show FVec Ideal S256x2048 .f32 from iblk m c 3 ⟨16 * (t.val / 16) + s.val, Pipeline.run_point_lt_of_flush t hr s⟩) (ix2 l (i 1))
        * ((show FVec Ideal S256x2048 .f32 from iblk m c 0 ⟨16 * (t.val / 16) + s.val, Pipeline.run_point_lt_of_flush t hr s⟩) (ix2 l (i 1))
          * inv (fun k => (show FVec Ideal S256x2048 .f32 from iblk m c 0 ⟨16 * (t.val / 16) + s.val, Pipeline.run_point_lt_of_flush t hr s⟩) (ix2 l k))) := by
  refine (Pipeline.eq_sum_fin_of_reset_step_apply_of_flush (fun n h => (outsAt0 m c n h).2.2) 16 (fun _ => 0)
    (fun p j => ∑ l : Fin 256, (show FVec Ideal S256x2048 .f32 from iblk m c 3 p) (ix2 l (j 1))
        * ((show FVec Ideal S256x2048 .f32 from iblk m c 0 p) (ix2 l (j 1)) * inv (fun k => (show FVec Ideal S256x2048 .f32 from iblk m c 0 p) (ix2 l k))))
    (fun t h j => ?_) (fun t h j => ?_) t hr i).trans (zero_add _)
  · rw [outsAt0_A m c t h]; frame_out; rw [hpay6, hzero]
  · rw [outsAt0_B m c t h]; frame_out; rw [hpay6]

theorem final6 (c : Dev nD) : (dats m 0 c).arrAt 6 (cfgs 0).N
    = val_main_v17 (F := Ideal) (m ((c : Thread nD τ).loc main_arg0)) (m ((c : Thread nD τ).loc main_arg3)) := by
  refine (dats m 0 c).arrAt_eq_of_covers 6 _ (by decide +kernel) fun t hf y => ?_
  have hr : t.val % 16 = 15 := (flush0_6 t).mp hf
  blk_simp
  rw [after0_6, href17]
  refine (scr m c t hr y).trans ?_
  refine Fin.sum_fin_congr fun s => Fin.sum_fin_congr fun l => ?_
  refine congrArg₂ (· * ·) ?_ (congrArg₂ (· * ·) ?_ (congrArg inv (funext fun k => ?_)))
  · blk_point [iblk, V, idx t, idx ⟨_, Pipeline.run_point_lt_of_flush t hr s⟩]
  · blk_point [iblk, V, idx t, idx ⟨_, Pipeline.run_point_lt_of_flush t hr s⟩]
  · blk_point [iblk, V, idx t, idx ⟨_, Pipeline.run_point_lt_of_flush t hr s⟩]

end Cert.Kernel9Ideal.Hand
-- ==== Proof.Ideal.Wo.lean ====
module

public import proofs.«01_k».proof.Proof.Gen.Kernel10Ideal.Frame
public import proofs.«01_k».proof.Proof.Gen.Reference10Ideal.Read
public import Idealize.ShloMosaic.Lib.Pipeline.ValueKit
public import proofs.«01_k».proof.Proof.Ideal.Rms

/-! The attention's last product with the residual stream: each block the kernel writes is the reference's. -/

@[expose] public section
set_option maxRecDepth 16384
noncomputable section

open Idealize.ShloMosaic Idealize.ShloMosaic.TcCoe Idealize.SL.Sem
open Idealize.ShloMosaic.Pipeline (Dat)

namespace Cert.Kernel10Ideal.Hand

open Cert.Kernel10Ideal Cert.Kernel10Ideal.Gen
open Cert.Reference10Ideal.Read
variable (m : (ℓ : Loc nD τ sig) → Buf (Elt Ideal) ℓ)

theorem idx : ∀ t : Fin cfg0.N, win0_0.index t = ![t.val / 4, 0] ∧ win0_1.index t = ![0, 0, t.val % 4] ∧ win0_2.index t = ![t.val / 4, t.val % 4]
    ∧ win0_3.index t = ![t.val / 4, t.val % 4] :=
  (by decide +kernel : ∀ t : Fin grid0.N, _)

theorem point (c : Dev nD) (t : Fin cfg0.N) (y) : k0_pay1 (F := Ideal) (iblk m c 0 t) (iblk m c 1 t) (iblk m c 2 t) y
    = val_main_v4 (F := Ideal) (m ((c : Thread nD τ).loc main_arg0)) (m ((c : Thread nD τ).loc main_arg1)) (m ((c : Thread nD τ).loc main_arg2)) (((cfg0.win 3).blk t).view.emb y) := by
  pointwise [k0_pay1, val_main_v4, val_main_v3, val_main_v2, val_main_v1, val_main_v0]
  rw [add_comm]
  blk_point [iblk, V, idx t]

theorem final (c : Dev nD) : (dats m 0 c).arrAt 3 (cfgs 0).N
    = val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel10Ideal.Hand
-- ==== Proof.Ideal.W2.lean ====
module

public import proofs.«01_k».proof.Proof.Gen.Kernel11Ideal.Frame
public import proofs.«01_k».proof.Proof.Gen.Reference11Ideal.Read
public import Idealize.ShloMosaic.Lib.Pipeline.ValueKit
public import proofs.«01_k».proof.Proof.Ideal.Wo

/-! The convolution layer's last product with its bias and the residual stream: each block the kernel writes is the reference's. -/

@[expose] public section
set_option maxRecDepth 16384
noncomputable section

open Idealize.ShloMosaic Idealize.ShloMosaic.TcCoe Idealize.SL.Sem
open Idealize.ShloMosaic.Pipeline (Dat)

namespace Cert.Kernel11Ideal.Hand

open Cert.Kernel11Ideal Cert.Kernel11Ideal.Gen
open Cert.Reference11Ideal.Read
variable (m : (ℓ : Loc nD τ sig) → Buf (Elt Ideal) ℓ)

theorem idx : ∀ t : Fin cfg0.N, win0_0.index t = ![t.val / 4, 0] ∧ win0_1.index t = ![0, 0, t.val % 4] ∧ win0_2.index t = ![t.val / 4, t.val % 4]
    ∧ win0_3.index t = ![0, t.val % 4] ∧ win0_4.index t = ![t.val / 4, t.val % 4] :=
  (by decide +kernel : ∀ t : Fin grid0.N, _)

theorem turn (a b c : EReal) : a + b + c = b + (a + c) := by rw [add_comm a b, add_assoc]

theorem point (c : Dev nD) (t : Fin cfg0.N) (y) : k0_pay1 (F := Ideal) (iblk m c 0 t) (iblk m c 1 t) (iblk m c 2 t) (iblk m c 3 t) y
    = val_main_v6 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, val_main_v6, val_main_v5, val_main_v4, val_main_v3, val_main_v2, val_main_v1, val_main_v0]
  refine (turn _ _ _).trans ?_
  blk_point [iblk, V, idx t]

theorem final (c : Dev nD) : (dats m 0 c).arrAt 4 (cfgs 0).N
    = val_main_v6 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.Kernel11Ideal.Hand
-- ==== Proof.Ideal.Dq.lean ====
module

public import proofs.«01_k».proof.Proof.Gen.Kernel12Ideal.Frame
public import proofs.«01_k».proof.Proof.Gen.Reference12Ideal.Read
public import Idealize.ShloMosaic.Lib.Pipeline.ValueKit
public import proofs.«01_k».proof.Proof.Ideal.W2

/-! The gradient of a product's input: each block the kernel writes is the reference's. -/

@[expose] public section
set_option maxRecDepth 16384
noncomputable section

open Idealize.ShloMosaic Idealize.ShloMosaic.TcCoe Idealize.SL.Sem
open Idealize.ShloMosaic.Pipeline (Dat)

namespace Cert.Kernel12Ideal.Hand

open Cert.Kernel12Ideal Cert.Kernel12Ideal.Gen
open Cert.Reference12Ideal.Read
variable (m : (ℓ : Loc nD τ sig) → Buf (Elt Ideal) ℓ)

theorem idx : ∀ t : Fin cfg0.N, win0_0.index t = ![t.val / 2, 0] ∧ win0_1.index t = ![t.val % 2, 0, 0] ∧ win0_2.index t = ![t.val / 2, t.val % 2] :=
  (by decide +kernel : ∀ t : Fin grid0.N, _)

theorem pay1 (a : FVec Ideal S1024x2048 .bf16) (b : FVec Ideal S1x256x2048 .bf16) (x : S1024x256.Idx) :
    k0_pay1 (F := Ideal) a b x = ∑ k : Fin 2048, a (ix2 (x 0) k) * b (ix3 0 (x 1) k) := by pointwise [k0_pay1]
theorem pay2 (a : FVec Ideal S1024x2048 .bf16) (b : FVec Ideal S1x256x2048 .bf16) (x : S1024x256.Idx) :
    k0_pay2 (F := Ideal) a b x = ∑ k : Fin 2048, a (ix2 (x 0) k) * b (ix3 0 (x 1) k) := by pointwise [k0_pay2]
theorem pay3 (a : FVec Ideal S1024x2048 .bf16) (b : FVec Ideal S1x256x2048 .bf16) (x : S1024x256.Idx) :
    k0_pay3 (F := Ideal) a b x = ∑ k : Fin 2048, a (ix2 (x 0) k) * b (ix3 0 (x 1) k) := by pointwise [k0_pay3]
theorem pay4 (a : FVec Ideal S1024x2048 .bf16) (b : FVec Ideal S1x256x2048 .bf16) (x : S1024x256.Idx) :
    k0_pay4 (F := Ideal) a b x = ∑ k : Fin 2048, a (ix2 (x 0) k) * b (ix3 0 (x 1) k) := by pointwise [k0_pay4]

theorem href (W : FVec Ideal S8x256x2048 .bf16) (D : FVec Ideal S4096x2048 .bf16) (i : S4096x2048.Idx) (e : Fin 8) (f : Fin 256) (h : (i 1).val = 256 * e.val + f.val) :
    val_main_v5 (F := Ideal) W D i = ∑ k : Fin 2048, D (ix2 (i 0) k) * W (ix3 e f k) := by
  pointwise [val_main_v5, val_main_v4, val_main_v2, val_main_v1]
  refine Fin.sum_fin_congr fun k => congrArg₂ (· * ·) ?_ ?_
  · blk_point []
  · blk_point []

theorem final (c : Dev nD) : (dats m 0 c).arrAt 2 (cfgs 0).N
    = val_main_v5 (F := Ideal) (m ((c : Thread nD τ).loc main_arg1)) (m ((c : Thread nD τ).loc main_arg2)) := by
  refine (dats m 0 c).arrAt_eq_of_covers 2 _ (by decide +kernel) fun t _ y => ?_
  blk_simp
  rw [after0_2]; frame_out
  have hN : t.val < 8 := lt_of_lt_of_eq t.isLt N_0
  canon_tiles x h
  case piece0 =>
    have hx : (x 1).val < 256 := (x 1).isLt
    refine (pay4 _ _ x).trans (Eq.trans ?_ (href _ _ _ ⟨t.val % 2 * 4 + 3, by omega⟩ (x 1) (by blk_simp [idx t]; show _ = 256 * (t.val % 2 * 4 + 3) + _; omega)).symm)
    refine Fin.sum_fin_congr fun k => congrArg₂ (· * ·) ?_ ?_
    · blk_point [iblk, V, idx t]
    · blk_point [iblk, V, idx t]
  case piece1 =>
    have hx : (x 1).val < 256 := (x 1).isLt
    refine (pay3 _ _ x).trans (Eq.trans ?_ (href _ _ _ ⟨t.val % 2 * 4 + 2, by omega⟩ (x 1) (by blk_simp [idx t]; show _ = 256 * (t.val % 2 * 4 + 2) + _; omega)).symm)
    refine Fin.sum_fin_congr fun k => congrArg₂ (· * ·) ?_ ?_
    · blk_point [iblk, V, idx t]
    · blk_point [iblk, V, idx t]
  case piece2 =>
    have hx : (x 1).val < 256 := (x 1).isLt
    refine (pay2 _ _ x).trans (Eq.trans ?_ (href _ _ _ ⟨t.val % 2 * 4 + 1, by omega⟩ (x 1) (by blk_simp [idx t]; show _ = 256 * (t.val % 2 * 4 + 1) + _; omega)).symm)
    refine Fin.sum_fin_congr fun k => congrArg₂ (· * ·) ?_ ?_
    · blk_point [iblk, V, idx t]
    · blk_point [iblk, V, idx t]
  case piece3 =>
    have hx : (x 1).val < 256 := (x 1).isLt
    refine (pay1 _ _ x).trans (Eq.trans ?_ (href _ _ _ ⟨t.val % 2 * 4 + 0, by omega⟩ (x 1) (by blk_simp [idx t]; show _ = 256 * (t.val % 2 * 4 + 0) + _; omega)).symm)
    refine Fin.sum_fin_congr fun k => congrArg₂ (· * ·) ?_ ?_
    · blk_point [iblk, V, idx t]
    · blk_point [iblk, V, idx t]

end Cert.Kernel12Ideal.Hand
-- ==== Proof.Ideal.Dkvn.lean ====
module

public import proofs.«01_k».proof.Proof.Gen.Kernel13Ideal.Frame
public import proofs.«01_k».proof.Proof.Gen.Reference13Ideal.Read
public import Idealize.ShloMosaic.Lib.Pipeline.ValueKit
public import proofs.«01_k».proof.Proof.Ideal.Dq

/-! The gradient of the common input of two products: each block the kernel writes is the reference's. -/

@[expose] public section
set_option maxRecDepth 16384
noncomputable section

open Idealize.ShloMosaic Idealize.ShloMosaic.TcCoe Idealize.SL.Sem
open Idealize.ShloMosaic.Pipeline (Dat)

namespace Cert.Kernel13Ideal.Hand

open Cert.Kernel13Ideal Cert.Kernel13Ideal.Gen
open Cert.Reference13Ideal.Read
variable (m : (ℓ : Loc nD τ sig) → Buf (Elt Ideal) ℓ)

theorem idx : ∀ t : Fin cfg0.N, win0_0.index t = ![t.val / 2, 0] ∧ win0_1.index t = ![t.val / 2, 0] ∧ win0_2.index t = ![t.val % 2, 0, 0]
    ∧ win0_3.index t = ![t.val % 2, 0, 0] ∧ win0_4.index t = ![t.val / 2, t.val % 2] :=
  (by decide +kernel : ∀ t : Fin grid0.N, _)

theorem pay0 (a0 a1 : FVec Ideal S1024x2048 .bf16) (b0 b1 : FVec Ideal S1x256x2048 .bf16) (x : S1024x256.Idx) :
    k0_pay3 (F := Ideal) a0 b0 a1 b1 x = (∑ k : Fin 2048, a0 (ix2 (x 0) k) * b0 (ix3 0 (x 1) k)) + ∑ k : Fin 2048, a1 (ix2 (x 0) k) * b1 (ix3 0 (x 1) k) := by pointwise [k0_pay3]
theorem pay1 (a0 a1 : FVec Ideal S1024x2048 .bf16) (b0 b1 : FVec Ideal S1x256x2048 .bf16) (x : S1024x256.Idx) :
    k0_pay4 (F := Ideal) a0 b0 a1 b1 x = (∑ k : Fin 2048, a0 (ix2 (x 0) k) * b0 (ix3 0 (x 1) k)) + ∑ k : Fin 2048, a1 (ix2 (x 0) k) * b1 (ix3 0 (x 1) k) := by pointwise [k0_pay4]
theorem pay2 (a0 a1 : FVec Ideal S1024x2048 .bf16) (b0 b1 : FVec Ideal S1x256x2048 .bf16) (x : S1024x256.Idx) :
    k0_pay1 (F := Ideal) a0 (k0_pay5 b0) a1 b1 x = (∑ k : Fin 2048, a0 (ix2 (x 0) k) * b0 (ix3 0 (x 1) k)) + ∑ k : Fin 2048, a1 (ix2 (x 0) k) * b1 (ix3 0 (x 1) k) := by pointwise [k0_pay1, k0_pay5]
theorem pay3 (a0 a1 : FVec Ideal S1024x2048 .bf16) (b0 b1 : FVec Ideal S1x256x2048 .bf16) (x : S1024x256.Idx) :
    k0_pay2 (F := Ideal) a0 b0 a1 b1 x = (∑ k : Fin 2048, a0 (ix2 (x 0) k) * b0 (ix3 0 (x 1) k)) + ∑ k : Fin 2048, a1 (ix2 (x 0) k) * b1 (ix3 0 (x 1) k) := by pointwise [k0_pay2]

theorem href (W0 W1 : FVec Ideal S8x256x2048 .bf16) (D0 D1 : FVec Ideal S4096x2048 .bf16) (i : S4096x2048.Idx) (e : Fin 8) (f : Fin 256) (h : (i 1).val = 256 * e.val + f.val) :
    val_main_v11 (F := Ideal) W0 W1 D0 D1 i = (∑ k : Fin 2048, D0 (ix2 (i 0) k) * W0 (ix3 e f k)) + ∑ k : Fin 2048, D1 (ix2 (i 0) k) * W1 (ix3 e f k) := by
  pointwise [val_main_v11, val_main_v10, val_main_v9, val_main_v8, val_main_v7, val_main_v5, val_main_v4, val_main_v2, val_main_v1]
  refine (add_comm _ _).trans (congrArg₂ (· + ·) (Fin.sum_fin_congr fun k => congrArg₂ (· * ·) ?_ ?_) (Fin.sum_fin_congr fun k => congrArg₂ (· * ·) ?_ ?_))
  · blk_point []
  · blk_point []
  · blk_point []
  · blk_point []

theorem final (c : Dev nD) : (dats m 0 c).arrAt 4 (cfgs 0).N
    = val_main_v11 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 4 _ (by decide +kernel) fun t _ y => ?_
  blk_simp
  rw [after0_4]; frame_out
  have hN : t.val < 8 := lt_of_lt_of_eq t.isLt N_0
  canon_tiles x h
  case piece0 =>
    have hx : (x 1).val < 256 := (x 1).isLt
    refine (pay3 _ _ _ _ x).trans (Eq.trans ?_ (href _ _ _ _ _ ⟨t.val % 2 * 4 + 3, by omega⟩ (x 1) (by blk_simp [idx t]; show _ = 256 * (t.val % 2 * 4 + 3) + _; omega)).symm)
    refine congrArg₂ (· + ·) (Fin.sum_fin_congr fun k => congrArg₂ (· * ·) ?_ ?_) (Fin.sum_fin_congr fun k => congrArg₂ (· * ·) ?_ ?_)
    · blk_point [iblk, V, idx t]
    · blk_point [iblk, V, idx t]
    · blk_point [iblk, V, idx t]
    · blk_point [iblk, V, idx t]
  case piece1 =>
    have hx : (x 1).val < 256 := (x 1).isLt
    refine (pay2 _ _ _ _ x).trans (Eq.trans ?_ (href _ _ _ _ _ ⟨t.val % 2 * 4 + 2, by omega⟩ (x 1) (by blk_simp [idx t]; show _ = 256 * (t.val % 2 * 4 + 2) + _; omega)).symm)
    refine congrArg₂ (· + ·) (Fin.sum_fin_congr fun k => congrArg₂ (· * ·) ?_ ?_) (Fin.sum_fin_congr fun k => congrArg₂ (· * ·) ?_ ?_)
    · blk_point [iblk, V, idx t]
    · blk_point [iblk, V, idx t]
    · blk_point [iblk, V, idx t]
    · blk_point [iblk, V, idx t]
  case piece2 =>
    have hx : (x 1).val < 256 := (x 1).isLt
    refine (pay1 _ _ _ _ x).trans (Eq.trans ?_ (href _ _ _ _ _ ⟨t.val % 2 * 4 + 1, by omega⟩ (x 1) (by blk_simp [idx t]; show _ = 256 * (t.val % 2 * 4 + 1) + _; omega)).symm)
    refine congrArg₂ (· + ·) (Fin.sum_fin_congr fun k => congrArg₂ (· * ·) ?_ ?_) (Fin.sum_fin_congr fun k => congrArg₂ (· * ·) ?_ ?_)
    · blk_point [iblk, V, idx t]
    · blk_point [iblk, V, idx t]
    · blk_point [iblk, V, idx t]
    · blk_point [iblk, V, idx t]
  case piece3 =>
    have hx : (x 1).val < 256 := (x 1).isLt
    refine (pay0 _ _ _ _ x).trans (Eq.trans ?_ (href _ _ _ _ _ ⟨t.val % 2 * 4 + 0, by omega⟩ (x 1) (by blk_simp [idx t]; show _ = 256 * (t.val % 2 * 4 + 0) + _; omega)).symm)
    refine congrArg₂ (· + ·) (Fin.sum_fin_congr fun k => congrArg₂ (· * ·) ?_ ?_) (Fin.sum_fin_congr fun k => congrArg₂ (· * ·) ?_ ?_)
    · blk_point [iblk, V, idx t]
    · blk_point [iblk, V, idx t]
    · blk_point [iblk, V, idx t]
    · blk_point [iblk, V, idx t]

end Cert.Kernel13Ideal.Hand
-- ==== Proof.Ideal.Dw1.lean ====
module

public import proofs.«01_k».proof.Proof.Gen.Kernel14Ideal.Frame
public import proofs.«01_k».proof.Proof.Gen.Reference14Ideal.Read
public import Idealize.ShloMosaic.Lib.Pipeline.ValueKit
public import proofs.«01_k».proof.Proof.Ideal.Dkvn

/-! The gradient of the convolution layer's first weight: the sums over the blocks of tokens are the reference's sums over all tokens. -/

@[expose] public section
set_option maxRecDepth 16384
noncomputable section

open Idealize.ShloMosaic Idealize.ShloMosaic.TcCoe Idealize.SL.Sem
open Idealize.ShloMosaic.Pipeline (Dat)

namespace Cert.Kernel14Ideal.Hand

open Cert.Kernel14Ideal Cert.Kernel14Ideal.Gen
open Cert.Reference14Ideal.Read
variable (m : (ℓ : Loc nD τ sig) → Buf (Elt Ideal) ℓ)

theorem idx : ∀ t : Fin cfg0.N, win0_0.index t = ![t.val % 4, 0] ∧ win0_1.index t = ![t.val % 4, t.val / 4]
    ∧ win0_2.index t = ![t.val / 4 % 2 * 4 + t.val / 8, 0, 0] :=
  (by decide +kernel : ∀ t : Fin grid0.N, _)

theorem hzero (j) : k0_pay1 (F := Ideal) j = 0 := by pointwise [k0_pay1]

theorem hpay (acc : FVec Ideal S2048x512 .f32) (x0 : FVec Ideal S1024x2048 .bf16) (x1 : FVec Ideal S1024x512 .bf16) (j : S2048x512.Idx) :
    k0_pay2 (F := Ideal) acc x0 x1 j = acc j + ∑ k : Fin 1024, x0 (ix2 k (j 0)) * x1 (ix2 k (j 1)) := by
  pointwise [k0_pay2]

theorem href (X0 : FVec Ideal S4096x2048 .bf16) (X2 : FVec Ideal S4096x4096 .bf16) (i : S8x2048x512.Idx) (e : Fin 4096)
    (he : e.val = 512 * ((i 0).val % 4 * 2 + (i 0).val / 4) + (i 2).val) :
    val_main_v13 (F := Ideal) X0 X2 i = ∑ k : Fin 4096, X0 (ix2 k (i 1)) * X2 (ix2 k e) := by
  pointwise [val_main_v13, val_main_v12, val_main_v11, val_main_v10, val_main_v9, val_main_v8, val_main_v7, val_main_v6, val_main_v5, val_main_v3]
  refine Fin.sum_fin_congr fun k => ?_
  refine (mul_comm _ _).trans ?_
  blk_point []

theorem scr (c : Dev nD) (t : Fin cfg0.N) (hr : t.val % 4 = 3) (i : S2048x512.Idx) :
    (outsAt0 m c t.val t.isLt).2 i = ∑ s : Fin 4, ∑ k : Fin 1024,
      (show FVec Ideal S1024x2048 .bf16 from iblk m c 0 ⟨4 * (t.val / 4) + s.val, Pipeline.run_point_lt_of_flush t hr s⟩) (ix2 k (i 0))
        * (show FVec Ideal S1024x512 .bf16 from iblk m c 1 ⟨4 * (t.val / 4) + s.val, Pipeline.run_point_lt_of_flush t hr s⟩) (ix2 k (i 1)) := by
  refine (Pipeline.eq_sum_fin_of_reset_step_apply_of_flush (fun n h => (outsAt0 m c n h).2) 4 (fun _ => 0)
    (fun p j => ∑ k : Fin 1024, (show FVec Ideal S1024x2048 .bf16 from iblk m c 0 p) (ix2 k (j 0)) * (show FVec Ideal S1024x512 .bf16 from iblk m c 1 p) (ix2 k (j 1)))
    (fun t h j => ?_) (fun t h j => ?_) t hr i).trans (zero_add _)
  · rw [outsAt0_A m c t h (by omega)]; frame_out; rw [hpay, hzero]
  · by_cases h1 : t.val % 4 = 3
    · rw [outsAt0_C m c t h h1]; frame_out; rw [hpay]; exact congrArg (· + _) (congrFun (Memref.IsWhole.read_unread _ _) j)
    · rw [outsAt0_B m c t h h1]; frame_out; rw [hpay]; exact congrArg (· + _) (congrFun (Memref.IsWhole.read_unread _ _) j)

theorem out (c : Dev nD) (t : Fin cfg0.N) (hr : t.val % 4 = 3) (y : S1x2048x512.Idx) :
    (outsAt0 m c t.val t.isLt).1 y = k0_pay3 (F := Ideal) (outsAt0 m c t.val t.isLt).2 y := by
  rw [outsAt0_C m c t (by omega) hr]; frame_out

theorem final (c : Dev nD) : (dats m 0 c).arrAt 2 (cfgs 0).N
    = val_main_v13 (F := Ideal) (m ((c : Thread nD τ).loc main_arg0)) (m ((c : Thread nD τ).loc main_arg2)) := by
  refine (dats m 0 c).arrAt_eq_of_covers 2 _ (by decide +kernel) fun t hf y => ?_
  have hr : t.val % 4 = 3 := (flush0_2 t).mp hf
  blk_simp
  rw [after0_2]
  refine (out m c t hr y).trans ?_
  have hN : t.val < 32 := lt_of_lt_of_eq t.isLt N_0
  have hy : (y 2).val < 512 := (y 2).isLt
  rw [href _ _ _ ⟨512 * (t.val / 4) + (y 2).val, by omega⟩ (by blk_simp [idx t]; show 512 * (t.val / 4) + (y 2).val = _; have h8 : t.val / 8 = t.val / 4 / 2 := (Nat.div_div_eq_div_mul _ 4 2).symm; omega)]
  pointwise [k0_pay3]
  refine (scr m c t hr _).trans ?_
  refine Fin.sum_mul_add_congr fun s k hl => ?_
  blk_point [iblk, V, idx t, idx ⟨_, Pipeline.run_point_lt_of_flush t hr s⟩]

end Cert.Kernel14Ideal.Hand
-- ==== Proof.Ideal.Dn1.lean ====
module

public import proofs.«01_k».proof.Proof.Gen.Kernel15Ideal.Frame
public import proofs.«01_k».proof.Proof.Gen.Reference15Ideal.Read
public import Idealize.ShloMosaic.Lib.Pipeline.ValueKit
public import proofs.«01_k».proof.Proof.Ideal.Dw1

/-! The gradient of the input of the convolution layer's first product: the sums over the blocks of lanes are the reference's sums over all lanes. -/

@[expose] public section
set_option maxRecDepth 16384
noncomputable section

open Idealize.ShloMosaic Idealize.ShloMosaic.TcCoe Idealize.SL.Sem
open Idealize.ShloMosaic.Pipeline (Dat)

namespace Cert.Kernel15Ideal.Hand

open Cert.Kernel15Ideal Cert.Kernel15Ideal.Gen
open Cert.Reference15Ideal.Read
variable (m : (ℓ : Loc nD τ sig) → Buf (Elt Ideal) ℓ)

theorem idx : ∀ t : Fin cfg0.N, win0_0.index t = ![t.val / 8, t.val % 8] ∧ win0_1.index t = ![t.val % 8, 0, 0] ∧ win0_2.index t = ![t.val / 8, 0] :=
  (by decide +kernel : ∀ t : Fin grid0.N, _)

theorem hzero (j) : k0_pay1 (F := Ideal) j = 0 := by pointwise [k0_pay1]

theorem hpay (acc : FVec Ideal S1024x2048 .f32) (x0 : FVec Ideal S1024x512 .bf16) (x1 : FVec Ideal S1x2048x512 .bf16) (j : S1024x2048.Idx) :
    k0_pay2 (F := Ideal) acc x0 x1 j = acc j + ∑ k : Fin 512, x0 (ix2 (j 0) k) * x1 (ix3 0 (j 1) k) := by
  pointwise [k0_pay2]

theorem href (W : FVec Ideal S8x2048x512 .bf16) (X : FVec Ideal S4096x4096 .bf16) (i : S4096x2048.Idx) :
    val_main_v6 (F := Ideal) W X i = ∑ s : Fin 8, ∑ k : Fin 512, X (ix2 (i 0) ⟨512 * s.val + k.val, by omega⟩) * W (ix3 s (i 1) k) := by
  pointwise [val_main_v6, val_main_v5, val_main_v3, val_main_v2, val_main_v1]
  symm
  refine Fin.sum_mul_add_congr fun s k hl => ?_
  blk_point []

theorem scr (c : Dev nD) (t : Fin cfg0.N) (hr : t.val % 8 = 7) (i : S1024x2048.Idx) :
    (outsAt0 m c t.val t.isLt) i = ∑ s : Fin 8, ∑ k : Fin 512,
      (show FVec Ideal S1024x512 .bf16 from iblk m c 0 ⟨8 * (t.val / 8) + s.val, Pipeline.run_point_lt_of_flush t hr s⟩) (ix2 (i 0) k)
        * (show FVec Ideal S1x2048x512 .bf16 from iblk m c 1 ⟨8 * (t.val / 8) + s.val, Pipeline.run_point_lt_of_flush t hr s⟩) (ix3 0 (i 1) k) := by
  refine (Pipeline.eq_sum_fin_of_reset_step_apply_of_flush (fun n h => outsAt0 m c n h) 8 (fun _ => 0)
    (fun p j => ∑ k : Fin 512, (show FVec Ideal S1024x512 .bf16 from iblk m c 0 p) (ix2 (j 0) k) * (show FVec Ideal S1x2048x512 .bf16 from iblk m c 1 p) (ix3 0 (j 1) k))
    (fun t h j => ?_) (fun t h j => ?_) t hr i).trans (zero_add _)
  · rw [outsAt0_A m c t h]; frame_out; rw [hpay, hzero]
  · rw [outsAt0_B m c t h]; frame_out; rw [hpay]

theorem final (c : Dev nD) : (dats m 0 c).arrAt 2 (cfgs 0).N
    = val_main_v6 (F := Ideal) (m ((c : Thread nD τ).loc main_arg1)) (m ((c : Thread nD τ).loc main_arg2)) := by
  refine (dats m 0 c).arrAt_eq_of_covers 2 _ (by decide +kernel) fun t hf y => ?_
  have hr : t.val % 8 = 7 := (flush0_2 t).mp hf
  blk_simp
  rw [after0_2, href]
  refine (scr m c t hr y).trans ?_
  refine Fin.sum_fin_congr fun s => Fin.sum_fin_congr fun k => ?_
  blk_point [iblk, V, idx t, idx ⟨_, Pipeline.run_point_lt_of_flush t hr s⟩]

end Cert.Kernel15Ideal.Hand
-- ==== Proof.Ideal.Glu.lean ====
module

public import proofs.«01_k».proof.Proof.Gen.Kernel16Ideal.Frame
public import proofs.«01_k».proof.Proof.Gen.Reference16Ideal.Read
public import Idealize.ShloMosaic.Lib.Pipeline.ValueKit
public import proofs.«01_k».proof.Proof.Ideal.Dn1

/-! The convolution layer's first product and bias, in its two halves, and the gated half: each block the kernel writes is the reference's. -/

@[expose] public section
set_option maxRecDepth 16384
noncomputable section

open Idealize.ShloMosaic Idealize.ShloMosaic.TcCoe Idealize.SL.Sem
open Idealize.ShloMosaic.Pipeline (Dat)

namespace Cert.Kernel16Ideal.Hand

open Cert.Kernel16Ideal Cert.Kernel16Ideal.Gen
open Cert.Reference16Ideal.Read
variable (m : (ℓ : Loc nD τ sig) → Buf (Elt Ideal) ℓ)

theorem idx : ∀ t : Fin cfg0.N, win0_0.index t = ![t.val / 4, 0] ∧ win0_1.index t = ![t.val % 4, 0, 0] ∧ win0_2.index t = ![t.val % 4 + 4, 0, 0]
    ∧ win0_3.index t = ![0, t.val % 4] ∧ win0_4.index t = ![0, t.val % 4 + 4] ∧ win0_5.index t = ![t.val / 4, t.val % 4]
    ∧ win0_6.index t = ![t.val / 4, t.val % 4] ∧ win0_7.index t = ![t.val / 4, t.val % 4] :=
  (by decide +kernel : ∀ t : Fin grid0.N, _)

theorem point5 (c : Dev nD) (t : Fin cfg0.N) (y) : k0_pay1 (F := Ideal) (iblk m c 0 t) (iblk m c 1 t) (iblk m c 3 t) y
    = val_main_v7 (F := Ideal) (m ((c : Thread nD τ).loc main_arg0)) (m ((c : Thread nD τ).loc main_arg1)) (m ((c : Thread nD τ).loc main_arg2)) (((cfg0.win 5).blk t).view.emb y) := by
  pointwise [k0_pay1, val_main_v7, val_main_v6, val_main_v5, val_main_v4, val_main_v3, val_main_v2, val_main_v1, val_main_v0]
  blk_point [iblk, V, idx t]

theorem point6 (c : Dev nD) (t : Fin cfg0.N) (y) : k0_pay2 (F := Ideal) (iblk m c 0 t) (iblk m c 2 t) (iblk m c 4 t) y
    = val_main_v8 (F := Ideal) (m ((c : Thread nD τ).loc main_arg0)) (m ((c : Thread nD τ).loc main_arg1)) (m ((c : Thread nD τ).loc main_arg2)) (((cfg0.win 6).blk t).view.emb y) := by
  pointwise [k0_pay2, val_main_v8, val_main_v6, val_main_v5, val_main_v4, val_main_v3, val_main_v2, val_main_v1, val_main_v0]
  blk_point [iblk, V, idx t]

theorem point7 (c : Dev nD) (t : Fin cfg0.N) (y) : k0_pay3 (F := Ideal) (iblk m c 0 t) (iblk m c 1 t) (iblk m c 3 t) (iblk m c 2 t) (iblk m c 4 t) y
    = val_main_v15 (F := Ideal) (m ((c : Thread nD τ).loc main_arg0)) (m ((c : Thread nD τ).loc main_arg1)) (m ((c : Thread nD τ).loc main_arg2)) (((cfg0.win 7).blk t).view.emb y) := by
  pointwise [k0_pay3, k0_pay1, k0_pay2, val_main_v15, val_main_v14, val_main_v13, val_main_cst_0, val_main_v12, val_main_v11, val_main_cst, val_main_v10, val_main_v9, val_main_v8, val_main_v7, val_main_v6, val_main_v5, val_main_v4, val_main_v3, val_main_v2, val_main_v1, val_main_v0]
  rw [zero_sub]
  blk_point [iblk, V, idx t]

theorem final5 (c : Dev nD) : (dats m 0 c).arrAt 5 (cfgs 0).N
    = val_main_v7 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point5 m c t y

theorem final6 (c : Dev nD) : (dats m 0 c).arrAt 6 (cfgs 0).N
    = val_main_v8 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  exact point6 m c t y

theorem final7 (c : Dev nD) : (dats m 0 c).arrAt 7 (cfgs 0).N
    = val_main_v15 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  exact point7 m c t y

end Cert.Kernel16Ideal.Hand
-- ==== Proof.Ideal.Products.lean ====
module

public import proofs.«01_k».proof.Defs
public import proofs.«01_k».proof.Proof.Ideal.Algebraic
public import proofs.«01_k».proof.Proof.Gen.Kernel2Ideal.Value
public import proofs.«01_k».proof.Proof.Gen.Reference2Ideal.Run
public import proofs.«01_k».proof.Proof.Ideal.Dw
public import proofs.«01_k».proof.Proof.Gen.Kernel3Ideal.Value
public import proofs.«01_k».proof.Proof.Gen.Reference3Ideal.Run
public import proofs.«01_k».proof.Proof.Ideal.Dwd
public import proofs.«01_k».proof.Proof.Gen.Kernel4Ideal.Value
public import proofs.«01_k».proof.Proof.Gen.Reference4Ideal.Run
public import proofs.«01_k».proof.Proof.Ideal.Swiglu
public import proofs.«01_k».proof.Proof.Gen.Kernel5Ideal.Value
public import proofs.«01_k».proof.Proof.Gen.Reference5Ideal.Run
public import proofs.«01_k».proof.Proof.Ideal.Down
public import proofs.«01_k».proof.Proof.Gen.Kernel6Ideal.Value
public import proofs.«01_k».proof.Proof.Gen.Reference6Ideal.Run
public import proofs.«01_k».proof.Proof.Ideal.Dact
public import proofs.«01_k».proof.Proof.Gen.Kernel7Ideal.Value
public import proofs.«01_k».proof.Proof.Gen.Reference7Ideal.Run
public import proofs.«01_k».proof.Proof.Ideal.Dwgu
public import proofs.«01_k».proof.Proof.Gen.Kernel8Ideal.Value
public import proofs.«01_k».proof.Proof.Gen.Reference8Ideal.Run
public import proofs.«01_k».proof.Proof.Ideal.Dn
public import proofs.«01_k».proof.Proof.Gen.Kernel9Ideal.Value
public import proofs.«01_k».proof.Proof.Gen.Reference9Ideal.Run
public import proofs.«01_k».proof.Proof.Ideal.Rms
public import proofs.«01_k».proof.Proof.Gen.Kernel10Ideal.Value
public import proofs.«01_k».proof.Proof.Gen.Reference10Ideal.Run
public import proofs.«01_k».proof.Proof.Ideal.Wo
public import proofs.«01_k».proof.Proof.Gen.Kernel11Ideal.Value
public import proofs.«01_k».proof.Proof.Gen.Reference11Ideal.Run
public import proofs.«01_k».proof.Proof.Ideal.W2
public import proofs.«01_k».proof.Proof.Gen.Kernel12Ideal.Value
public import proofs.«01_k».proof.Proof.Gen.Reference12Ideal.Run
public import proofs.«01_k».proof.Proof.Ideal.Dq
public import proofs.«01_k».proof.Proof.Gen.Kernel13Ideal.Value
public import proofs.«01_k».proof.Proof.Gen.Reference13Ideal.Run
public import proofs.«01_k».proof.Proof.Ideal.Dkvn
public import proofs.«01_k».proof.Proof.Gen.Kernel14Ideal.Value
public import proofs.«01_k».proof.Proof.Gen.Reference14Ideal.Run
public import proofs.«01_k».proof.Proof.Ideal.Dw1
public import proofs.«01_k».proof.Proof.Gen.Kernel15Ideal.Value
public import proofs.«01_k».proof.Proof.Gen.Reference15Ideal.Run
public import proofs.«01_k».proof.Proof.Ideal.Dn1
public import proofs.«01_k».proof.Proof.Gen.Kernel16Ideal.Value
public import proofs.«01_k».proof.Proof.Gen.Reference16Ideal.Run
public import proofs.«01_k».proof.Proof.Ideal.Glu

/-! The value claims of the further calls: what each kernel writes is the reference's array. -/

@[expose] public section
set_option maxRecDepth 16384
noncomputable section

namespace Cert.Hand

open Idealize.ShloMosaic Idealize.SL.Sem
open Idealize.ShloMosaic.TcCoe

theorem algebraic2 : Cert.algebraic_Kernel2Ideal_Reference2Ideal (hKernel2Ideal := Cert.Kernel2Ideal.Gen.facts) (hReference2Ideal := Cert.Reference2Ideal.Gen.facts) := by
  intro m g m' g' _ hargs
  refine ⟨fun c => Cert.Reference2Ideal.Read.val_main_v9 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)), ?_, ?_⟩
  · exact (θ_run Cert.Kernel2Ideal.defs _ _).mono (fun r h c => ⟨(h c).1.trans (Cert.Kernel2Ideal.Hand.final m c), (h c).2⟩) (Cert.Kernel2Ideal.Value.run_blocks m g)
  · refine (θ_run Cert.Reference2Ideal.defs _ _).mono (fun r h c => ?_) (Cert.Reference2Ideal.Value.run m' g')
    obtain ⟨a0, a1, a2⟩ := hargs c
    exact ⟨(h c).1.trans ((Cert.Reference2Ideal.Read.val_main_v9_eq _ _).trans (congrArg₂ (Cert.Reference2Ideal.Read.val_main_v9 (F := Ideal)) a0 a2)), (h c).2⟩

theorem frame_reference2 : Cert.quiescent_Reference2Ideal (hReference2Ideal := Cert.Reference2Ideal.Gen.facts) := fun m g _ =>
  (θ_run Cert.Reference2Ideal.defs _ _).mono (fun r h => ⟨fun c => (h c).2, Idealize.ShloMosaic.sem_eq_zero_of_no_sems (by decide) r.2⟩)
    (Cert.Reference2Ideal.Value.run m g)

theorem algebraic3 : Cert.algebraic_Kernel3Ideal_Reference3Ideal (hKernel3Ideal := Cert.Kernel3Ideal.Gen.facts) (hReference3Ideal := Cert.Reference3Ideal.Gen.facts) := by
  intro m g m' g' _ hargs
  refine ⟨fun c => Cert.Reference3Ideal.Read.val_main_v12 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg2)), ?_, ?_⟩
  · exact (θ_run Cert.Kernel3Ideal.defs _ _).mono (fun r h c => ⟨(h c).1.trans (Cert.Kernel3Ideal.Hand.final m c), (h c).2⟩) (Cert.Kernel3Ideal.Value.run_blocks m g)
  · refine (θ_run Cert.Reference3Ideal.defs _ _).mono (fun r h c => ?_) (Cert.Reference3Ideal.Value.run m' g')
    obtain ⟨a0, a1, a2⟩ := hargs c
    exact ⟨(h c).1.trans ((Cert.Reference3Ideal.Read.val_main_v12_eq _ _).trans (congrArg₂ (Cert.Reference3Ideal.Read.val_main_v12 (F := Ideal)) a0 a2)), (h c).2⟩

theorem frame_reference3 : Cert.quiescent_Reference3Ideal (hReference3Ideal := Cert.Reference3Ideal.Gen.facts) := fun m g _ =>
  (θ_run Cert.Reference3Ideal.defs _ _).mono (fun r h => ⟨fun c => (h c).2, Idealize.ShloMosaic.sem_eq_zero_of_no_sems (by decide) r.2⟩)
    (Cert.Reference3Ideal.Value.run m g)

theorem algebraic4 : Cert.algebraic_Kernel4Ideal_Reference4Ideal (hKernel4Ideal := Cert.Kernel4Ideal.Gen.facts) (hReference4Ideal := Cert.Reference4Ideal.Gen.facts) := by
  intro m g m' g' _ hargs
  refine ⟨fun c => Cert.Reference4Ideal.Read.val_main_v12 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), fun c => Cert.Reference4Ideal.Read.val_main_v15 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)), fun c => Cert.Reference4Ideal.Read.val_main_v20 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)), ?_, ?_⟩
  · exact (θ_run Cert.Kernel4Ideal.defs _ _).mono (fun r h c => ⟨(h c).1.trans (Cert.Kernel4Ideal.Hand.final3 m c), (h c).2.1.trans (Cert.Kernel4Ideal.Hand.final4 m c), (h c).2.2.1.trans (Cert.Kernel4Ideal.Hand.final5 m c), (h c).2.2.2⟩) (Cert.Kernel4Ideal.Value.run_blocks m g)
  · refine (θ_run Cert.Reference4Ideal.defs _ _).mono (fun r h c => ?_) (Cert.Reference4Ideal.Value.run m' g')
    obtain ⟨a0, a1, a2⟩ := hargs c
    exact ⟨(h c).1.trans ((Cert.Reference4Ideal.Read.val_main_v12_eq _ _).trans (congrArg₂ (Cert.Reference4Ideal.Read.val_main_v12 (F := Ideal)) a0 a1)), (h c).2.1.trans ((Cert.Reference4Ideal.Read.val_main_v15_eq _ _).trans (congrArg₂ (Cert.Reference4Ideal.Read.val_main_v15 (F := Ideal)) a0 a2)), (h c).2.2.1.trans ((Cert.Reference4Ideal.Read.val_main_v20_eq _ _ _).trans (congr (congrArg₂ (Cert.Reference4Ideal.Read.val_main_v20 (F := Ideal)) a0 a1) a2)), (h c).2.2.2⟩

theorem frame_reference4 : Cert.quiescent_Reference4Ideal (hReference4Ideal := Cert.Reference4Ideal.Gen.facts) := fun m g _ =>
  (θ_run Cert.Reference4Ideal.defs _ _).mono (fun r h => ⟨fun c => (h c).2.2.2, Idealize.ShloMosaic.sem_eq_zero_of_no_sems (by decide) r.2⟩)
    (Cert.Reference4Ideal.Value.run m g)

theorem algebraic5 : Cert.algebraic_Kernel5Ideal_Reference5Ideal (hKernel5Ideal := Cert.Kernel5Ideal.Gen.facts) (hReference5Ideal := Cert.Reference5Ideal.Gen.facts) := by
  intro m g m' g' _ hargs
  refine ⟨fun c => Cert.Reference5Ideal.Read.val_main_v6 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)), ?_, ?_⟩
  · exact (θ_run Cert.Kernel5Ideal.defs _ _).mono (fun r h c => ⟨(h c).1.trans (Cert.Kernel5Ideal.Hand.final m c), (h c).2⟩) (Cert.Kernel5Ideal.Value.run_blocks m g)
  · refine (θ_run Cert.Reference5Ideal.defs _ _).mono (fun r h c => ?_) (Cert.Reference5Ideal.Value.run m' g')
    obtain ⟨a0, a1, a2⟩ := hargs c
    exact ⟨(h c).1.trans ((Cert.Reference5Ideal.Read.val_main_v6_eq _ _ _).trans (congr (congrArg₂ (Cert.Reference5Ideal.Read.val_main_v6 (F := Ideal)) a0 a1) a2)), (h c).2⟩

theorem frame_reference5 : Cert.quiescent_Reference5Ideal (hReference5Ideal := Cert.Reference5Ideal.Gen.facts) := fun m g _ =>
  (θ_run Cert.Reference5Ideal.defs _ _).mono (fun r h => ⟨fun c => (h c).2, Idealize.ShloMosaic.sem_eq_zero_of_no_sems (by decide) r.2⟩)
    (Cert.Reference5Ideal.Value.run m g)

/-- The side conditions of the precondition's operations. -/
theorem facts_finite6 : Cert.Pre_finite6.Facts := ⟨by decide, by decide, by decide, by decide⟩

theorem algebraic6 : Cert.algebraic_Kernel6Ideal_Reference6Ideal_pre_finite6 (hKernel6Ideal := Cert.Kernel6Ideal.Gen.facts)
    (hReference6Ideal := Cert.Reference6Ideal.Gen.facts) (hPre_finite6 := facts_finite6) := by
  intro m g m' g' hpre hargs
  have p0 : ∀ c : Dev Cert.Kernel6Ideal.nD, Cert.ReferenceIdeal.Hand.IsReal (S := Cert.Kernel6Ideal.S4096x2048) (m ((c.tc : Thread Cert.Kernel6Ideal.nD Cert.Kernel6Ideal.τ).loc Cert.Kernel6Ideal.main_arg0)) := fun c => by
    obtain ⟨h0, h1, h2, h3⟩ := hpre c
    unfold Cert.Pre_finite6.fn at h0
    exact fun i => real_of_lt Cert.ReferenceIdeal.Hand.inf32 (congrFun h0 i)
  have p1 : ∀ c : Dev Cert.Kernel6Ideal.nD, Cert.ReferenceIdeal.Hand.IsReal (S := Cert.Kernel6Ideal.S8x704x2048) (m ((c.tc : Thread Cert.Kernel6Ideal.nD Cert.Kernel6Ideal.τ).loc Cert.Kernel6Ideal.main_arg1)) := fun c => by
    obtain ⟨h0, h1, h2, h3⟩ := hpre c
    unfold Cert.Pre_finite6.fn at h1
    exact fun i => real_of_lt Cert.ReferenceIdeal.Hand.inf32 (congrFun h1 i)
  have p2 : ∀ c : Dev Cert.Kernel6Ideal.nD, Cert.ReferenceIdeal.Hand.IsReal (S := Cert.Kernel6Ideal.S8x4096x704) (m ((c.tc : Thread Cert.Kernel6Ideal.nD Cert.Kernel6Ideal.τ).loc Cert.Kernel6Ideal.main_arg2)) := fun c => by
    obtain ⟨h0, h1, h2, h3⟩ := hpre c
    unfold Cert.Pre_finite6.fn at h2
    exact fun i => real_of_lt Cert.ReferenceIdeal.Hand.inf32 (congrFun h2 i)
  have p3 : ∀ c : Dev Cert.Kernel6Ideal.nD, Cert.ReferenceIdeal.Hand.IsReal (S := Cert.Kernel6Ideal.S8x4096x704) (m ((c.tc : Thread Cert.Kernel6Ideal.nD Cert.Kernel6Ideal.τ).loc Cert.Kernel6Ideal.main_arg3)) := fun c => by
    obtain ⟨h0, h1, h2, h3⟩ := hpre c
    unfold Cert.Pre_finite6.fn at h3
    exact fun i => real_of_lt Cert.ReferenceIdeal.Hand.inf32 (congrFun h3 i)
  refine ⟨fun c => Cert.Reference6Ideal.Read.val_main_v18 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)), fun c => Cert.Reference6Ideal.Read.val_main_v21 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), ?_, ?_⟩
  · exact (θ_run Cert.Kernel6Ideal.defs _ _).mono (fun r h c => ⟨(h c).1.trans (Cert.Kernel6Ideal.Hand.final4 m p0 p1 p2 p3 c), (h c).2.1.trans (Cert.Kernel6Ideal.Hand.final5 m c), (h c).2.2⟩) (Cert.Kernel6Ideal.Value.run_blocks m g)
  · refine (θ_run Cert.Reference6Ideal.defs _ _).mono (fun r h c => ?_) (Cert.Reference6Ideal.Value.run m' g')
    obtain ⟨a0, a1, a2, a3⟩ := hargs c
    exact ⟨(h c).1.trans ((Cert.Reference6Ideal.Read.val_main_v18_eq _ _ _ _).trans (congr (congr (congrArg₂ (Cert.Reference6Ideal.Read.val_main_v18 (F := Ideal)) a0 a1) a2) a3)),
      (h c).2.1.trans ((Cert.Reference6Ideal.Read.val_main_v21_eq _ _ _).trans (congr (congrArg₂ (Cert.Reference6Ideal.Read.val_main_v21 (F := Ideal)) a0 a1) a2)), (h c).2.2⟩

theorem frame_reference6 : Cert.quiescent_Reference6Ideal (hReference6Ideal := Cert.Reference6Ideal.Gen.facts) := fun m g _ =>
  (θ_run Cert.Reference6Ideal.defs _ _).mono (fun r h => ⟨fun c => (h c).2.2, Idealize.ShloMosaic.sem_eq_zero_of_no_sems (by decide) r.2⟩)
    (Cert.Reference6Ideal.Value.run m g)

theorem algebraic7 : Cert.algebraic_Kernel7Ideal_Reference7Ideal (hKernel7Ideal := Cert.Kernel7Ideal.Gen.facts) (hReference7Ideal := Cert.Reference7Ideal.Gen.facts) := by
  intro m g m' g' _ hargs
  refine ⟨fun c => Cert.Reference7Ideal.Read.val_main_v24 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg3)), fun c => Cert.Reference7Ideal.Read.val_main_v29 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg4)), ?_, ?_⟩
  · exact (θ_run Cert.Kernel7Ideal.defs _ _).mono (fun r h c => ⟨(h c).1.trans (Cert.Kernel7Ideal.Hand.final3 m c), (h c).2.1.trans (Cert.Kernel7Ideal.Hand.final4 m c), (h c).2.2⟩) (Cert.Kernel7Ideal.Value.run_blocks m g)
  · refine (θ_run Cert.Reference7Ideal.defs _ _).mono (fun r h c => ?_) (Cert.Reference7Ideal.Value.run m' g')
    obtain ⟨a0, a1, a2, a3, a4⟩ := hargs c
    exact ⟨(h c).1.trans ((Cert.Reference7Ideal.Read.val_main_v24_eq _ _).trans (congrArg₂ (Cert.Reference7Ideal.Read.val_main_v24 (F := Ideal)) a0 a3)), (h c).2.1.trans ((Cert.Reference7Ideal.Read.val_main_v29_eq _ _).trans (congrArg₂ (Cert.Reference7Ideal.Read.val_main_v29 (F := Ideal)) a0 a4)), (h c).2.2⟩

theorem frame_reference7 : Cert.quiescent_Reference7Ideal (hReference7Ideal := Cert.Reference7Ideal.Gen.facts) := fun m g _ =>
  (θ_run Cert.Reference7Ideal.defs _ _).mono (fun r h => ⟨fun c => (h c).2.2, Idealize.ShloMosaic.sem_eq_zero_of_no_sems (by decide) r.2⟩)
    (Cert.Reference7Ideal.Value.run m g)

theorem algebraic8 : Cert.algebraic_Kernel8Ideal_Reference8Ideal (hKernel8Ideal := Cert.Kernel8Ideal.Gen.facts) (hReference8Ideal := Cert.Reference8Ideal.Gen.facts) := by
  intro m g m' g' _ hargs
  refine ⟨fun c => Cert.Reference8Ideal.Read.val_main_v17 (F := Ideal) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)), ?_, ?_⟩
  · exact (θ_run Cert.Kernel8Ideal.defs _ _).mono (fun r h c => ⟨(h c).1.trans (Cert.Kernel8Ideal.Hand.final m c), (h c).2⟩) (Cert.Kernel8Ideal.Value.run_blocks m g)
  · refine (θ_run Cert.Reference8Ideal.defs _ _).mono (fun r h c => ?_) (Cert.Reference8Ideal.Value.run m' g')
    obtain ⟨a0, a1, a2, a3, a4⟩ := hargs c
    exact ⟨(h c).1.trans ((Cert.Reference8Ideal.Read.val_main_v17_eq _ _ _ _).trans (congr (congr (congrArg₂ (Cert.Reference8Ideal.Read.val_main_v17 (F := Ideal)) a1 a2) a3) a4)), (h c).2⟩

theorem frame_reference8 : Cert.quiescent_Reference8Ideal (hReference8Ideal := Cert.Reference8Ideal.Gen.facts) := fun m g _ =>
  (θ_run Cert.Reference8Ideal.defs _ _).mono (fun r h => ⟨fun c => (h c).2, Idealize.ShloMosaic.sem_eq_zero_of_no_sems (by decide) r.2⟩)
    (Cert.Reference8Ideal.Value.run m g)

theorem algebraic9 : Cert.algebraic_Kernel9Ideal_Reference9Ideal (hKernel9Ideal := Cert.Kernel9Ideal.Gen.facts) (hReference9Ideal := Cert.Reference9Ideal.Gen.facts) := by
  intro m g m' g' _ hargs
  refine ⟨fun c => Cert.Reference9Ideal.Read.val_main_v34 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)), fun c => Cert.Reference9Ideal.Read.val_main_v35 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)), fun c => Cert.Reference9Ideal.Read.val_main_v17 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg3)), ?_, ?_⟩
  · exact (θ_run Cert.Kernel9Ideal.defs _ _).mono (fun r h c => ⟨(h c).1.trans (Cert.Kernel9Ideal.Hand.final4 m c), (h c).2.1.trans (Cert.Kernel9Ideal.Hand.final5 m c), (h c).2.2.1.trans (Cert.Kernel9Ideal.Hand.final6 m c), (h c).2.2.2⟩) (Cert.Kernel9Ideal.Value.run_blocks m g)
  · refine (θ_run Cert.Reference9Ideal.defs _ _).mono (fun r h c => ?_) (Cert.Reference9Ideal.Value.run m' g')
    obtain ⟨a0, a1, a2, a3⟩ := hargs c
    exact ⟨(h c).1.trans ((Cert.Reference9Ideal.Read.val_main_v34_eq _ _ _ _).trans (congr (congr (congrArg₂ (Cert.Reference9Ideal.Read.val_main_v34 (F := Ideal)) a0 a1) a2) a3)),
      (h c).2.1.trans ((Cert.Reference9Ideal.Read.val_main_v35_eq _ _ _ _).trans (congr (congr (congrArg₂ (Cert.Reference9Ideal.Read.val_main_v35 (F := Ideal)) a0 a1) a2) a3)),
      (h c).2.2.1.trans ((Cert.Reference9Ideal.Read.val_main_v17_eq _ _).trans (congrArg₂ (Cert.Reference9Ideal.Read.val_main_v17 (F := Ideal)) a0 a3)), (h c).2.2.2⟩

theorem frame_reference9 : Cert.quiescent_Reference9Ideal (hReference9Ideal := Cert.Reference9Ideal.Gen.facts) := fun m g _ =>
  (θ_run Cert.Reference9Ideal.defs _ _).mono (fun r h => ⟨fun c => (h c).2.2.2, Idealize.ShloMosaic.sem_eq_zero_of_no_sems (by decide) r.2⟩)
    (Cert.Reference9Ideal.Value.run m g)

theorem algebraic10 : Cert.algebraic_Kernel10Ideal_Reference10Ideal (hKernel10Ideal := Cert.Kernel10Ideal.Gen.facts) (hReference10Ideal := Cert.Reference10Ideal.Gen.facts) := by
  intro m g m' g' _ hargs
  refine ⟨fun c => Cert.Reference10Ideal.Read.val_main_v4 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)), ?_, ?_⟩
  · exact (θ_run Cert.Kernel10Ideal.defs _ _).mono (fun r h c => ⟨(h c).1.trans (Cert.Kernel10Ideal.Hand.final m c), (h c).2⟩) (Cert.Kernel10Ideal.Value.run_blocks m g)
  · refine (θ_run Cert.Reference10Ideal.defs _ _).mono (fun r h c => ?_) (Cert.Reference10Ideal.Value.run m' g')
    obtain ⟨a0, a1, a2⟩ := hargs c
    exact ⟨(h c).1.trans ((Cert.Reference10Ideal.Read.val_main_v4_eq _ _ _).trans (congr (congrArg₂ (Cert.Reference10Ideal.Read.val_main_v4 (F := Ideal)) a0 a1) a2)), (h c).2⟩

theorem frame_reference10 : Cert.quiescent_Reference10Ideal (hReference10Ideal := Cert.Reference10Ideal.Gen.facts) := fun m g _ =>
  (θ_run Cert.Reference10Ideal.defs _ _).mono (fun r h => ⟨fun c => (h c).2, Idealize.ShloMosaic.sem_eq_zero_of_no_sems (by decide) r.2⟩)
    (Cert.Reference10Ideal.Value.run m g)

theorem algebraic11 : Cert.algebraic_Kernel11Ideal_Reference11Ideal (hKernel11Ideal := Cert.Kernel11Ideal.Gen.facts) (hReference11Ideal := Cert.Reference11Ideal.Gen.facts) := by
  intro m g m' g' _ hargs
  refine ⟨fun c => Cert.Reference11Ideal.Read.val_main_v6 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)), ?_, ?_⟩
  · exact (θ_run Cert.Kernel11Ideal.defs _ _).mono (fun r h c => ⟨(h c).1.trans (Cert.Kernel11Ideal.Hand.final m c), (h c).2⟩) (Cert.Kernel11Ideal.Value.run_blocks m g)
  · refine (θ_run Cert.Reference11Ideal.defs _ _).mono (fun r h c => ?_) (Cert.Reference11Ideal.Value.run m' g')
    obtain ⟨a0, a1, a2, a3⟩ := hargs c
    exact ⟨(h c).1.trans ((Cert.Reference11Ideal.Read.val_main_v6_eq _ _ _ _).trans (congr (congr (congrArg₂ (Cert.Reference11Ideal.Read.val_main_v6 (F := Ideal)) a0 a1) a2) a3)), (h c).2⟩

theorem frame_reference11 : Cert.quiescent_Reference11Ideal (hReference11Ideal := Cert.Reference11Ideal.Gen.facts) := fun m g _ =>
  (θ_run Cert.Reference11Ideal.defs _ _).mono (fun r h => ⟨fun c => (h c).2, Idealize.ShloMosaic.sem_eq_zero_of_no_sems (by decide) r.2⟩)
    (Cert.Reference11Ideal.Value.run m g)

theorem algebraic12 : Cert.algebraic_Kernel12Ideal_Reference12Ideal (hKernel12Ideal := Cert.Kernel12Ideal.Gen.facts) (hReference12Ideal := Cert.Reference12Ideal.Gen.facts) := by
  intro m g m' g' _ hargs
  refine ⟨fun c => Cert.Reference12Ideal.Read.val_main_v5 (F := Ideal) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)), ?_, ?_⟩
  · exact (θ_run Cert.Kernel12Ideal.defs _ _).mono (fun r h c => ⟨(h c).1.trans (Cert.Kernel12Ideal.Hand.final m c), (h c).2⟩) (Cert.Kernel12Ideal.Value.run_blocks m g)
  · refine (θ_run Cert.Reference12Ideal.defs _ _).mono (fun r h c => ?_) (Cert.Reference12Ideal.Value.run m' g')
    obtain ⟨a0, a1, a2⟩ := hargs c
    exact ⟨(h c).1.trans ((Cert.Reference12Ideal.Read.val_main_v5_eq _ _).trans (congrArg₂ (Cert.Reference12Ideal.Read.val_main_v5 (F := Ideal)) a1 a2)), (h c).2⟩

theorem frame_reference12 : Cert.quiescent_Reference12Ideal (hReference12Ideal := Cert.Reference12Ideal.Gen.facts) := fun m g _ =>
  (θ_run Cert.Reference12Ideal.defs _ _).mono (fun r h => ⟨fun c => (h c).2, Idealize.ShloMosaic.sem_eq_zero_of_no_sems (by decide) r.2⟩)
    (Cert.Reference12Ideal.Value.run m g)

theorem algebraic13 : Cert.algebraic_Kernel13Ideal_Reference13Ideal (hKernel13Ideal := Cert.Kernel13Ideal.Gen.facts) (hReference13Ideal := Cert.Reference13Ideal.Gen.facts) := by
  intro m g m' g' _ hargs
  refine ⟨fun c => Cert.Reference13Ideal.Read.val_main_v11 (F := Ideal) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)), ?_, ?_⟩
  · exact (θ_run Cert.Kernel13Ideal.defs _ _).mono (fun r h c => ⟨(h c).1.trans (Cert.Kernel13Ideal.Hand.final m c), (h c).2⟩) (Cert.Kernel13Ideal.Value.run_blocks m g)
  · refine (θ_run Cert.Reference13Ideal.defs _ _).mono (fun r h c => ?_) (Cert.Reference13Ideal.Value.run m' g')
    obtain ⟨a0, a1, a2, a3, a4⟩ := hargs c
    exact ⟨(h c).1.trans ((Cert.Reference13Ideal.Read.val_main_v11_eq _ _ _ _).trans (congr (congr (congrArg₂ (Cert.Reference13Ideal.Read.val_main_v11 (F := Ideal)) a1 a2) a3) a4)), (h c).2⟩

theorem frame_reference13 : Cert.quiescent_Reference13Ideal (hReference13Ideal := Cert.Reference13Ideal.Gen.facts) := fun m g _ =>
  (θ_run Cert.Reference13Ideal.defs _ _).mono (fun r h => ⟨fun c => (h c).2, Idealize.ShloMosaic.sem_eq_zero_of_no_sems (by decide) r.2⟩)
    (Cert.Reference13Ideal.Value.run m g)

theorem algebraic14 : Cert.algebraic_Kernel14Ideal_Reference14Ideal (hKernel14Ideal := Cert.Kernel14Ideal.Gen.facts) (hReference14Ideal := Cert.Reference14Ideal.Gen.facts) := by
  intro m g m' g' _ hargs
  refine ⟨fun c => Cert.Reference14Ideal.Read.val_main_v13 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg2)), ?_, ?_⟩
  · exact (θ_run Cert.Kernel14Ideal.defs _ _).mono (fun r h c => ⟨(h c).1.trans (Cert.Kernel14Ideal.Hand.final m c), (h c).2⟩) (Cert.Kernel14Ideal.Value.run_blocks m g)
  · refine (θ_run Cert.Reference14Ideal.defs _ _).mono (fun r h c => ?_) (Cert.Reference14Ideal.Value.run m' g')
    obtain ⟨a0, a1, a2⟩ := hargs c
    exact ⟨(h c).1.trans ((Cert.Reference14Ideal.Read.val_main_v13_eq _ _).trans (congrArg₂ (Cert.Reference14Ideal.Read.val_main_v13 (F := Ideal)) a0 a2)), (h c).2⟩

theorem frame_reference14 : Cert.quiescent_Reference14Ideal (hReference14Ideal := Cert.Reference14Ideal.Gen.facts) := fun m g _ =>
  (θ_run Cert.Reference14Ideal.defs _ _).mono (fun r h => ⟨fun c => (h c).2, Idealize.ShloMosaic.sem_eq_zero_of_no_sems (by decide) r.2⟩)
    (Cert.Reference14Ideal.Value.run m g)

theorem algebraic15 : Cert.algebraic_Kernel15Ideal_Reference15Ideal (hKernel15Ideal := Cert.Kernel15Ideal.Gen.facts) (hReference15Ideal := Cert.Reference15Ideal.Gen.facts) := by
  intro m g m' g' _ hargs
  refine ⟨fun c => Cert.Reference15Ideal.Read.val_main_v6 (F := Ideal) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)), ?_, ?_⟩
  · exact (θ_run Cert.Kernel15Ideal.defs _ _).mono (fun r h c => ⟨(h c).1.trans (Cert.Kernel15Ideal.Hand.final m c), (h c).2⟩) (Cert.Kernel15Ideal.Value.run_blocks m g)
  · refine (θ_run Cert.Reference15Ideal.defs _ _).mono (fun r h c => ?_) (Cert.Reference15Ideal.Value.run m' g')
    obtain ⟨a0, a1, a2⟩ := hargs c
    exact ⟨(h c).1.trans ((Cert.Reference15Ideal.Read.val_main_v6_eq _ _).trans (congrArg₂ (Cert.Reference15Ideal.Read.val_main_v6 (F := Ideal)) a1 a2)), (h c).2⟩

theorem frame_reference15 : Cert.quiescent_Reference15Ideal (hReference15Ideal := Cert.Reference15Ideal.Gen.facts) := fun m g _ =>
  (θ_run Cert.Reference15Ideal.defs _ _).mono (fun r h => ⟨fun c => (h c).2, Idealize.ShloMosaic.sem_eq_zero_of_no_sems (by decide) r.2⟩)
    (Cert.Reference15Ideal.Value.run m g)

theorem algebraic16 : Cert.algebraic_Kernel16Ideal_Reference16Ideal (hKernel16Ideal := Cert.Kernel16Ideal.Gen.facts) (hReference16Ideal := Cert.Reference16Ideal.Gen.facts) := by
  intro m g m' g' _ hargs
  refine ⟨fun c => Cert.Reference16Ideal.Read.val_main_v7 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)), fun c => Cert.Reference16Ideal.Read.val_main_v8 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)), fun c => Cert.Reference16Ideal.Read.val_main_v15 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)), ?_, ?_⟩
  · exact (θ_run Cert.Kernel16Ideal.defs _ _).mono (fun r h c => ⟨(h c).1.trans (Cert.Kernel16Ideal.Hand.final5 m c), (h c).2.1.trans (Cert.Kernel16Ideal.Hand.final6 m c), (h c).2.2.1.trans (Cert.Kernel16Ideal.Hand.final7 m c), (h c).2.2.2⟩) (Cert.Kernel16Ideal.Value.run_blocks m g)
  · refine (θ_run Cert.Reference16Ideal.defs _ _).mono (fun r h c => ?_) (Cert.Reference16Ideal.Value.run m' g')
    obtain ⟨a0, a1, a2⟩ := hargs c
    exact ⟨(h c).1.trans ((Cert.Reference16Ideal.Read.val_main_v7_eq _ _ _).trans (congr (congrArg₂ (Cert.Reference16Ideal.Read.val_main_v7 (F := Ideal)) a0 a1) a2)),
      (h c).2.1.trans ((Cert.Reference16Ideal.Read.val_main_v8_eq _ _ _).trans (congr (congrArg₂ (Cert.Reference16Ideal.Read.val_main_v8 (F := Ideal)) a0 a1) a2)),
      (h c).2.2.1.trans ((Cert.Reference16Ideal.Read.val_main_v15_eq _ _ _).trans (congr (congrArg₂ (Cert.Reference16Ideal.Read.val_main_v15 (F := Ideal)) a0 a1) a2)), (h c).2.2.2⟩

theorem frame_reference16 : Cert.quiescent_Reference16Ideal (hReference16Ideal := Cert.Reference16Ideal.Gen.facts) := fun m g _ =>
  (θ_run Cert.Reference16Ideal.defs _ _).mono (fun r h => ⟨fun c => (h c).2.2.2, Idealize.ShloMosaic.sem_eq_zero_of_no_sems (by decide) r.2⟩)
    (Cert.Reference16Ideal.Value.run m g)

end Cert.Hand
-- ==== Proof.lean ====
/-
  The claim of this certificate, assembled from the runs of its programs.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Pre_finite6
public import proofs.«01_k».proof.Proof.Word.Frame
public import proofs.«01_k».proof.Proof.Ideal.Frame
public import proofs.«01_k».proof.Proof.Ideal.Algebraic

public import Idealize.ShloMosaic.Adequacy
public import Idealize.ShloMosaic.Init
public import Idealize.ShloMosaic.Lib.Claim
public import proofs.«01_k».proof.Proof.Ideal.Products

@[expose] public section

noncomputable section

namespace Cert.Proof

open Idealize.ShloMosaic Idealize.SL.Sem

/-- The kernel program at the machine's words. -/
theorem frame_word : Cert.quiescent_Kernel (hKernel := Cert.Kernel.Gen.facts) := fun m g _ =>
  Cert.Kernel.Hand.frame_run m g

/-- The kernel program at the extended reals. -/
theorem frame_ideal : Cert.quiescent_KernelIdeal (hKernelIdeal := Cert.KernelIdeal.Gen.facts) := fun m g _ =>
  Cert.KernelIdeal.Hand.frame_run m g

/-- The reference program at the extended reals. -/
theorem frame_reference : Cert.quiescent_ReferenceIdeal (hReferenceIdeal := Cert.ReferenceIdeal.Gen.facts) := fun m g _ =>
  (θ_run Cert.ReferenceIdeal.defs _ _).mono (fun r h => ⟨fun c => (h c).2.2.2, Idealize.ShloMosaic.sem_eq_zero_of_no_sems (by decide) r.2⟩)
    (Cert.ReferenceIdeal.Value.run m g)

/-- The one named constant: the distance given to masked keys stands for infinity. -/
theorem preserves : Cert.preserves_Kernel_KernelIdeal :=
  IdealRules.named_const.statement Cert.KernelIdeal.κ "far" .f32 0x76453719#32 ⊤ rfl

/-- The two frames at the extended reals, on finite arguments. -/
theorem frame_ideal_finite : Cert.quiescent_KernelIdeal_pre_finite (hKernelIdeal := Cert.KernelIdeal.Gen.facts) (hPre_finite := Cert.Hand.facts_finite) :=
  fun m g _ => frame_ideal m g trivial
theorem frame_reference_finite : Cert.quiescent_ReferenceIdeal_pre_finite (hReferenceIdeal := Cert.ReferenceIdeal.Gen.facts) (hPre_finite := Cert.Hand.facts_finite) :=
  fun m g _ => frame_reference m g trivial

/-- Call 2 at the machine's words and at the extended reals. -/
theorem frame_word2 : Cert.quiescent_Kernel2 (hKernel2 := Cert.Kernel2.Gen.facts) := fun m g _ => Cert.Kernel2.Gen.frame m g
theorem frame_ideal2 : Cert.quiescent_Kernel2Ideal (hKernel2Ideal := Cert.Kernel2Ideal.Gen.facts) := fun m g _ => Cert.Kernel2Ideal.Gen.frame m g

/-- Call 3 at the machine's words and at the extended reals. -/
theorem frame_word3 : Cert.quiescent_Kernel3 (hKernel3 := Cert.Kernel3.Gen.facts) := fun m g _ => Cert.Kernel3.Gen.frame m g
theorem frame_ideal3 : Cert.quiescent_Kernel3Ideal (hKernel3Ideal := Cert.Kernel3Ideal.Gen.facts) := fun m g _ => Cert.Kernel3Ideal.Gen.frame m g

/-- Call 4 at the machine's words and at the extended reals. -/
theorem frame_word4 : Cert.quiescent_Kernel4 (hKernel4 := Cert.Kernel4.Gen.facts) := fun m g _ => Cert.Kernel4.Gen.frame m g
theorem frame_ideal4 : Cert.quiescent_Kernel4Ideal (hKernel4Ideal := Cert.Kernel4Ideal.Gen.facts) := fun m g _ => Cert.Kernel4Ideal.Gen.frame m g

/-- Call 5 at the machine's words and at the extended reals. -/
theorem frame_word5 : Cert.quiescent_Kernel5 (hKernel5 := Cert.Kernel5.Gen.facts) := fun m g _ => Cert.Kernel5.Gen.frame m g
theorem frame_ideal5 : Cert.quiescent_Kernel5Ideal (hKernel5Ideal := Cert.Kernel5Ideal.Gen.facts) := fun m g _ => Cert.Kernel5Ideal.Gen.frame m g

/-- Call 6 at the machine's words and at the extended reals. -/
theorem frame_word6 : Cert.quiescent_Kernel6 (hKernel6 := Cert.Kernel6.Gen.facts) := fun m g _ => Cert.Kernel6.Gen.frame m g
theorem frame_ideal6 : Cert.quiescent_Kernel6Ideal (hKernel6Ideal := Cert.Kernel6Ideal.Gen.facts) := fun m g _ => Cert.Kernel6Ideal.Gen.frame m g

/-- The two frames of call 6 at the extended reals, on finite arguments. -/
theorem frame_ideal_finite6 : Cert.quiescent_Kernel6Ideal_pre_finite6 (hKernel6Ideal := Cert.Kernel6Ideal.Gen.facts) (hPre_finite6 := Cert.Hand.facts_finite6) :=
  fun m g _ => frame_ideal6 m g trivial
theorem frame_reference_finite6 : Cert.quiescent_Reference6Ideal_pre_finite6 (hReference6Ideal := Cert.Reference6Ideal.Gen.facts) (hPre_finite6 := Cert.Hand.facts_finite6) :=
  fun m g _ => Cert.Hand.frame_reference6 m g trivial

/-- Call 7 at the machine's words and at the extended reals. -/
theorem frame_word7 : Cert.quiescent_Kernel7 (hKernel7 := Cert.Kernel7.Gen.facts) := fun m g _ => Cert.Kernel7.Gen.frame m g
theorem frame_ideal7 : Cert.quiescent_Kernel7Ideal (hKernel7Ideal := Cert.Kernel7Ideal.Gen.facts) := fun m g _ => Cert.Kernel7Ideal.Gen.frame m g

/-- Call 8 at the machine's words and at the extended reals. -/
theorem frame_word8 : Cert.quiescent_Kernel8 (hKernel8 := Cert.Kernel8.Gen.facts) := fun m g _ => Cert.Kernel8.Gen.frame m g
theorem frame_ideal8 : Cert.quiescent_Kernel8Ideal (hKernel8Ideal := Cert.Kernel8Ideal.Gen.facts) := fun m g _ => Cert.Kernel8Ideal.Gen.frame m g

/-- Call 9 at the machine's words and at the extended reals. -/
theorem frame_word9 : Cert.quiescent_Kernel9 (hKernel9 := Cert.Kernel9.Gen.facts) := fun m g _ => Cert.Kernel9.Gen.frame m g
theorem frame_ideal9 : Cert.quiescent_Kernel9Ideal (hKernel9Ideal := Cert.Kernel9Ideal.Gen.facts) := fun m g _ => Cert.Kernel9Ideal.Gen.frame m g

/-- Call 10 at the machine's words and at the extended reals. -/
theorem frame_word10 : Cert.quiescent_Kernel10 (hKernel10 := Cert.Kernel10.Gen.facts) := fun m g _ => Cert.Kernel10.Gen.frame m g
theorem frame_ideal10 : Cert.quiescent_Kernel10Ideal (hKernel10Ideal := Cert.Kernel10Ideal.Gen.facts) := fun m g _ => Cert.Kernel10Ideal.Gen.frame m g

/-- Call 11 at the machine's words and at the extended reals. -/
theorem frame_word11 : Cert.quiescent_Kernel11 (hKernel11 := Cert.Kernel11.Gen.facts) := fun m g _ => Cert.Kernel11.Gen.frame m g
theorem frame_ideal11 : Cert.quiescent_Kernel11Ideal (hKernel11Ideal := Cert.Kernel11Ideal.Gen.facts) := fun m g _ => Cert.Kernel11Ideal.Gen.frame m g

/-- Call 12 at the machine's words and at the extended reals. -/
theorem frame_word12 : Cert.quiescent_Kernel12 (hKernel12 := Cert.Kernel12.Gen.facts) := fun m g _ => Cert.Kernel12.Gen.frame m g
theorem frame_ideal12 : Cert.quiescent_Kernel12Ideal (hKernel12Ideal := Cert.Kernel12Ideal.Gen.facts) := fun m g _ => Cert.Kernel12Ideal.Gen.frame m g

/-- Call 13 at the machine's words and at the extended reals. -/
theorem frame_word13 : Cert.quiescent_Kernel13 (hKernel13 := Cert.Kernel13.Gen.facts) := fun m g _ => Cert.Kernel13.Gen.frame m g
theorem frame_ideal13 : Cert.quiescent_Kernel13Ideal (hKernel13Ideal := Cert.Kernel13Ideal.Gen.facts) := fun m g _ => Cert.Kernel13Ideal.Gen.frame m g

/-- Call 14 at the machine's words and at the extended reals. -/
theorem frame_word14 : Cert.quiescent_Kernel14 (hKernel14 := Cert.Kernel14.Gen.facts) := fun m g _ => Cert.Kernel14.Gen.frame m g
theorem frame_ideal14 : Cert.quiescent_Kernel14Ideal (hKernel14Ideal := Cert.Kernel14Ideal.Gen.facts) := fun m g _ => Cert.Kernel14Ideal.Gen.frame m g

/-- Call 15 at the machine's words and at the extended reals. -/
theorem frame_word15 : Cert.quiescent_Kernel15 (hKernel15 := Cert.Kernel15.Gen.facts) := fun m g _ => Cert.Kernel15.Gen.frame m g
theorem frame_ideal15 : Cert.quiescent_Kernel15Ideal (hKernel15Ideal := Cert.Kernel15Ideal.Gen.facts) := fun m g _ => Cert.Kernel15Ideal.Gen.frame m g

/-- Call 16 at the machine's words and at the extended reals. -/
theorem frame_word16 : Cert.quiescent_Kernel16 (hKernel16 := Cert.Kernel16.Gen.facts) := fun m g _ => Cert.Kernel16.Gen.frame m g
theorem frame_ideal16 : Cert.quiescent_Kernel16Ideal (hKernel16Ideal := Cert.Kernel16Ideal.Gen.facts) := fun m g _ => Cert.Kernel16Ideal.Gen.frame m g

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Hand.facts_finite, Cert.Hand.facts_finite6,
    frame_word, frame_ideal, frame_ideal_finite, frame_reference, frame_reference_finite,
    frame_word2, frame_ideal2, Cert.Hand.frame_reference2,
    frame_word3, frame_ideal3, Cert.Hand.frame_reference3,
    frame_word4, frame_ideal4, Cert.Hand.frame_reference4,
    frame_word5, frame_ideal5, Cert.Hand.frame_reference5,
    frame_word6, frame_ideal6, frame_ideal_finite6, Cert.Hand.frame_reference6, frame_reference_finite6,
    frame_word7, frame_ideal7, Cert.Hand.frame_reference7,
    frame_word8, frame_ideal8, Cert.Hand.frame_reference8,
    frame_word9, frame_ideal9, Cert.Hand.frame_reference9,
    frame_word10, frame_ideal10, Cert.Hand.frame_reference10,
    frame_word11, frame_ideal11, Cert.Hand.frame_reference11,
    frame_word12, frame_ideal12, Cert.Hand.frame_reference12,
    frame_word13, frame_ideal13, Cert.Hand.frame_reference13,
    frame_word14, frame_ideal14, Cert.Hand.frame_reference14,
    frame_word15, frame_ideal15, Cert.Hand.frame_reference15,
    frame_word16, frame_ideal16, Cert.Hand.frame_reference16,
    preserves, Cert.Hand.algebraic, trivial, Cert.Hand.algebraic2, trivial, Cert.Hand.algebraic3, trivial, Cert.Hand.algebraic4, trivial, Cert.Hand.algebraic5, trivial, Cert.Hand.algebraic6, trivial, Cert.Hand.algebraic7, trivial, Cert.Hand.algebraic8, trivial, Cert.Hand.algebraic9, trivial, Cert.Hand.algebraic10, trivial, Cert.Hand.algebraic11, trivial, Cert.Hand.algebraic12, trivial, Cert.Hand.algebraic13, trivial, Cert.Hand.algebraic14, trivial, Cert.Hand.algebraic15, trivial, Cert.Hand.algebraic16⟩

end Cert.Proof

end
